-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_Dm (m : (ℓ : Loc Cert.Dm.nD Cert.Dm.τ Cert.Dm.sig) → Buf (Elt Bits) ℓ) : Prop :=
  True

def Pre_DmIdeal (m : (ℓ : Loc Cert.DmIdeal.nD Cert.DmIdeal.τ Cert.DmIdeal.sig) → Buf (Elt Ideal) ℓ) : Prop :=
  True

def Pre_DmRefIdeal (m : (ℓ : Loc Cert.DmRefIdeal.nD Cert.DmRefIdeal.τ Cert.DmRefIdeal.sig) → Buf (Elt Ideal) ℓ) : Prop :=
  True

def Pre_Dy (m : (ℓ : Loc Cert.Dy.nD Cert.Dy.τ Cert.Dy.sig) → Buf (Elt Bits) ℓ) : Prop :=
  True

def Pre_DyIdeal (m : (ℓ : Loc Cert.DyIdeal.nD Cert.DyIdeal.τ Cert.DyIdeal.sig) → Buf (Elt Ideal) ℓ) : Prop :=
  True

def Pre_DyRefIdeal (m : (ℓ : Loc Cert.DyRefIdeal.nD Cert.DyRefIdeal.τ Cert.DyRefIdeal.sig) → Buf (Elt Ideal) ℓ) : Prop :=
  True

def Pre_Gdown (m : (ℓ : Loc Cert.Gdown.nD Cert.Gdown.τ Cert.Gdown.sig) → Buf (Elt Bits) ℓ) : Prop :=
  True

def Pre_GdownIdeal (m : (ℓ : Loc Cert.GdownIdeal.nD Cert.GdownIdeal.τ Cert.GdownIdeal.sig) → Buf (Elt Ideal) ℓ) : Prop :=
  True

def Pre_GdownRefIdeal (m : (ℓ : Loc Cert.GdownRefIdeal.nD Cert.GdownRefIdeal.τ Cert.GdownRefIdeal.sig) → Buf (Elt Ideal) ℓ) : Prop :=
  True

def Pre_Go (m : (ℓ : Loc Cert.Go.nD Cert.Go.τ Cert.Go.sig) → Buf (Elt Bits) ℓ) : Prop :=
  True

def Pre_GoIdeal (m : (ℓ : Loc Cert.GoIdeal.nD Cert.GoIdeal.τ Cert.GoIdeal.sig) → Buf (Elt Ideal) ℓ) : Prop :=
  True

def Pre_GoRefIdeal (m : (ℓ : Loc Cert.GoRefIdeal.nD Cert.GoRefIdeal.τ Cert.GoRefIdeal.sig) → Buf (Elt Ideal) ℓ) : Prop :=
  True

def Pre_Gy (m : (ℓ : Loc Cert.Gy.nD Cert.Gy.τ Cert.Gy.sig) → Buf (Elt Bits) ℓ) : Prop :=
  True

def Pre_GyIdeal (m : (ℓ : Loc Cert.GyIdeal.nD Cert.GyIdeal.τ Cert.GyIdeal.sig) → Buf (Elt Ideal) ℓ) : Prop :=
  True

def Pre_GyRefIdeal (m : (ℓ : Loc Cert.GyRefIdeal.nD Cert.GyRefIdeal.τ Cert.GyRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Gup (m : (ℓ : Loc Cert.Gup.nD Cert.Gup.τ Cert.Gup.sig) → Buf (Elt Bits) ℓ) : Prop :=
  True

def Pre_GupIdeal (m : (ℓ : Loc Cert.GupIdeal.nD Cert.GupIdeal.τ Cert.GupIdeal.sig) → Buf (Elt Ideal) ℓ) : Prop :=
  True

def Pre_GupRefIdeal (m : (ℓ : Loc Cert.GupRefIdeal.nD Cert.GupRefIdeal.τ Cert.GupRefIdeal.sig) → Buf (Elt Ideal) ℓ) : Prop :=
  True

def Pre_Gin (m : (ℓ : Loc Cert.Gin.nD Cert.Gin.τ Cert.Gin.sig) → Buf (Elt Bits) ℓ) : Prop :=
  True

def Pre_GinIdeal (m : (ℓ : Loc Cert.GinIdeal.nD Cert.GinIdeal.τ Cert.GinIdeal.sig) → Buf (Elt Ideal) ℓ) : Prop :=
  True

def Pre_GinRefIdeal (m : (ℓ : Loc Cert.GinRefIdeal.nD Cert.GinRefIdeal.τ Cert.GinRefIdeal.sig) → Buf (Elt Ideal) ℓ) : Prop :=
  True

def Pre_Gupa (m : (ℓ : Loc Cert.Gupa.nD Cert.Gupa.τ Cert.Gupa.sig) → Buf (Elt Bits) ℓ) : Prop :=
  True

def Pre_GupaIdeal (m : (ℓ : Loc Cert.GupaIdeal.nD Cert.GupaIdeal.τ Cert.GupaIdeal.sig) → Buf (Elt Ideal) ℓ) : Prop :=
  True

def Pre_GupaRefIdeal (m : (ℓ : Loc Cert.GupaRefIdeal.nD Cert.GupaRefIdeal.τ Cert.GupaRefIdeal.sig) → Buf (Elt Ideal) ℓ) : Prop :=
  True

def Pre_Gina (m : (ℓ : Loc Cert.Gina.nD Cert.Gina.τ Cert.Gina.sig) → Buf (Elt Bits) ℓ) : Prop :=
  True

def Pre_GinaIdeal (m : (ℓ : Loc Cert.GinaIdeal.nD Cert.GinaIdeal.τ Cert.GinaIdeal.sig) → Buf (Elt Ideal) ℓ) : Prop :=
  True

def Pre_GinaRefIdeal (m : (ℓ : Loc Cert.GinaRefIdeal.nD Cert.GinaRefIdeal.τ Cert.GinaRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Dhin (m : (ℓ : Loc Cert.Dhin.nD Cert.Dhin.τ Cert.Dhin.sig) → Buf (Elt Bits) ℓ) : Prop :=
  True

def Pre_DhinIdeal (m : (ℓ : Loc Cert.DhinIdeal.nD Cert.DhinIdeal.τ Cert.DhinIdeal.sig) → Buf (Elt Ideal) ℓ) : Prop :=
  True

def Pre_DhinRefIdeal (m : (ℓ : Loc Cert.DhinRefIdeal.nD Cert.DhinRefIdeal.τ Cert.DhinRefIdeal.sig) → Buf (Elt Ideal) ℓ) : Prop :=
  True

def Pre_Dhina (m : (ℓ : Loc Cert.Dhina.nD Cert.Dhina.τ Cert.Dhina.sig) → Buf (Elt Bits) ℓ) : Prop :=
  True

def Pre_DhinaIdeal (m : (ℓ : Loc Cert.DhinaIdeal.nD Cert.DhinaIdeal.τ Cert.DhinaIdeal.sig) → Buf (Elt Ideal) ℓ) : Prop :=
  True

def Pre_DhinaRefIdeal (m : (ℓ : Loc Cert.DhinaRefIdeal.nD Cert.DhinaRefIdeal.τ Cert.DhinaRefIdeal.sig) → Buf (Elt Ideal) ℓ) : Prop :=
  True

def Pre_Dhinb (m : (ℓ : Loc Cert.Dhinb.nD Cert.Dhinb.τ Cert.Dhinb.sig) → Buf (Elt Bits) ℓ) : Prop :=
  True

def Pre_DhinbIdeal (m : (ℓ : Loc Cert.DhinbIdeal.nD Cert.DhinbIdeal.τ Cert.DhinbIdeal.sig) → Buf (Elt Ideal) ℓ) : Prop :=
  True

def Pre_DhinbRefIdeal (m : (ℓ : Loc Cert.DhinbRefIdeal.nD Cert.DhinbRefIdeal.τ Cert.DhinbRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_Adams (m : (ℓ : Loc Cert.Adams.nD Cert.Adams.τ Cert.Adams.sig) → Buf (Elt Bits) ℓ) : Prop :=
  True

def Pre_AdamsIdeal (m : (ℓ : Loc Cert.AdamsIdeal.nD Cert.AdamsIdeal.τ Cert.AdamsIdeal.sig) → Buf (Elt Ideal) ℓ) : Prop :=
  True

def Pre_AdamsRefIdeal (m : (ℓ : Loc Cert.AdamsRefIdeal.nD Cert.AdamsRefIdeal.τ Cert.AdamsRefIdeal.sig) → Buf (Elt Ideal) ℓ) : Prop :=
  True

def Pre_Sums (m : (ℓ : Loc Cert.Sums.nD Cert.Sums.τ Cert.Sums.sig) → Buf (Elt Bits) ℓ) : Prop :=
  True

def Pre_SumsIdeal (m : (ℓ : Loc Cert.SumsIdeal.nD Cert.SumsIdeal.τ Cert.SumsIdeal.sig) → Buf (Elt Ideal) ℓ) : Prop :=
  True

def Pre_SumsRefIdeal (m : (ℓ : Loc Cert.SumsRefIdeal.nD Cert.SumsRefIdeal.τ Cert.SumsRefIdeal.sig) → Buf (Elt Ideal) ℓ) : Prop :=
  True

def Pre_Bigout [hPre_on_mesh_w_proj_out : Cert.Pre_on_mesh_w_proj_out.Facts] (m : (ℓ : Loc Cert.Bigout.nD Cert.Bigout.τ Cert.Bigout.sig) → Buf (Elt Bits) ℓ) : Prop :=
  ∀ c : Dev Cert.Bigout.nD,
    (Cert.Pre_on_mesh_w_proj_out.fn (F := Bits) (m ((c.tc : Thread Cert.Bigout.nD Cert.Bigout.τ).loc Cert.Bigout.main_arg0)) (m ((c.tc : Thread Cert.Bigout.nD Cert.Bigout.τ).loc Cert.Bigout.main_arg1)) (m ((c.tc : Thread Cert.Bigout.nD Cert.Bigout.τ).loc Cert.Bigout.main_arg2)) (m ((c.tc : Thread Cert.Bigout.nD Cert.Bigout.τ).loc Cert.Bigout.main_arg3)) (m ((c.tc : Thread Cert.Bigout.nD Cert.Bigout.τ).loc Cert.Bigout.main_arg4)) (m ((c.tc : Thread Cert.Bigout.nD Cert.Bigout.τ).loc Cert.Bigout.main_arg5)) (m ((c.tc : Thread Cert.Bigout.nD Cert.Bigout.τ).loc Cert.Bigout.main_arg6)) (m ((c.tc : Thread Cert.Bigout.nD Cert.Bigout.τ).loc Cert.Bigout.main_arg7)) (m ((c.tc : Thread Cert.Bigout.nD Cert.Bigout.τ).loc Cert.Bigout.main_arg8)) (m ((c.tc : Thread Cert.Bigout.nD Cert.Bigout.τ).loc Cert.Bigout.main_arg9)) (m ((c.tc : Thread Cert.Bigout.nD Cert.Bigout.τ).loc Cert.Bigout.main_arg10))) = (fun _ => 1#1)

def Pre_BigoutIdeal [hPre_on_mesh_w_proj_out : Cert.Pre_on_mesh_w_proj_out.Facts] (m : (ℓ : Loc Cert.BigoutIdeal.nD Cert.BigoutIdeal.τ Cert.BigoutIdeal.sig) → Buf (Elt Ideal) ℓ) : Prop :=
  ∀ c : Dev Cert.BigoutIdeal.nD,
    (Cert.Pre_on_mesh_w_proj_out.fn (F := Ideal) (m ((c.tc : Thread Cert.BigoutIdeal.nD Cert.BigoutIdeal.τ).loc Cert.BigoutIdeal.main_arg0)) (m ((c.tc : Thread Cert.BigoutIdeal.nD Cert.BigoutIdeal.τ).loc Cert.BigoutIdeal.main_arg1)) (m ((c.tc : Thread Cert.BigoutIdeal.nD Cert.BigoutIdeal.τ).loc Cert.BigoutIdeal.main_arg2)) (m ((c.tc : Thread Cert.BigoutIdeal.nD Cert.BigoutIdeal.τ).loc Cert.BigoutIdeal.main_arg3)) (m ((c.tc : Thread Cert.BigoutIdeal.nD Cert.BigoutIdeal.τ).loc Cert.BigoutIdeal.main_arg4)) (m ((c.tc : Thread Cert.BigoutIdeal.nD Cert.BigoutIdeal.τ).loc Cert.BigoutIdeal.main_arg5)) (m ((c.tc : Thread Cert.BigoutIdeal.nD Cert.BigoutIdeal.τ).loc Cert.BigoutIdeal.main_arg6)) (m ((c.tc : Thread Cert.BigoutIdeal.nD Cert.BigoutIdeal.τ).loc Cert.BigoutIdeal.main_arg7)) (m ((c.tc : Thread Cert.BigoutIdeal.nD Cert.BigoutIdeal.τ).loc Cert.BigoutIdeal.main_arg8)) (m ((c.tc : Thread Cert.BigoutIdeal.nD Cert.BigoutIdeal.τ).loc Cert.BigoutIdeal.main_arg9)) (m ((c.tc : Thread Cert.BigoutIdeal.nD Cert.BigoutIdeal.τ).loc Cert.BigoutIdeal.main_arg10))) = (fun _ => 1#1)

def Pre_BigoutRefIdeal (m : (ℓ : Loc Cert.BigoutRefIdeal.nD Cert.BigoutRefIdeal.τ Cert.BigoutRefIdeal.sig) → Buf (Elt Ideal) ℓ) : Prop :=
  True

def Pre_BigoutRefIdeal_on_mesh_w_proj_out [hPre_on_mesh_w_proj_out : Cert.Pre_on_mesh_w_proj_out.Facts] (m : (ℓ : Loc Cert.BigoutRefIdeal.nD Cert.BigoutRefIdeal.τ Cert.BigoutRefIdeal.sig) → Buf (Elt Ideal) ℓ) : Prop :=
  ∀ c : Dev Cert.BigoutRefIdeal.nD,
    (Cert.Pre_on_mesh_w_proj_out.fn (F := Ideal) (m ((c.tc : Thread Cert.BigoutRefIdeal.nD Cert.BigoutRefIdeal.τ).loc Cert.BigoutRefIdeal.main_arg0)) (m ((c.tc : Thread Cert.BigoutRefIdeal.nD Cert.BigoutRefIdeal.τ).loc Cert.BigoutRefIdeal.main_arg1)) (m ((c.tc : Thread Cert.BigoutRefIdeal.nD Cert.BigoutRefIdeal.τ).loc Cert.BigoutRefIdeal.main_arg2)) (m ((c.tc : Thread Cert.BigoutRefIdeal.nD Cert.BigoutRefIdeal.τ).loc Cert.BigoutRefIdeal.main_arg3)) (m ((c.tc : Thread Cert.BigoutRefIdeal.nD Cert.BigoutRefIdeal.τ).loc Cert.BigoutRefIdeal.main_arg4)) (m ((c.tc : Thread Cert.BigoutRefIdeal.nD Cert.BigoutRefIdeal.τ).loc Cert.BigoutRefIdeal.main_arg5)) (m ((c.tc : Thread Cert.BigoutRefIdeal.nD Cert.BigoutRefIdeal.τ).loc Cert.BigoutRefIdeal.main_arg6)) (m ((c.tc : Thread Cert.BigoutRefIdeal.nD Cert.BigoutRefIdeal.τ).loc Cert.BigoutRefIdeal.main_arg7)) (m ((c.tc : Thread Cert.BigoutRefIdeal.nD Cert.BigoutRefIdeal.τ).loc Cert.BigoutRefIdeal.main_arg8)) (m ((c.tc : Thread Cert.BigoutRefIdeal.nD Cert.BigoutRefIdeal.τ).loc Cert.BigoutRefIdeal.main_arg9)) (m ((c.tc : Thread Cert.BigoutRefIdeal.nD Cert.BigoutRefIdeal.τ).loc Cert.BigoutRefIdeal.main_arg10))) = (fun _ => 1#1)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1))
      ∧ r.2.sem = fun _ => 0)

def quiescent_Dm [hDm : Cert.Dm.Facts] : Prop :=
  ∀ (m : (ℓ : Loc Cert.Dm.nD Cert.Dm.τ Cert.Dm.sig) → Buf (Elt Bits) ℓ) (g : Dev Cert.Dm.nD → PrngReg), Pre_Dm m →
    θ_run (Cert.Dm.defs (F := Bits)) (onTc (τ := Cert.Dm.τ) (Cert.Dm.main (F := Bits))) ⟨m, fun _ => 0, g⟩ (fun r => (∀ c : Dev Cert.Dm.nD,
      r.2.mem ((c.tc : Thread Cert.Dm.nD Cert.Dm.τ).loc Cert.Dm.main_arg0) = m ((c.tc : Thread Cert.Dm.nD Cert.Dm.τ).loc Cert.Dm.main_arg0)
      ∧ r.2.mem ((c.tc : Thread Cert.Dm.nD Cert.Dm.τ).loc Cert.Dm.main_arg1) = m ((c.tc : Thread Cert.Dm.nD Cert.Dm.τ).loc Cert.Dm.main_arg1))
      ∧ r.2.sem = fun _ => 0)

def quiescent_DmIdeal [hDmIdeal : Cert.DmIdeal.Facts] : Prop :=
  ∀ (m : (ℓ : Loc Cert.DmIdeal.nD Cert.DmIdeal.τ Cert.DmIdeal.sig) → Buf (Elt Ideal) ℓ) (g : Dev Cert.DmIdeal.nD → PrngReg), Pre_DmIdeal m →
    θ_run (Cert.DmIdeal.defs (F := Ideal)) (onTc (τ := Cert.DmIdeal.τ) (Cert.DmIdeal.main (F := Ideal))) ⟨m, fun _ => 0, g⟩ (fun r => (∀ c : Dev Cert.DmIdeal.nD,
      r.2.mem ((c.tc : Thread Cert.DmIdeal.nD Cert.DmIdeal.τ).loc Cert.DmIdeal.main_arg0) = m ((c.tc : Thread Cert.DmIdeal.nD Cert.DmIdeal.τ).loc Cert.DmIdeal.main_arg0)
      ∧ r.2.mem ((c.tc : Thread Cert.DmIdeal.nD Cert.DmIdeal.τ).loc Cert.DmIdeal.main_arg1) = m ((c.tc : Thread Cert.DmIdeal.nD Cert.DmIdeal.τ).loc Cert.DmIdeal.main_arg1))
      ∧ r.2.sem = fun _ => 0)

def quiescent_DmRefIdeal [hDmRefIdeal : Cert.DmRefIdeal.Facts] : Prop :=
  ∀ (m : (ℓ : Loc Cert.DmRefIdeal.nD Cert.DmRefIdeal.τ Cert.DmRefIdeal.sig) → Buf (Elt Ideal) ℓ) (g : Dev Cert.DmRefIdeal.nD → PrngReg), Pre_DmRefIdeal m →
    θ_run (Cert.DmRefIdeal.defs (F := Ideal)) (onTc (τ := Cert.DmRefIdeal.τ) (Cert.DmRefIdeal.main (F := Ideal))) ⟨m, fun _ => 0, g⟩ (fun r => (∀ c : Dev Cert.DmRefIdeal.nD,
      r.2.mem ((c.tc : Thread Cert.DmRefIdeal.nD Cert.DmRefIdeal.τ).loc Cert.DmRefIdeal.main_arg0) = m ((c.tc : Thread Cert.DmRefIdeal.nD Cert.DmRefIdeal.τ).loc Cert.DmRefIdeal.main_arg0)
      ∧ r.2.mem ((c.tc : Thread Cert.DmRefIdeal.nD Cert.DmRefIdeal.τ).loc Cert.DmRefIdeal.main_arg1) = m ((c.tc : Thread Cert.DmRefIdeal.nD Cert.DmRefIdeal.τ).loc Cert.DmRefIdeal.main_arg1))
      ∧ r.2.sem = fun _ => 0)

def quiescent_Dy [hDy : Cert.Dy.Facts] : Prop :=
  ∀ (m : (ℓ : Loc Cert.Dy.nD Cert.Dy.τ Cert.Dy.sig) → Buf (Elt Bits) ℓ) (g : Dev Cert.Dy.nD → PrngReg), Pre_Dy m →
    θ_run (Cert.Dy.defs (F := Bits)) (onTc (τ := Cert.Dy.τ) (Cert.Dy.main (F := Bits))) ⟨m, fun _ => 0, g⟩ (fun r => (∀ c : Dev Cert.Dy.nD,
      r.2.mem ((c.tc : Thread Cert.Dy.nD Cert.Dy.τ).loc Cert.Dy.main_arg0) = m ((c.tc : Thread Cert.Dy.nD Cert.Dy.τ).loc Cert.Dy.main_arg0)
      ∧ r.2.mem ((c.tc : Thread Cert.Dy.nD Cert.Dy.τ).loc Cert.Dy.main_arg1) = m ((c.tc : Thread Cert.Dy.nD Cert.Dy.τ).loc Cert.Dy.main_arg1))
      ∧ r.2.sem = fun _ => 0)

def quiescent_DyIdeal [hDyIdeal : Cert.DyIdeal.Facts] : Prop :=
  ∀ (m : (ℓ : Loc Cert.DyIdeal.nD Cert.DyIdeal.τ Cert.DyIdeal.sig) → Buf (Elt Ideal) ℓ) (g : Dev Cert.DyIdeal.nD → PrngReg), Pre_DyIdeal m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0)
      ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ r.2.sem = fun _ => 0)

def quiescent_DyRefIdeal [hDyRefIdeal : Cert.DyRefIdeal.Facts] : Prop :=
  ∀ (m : (ℓ : Loc Cert.DyRefIdeal.nD Cert.DyRefIdeal.τ Cert.DyRefIdeal.sig) → Buf (Elt Ideal) ℓ) (g : Dev Cert.DyRefIdeal.nD → PrngReg), Pre_DyRefIdeal m →
    θ_run (Cert.DyRefIdeal.defs (F := Ideal)) (onTc (τ := Cert.DyRefIdeal.τ) (Cert.DyRefIdeal.main (F := Ideal))) ⟨m, fun _ => 0, g⟩ (fun r => (∀ c : Dev Cert.DyRefIdeal.nD,
      r.2.mem ((c.tc : Thread Cert.DyRefIdeal.nD Cert.DyRefIdeal.τ).loc Cert.DyRefIdeal.main_arg0) = m ((c.tc : Thread Cert.DyRefIdeal.nD Cert.DyRefIdeal.τ).loc Cert.DyRefIdeal.main_arg0)
      ∧ r.2.mem ((c.tc : Thread Cert.DyRefIdeal.nD Cert.DyRefIdeal.τ).loc Cert.DyRefIdeal.main_arg1) = m ((c.tc : Thread Cert.DyRefIdeal.nD Cert.DyRefIdeal.τ).loc Cert.DyRefIdeal.main_arg1))
      ∧ r.2.sem = fun _ => 0)

def quiescent_Gdown [hGdown : Cert.Gdown.Facts] : Prop :=
  ∀ (m : (ℓ : Loc Cert.Gdown.nD Cert.Gdown.τ Cert.Gdown.sig) → Buf (Elt Bits) ℓ) (g : Dev Cert.Gdown.nD → PrngReg), Pre_Gdown m →
    θ_run (Cert.Gdown.defs (F := Bits)) (onTc (τ := Cert.Gdown.τ) (Cert.Gdown.main (F := Bits))) ⟨m, fun _ => 0, g⟩ (fun r => (∀ c : Dev Cert.Gdown.nD,
      r.2.mem ((c.tc : Thread Cert.Gdown.nD Cert.Gdown.τ).loc Cert.Gdown.main_arg0) = m ((c.tc : Thread Cert.Gdown.nD Cert.Gdown.τ).loc Cert.Gdown.main_arg0)
      ∧ r.2.mem ((c.tc : Thread Cert.Gdown.nD Cert.Gdown.τ).loc Cert.Gdown.main_arg1) = m ((c.tc : Thread Cert.Gdown.nD Cert.Gdown.τ).loc Cert.Gdown.main_arg1))
      ∧ r.2.sem = fun _ => 0)

def quiescent_GdownIdeal [hGdownIdeal : Cert.GdownIdeal.Facts] : Prop :=
  ∀ (m : (ℓ : Loc Cert.GdownIdeal.nD Cert.GdownIdeal.τ Cert.GdownIdeal.sig) → Buf (Elt Ideal) ℓ) (g : Dev Cert.GdownIdeal.nD → PrngReg), Pre_GdownIdeal m →
    θ_run (Cert.GdownIdeal.defs (F := Ideal)) (onTc (τ := Cert.GdownIdeal.τ) (Cert.GdownIdeal.main (F := Ideal))) ⟨m, fun _ => 0, g⟩ (fun r => (∀ c : Dev Cert.GdownIdeal.nD,
      r.2.mem ((c.tc : Thread Cert.GdownIdeal.nD Cert.GdownIdeal.τ).loc Cert.GdownIdeal.main_arg0) = m ((c.tc : Thread Cert.GdownIdeal.nD Cert.GdownIdeal.τ).loc Cert.GdownIdeal.main_arg0)
      ∧ r.2.mem ((c.tc : Thread Cert.GdownIdeal.nD Cert.GdownIdeal.τ).loc Cert.GdownIdeal.main_arg1) = m ((c.tc : Thread Cert.GdownIdeal.nD Cert.GdownIdeal.τ).loc Cert.GdownIdeal.main_arg1))
      ∧ r.2.sem = fun _ => 0)

def quiescent_GdownRefIdeal [hGdownRefIdeal : Cert.GdownRefIdeal.Facts] : Prop :=
  ∀ (m : (ℓ : Loc Cert.GdownRefIdeal.nD Cert.GdownRefIdeal.τ Cert.GdownRefIdeal.sig) → Buf (Elt Ideal) ℓ) (g : Dev Cert.GdownRefIdeal.nD → PrngReg), Pre_GdownRefIdeal m →
    θ_run (Cert.GdownRefIdeal.defs (F := Ideal)) (onTc (τ := Cert.GdownRefIdeal.τ) (Cert.GdownRefIdeal.main (F := Ideal))) ⟨m, fun _ => 0, g⟩ (fun r => (∀ c : Dev Cert.GdownRefIdeal.nD,
      r.2.mem ((c.tc : Thread Cert.GdownRefIdeal.nD Cert.GdownRefIdeal.τ).loc Cert.GdownRefIdeal.main_arg0) = m ((c.tc : Thread Cert.GdownRefIdeal.nD Cert.GdownRefIdeal.τ).loc Cert.GdownRefIdeal.main_arg0)
      ∧ r.2.mem ((c.tc : Thread Cert.GdownRefIdeal.nD Cert.GdownRefIdeal.τ).loc Cert.GdownRefIdeal.main_arg1) = m ((c.tc : Thread Cert.GdownRefIdeal.nD Cert.GdownRefIdeal.τ).loc Cert.GdownRefIdeal.main_arg1))
      ∧ r.2.sem = fun _ => 0)

def quiescent_Go [hGo : Cert.Go.Facts] : Prop :=
  ∀ (m : (ℓ : Loc Cert.Go.nD Cert.Go.τ Cert.Go.sig) → Buf (Elt Bits) ℓ) (g : Dev Cert.Go.nD → PrngReg), Pre_Go m →
    θ_run (Cert.Go.defs (F := Bits)) (onTc (τ := Cert.Go.τ) (Cert.Go.main (F := Bits))) ⟨m, fun _ => 0, g⟩ (fun r => (∀ c : Dev Cert.Go.nD,
      r.2.mem ((c.tc : Thread Cert.Go.nD Cert.Go.τ).loc Cert.Go.main_arg0) = m ((c.tc : Thread Cert.Go.nD Cert.Go.τ).loc Cert.Go.main_arg0)
      ∧ r.2.mem ((c.tc : Thread Cert.Go.nD Cert.Go.τ).loc Cert.Go.main_arg1) = m ((c.tc : Thread Cert.Go.nD Cert.Go.τ).loc Cert.Go.main_arg1))
      ∧ r.2.sem = fun _ => 0)

def quiescent_GoIdeal [hGoIdeal : Cert.GoIdeal.Facts] : Prop :=
  ∀ (m : (ℓ : Loc Cert.GoIdeal.nD Cert.GoIdeal.τ Cert.GoIdeal.sig) → Buf (Elt Ideal) ℓ) (g : Dev Cert.GoIdeal.nD → PrngReg), Pre_GoIdeal m →
    θ_run (Cert.GoIdeal.defs (F := Ideal)) (onTc (τ := Cert.GoIdeal.τ) (Cert.GoIdeal.main (F := Ideal))) ⟨m, fun _ => 0, g⟩ (fun r => (∀ c : Dev Cert.GoIdeal.nD,
      r.2.mem ((c.tc : Thread Cert.GoIdeal.nD Cert.GoIdeal.τ).loc Cert.GoIdeal.main_arg0) = m ((c.tc : Thread Cert.GoIdeal.nD Cert.GoIdeal.τ).loc Cert.GoIdeal.main_arg0)
      ∧ r.2.mem ((c.tc : Thread Cert.GoIdeal.nD Cert.GoIdeal.τ).loc Cert.GoIdeal.main_arg1) = m ((c.tc : Thread Cert.GoIdeal.nD Cert.GoIdeal.τ).loc Cert.GoIdeal.main_arg1))
      ∧ r.2.sem = fun _ => 0)

def quiescent_GoRefIdeal [hGoRefIdeal : Cert.GoRefIdeal.Facts] : Prop :=
  ∀ (m : (ℓ : Loc Cert.GoRefIdeal.nD Cert.GoRefIdeal.τ Cert.GoRefIdeal.sig) → Buf (Elt Ideal) ℓ) (g : Dev Cert.GoRefIdeal.nD → PrngReg), Pre_GoRefIdeal m →
    θ_run (Cert.GoRefIdeal.defs (F := Ideal)) (onTc (τ := Cert.GoRefIdeal.τ) (Cert.GoRefIdeal.main (F := Ideal))) ⟨m, fun _ => 0, g⟩ (fun r => (∀ c : Dev Cert.GoRefIdeal.nD,
      r.2.mem ((c.tc : Thread Cert.GoRefIdeal.nD Cert.GoRefIdeal.τ).loc Cert.GoRefIdeal.main_arg0) = m ((c.tc : Thread Cert.GoRefIdeal.nD Cert.GoRefIdeal.τ).loc Cert.GoRefIdeal.main_arg0)
      ∧ r.2.mem ((c.tc : Thread Cert.GoRefIdeal.nD Cert.GoRefIdeal.τ).loc Cert.GoRefIdeal.main_arg1) = m ((c.tc : Thread Cert.GoRefIdeal.nD Cert.GoRefIdeal.τ).loc Cert.GoRefIdeal.main_arg1))
      ∧ r.2.sem = fun _ => 0)

def quiescent_Gy [hGy : Cert.Gy.Facts] : Prop :=
  ∀ (m : (ℓ : Loc Cert.Gy.nD Cert.Gy.τ Cert.Gy.sig) → Buf (Elt Bits) ℓ) (g : Dev Cert.Gy.nD → PrngReg), Pre_Gy m →
    θ_run (Cert.Gy.defs (F := Bits)) (onTc (τ := Cert.Gy.τ) (Cert.Gy.main (F := Bits))) ⟨m, fun _ => 0, g⟩ (fun r => (∀ c : Dev Cert.Gy.nD,
      r.2.mem ((c.tc : Thread Cert.Gy.nD Cert.Gy.τ).loc Cert.Gy.main_arg0) = m ((c.tc : Thread Cert.Gy.nD Cert.Gy.τ).loc Cert.Gy.main_arg0)
      ∧ r.2.mem ((c.tc : Thread Cert.Gy.nD Cert.Gy.τ).loc Cert.Gy.main_arg1) = m ((c.tc : Thread Cert.Gy.nD Cert.Gy.τ).loc Cert.Gy.main_arg1))
      ∧ r.2.sem = fun _ => 0)

def quiescent_GyIdeal [hGyIdeal : Cert.GyIdeal.Facts] : Prop :=
  ∀ (m : (ℓ : Loc Cert.GyIdeal.nD Cert.GyIdeal.τ Cert.GyIdeal.sig) → Buf (Elt Ideal) ℓ) (g : Dev Cert.GyIdeal.nD → PrngReg), Pre_GyIdeal m →
    θ_run (Cert.GyIdeal.defs (F := Ideal)) (onTc (τ := Cert.GyIdeal.τ) (Cert.GyIdeal.main (F := Ideal))) ⟨m, fun _ => 0, g⟩ (fun r => (∀ c : Dev Cert.GyIdeal.nD,
      r.2.mem ((c.tc : Thread Cert.GyIdeal.nD Cert.GyIdeal.τ).loc Cert.GyIdeal.main_arg0) = m ((c.tc : Thread Cert.GyIdeal.nD Cert.GyIdeal.τ).loc Cert.GyIdeal.main_arg0)
      ∧ r.2.mem ((c.tc : Thread Cert.GyIdeal.nD Cert.GyIdeal.τ).loc Cert.GyIdeal.main_arg1) = m ((c.tc : Thread Cert.GyIdeal.nD Cert.GyIdeal.τ).loc Cert.GyIdeal.main_arg1))
      ∧ r.2.sem = fun _ => 0)

def quiescent_GyRefIdeal [hGyRefIdeal : Cert.GyRefIdeal.Facts] : Prop :=
  ∀ (m : (ℓ : Loc Cert.GyRefIdeal.nD Cert.GyRefIdeal.τ Cert.GyRefIdeal.sig) → Buf (Elt Ideal) ℓ) (g : Dev Cert.GyRefIdeal.nD → PrngReg), Pre_GyRefIdeal m →
    θ_run (Cert.GyRefIdeal.defs (F := Ideal)) (onTc (τ := Cert.GyRefIdeal.τ) (Cert.GyRefIdeal.main (F := Ideal))) ⟨m, fun _ => 0, g⟩ (fun r => (∀ c : Dev Cert.GyRefIdeal.nD,
      r.2.mem ((c.tc : Thread Cert.GyRefIdeal.nD Cert.GyRefIdeal.τ).loc Cert.GyRefIdeal.main_arg0) = m ((c.tc : Thread Cert.GyRefIdeal.nD Cert.GyRefIdeal.τ).loc Cert.GyRefIdeal.main_arg0)
      ∧ r.2.mem ((c.tc : Thread Cert.GyRefIdeal.nD Cert.GyRefIdeal.τ).loc Cert.GyRefIdeal.main_arg1) = m ((c.tc : Thread Cert.GyRefIdeal.nD Cert.GyRefIdeal.τ).loc Cert.GyRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Gup [hGup : Cert.Gup.Facts] : Prop :=
  ∀ (m : (ℓ : Loc Cert.Gup.nD Cert.Gup.τ Cert.Gup.sig) → Buf (Elt Bits) ℓ) (g : Dev Cert.Gup.nD → PrngReg), Pre_Gup m →
    θ_run (Cert.Gup.defs (F := Bits)) (onTc (τ := Cert.Gup.τ) (Cert.Gup.main (F := Bits))) ⟨m, fun _ => 0, g⟩ (fun r => (∀ c : Dev Cert.Gup.nD,
      r.2.mem ((c.tc : Thread Cert.Gup.nD Cert.Gup.τ).loc Cert.Gup.main_arg0) = m ((c.tc : Thread Cert.Gup.nD Cert.Gup.τ).loc Cert.Gup.main_arg0)
      ∧ r.2.mem ((c.tc : Thread Cert.Gup.nD Cert.Gup.τ).loc Cert.Gup.main_arg1) = m ((c.tc : Thread Cert.Gup.nD Cert.Gup.τ).loc Cert.Gup.main_arg1)
      ∧ r.2.mem ((c.tc : Thread Cert.Gup.nD Cert.Gup.τ).loc Cert.Gup.main_arg2) = m ((c.tc : Thread Cert.Gup.nD Cert.Gup.τ).loc Cert.Gup.main_arg2))
      ∧ r.2.sem = fun _ => 0)

def quiescent_GupIdeal [hGupIdeal : Cert.GupIdeal.Facts] : Prop :=
  ∀ (m : (ℓ : Loc Cert.GupIdeal.nD Cert.GupIdeal.τ Cert.GupIdeal.sig) → Buf (Elt Ideal) ℓ) (g : Dev Cert.GupIdeal.nD → PrngReg), Pre_GupIdeal m →
    θ_run (Cert.GupIdeal.defs (F := Ideal)) (onTc (τ := Cert.GupIdeal.τ) (Cert.GupIdeal.main (F := Ideal))) ⟨m, fun _ => 0, g⟩ (fun r => (∀ c : Dev Cert.GupIdeal.nD,
      r.2.mem ((c.tc : Thread Cert.GupIdeal.nD Cert.GupIdeal.τ).loc Cert.GupIdeal.main_arg0) = m ((c.tc : Thread Cert.GupIdeal.nD Cert.GupIdeal.τ).loc Cert.GupIdeal.main_arg0)
      ∧ r.2.mem ((c.tc : Thread Cert.GupIdeal.nD Cert.GupIdeal.τ).loc Cert.GupIdeal.main_arg1) = m ((c.tc : Thread Cert.GupIdeal.nD Cert.GupIdeal.τ).loc Cert.GupIdeal.main_arg1)
      ∧ r.2.mem ((c.tc : Thread Cert.GupIdeal.nD Cert.GupIdeal.τ).loc Cert.GupIdeal.main_arg2) = m ((c.tc : Thread Cert.GupIdeal.nD Cert.GupIdeal.τ).loc Cert.GupIdeal.main_arg2))
      ∧ r.2.sem = fun _ => 0)

def quiescent_GupRefIdeal [hGupRefIdeal : Cert.GupRefIdeal.Facts] : Prop :=
  ∀ (m : (ℓ : Loc Cert.GupRefIdeal.nD Cert.GupRefIdeal.τ Cert.GupRefIdeal.sig) → Buf (Elt Ideal) ℓ) (g : Dev Cert.GupRefIdeal.nD → PrngReg), Pre_GupRefIdeal m →
    θ_run (Cert.GupRefIdeal.defs (F := Ideal)) (onTc (τ := Cert.GupRefIdeal.τ) (Cert.GupRefIdeal.main (F := Ideal))) ⟨m, fun _ => 0, g⟩ (fun r => (∀ c : Dev Cert.GupRefIdeal.nD,
      r.2.mem ((c.tc : Thread Cert.GupRefIdeal.nD Cert.GupRefIdeal.τ).loc Cert.GupRefIdeal.main_arg0) = m ((c.tc : Thread Cert.GupRefIdeal.nD Cert.GupRefIdeal.τ).loc Cert.GupRefIdeal.main_arg0)
      ∧ r.2.mem ((c.tc : Thread Cert.GupRefIdeal.nD Cert.GupRefIdeal.τ).loc Cert.GupRefIdeal.main_arg1) = m ((c.tc : Thread Cert.GupRefIdeal.nD Cert.GupRefIdeal.τ).loc Cert.GupRefIdeal.main_arg1)
      ∧ r.2.mem ((c.tc : Thread Cert.GupRefIdeal.nD Cert.GupRefIdeal.τ).loc Cert.GupRefIdeal.main_arg2) = m ((c.tc : Thread Cert.GupRefIdeal.nD Cert.GupRefIdeal.τ).loc Cert.GupRefIdeal.main_arg2))
      ∧ r.2.sem = fun _ => 0)

def quiescent_Gin [hGin : Cert.Gin.Facts] : Prop :=
  ∀ (m : (ℓ : Loc Cert.Gin.nD Cert.Gin.τ Cert.Gin.sig) → Buf (Elt Bits) ℓ) (g : Dev Cert.Gin.nD → PrngReg), Pre_Gin m →
    θ_run (Cert.Gin.defs (F := Bits)) (onTc (τ := Cert.Gin.τ) (Cert.Gin.main (F := Bits))) ⟨m, fun _ => 0, g⟩ (fun r => (∀ c : Dev Cert.Gin.nD,
      r.2.mem ((c.tc : Thread Cert.Gin.nD Cert.Gin.τ).loc Cert.Gin.main_arg0) = m ((c.tc : Thread Cert.Gin.nD Cert.Gin.τ).loc Cert.Gin.main_arg0)
      ∧ r.2.mem ((c.tc : Thread Cert.Gin.nD Cert.Gin.τ).loc Cert.Gin.main_arg1) = m ((c.tc : Thread Cert.Gin.nD Cert.Gin.τ).loc Cert.Gin.main_arg1)
      ∧ r.2.mem ((c.tc : Thread Cert.Gin.nD Cert.Gin.τ).loc Cert.Gin.main_arg2) = m ((c.tc : Thread Cert.Gin.nD Cert.Gin.τ).loc Cert.Gin.main_arg2))
      ∧ r.2.sem = fun _ => 0)

def quiescent_GinIdeal [hGinIdeal : Cert.GinIdeal.Facts] : Prop :=
  ∀ (m : (ℓ : Loc Cert.GinIdeal.nD Cert.GinIdeal.τ Cert.GinIdeal.sig) → Buf (Elt Ideal) ℓ) (g : Dev Cert.GinIdeal.nD → PrngReg), Pre_GinIdeal m →
    θ_run (Cert.GinIdeal.defs (F := Ideal)) (onTc (τ := Cert.GinIdeal.τ) (Cert.GinIdeal.main (F := Ideal))) ⟨m, fun _ => 0, g⟩ (fun r => (∀ c : Dev Cert.GinIdeal.nD,
      r.2.mem ((c.tc : Thread Cert.GinIdeal.nD Cert.GinIdeal.τ).loc Cert.GinIdeal.main_arg0) = m ((c.tc : Thread Cert.GinIdeal.nD Cert.GinIdeal.τ).loc Cert.GinIdeal.main_arg0)
      ∧ r.2.mem ((c.tc : Thread Cert.GinIdeal.nD Cert.GinIdeal.τ).loc Cert.GinIdeal.main_arg1) = m ((c.tc : Thread Cert.GinIdeal.nD Cert.GinIdeal.τ).loc Cert.GinIdeal.main_arg1)
      ∧ r.2.mem ((c.tc : Thread Cert.GinIdeal.nD Cert.GinIdeal.τ).loc Cert.GinIdeal.main_arg2) = m ((c.tc : Thread Cert.GinIdeal.nD Cert.GinIdeal.τ).loc Cert.GinIdeal.main_arg2))
      ∧ r.2.sem = fun _ => 0)

def quiescent_GinRefIdeal [hGinRefIdeal : Cert.GinRefIdeal.Facts] : Prop :=
  ∀ (m : (ℓ : Loc Cert.GinRefIdeal.nD Cert.GinRefIdeal.τ Cert.GinRefIdeal.sig) → Buf (Elt Ideal) ℓ) (g : Dev Cert.GinRefIdeal.nD → PrngReg), Pre_GinRefIdeal m →
    θ_run (Cert.GinRefIdeal.defs (F := Ideal)) (onTc (τ := Cert.GinRefIdeal.τ) (Cert.GinRefIdeal.main (F := Ideal))) ⟨m, fun _ => 0, g⟩ (fun r => (∀ c : Dev Cert.GinRefIdeal.nD,
      r.2.mem ((c.tc : Thread Cert.GinRefIdeal.nD Cert.GinRefIdeal.τ).loc Cert.GinRefIdeal.main_arg0) = m ((c.tc : Thread Cert.GinRefIdeal.nD Cert.GinRefIdeal.τ).loc Cert.GinRefIdeal.main_arg0)
      ∧ r.2.mem ((c.tc : Thread Cert.GinRefIdeal.nD Cert.GinRefIdeal.τ).loc Cert.GinRefIdeal.main_arg1) = m ((c.tc : Thread Cert.GinRefIdeal.nD Cert.GinRefIdeal.τ).loc Cert.GinRefIdeal.main_arg1)
      ∧ r.2.mem ((c.tc : Thread Cert.GinRefIdeal.nD Cert.GinRefIdeal.τ).loc Cert.GinRefIdeal.main_arg2) = m ((c.tc : Thread Cert.GinRefIdeal.nD Cert.GinRefIdeal.τ).loc Cert.GinRefIdeal.main_arg2))
      ∧ r.2.sem = fun _ => 0)

def quiescent_Gupa [hGupa : Cert.Gupa.Facts] : Prop :=
  ∀ (m : (ℓ : Loc Cert.Gupa.nD Cert.Gupa.τ Cert.Gupa.sig) → Buf (Elt Bits) ℓ) (g : Dev Cert.Gupa.nD → PrngReg), Pre_Gupa m →
    θ_run (Cert.Gupa.defs (F := Bits)) (onTc (τ := Cert.Gupa.τ) (Cert.Gupa.main (F := Bits))) ⟨m, fun _ => 0, g⟩ (fun r => (∀ c : Dev Cert.Gupa.nD,
      r.2.mem ((c.tc : Thread Cert.Gupa.nD Cert.Gupa.τ).loc Cert.Gupa.main_arg0) = m ((c.tc : Thread Cert.Gupa.nD Cert.Gupa.τ).loc Cert.Gupa.main_arg0)
      ∧ r.2.mem ((c.tc : Thread Cert.Gupa.nD Cert.Gupa.τ).loc Cert.Gupa.main_arg1) = m ((c.tc : Thread Cert.Gupa.nD Cert.Gupa.τ).loc Cert.Gupa.main_arg1))
      ∧ r.2.sem = fun _ => 0)

def quiescent_GupaIdeal [hGupaIdeal : Cert.GupaIdeal.Facts] : Prop :=
  ∀ (m : (ℓ : Loc Cert.GupaIdeal.nD Cert.GupaIdeal.τ Cert.GupaIdeal.sig) → Buf (Elt Ideal) ℓ) (g : Dev Cert.GupaIdeal.nD → PrngReg), Pre_GupaIdeal m →
    θ_run (Cert.GupaIdeal.defs (F := Ideal)) (onTc (τ := Cert.GupaIdeal.τ) (Cert.GupaIdeal.main (F := Ideal))) ⟨m, fun _ => 0, g⟩ (fun r => (∀ c : Dev Cert.GupaIdeal.nD,
      r.2.mem ((c.tc : Thread Cert.GupaIdeal.nD Cert.GupaIdeal.τ).loc Cert.GupaIdeal.main_arg0) = m ((c.tc : Thread Cert.GupaIdeal.nD Cert.GupaIdeal.τ).loc Cert.GupaIdeal.main_arg0)
      ∧ r.2.mem ((c.tc : Thread Cert.GupaIdeal.nD Cert.GupaIdeal.τ).loc Cert.GupaIdeal.main_arg1) = m ((c.tc : Thread Cert.GupaIdeal.nD Cert.GupaIdeal.τ).loc Cert.GupaIdeal.main_arg1))
      ∧ r.2.sem = fun _ => 0)

def quiescent_GupaRefIdeal [hGupaRefIdeal : Cert.GupaRefIdeal.Facts] : Prop :=
  ∀ (m : (ℓ : Loc Cert.GupaRefIdeal.nD Cert.GupaRefIdeal.τ Cert.GupaRefIdeal.sig) → Buf (Elt Ideal) ℓ) (g : Dev Cert.GupaRefIdeal.nD → PrngReg), Pre_GupaRefIdeal m →
    θ_run (Cert.GupaRefIdeal.defs (F := Ideal)) (onTc (τ := Cert.GupaRefIdeal.τ) (Cert.GupaRefIdeal.main (F := Ideal))) ⟨m, fun _ => 0, g⟩ (fun r => (∀ c : Dev Cert.GupaRefIdeal.nD,
      r.2.mem ((c.tc : Thread Cert.GupaRefIdeal.nD Cert.GupaRefIdeal.τ).loc Cert.GupaRefIdeal.main_arg0) = m ((c.tc : Thread Cert.GupaRefIdeal.nD Cert.GupaRefIdeal.τ).loc Cert.GupaRefIdeal.main_arg0)
      ∧ r.2.mem ((c.tc : Thread Cert.GupaRefIdeal.nD Cert.GupaRefIdeal.τ).loc Cert.GupaRefIdeal.main_arg1) = m ((c.tc : Thread Cert.GupaRefIdeal.nD Cert.GupaRefIdeal.τ).loc Cert.GupaRefIdeal.main_arg1))
      ∧ r.2.sem = fun _ => 0)

def quiescent_Gina [hGina : Cert.Gina.Facts] : Prop :=
  ∀ (m : (ℓ : Loc Cert.Gina.nD Cert.Gina.τ Cert.Gina.sig) → Buf (Elt Bits) ℓ) (g : Dev Cert.Gina.nD → PrngReg), Pre_Gina m →
    θ_run (Cert.Gina.defs (F := Bits)) (onTc (τ := Cert.Gina.τ) (Cert.Gina.main (F := Bits))) ⟨m, fun _ => 0, g⟩ (fun r => (∀ c : Dev Cert.Gina.nD,
      r.2.mem ((c.tc : Thread Cert.Gina.nD Cert.Gina.τ).loc Cert.Gina.main_arg0) = m ((c.tc : Thread Cert.Gina.nD Cert.Gina.τ).loc Cert.Gina.main_arg0)
      ∧ r.2.mem ((c.tc : Thread Cert.Gina.nD Cert.Gina.τ).loc Cert.Gina.main_arg1) = m ((c.tc : Thread Cert.Gina.nD Cert.Gina.τ).loc Cert.Gina.main_arg1))
      ∧ r.2.sem = fun _ => 0)

def quiescent_GinaIdeal [hGinaIdeal : Cert.GinaIdeal.Facts] : Prop :=
  ∀ (m : (ℓ : Loc Cert.GinaIdeal.nD Cert.GinaIdeal.τ Cert.GinaIdeal.sig) → Buf (Elt Ideal) ℓ) (g : Dev Cert.GinaIdeal.nD → PrngReg), Pre_GinaIdeal m →
    θ_run (Cert.GinaIdeal.defs (F := Ideal)) (onTc (τ := Cert.GinaIdeal.τ) (Cert.GinaIdeal.main (F := Ideal))) ⟨m, fun _ => 0, g⟩ (fun r => (∀ c : Dev Cert.GinaIdeal.nD,
      r.2.mem ((c.tc : Thread Cert.GinaIdeal.nD Cert.GinaIdeal.τ).loc Cert.GinaIdeal.main_arg0) = m ((c.tc : Thread Cert.GinaIdeal.nD Cert.GinaIdeal.τ).loc Cert.GinaIdeal.main_arg0)
      ∧ r.2.mem ((c.tc : Thread Cert.GinaIdeal.nD Cert.GinaIdeal.τ).loc Cert.GinaIdeal.main_arg1) = m ((c.tc : Thread Cert.GinaIdeal.nD Cert.GinaIdeal.τ).loc Cert.GinaIdeal.main_arg1))
      ∧ r.2.sem = fun _ => 0)

def quiescent_GinaRefIdeal [hGinaRefIdeal : Cert.GinaRefIdeal.Facts] : Prop :=
  ∀ (m : (ℓ : Loc Cert.GinaRefIdeal.nD Cert.GinaRefIdeal.τ Cert.GinaRefIdeal.sig) → Buf (Elt Ideal) ℓ) (g : Dev Cert.GinaRefIdeal.nD → PrngReg), Pre_GinaRefIdeal m →
    θ_run (Cert.GinaRefIdeal.defs (F := Ideal)) (onTc (τ := Cert.GinaRefIdeal.τ) (Cert.GinaRefIdeal.main (F := Ideal))) ⟨m, fun _ => 0, g⟩ (fun r => (∀ c : Dev Cert.GinaRefIdeal.nD,
      r.2.mem ((c.tc : Thread Cert.GinaRefIdeal.nD Cert.GinaRefIdeal.τ).loc Cert.GinaRefIdeal.main_arg0) = m ((c.tc : Thread Cert.GinaRefIdeal.nD Cert.GinaRefIdeal.τ).loc Cert.GinaRefIdeal.main_arg0)
      ∧ r.2.mem ((c.tc : Thread Cert.GinaRefIdeal.nD Cert.GinaRefIdeal.τ).loc Cert.GinaRefIdeal.main_arg1) = m ((c.tc : Thread Cert.GinaRefIdeal.nD Cert.GinaRefIdeal.τ).loc Cert.GinaRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2))
      ∧ r.2.sem = fun _ => 0)

def quiescent_Dhin [hDhin : Cert.Dhin.Facts] : Prop :=
  ∀ (m : (ℓ : Loc Cert.Dhin.nD Cert.Dhin.τ Cert.Dhin.sig) → Buf (Elt Bits) ℓ) (g : Dev Cert.Dhin.nD → PrngReg), Pre_Dhin m →
    θ_run (Cert.Dhin.defs (F := Bits)) (onTc (τ := Cert.Dhin.τ) (Cert.Dhin.main (F := Bits))) ⟨m, fun _ => 0, g⟩ (fun r => (∀ c : Dev Cert.Dhin.nD,
      r.2.mem ((c.tc : Thread Cert.Dhin.nD Cert.Dhin.τ).loc Cert.Dhin.main_arg0) = m ((c.tc : Thread Cert.Dhin.nD Cert.Dhin.τ).loc Cert.Dhin.main_arg0)
      ∧ r.2.mem ((c.tc : Thread Cert.Dhin.nD Cert.Dhin.τ).loc Cert.Dhin.main_arg1) = m ((c.tc : Thread Cert.Dhin.nD Cert.Dhin.τ).loc Cert.Dhin.main_arg1)
      ∧ r.2.mem ((c.tc : Thread Cert.Dhin.nD Cert.Dhin.τ).loc Cert.Dhin.main_arg2) = m ((c.tc : Thread Cert.Dhin.nD Cert.Dhin.τ).loc Cert.Dhin.main_arg2))
      ∧ r.2.sem = fun _ => 0)

def quiescent_DhinIdeal [hDhinIdeal : Cert.DhinIdeal.Facts] : Prop :=
  ∀ (m : (ℓ : Loc Cert.DhinIdeal.nD Cert.DhinIdeal.τ Cert.DhinIdeal.sig) → Buf (Elt Ideal) ℓ) (g : Dev Cert.DhinIdeal.nD → PrngReg), Pre_DhinIdeal m →
    θ_run (Cert.DhinIdeal.defs (F := Ideal)) (onTc (τ := Cert.DhinIdeal.τ) (Cert.DhinIdeal.main (F := Ideal))) ⟨m, fun _ => 0, g⟩ (fun r => (∀ c : Dev Cert.DhinIdeal.nD,
      r.2.mem ((c.tc : Thread Cert.DhinIdeal.nD Cert.DhinIdeal.τ).loc Cert.DhinIdeal.main_arg0) = m ((c.tc : Thread Cert.DhinIdeal.nD Cert.DhinIdeal.τ).loc Cert.DhinIdeal.main_arg0)
      ∧ r.2.mem ((c.tc : Thread Cert.DhinIdeal.nD Cert.DhinIdeal.τ).loc Cert.DhinIdeal.main_arg1) = m ((c.tc : Thread Cert.DhinIdeal.nD Cert.DhinIdeal.τ).loc Cert.DhinIdeal.main_arg1)
      ∧ r.2.mem ((c.tc : Thread Cert.DhinIdeal.nD Cert.DhinIdeal.τ).loc Cert.DhinIdeal.main_arg2) = m ((c.tc : Thread Cert.DhinIdeal.nD Cert.DhinIdeal.τ).loc Cert.DhinIdeal.main_arg2))
      ∧ r.2.sem = fun _ => 0)

def quiescent_DhinRefIdeal [hDhinRefIdeal : Cert.DhinRefIdeal.Facts] : Prop :=
  ∀ (m : (ℓ : Loc Cert.DhinRefIdeal.nD Cert.DhinRefIdeal.τ Cert.DhinRefIdeal.sig) → Buf (Elt Ideal) ℓ) (g : Dev Cert.DhinRefIdeal.nD → PrngReg), Pre_DhinRefIdeal m →
    θ_run (Cert.DhinRefIdeal.defs (F := Ideal)) (onTc (τ := Cert.DhinRefIdeal.τ) (Cert.DhinRefIdeal.main (F := Ideal))) ⟨m, fun _ => 0, g⟩ (fun r => (∀ c : Dev Cert.DhinRefIdeal.nD,
      r.2.mem ((c.tc : Thread Cert.DhinRefIdeal.nD Cert.DhinRefIdeal.τ).loc Cert.DhinRefIdeal.main_arg0) = m ((c.tc : Thread Cert.DhinRefIdeal.nD Cert.DhinRefIdeal.τ).loc Cert.DhinRefIdeal.main_arg0)
      ∧ r.2.mem ((c.tc : Thread Cert.DhinRefIdeal.nD Cert.DhinRefIdeal.τ).loc Cert.DhinRefIdeal.main_arg1) = m ((c.tc : Thread Cert.DhinRefIdeal.nD Cert.DhinRefIdeal.τ).loc Cert.DhinRefIdeal.main_arg1)
      ∧ r.2.mem ((c.tc : Thread Cert.DhinRefIdeal.nD Cert.DhinRefIdeal.τ).loc Cert.DhinRefIdeal.main_arg2) = m ((c.tc : Thread Cert.DhinRefIdeal.nD Cert.DhinRefIdeal.τ).loc Cert.DhinRefIdeal.main_arg2))
      ∧ r.2.sem = fun _ => 0)

def quiescent_Dhina [hDhina : Cert.Dhina.Facts] : Prop :=
  ∀ (m : (ℓ : Loc Cert.Dhina.nD Cert.Dhina.τ Cert.Dhina.sig) → Buf (Elt Bits) ℓ) (g : Dev Cert.Dhina.nD → PrngReg), Pre_Dhina m →
    θ_run (Cert.Dhina.defs (F := Bits)) (onTc (τ := Cert.Dhina.τ) (Cert.Dhina.main (F := Bits))) ⟨m, fun _ => 0, g⟩ (fun r => (∀ c : Dev Cert.Dhina.nD,
      r.2.mem ((c.tc : Thread Cert.Dhina.nD Cert.Dhina.τ).loc Cert.Dhina.main_arg0) = m ((c.tc : Thread Cert.Dhina.nD Cert.Dhina.τ).loc Cert.Dhina.main_arg0)
      ∧ r.2.mem ((c.tc : Thread Cert.Dhina.nD Cert.Dhina.τ).loc Cert.Dhina.main_arg1) = m ((c.tc : Thread Cert.Dhina.nD Cert.Dhina.τ).loc Cert.Dhina.main_arg1))
      ∧ r.2.sem = fun _ => 0)

def quiescent_DhinaIdeal [hDhinaIdeal : Cert.DhinaIdeal.Facts] : Prop :=
  ∀ (m : (ℓ : Loc Cert.DhinaIdeal.nD Cert.DhinaIdeal.τ Cert.DhinaIdeal.sig) → Buf (Elt Ideal) ℓ) (g : Dev Cert.DhinaIdeal.nD → PrngReg), Pre_DhinaIdeal m →
    θ_run (Cert.DhinaIdeal.defs (F := Ideal)) (onTc (τ := Cert.DhinaIdeal.τ) (Cert.DhinaIdeal.main (F := Ideal))) ⟨m, fun _ => 0, g⟩ (fun r => (∀ c : Dev Cert.DhinaIdeal.nD,
      r.2.mem ((c.tc : Thread Cert.DhinaIdeal.nD Cert.DhinaIdeal.τ).loc Cert.DhinaIdeal.main_arg0) = m ((c.tc : Thread Cert.DhinaIdeal.nD Cert.DhinaIdeal.τ).loc Cert.DhinaIdeal.main_arg0)
      ∧ r.2.mem ((c.tc : Thread Cert.DhinaIdeal.nD Cert.DhinaIdeal.τ).loc Cert.DhinaIdeal.main_arg1) = m ((c.tc : Thread Cert.DhinaIdeal.nD Cert.DhinaIdeal.τ).loc Cert.DhinaIdeal.main_arg1))
      ∧ r.2.sem = fun _ => 0)

def quiescent_DhinaRefIdeal [hDhinaRefIdeal : Cert.DhinaRefIdeal.Facts] : Prop :=
  ∀ (m : (ℓ : Loc Cert.DhinaRefIdeal.nD Cert.DhinaRefIdeal.τ Cert.DhinaRefIdeal.sig) → Buf (Elt Ideal) ℓ) (g : Dev Cert.DhinaRefIdeal.nD → PrngReg), Pre_DhinaRefIdeal m →
    θ_run (Cert.DhinaRefIdeal.defs (F := Ideal)) (onTc (τ := Cert.DhinaRefIdeal.τ) (Cert.DhinaRefIdeal.main (F := Ideal))) ⟨m, fun _ => 0, g⟩ (fun r => (∀ c : Dev Cert.DhinaRefIdeal.nD,
      r.2.mem ((c.tc : Thread Cert.DhinaRefIdeal.nD Cert.DhinaRefIdeal.τ).loc Cert.DhinaRefIdeal.main_arg0) = m ((c.tc : Thread Cert.DhinaRefIdeal.nD Cert.DhinaRefIdeal.τ).loc Cert.DhinaRefIdeal.main_arg0)
      ∧ r.2.mem ((c.tc : Thread Cert.DhinaRefIdeal.nD Cert.DhinaRefIdeal.τ).loc Cert.DhinaRefIdeal.main_arg1) = m ((c.tc : Thread Cert.DhinaRefIdeal.nD Cert.DhinaRefIdeal.τ).loc Cert.DhinaRefIdeal.main_arg1))
      ∧ r.2.sem = fun _ => 0)

def quiescent_Dhinb [hDhinb : Cert.Dhinb.Facts] : Prop :=
  ∀ (m : (ℓ : Loc Cert.Dhinb.nD Cert.Dhinb.τ Cert.Dhinb.sig) → Buf (Elt Bits) ℓ) (g : Dev Cert.Dhinb.nD → PrngReg), Pre_Dhinb m →
    θ_run (Cert.Dhinb.defs (F := Bits)) (onTc (τ := Cert.Dhinb.τ) (Cert.Dhinb.main (F := Bits))) ⟨m, fun _ => 0, g⟩ (fun r => (∀ c : Dev Cert.Dhinb.nD,
      r.2.mem ((c.tc : Thread Cert.Dhinb.nD Cert.Dhinb.τ).loc Cert.Dhinb.main_arg0) = m ((c.tc : Thread Cert.Dhinb.nD Cert.Dhinb.τ).loc Cert.Dhinb.main_arg0)
      ∧ r.2.mem ((c.tc : Thread Cert.Dhinb.nD Cert.Dhinb.τ).loc Cert.Dhinb.main_arg1) = m ((c.tc : Thread Cert.Dhinb.nD Cert.Dhinb.τ).loc Cert.Dhinb.main_arg1)
      ∧ r.2.mem ((c.tc : Thread Cert.Dhinb.nD Cert.Dhinb.τ).loc Cert.Dhinb.main_arg2) = m ((c.tc : Thread Cert.Dhinb.nD Cert.Dhinb.τ).loc Cert.Dhinb.main_arg2))
      ∧ r.2.sem = fun _ => 0)

def quiescent_DhinbIdeal [hDhinbIdeal : Cert.DhinbIdeal.Facts] : Prop :=
  ∀ (m : (ℓ : Loc Cert.DhinbIdeal.nD Cert.DhinbIdeal.τ Cert.DhinbIdeal.sig) → Buf (Elt Ideal) ℓ) (g : Dev Cert.DhinbIdeal.nD → PrngReg), Pre_DhinbIdeal m →
    θ_run (Cert.DhinbIdeal.defs (F := Ideal)) (onTc (τ := Cert.DhinbIdeal.τ) (Cert.DhinbIdeal.main (F := Ideal))) ⟨m, fun _ => 0, g⟩ (fun r => (∀ c : Dev Cert.DhinbIdeal.nD,
      r.2.mem ((c.tc : Thread Cert.DhinbIdeal.nD Cert.DhinbIdeal.τ).loc Cert.DhinbIdeal.main_arg0) = m ((c.tc : Thread Cert.DhinbIdeal.nD Cert.DhinbIdeal.τ).loc Cert.DhinbIdeal.main_arg0)
      ∧ r.2.mem ((c.tc : Thread Cert.DhinbIdeal.nD Cert.DhinbIdeal.τ).loc Cert.DhinbIdeal.main_arg1) = m ((c.tc : Thread Cert.DhinbIdeal.nD Cert.DhinbIdeal.τ).loc Cert.DhinbIdeal.main_arg1)
      ∧ r.2.mem ((c.tc : Thread Cert.DhinbIdeal.nD Cert.DhinbIdeal.τ).loc Cert.DhinbIdeal.main_arg2) = m ((c.tc : Thread Cert.DhinbIdeal.nD Cert.DhinbIdeal.τ).loc Cert.DhinbIdeal.main_arg2))
      ∧ r.2.sem = fun _ => 0)

def quiescent_DhinbRefIdeal [hDhinbRefIdeal : Cert.DhinbRefIdeal.Facts] : Prop :=
  ∀ (m : (ℓ : Loc Cert.DhinbRefIdeal.nD Cert.DhinbRefIdeal.τ Cert.DhinbRefIdeal.sig) → Buf (Elt Ideal) ℓ) (g : Dev Cert.DhinbRefIdeal.nD → PrngReg), Pre_DhinbRefIdeal m →
    θ_run (Cert.DhinbRefIdeal.defs (F := Ideal)) (onTc (τ := Cert.DhinbRefIdeal.τ) (Cert.DhinbRefIdeal.main (F := Ideal))) ⟨m, fun _ => 0, g⟩ (fun r => (∀ c : Dev Cert.DhinbRefIdeal.nD,
      r.2.mem ((c.tc : Thread Cert.DhinbRefIdeal.nD Cert.DhinbRefIdeal.τ).loc Cert.DhinbRefIdeal.main_arg0) = m ((c.tc : Thread Cert.DhinbRefIdeal.nD Cert.DhinbRefIdeal.τ).loc Cert.DhinbRefIdeal.main_arg0)
      ∧ r.2.mem ((c.tc : Thread Cert.DhinbRefIdeal.nD Cert.DhinbRefIdeal.τ).loc Cert.DhinbRefIdeal.main_arg1) = m ((c.tc : Thread Cert.DhinbRefIdeal.nD Cert.DhinbRefIdeal.τ).loc Cert.DhinbRefIdeal.main_arg1)
      ∧ r.2.mem ((c.tc : Thread Cert.DhinbRefIdeal.nD Cert.DhinbRefIdeal.τ).loc Cert.DhinbRefIdeal.main_arg2) = m ((c.tc : Thread Cert.DhinbRefIdeal.nD Cert.DhinbRefIdeal.τ).loc Cert.DhinbRefIdeal.main_arg2))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2)
      ∧ r.2.mem ((c.tc : Thread Cert.Rms.nD Cert.Rms.τ).loc Cert.Rms.main_arg3) = m ((c.tc : Thread Cert.Rms.nD Cert.Rms.τ).loc Cert.Rms.main_arg3))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_Adams [hAdams : Cert.Adams.Facts] : Prop :=
  ∀ (m : (ℓ : Loc Cert.Adams.nD Cert.Adams.τ Cert.Adams.sig) → Buf (Elt Bits) ℓ) (g : Dev Cert.Adams.nD → PrngReg), Pre_Adams m →
    θ_run (Cert.Adams.defs (F := Bits)) (onTc (τ := Cert.Adams.τ) (Cert.Adams.main (F := Bits))) ⟨m, fun _ => 0, g⟩ (fun r => (∀ c : Dev Cert.Adams.nD,
      r.2.mem ((c.tc : Thread Cert.Adams.nD Cert.Adams.τ).loc Cert.Adams.main_arg0) = m ((c.tc : Thread Cert.Adams.nD Cert.Adams.τ).loc Cert.Adams.main_arg0)
      ∧ r.2.mem ((c.tc : Thread Cert.Adams.nD Cert.Adams.τ).loc Cert.Adams.main_arg1) = m ((c.tc : Thread Cert.Adams.nD Cert.Adams.τ).loc Cert.Adams.main_arg1)
      ∧ r.2.mem ((c.tc : Thread Cert.Adams.nD Cert.Adams.τ).loc Cert.Adams.main_arg2) = m ((c.tc : Thread Cert.Adams.nD Cert.Adams.τ).loc Cert.Adams.main_arg2)
      ∧ r.2.mem ((c.tc : Thread Cert.Adams.nD Cert.Adams.τ).loc Cert.Adams.main_arg3) = m ((c.tc : Thread Cert.Adams.nD Cert.Adams.τ).loc Cert.Adams.main_arg3)
      ∧ r.2.mem ((c.tc : Thread Cert.Adams.nD Cert.Adams.τ).loc Cert.Adams.main_arg4) = m ((c.tc : Thread Cert.Adams.nD Cert.Adams.τ).loc Cert.Adams.main_arg4)
      ∧ r.2.mem ((c.tc : Thread Cert.Adams.nD Cert.Adams.τ).loc Cert.Adams.main_arg5) = m ((c.tc : Thread Cert.Adams.nD Cert.Adams.τ).loc Cert.Adams.main_arg5)
      ∧ r.2.mem ((c.tc : Thread Cert.Adams.nD Cert.Adams.τ).loc Cert.Adams.main_arg6) = m ((c.tc : Thread Cert.Adams.nD Cert.Adams.τ).loc Cert.Adams.main_arg6)
      ∧ r.2.mem ((c.tc : Thread Cert.Adams.nD Cert.Adams.τ).loc Cert.Adams.main_arg7) = m ((c.tc : Thread Cert.Adams.nD Cert.Adams.τ).loc Cert.Adams.main_arg7)
      ∧ r.2.mem ((c.tc : Thread Cert.Adams.nD Cert.Adams.τ).loc Cert.Adams.main_arg8) = m ((c.tc : Thread Cert.Adams.nD Cert.Adams.τ).loc Cert.Adams.main_arg8)
      ∧ r.2.mem ((c.tc : Thread Cert.Adams.nD Cert.Adams.τ).loc Cert.Adams.main_arg9) = m ((c.tc : Thread Cert.Adams.nD Cert.Adams.τ).loc Cert.Adams.main_arg9)
      ∧ r.2.mem ((c.tc : Thread Cert.Adams.nD Cert.Adams.τ).loc Cert.Adams.main_arg10) = m ((c.tc : Thread Cert.Adams.nD Cert.Adams.τ).loc Cert.Adams.main_arg10)
      ∧ r.2.mem ((c.tc : Thread Cert.Adams.nD Cert.Adams.τ).loc Cert.Adams.main_arg11) = m ((c.tc : Thread Cert.Adams.nD Cert.Adams.τ).loc Cert.Adams.main_arg11)
      ∧ r.2.mem ((c.tc : Thread Cert.Adams.nD Cert.Adams.τ).loc Cert.Adams.main_arg12) = m ((c.tc : Thread Cert.Adams.nD Cert.Adams.τ).loc Cert.Adams.main_arg12)
      ∧ r.2.mem ((c.tc : Thread Cert.Adams.nD Cert.Adams.τ).loc Cert.Adams.main_arg13) = m ((c.tc : Thread Cert.Adams.nD Cert.Adams.τ).loc Cert.Adams.main_arg13)
      ∧ r.2.mem ((c.tc : Thread Cert.Adams.nD Cert.Adams.τ).loc Cert.Adams.main_arg14) = m ((c.tc : Thread Cert.Adams.nD Cert.Adams.τ).loc Cert.Adams.main_arg14)
      ∧ r.2.mem ((c.tc : Thread Cert.Adams.nD Cert.Adams.τ).loc Cert.Adams.main_arg15) = m ((c.tc : Thread Cert.Adams.nD Cert.Adams.τ).loc Cert.Adams.main_arg15)
      ∧ r.2.mem ((c.tc : Thread Cert.Adams.nD Cert.Adams.τ).loc Cert.Adams.main_arg16) = m ((c.tc : Thread Cert.Adams.nD Cert.Adams.τ).loc Cert.Adams.main_arg16)
      ∧ r.2.mem ((c.tc : Thread Cert.Adams.nD Cert.Adams.τ).loc Cert.Adams.main_arg17) = m ((c.tc : Thread Cert.Adams.nD Cert.Adams.τ).loc Cert.Adams.main_arg17)
      ∧ r.2.mem ((c.tc : Thread Cert.Adams.nD Cert.Adams.τ).loc Cert.Adams.main_arg18) = m ((c.tc : Thread Cert.Adams.nD Cert.Adams.τ).loc Cert.Adams.main_arg18)
      ∧ r.2.mem ((c.tc : Thread Cert.Adams.nD Cert.Adams.τ).loc Cert.Adams.main_arg19) = m ((c.tc : Thread Cert.Adams.nD Cert.Adams.τ).loc Cert.Adams.main_arg19)
      ∧ r.2.mem ((c.tc : Thread Cert.Adams.nD Cert.Adams.τ).loc Cert.Adams.main_arg20) = m ((c.tc : Thread Cert.Adams.nD Cert.Adams.τ).loc Cert.Adams.main_arg20)
      ∧ r.2.mem ((c.tc : Thread Cert.Adams.nD Cert.Adams.τ).loc Cert.Adams.main_arg21) = m ((c.tc : Thread Cert.Adams.nD Cert.Adams.τ).loc Cert.Adams.main_arg21)
      ∧ r.2.mem ((c.tc : Thread Cert.Adams.nD Cert.Adams.τ).loc Cert.Adams.main_arg22) = m ((c.tc : Thread Cert.Adams.nD Cert.Adams.τ).loc Cert.Adams.main_arg22)
      ∧ r.2.mem ((c.tc : Thread Cert.Adams.nD Cert.Adams.τ).loc Cert.Adams.main_arg23) = m ((c.tc : Thread Cert.Adams.nD Cert.Adams.τ).loc Cert.Adams.main_arg23)
      ∧ r.2.mem ((c.tc : Thread Cert.Adams.nD Cert.Adams.τ).loc Cert.Adams.main_arg24) = m ((c.tc : Thread Cert.Adams.nD Cert.Adams.τ).loc Cert.Adams.main_arg24)
      ∧ r.2.mem ((c.tc : Thread Cert.Adams.nD Cert.Adams.τ).loc Cert.Adams.main_arg25) = m ((c.tc : Thread Cert.Adams.nD Cert.Adams.τ).loc Cert.Adams.main_arg25)
      ∧ r.2.mem ((c.tc : Thread Cert.Adams.nD Cert.Adams.τ).loc Cert.Adams.main_arg26) = m ((c.tc : Thread Cert.Adams.nD Cert.Adams.τ).loc Cert.Adams.main_arg26)
      ∧ r.2.mem ((c.tc : Thread Cert.Adams.nD Cert.Adams.τ).loc Cert.Adams.main_arg27) = m ((c.tc : Thread Cert.Adams.nD Cert.Adams.τ).loc Cert.Adams.main_arg27)
      ∧ r.2.mem ((c.tc : Thread Cert.Adams.nD Cert.Adams.τ).loc Cert.Adams.main_arg28) = m ((c.tc : Thread Cert.Adams.nD Cert.Adams.τ).loc Cert.Adams.main_arg28)
      ∧ r.2.mem ((c.tc : Thread Cert.Adams.nD Cert.Adams.τ).loc Cert.Adams.main_arg29) = m ((c.tc : Thread Cert.Adams.nD Cert.Adams.τ).loc Cert.Adams.main_arg29)
      ∧ r.2.mem ((c.tc : Thread Cert.Adams.nD Cert.Adams.τ).loc Cert.Adams.main_arg30) = m ((c.tc : Thread Cert.Adams.nD Cert.Adams.τ).loc Cert.Adams.main_arg30)
      ∧ r.2.mem ((c.tc : Thread Cert.Adams.nD Cert.Adams.τ).loc Cert.Adams.main_arg31) = m ((c.tc : Thread Cert.Adams.nD Cert.Adams.τ).loc Cert.Adams.main_arg31)
      ∧ r.2.mem ((c.tc : Thread Cert.Adams.nD Cert.Adams.τ).loc Cert.Adams.main_arg32) = m ((c.tc : Thread Cert.Adams.nD Cert.Adams.τ).loc Cert.Adams.main_arg32)
      ∧ r.2.mem ((c.tc : Thread Cert.Adams.nD Cert.Adams.τ).loc Cert.Adams.main_arg33) = m ((c.tc : Thread Cert.Adams.nD Cert.Adams.τ).loc Cert.Adams.main_arg33)
      ∧ r.2.mem ((c.tc : Thread Cert.Adams.nD Cert.Adams.τ).loc Cert.Adams.main_arg34) = m ((c.tc : Thread Cert.Adams.nD Cert.Adams.τ).loc Cert.Adams.main_arg34)
      ∧ r.2.mem ((c.tc : Thread Cert.Adams.nD Cert.Adams.τ).loc Cert.Adams.main_arg35) = m ((c.tc : Thread Cert.Adams.nD Cert.Adams.τ).loc Cert.Adams.main_arg35))
      ∧ r.2.sem = fun _ => 0)

def quiescent_AdamsIdeal [hAdamsIdeal : Cert.AdamsIdeal.Facts] : Prop :=
  ∀ (m : (ℓ : Loc Cert.AdamsIdeal.nD Cert.AdamsIdeal.τ Cert.AdamsIdeal.sig) → Buf (Elt Ideal) ℓ) (g : Dev Cert.AdamsIdeal.nD → PrngReg), Pre_AdamsIdeal m →
    θ_run (Cert.AdamsIdeal.defs (F := Ideal)) (onTc (τ := Cert.AdamsIdeal.τ) (Cert.AdamsIdeal.main (F := Ideal))) ⟨m, fun _ => 0, g⟩ (fun r => (∀ c : Dev Cert.AdamsIdeal.nD,
      r.2.mem ((c.tc : Thread Cert.AdamsIdeal.nD Cert.AdamsIdeal.τ).loc Cert.AdamsIdeal.main_arg0) = m ((c.tc : Thread Cert.AdamsIdeal.nD Cert.AdamsIdeal.τ).loc Cert.AdamsIdeal.main_arg0)
      ∧ r.2.mem ((c.tc : Thread Cert.AdamsIdeal.nD Cert.AdamsIdeal.τ).loc Cert.AdamsIdeal.main_arg1) = m ((c.tc : Thread Cert.AdamsIdeal.nD Cert.AdamsIdeal.τ).loc Cert.AdamsIdeal.main_arg1)
      ∧ r.2.mem ((c.tc : Thread Cert.AdamsIdeal.nD Cert.AdamsIdeal.τ).loc Cert.AdamsIdeal.main_arg2) = m ((c.tc : Thread Cert.AdamsIdeal.nD Cert.AdamsIdeal.τ).loc Cert.AdamsIdeal.main_arg2)
      ∧ r.2.mem ((c.tc : Thread Cert.AdamsIdeal.nD Cert.AdamsIdeal.τ).loc Cert.AdamsIdeal.main_arg3) = m ((c.tc : Thread Cert.AdamsIdeal.nD Cert.AdamsIdeal.τ).loc Cert.AdamsIdeal.main_arg3)
      ∧ r.2.mem ((c.tc : Thread Cert.AdamsIdeal.nD Cert.AdamsIdeal.τ).loc Cert.AdamsIdeal.main_arg4) = m ((c.tc : Thread Cert.AdamsIdeal.nD Cert.AdamsIdeal.τ).loc Cert.AdamsIdeal.main_arg4)
      ∧ r.2.mem ((c.tc : Thread Cert.AdamsIdeal.nD Cert.AdamsIdeal.τ).loc Cert.AdamsIdeal.main_arg5) = m ((c.tc : Thread Cert.AdamsIdeal.nD Cert.AdamsIdeal.τ).loc Cert.AdamsIdeal.main_arg5)
      ∧ r.2.mem ((c.tc : Thread Cert.AdamsIdeal.nD Cert.AdamsIdeal.τ).loc Cert.AdamsIdeal.main_arg6) = m ((c.tc : Thread Cert.AdamsIdeal.nD Cert.AdamsIdeal.τ).loc Cert.AdamsIdeal.main_arg6)
      ∧ r.2.mem ((c.tc : Thread Cert.AdamsIdeal.nD Cert.AdamsIdeal.τ).loc Cert.AdamsIdeal.main_arg7) = m ((c.tc : Thread Cert.AdamsIdeal.nD Cert.AdamsIdeal.τ).loc Cert.AdamsIdeal.main_arg7)
      ∧ r.2.mem ((c.tc : Thread Cert.AdamsIdeal.nD Cert.AdamsIdeal.τ).loc Cert.AdamsIdeal.main_arg8) = m ((c.tc : Thread Cert.AdamsIdeal.nD Cert.AdamsIdeal.τ).loc Cert.AdamsIdeal.main_arg8)
      ∧ r.2.mem ((c.tc : Thread Cert.AdamsIdeal.nD Cert.AdamsIdeal.τ).loc Cert.AdamsIdeal.main_arg9) = m ((c.tc : Thread Cert.AdamsIdeal.nD Cert.AdamsIdeal.τ).loc Cert.AdamsIdeal.main_arg9)
      ∧ r.2.mem ((c.tc : Thread Cert.AdamsIdeal.nD Cert.AdamsIdeal.τ).loc Cert.AdamsIdeal.main_arg10) = m ((c.tc : Thread Cert.AdamsIdeal.nD Cert.AdamsIdeal.τ).loc Cert.AdamsIdeal.main_arg10)
      ∧ r.2.mem ((c.tc : Thread Cert.AdamsIdeal.nD Cert.AdamsIdeal.τ).loc Cert.AdamsIdeal.main_arg11) = m ((c.tc : Thread Cert.AdamsIdeal.nD Cert.AdamsIdeal.τ).loc Cert.AdamsIdeal.main_arg11)
      ∧ r.2.mem ((c.tc : Thread Cert.AdamsIdeal.nD Cert.AdamsIdeal.τ).loc Cert.AdamsIdeal.main_arg12) = m ((c.tc : Thread Cert.AdamsIdeal.nD Cert.AdamsIdeal.τ).loc Cert.AdamsIdeal.main_arg12)
      ∧ r.2.mem ((c.tc : Thread Cert.AdamsIdeal.nD Cert.AdamsIdeal.τ).loc Cert.AdamsIdeal.main_arg13) = m ((c.tc : Thread Cert.AdamsIdeal.nD Cert.AdamsIdeal.τ).loc Cert.AdamsIdeal.main_arg13)
      ∧ r.2.mem ((c.tc : Thread Cert.AdamsIdeal.nD Cert.AdamsIdeal.τ).loc Cert.AdamsIdeal.main_arg14) = m ((c.tc : Thread Cert.AdamsIdeal.nD Cert.AdamsIdeal.τ).loc Cert.AdamsIdeal.main_arg14)
      ∧ r.2.mem ((c.tc : Thread Cert.AdamsIdeal.nD Cert.AdamsIdeal.τ).loc Cert.AdamsIdeal.main_arg15) = m ((c.tc : Thread Cert.AdamsIdeal.nD Cert.AdamsIdeal.τ).loc Cert.AdamsIdeal.main_arg15)
      ∧ r.2.mem ((c.tc : Thread Cert.AdamsIdeal.nD Cert.AdamsIdeal.τ).loc Cert.AdamsIdeal.main_arg16) = m ((c.tc : Thread Cert.AdamsIdeal.nD Cert.AdamsIdeal.τ).loc Cert.AdamsIdeal.main_arg16)
      ∧ r.2.mem ((c.tc : Thread Cert.AdamsIdeal.nD Cert.AdamsIdeal.τ).loc Cert.AdamsIdeal.main_arg17) = m ((c.tc : Thread Cert.AdamsIdeal.nD Cert.AdamsIdeal.τ).loc Cert.AdamsIdeal.main_arg17)
      ∧ r.2.mem ((c.tc : Thread Cert.AdamsIdeal.nD Cert.AdamsIdeal.τ).loc Cert.AdamsIdeal.main_arg18) = m ((c.tc : Thread Cert.AdamsIdeal.nD Cert.AdamsIdeal.τ).loc Cert.AdamsIdeal.main_arg18)
      ∧ r.2.mem ((c.tc : Thread Cert.AdamsIdeal.nD Cert.AdamsIdeal.τ).loc Cert.AdamsIdeal.main_arg19) = m ((c.tc : Thread Cert.AdamsIdeal.nD Cert.AdamsIdeal.τ).loc Cert.AdamsIdeal.main_arg19)
      ∧ r.2.mem ((c.tc : Thread Cert.AdamsIdeal.nD Cert.AdamsIdeal.τ).loc Cert.AdamsIdeal.main_arg20) = m ((c.tc : Thread Cert.AdamsIdeal.nD Cert.AdamsIdeal.τ).loc Cert.AdamsIdeal.main_arg20)
      ∧ r.2.mem ((c.tc : Thread Cert.AdamsIdeal.nD Cert.AdamsIdeal.τ).loc Cert.AdamsIdeal.main_arg21) = m ((c.tc : Thread Cert.AdamsIdeal.nD Cert.AdamsIdeal.τ).loc Cert.AdamsIdeal.main_arg21)
      ∧ r.2.mem ((c.tc : Thread Cert.AdamsIdeal.nD Cert.AdamsIdeal.τ).loc Cert.AdamsIdeal.main_arg22) = m ((c.tc : Thread Cert.AdamsIdeal.nD Cert.AdamsIdeal.τ).loc Cert.AdamsIdeal.main_arg22)
      ∧ r.2.mem ((c.tc : Thread Cert.AdamsIdeal.nD Cert.AdamsIdeal.τ).loc Cert.AdamsIdeal.main_arg23) = m ((c.tc : Thread Cert.AdamsIdeal.nD Cert.AdamsIdeal.τ).loc Cert.AdamsIdeal.main_arg23)
      ∧ r.2.mem ((c.tc : Thread Cert.AdamsIdeal.nD Cert.AdamsIdeal.τ).loc Cert.AdamsIdeal.main_arg24) = m ((c.tc : Thread Cert.AdamsIdeal.nD Cert.AdamsIdeal.τ).loc Cert.AdamsIdeal.main_arg24)
      ∧ r.2.mem ((c.tc : Thread Cert.AdamsIdeal.nD Cert.AdamsIdeal.τ).loc Cert.AdamsIdeal.main_arg25) = m ((c.tc : Thread Cert.AdamsIdeal.nD Cert.AdamsIdeal.τ).loc Cert.AdamsIdeal.main_arg25)
      ∧ r.2.mem ((c.tc : Thread Cert.AdamsIdeal.nD Cert.AdamsIdeal.τ).loc Cert.AdamsIdeal.main_arg26) = m ((c.tc : Thread Cert.AdamsIdeal.nD Cert.AdamsIdeal.τ).loc Cert.AdamsIdeal.main_arg26)
      ∧ r.2.mem ((c.tc : Thread Cert.AdamsIdeal.nD Cert.AdamsIdeal.τ).loc Cert.AdamsIdeal.main_arg27) = m ((c.tc : Thread Cert.AdamsIdeal.nD Cert.AdamsIdeal.τ).loc Cert.AdamsIdeal.main_arg27)
      ∧ r.2.mem ((c.tc : Thread Cert.AdamsIdeal.nD Cert.AdamsIdeal.τ).loc Cert.AdamsIdeal.main_arg28) = m ((c.tc : Thread Cert.AdamsIdeal.nD Cert.AdamsIdeal.τ).loc Cert.AdamsIdeal.main_arg28)
      ∧ r.2.mem ((c.tc : Thread Cert.AdamsIdeal.nD Cert.AdamsIdeal.τ).loc Cert.AdamsIdeal.main_arg29) = m ((c.tc : Thread Cert.AdamsIdeal.nD Cert.AdamsIdeal.τ).loc Cert.AdamsIdeal.main_arg29)
      ∧ r.2.mem ((c.tc : Thread Cert.AdamsIdeal.nD Cert.AdamsIdeal.τ).loc Cert.AdamsIdeal.main_arg30) = m ((c.tc : Thread Cert.AdamsIdeal.nD Cert.AdamsIdeal.τ).loc Cert.AdamsIdeal.main_arg30)
      ∧ r.2.mem ((c.tc : Thread Cert.AdamsIdeal.nD Cert.AdamsIdeal.τ).loc Cert.AdamsIdeal.main_arg31) = m ((c.tc : Thread Cert.AdamsIdeal.nD Cert.AdamsIdeal.τ).loc Cert.AdamsIdeal.main_arg31)
      ∧ r.2.mem ((c.tc : Thread Cert.AdamsIdeal.nD Cert.AdamsIdeal.τ).loc Cert.AdamsIdeal.main_arg32) = m ((c.tc : Thread Cert.AdamsIdeal.nD Cert.AdamsIdeal.τ).loc Cert.AdamsIdeal.main_arg32)
      ∧ r.2.mem ((c.tc : Thread Cert.AdamsIdeal.nD Cert.AdamsIdeal.τ).loc Cert.AdamsIdeal.main_arg33) = m ((c.tc : Thread Cert.AdamsIdeal.nD Cert.AdamsIdeal.τ).loc Cert.AdamsIdeal.main_arg33)
      ∧ r.2.mem ((c.tc : Thread Cert.AdamsIdeal.nD Cert.AdamsIdeal.τ).loc Cert.AdamsIdeal.main_arg34) = m ((c.tc : Thread Cert.AdamsIdeal.nD Cert.AdamsIdeal.τ).loc Cert.AdamsIdeal.main_arg34)
      ∧ r.2.mem ((c.tc : Thread Cert.AdamsIdeal.nD Cert.AdamsIdeal.τ).loc Cert.AdamsIdeal.main_arg35) = m ((c.tc : Thread Cert.AdamsIdeal.nD Cert.AdamsIdeal.τ).loc Cert.AdamsIdeal.main_arg35))
      ∧ r.2.sem = fun _ => 0)

def quiescent_AdamsRefIdeal [hAdamsRefIdeal : Cert.AdamsRefIdeal.Facts] : Prop :=
  ∀ (m : (ℓ : Loc Cert.AdamsRefIdeal.nD Cert.AdamsRefIdeal.τ Cert.AdamsRefIdeal.sig) → Buf (Elt Ideal) ℓ) (g : Dev Cert.AdamsRefIdeal.nD → PrngReg), Pre_AdamsRefIdeal m →
    θ_run (Cert.AdamsRefIdeal.defs (F := Ideal)) (onTc (τ := Cert.AdamsRefIdeal.τ) (Cert.AdamsRefIdeal.main (F := Ideal))) ⟨m, fun _ => 0, g⟩ (fun r => (∀ c : Dev Cert.AdamsRefIdeal.nD,
      r.2.mem ((c.tc : Thread Cert.AdamsRefIdeal.nD Cert.AdamsRefIdeal.τ).loc Cert.AdamsRefIdeal.main_arg0) = m ((c.tc : Thread Cert.AdamsRefIdeal.nD Cert.AdamsRefIdeal.τ).loc Cert.AdamsRefIdeal.main_arg0)
      ∧ r.2.mem ((c.tc : Thread Cert.AdamsRefIdeal.nD Cert.AdamsRefIdeal.τ).loc Cert.AdamsRefIdeal.main_arg1) = m ((c.tc : Thread Cert.AdamsRefIdeal.nD Cert.AdamsRefIdeal.τ).loc Cert.AdamsRefIdeal.main_arg1)
      ∧ r.2.mem ((c.tc : Thread Cert.AdamsRefIdeal.nD Cert.AdamsRefIdeal.τ).loc Cert.AdamsRefIdeal.main_arg2) = m ((c.tc : Thread Cert.AdamsRefIdeal.nD Cert.AdamsRefIdeal.τ).loc Cert.AdamsRefIdeal.main_arg2)
      ∧ r.2.mem ((c.tc : Thread Cert.AdamsRefIdeal.nD Cert.AdamsRefIdeal.τ).loc Cert.AdamsRefIdeal.main_arg3) = m ((c.tc : Thread Cert.AdamsRefIdeal.nD Cert.AdamsRefIdeal.τ).loc Cert.AdamsRefIdeal.main_arg3)
      ∧ r.2.mem ((c.tc : Thread Cert.AdamsRefIdeal.nD Cert.AdamsRefIdeal.τ).loc Cert.AdamsRefIdeal.main_arg4) = m ((c.tc : Thread Cert.AdamsRefIdeal.nD Cert.AdamsRefIdeal.τ).loc Cert.AdamsRefIdeal.main_arg4)
      ∧ r.2.mem ((c.tc : Thread Cert.AdamsRefIdeal.nD Cert.AdamsRefIdeal.τ).loc Cert.AdamsRefIdeal.main_arg5) = m ((c.tc : Thread Cert.AdamsRefIdeal.nD Cert.AdamsRefIdeal.τ).loc Cert.AdamsRefIdeal.main_arg5)
      ∧ r.2.mem ((c.tc : Thread Cert.AdamsRefIdeal.nD Cert.AdamsRefIdeal.τ).loc Cert.AdamsRefIdeal.main_arg6) = m ((c.tc : Thread Cert.AdamsRefIdeal.nD Cert.AdamsRefIdeal.τ).loc Cert.AdamsRefIdeal.main_arg6)
      ∧ r.2.mem ((c.tc : Thread Cert.AdamsRefIdeal.nD Cert.AdamsRefIdeal.τ).loc Cert.AdamsRefIdeal.main_arg7) = m ((c.tc : Thread Cert.AdamsRefIdeal.nD Cert.AdamsRefIdeal.τ).loc Cert.AdamsRefIdeal.main_arg7)
      ∧ r.2.mem ((c.tc : Thread Cert.AdamsRefIdeal.nD Cert.AdamsRefIdeal.τ).loc Cert.AdamsRefIdeal.main_arg8) = m ((c.tc : Thread Cert.AdamsRefIdeal.nD Cert.AdamsRefIdeal.τ).loc Cert.AdamsRefIdeal.main_arg8)
      ∧ r.2.mem ((c.tc : Thread Cert.AdamsRefIdeal.nD Cert.AdamsRefIdeal.τ).loc Cert.AdamsRefIdeal.main_arg9) = m ((c.tc : Thread Cert.AdamsRefIdeal.nD Cert.AdamsRefIdeal.τ).loc Cert.AdamsRefIdeal.main_arg9)
      ∧ r.2.mem ((c.tc : Thread Cert.AdamsRefIdeal.nD Cert.AdamsRefIdeal.τ).loc Cert.AdamsRefIdeal.main_arg10) = m ((c.tc : Thread Cert.AdamsRefIdeal.nD Cert.AdamsRefIdeal.τ).loc Cert.AdamsRefIdeal.main_arg10)
      ∧ r.2.mem ((c.tc : Thread Cert.AdamsRefIdeal.nD Cert.AdamsRefIdeal.τ).loc Cert.AdamsRefIdeal.main_arg11) = m ((c.tc : Thread Cert.AdamsRefIdeal.nD Cert.AdamsRefIdeal.τ).loc Cert.AdamsRefIdeal.main_arg11)
      ∧ r.2.mem ((c.tc : Thread Cert.AdamsRefIdeal.nD Cert.AdamsRefIdeal.τ).loc Cert.AdamsRefIdeal.main_arg12) = m ((c.tc : Thread Cert.AdamsRefIdeal.nD Cert.AdamsRefIdeal.τ).loc Cert.AdamsRefIdeal.main_arg12)
      ∧ r.2.mem ((c.tc : Thread Cert.AdamsRefIdeal.nD Cert.AdamsRefIdeal.τ).loc Cert.AdamsRefIdeal.main_arg13) = m ((c.tc : Thread Cert.AdamsRefIdeal.nD Cert.AdamsRefIdeal.τ).loc Cert.AdamsRefIdeal.main_arg13)
      ∧ r.2.mem ((c.tc : Thread Cert.AdamsRefIdeal.nD Cert.AdamsRefIdeal.τ).loc Cert.AdamsRefIdeal.main_arg14) = m ((c.tc : Thread Cert.AdamsRefIdeal.nD Cert.AdamsRefIdeal.τ).loc Cert.AdamsRefIdeal.main_arg14)
      ∧ r.2.mem ((c.tc : Thread Cert.AdamsRefIdeal.nD Cert.AdamsRefIdeal.τ).loc Cert.AdamsRefIdeal.main_arg15) = m ((c.tc : Thread Cert.AdamsRefIdeal.nD Cert.AdamsRefIdeal.τ).loc Cert.AdamsRefIdeal.main_arg15)
      ∧ r.2.mem ((c.tc : Thread Cert.AdamsRefIdeal.nD Cert.AdamsRefIdeal.τ).loc Cert.AdamsRefIdeal.main_arg16) = m ((c.tc : Thread Cert.AdamsRefIdeal.nD Cert.AdamsRefIdeal.τ).loc Cert.AdamsRefIdeal.main_arg16)
      ∧ r.2.mem ((c.tc : Thread Cert.AdamsRefIdeal.nD Cert.AdamsRefIdeal.τ).loc Cert.AdamsRefIdeal.main_arg17) = m ((c.tc : Thread Cert.AdamsRefIdeal.nD Cert.AdamsRefIdeal.τ).loc Cert.AdamsRefIdeal.main_arg17)
      ∧ r.2.mem ((c.tc : Thread Cert.AdamsRefIdeal.nD Cert.AdamsRefIdeal.τ).loc Cert.AdamsRefIdeal.main_arg18) = m ((c.tc : Thread Cert.AdamsRefIdeal.nD Cert.AdamsRefIdeal.τ).loc Cert.AdamsRefIdeal.main_arg18)
      ∧ r.2.mem ((c.tc : Thread Cert.AdamsRefIdeal.nD Cert.AdamsRefIdeal.τ).loc Cert.AdamsRefIdeal.main_arg19) = m ((c.tc : Thread Cert.AdamsRefIdeal.nD Cert.AdamsRefIdeal.τ).loc Cert.AdamsRefIdeal.main_arg19)
      ∧ r.2.mem ((c.tc : Thread Cert.AdamsRefIdeal.nD Cert.AdamsRefIdeal.τ).loc Cert.AdamsRefIdeal.main_arg20) = m ((c.tc : Thread Cert.AdamsRefIdeal.nD Cert.AdamsRefIdeal.τ).loc Cert.AdamsRefIdeal.main_arg20)
      ∧ r.2.mem ((c.tc : Thread Cert.AdamsRefIdeal.nD Cert.AdamsRefIdeal.τ).loc Cert.AdamsRefIdeal.main_arg21) = m ((c.tc : Thread Cert.AdamsRefIdeal.nD Cert.AdamsRefIdeal.τ).loc Cert.AdamsRefIdeal.main_arg21)
      ∧ r.2.mem ((c.tc : Thread Cert.AdamsRefIdeal.nD Cert.AdamsRefIdeal.τ).loc Cert.AdamsRefIdeal.main_arg22) = m ((c.tc : Thread Cert.AdamsRefIdeal.nD Cert.AdamsRefIdeal.τ).loc Cert.AdamsRefIdeal.main_arg22)
      ∧ r.2.mem ((c.tc : Thread Cert.AdamsRefIdeal.nD Cert.AdamsRefIdeal.τ).loc Cert.AdamsRefIdeal.main_arg23) = m ((c.tc : Thread Cert.AdamsRefIdeal.nD Cert.AdamsRefIdeal.τ).loc Cert.AdamsRefIdeal.main_arg23)
      ∧ r.2.mem ((c.tc : Thread Cert.AdamsRefIdeal.nD Cert.AdamsRefIdeal.τ).loc Cert.AdamsRefIdeal.main_arg24) = m ((c.tc : Thread Cert.AdamsRefIdeal.nD Cert.AdamsRefIdeal.τ).loc Cert.AdamsRefIdeal.main_arg24)
      ∧ r.2.mem ((c.tc : Thread Cert.AdamsRefIdeal.nD Cert.AdamsRefIdeal.τ).loc Cert.AdamsRefIdeal.main_arg25) = m ((c.tc : Thread Cert.AdamsRefIdeal.nD Cert.AdamsRefIdeal.τ).loc Cert.AdamsRefIdeal.main_arg25)
      ∧ r.2.mem ((c.tc : Thread Cert.AdamsRefIdeal.nD Cert.AdamsRefIdeal.τ).loc Cert.AdamsRefIdeal.main_arg26) = m ((c.tc : Thread Cert.AdamsRefIdeal.nD Cert.AdamsRefIdeal.τ).loc Cert.AdamsRefIdeal.main_arg26)
      ∧ r.2.mem ((c.tc : Thread Cert.AdamsRefIdeal.nD Cert.AdamsRefIdeal.τ).loc Cert.AdamsRefIdeal.main_arg27) = m ((c.tc : Thread Cert.AdamsRefIdeal.nD Cert.AdamsRefIdeal.τ).loc Cert.AdamsRefIdeal.main_arg27)
      ∧ r.2.mem ((c.tc : Thread Cert.AdamsRefIdeal.nD Cert.AdamsRefIdeal.τ).loc Cert.AdamsRefIdeal.main_arg28) = m ((c.tc : Thread Cert.AdamsRefIdeal.nD Cert.AdamsRefIdeal.τ).loc Cert.AdamsRefIdeal.main_arg28)
      ∧ r.2.mem ((c.tc : Thread Cert.AdamsRefIdeal.nD Cert.AdamsRefIdeal.τ).loc Cert.AdamsRefIdeal.main_arg29) = m ((c.tc : Thread Cert.AdamsRefIdeal.nD Cert.AdamsRefIdeal.τ).loc Cert.AdamsRefIdeal.main_arg29)
      ∧ r.2.mem ((c.tc : Thread Cert.AdamsRefIdeal.nD Cert.AdamsRefIdeal.τ).loc Cert.AdamsRefIdeal.main_arg30) = m ((c.tc : Thread Cert.AdamsRefIdeal.nD Cert.AdamsRefIdeal.τ).loc Cert.AdamsRefIdeal.main_arg30)
      ∧ r.2.mem ((c.tc : Thread Cert.AdamsRefIdeal.nD Cert.AdamsRefIdeal.τ).loc Cert.AdamsRefIdeal.main_arg31) = m ((c.tc : Thread Cert.AdamsRefIdeal.nD Cert.AdamsRefIdeal.τ).loc Cert.AdamsRefIdeal.main_arg31)
      ∧ r.2.mem ((c.tc : Thread Cert.AdamsRefIdeal.nD Cert.AdamsRefIdeal.τ).loc Cert.AdamsRefIdeal.main_arg32) = m ((c.tc : Thread Cert.AdamsRefIdeal.nD Cert.AdamsRefIdeal.τ).loc Cert.AdamsRefIdeal.main_arg32)
      ∧ r.2.mem ((c.tc : Thread Cert.AdamsRefIdeal.nD Cert.AdamsRefIdeal.τ).loc Cert.AdamsRefIdeal.main_arg33) = m ((c.tc : Thread Cert.AdamsRefIdeal.nD Cert.AdamsRefIdeal.τ).loc Cert.AdamsRefIdeal.main_arg33)
      ∧ r.2.mem ((c.tc : Thread Cert.AdamsRefIdeal.nD Cert.AdamsRefIdeal.τ).loc Cert.AdamsRefIdeal.main_arg34) = m ((c.tc : Thread Cert.AdamsRefIdeal.nD Cert.AdamsRefIdeal.τ).loc Cert.AdamsRefIdeal.main_arg34)
      ∧ r.2.mem ((c.tc : Thread Cert.AdamsRefIdeal.nD Cert.AdamsRefIdeal.τ).loc Cert.AdamsRefIdeal.main_arg35) = m ((c.tc : Thread Cert.AdamsRefIdeal.nD Cert.AdamsRefIdeal.τ).loc Cert.AdamsRefIdeal.main_arg35))
      ∧ r.2.sem = fun _ => 0)

def quiescent_Sums [hSums : Cert.Sums.Facts] : Prop :=
  ∀ (m : (ℓ : Loc Cert.Sums.nD Cert.Sums.τ Cert.Sums.sig) → Buf (Elt Bits) ℓ) (g : Dev Cert.Sums.nD → PrngReg), Pre_Sums m →
    θ_run (Cert.Sums.defs (F := Bits)) (onTc (τ := Cert.Sums.τ) (Cert.Sums.main (F := Bits))) ⟨m, fun _ => 0, g⟩ (fun r => (∀ c : Dev Cert.Sums.nD,
      r.2.mem ((c.tc : Thread Cert.Sums.nD Cert.Sums.τ).loc Cert.Sums.main_arg0) = m ((c.tc : Thread Cert.Sums.nD Cert.Sums.τ).loc Cert.Sums.main_arg0)
      ∧ r.2.mem ((c.tc : Thread Cert.Sums.nD Cert.Sums.τ).loc Cert.Sums.main_arg1) = m ((c.tc : Thread Cert.Sums.nD Cert.Sums.τ).loc Cert.Sums.main_arg1)
      ∧ r.2.mem ((c.tc : Thread Cert.Sums.nD Cert.Sums.τ).loc Cert.Sums.main_arg2) = m ((c.tc : Thread Cert.Sums.nD Cert.Sums.τ).loc Cert.Sums.main_arg2)
      ∧ r.2.mem ((c.tc : Thread Cert.Sums.nD Cert.Sums.τ).loc Cert.Sums.main_arg3) = m ((c.tc : Thread Cert.Sums.nD Cert.Sums.τ).loc Cert.Sums.main_arg3)
      ∧ r.2.mem ((c.tc : Thread Cert.Sums.nD Cert.Sums.τ).loc Cert.Sums.main_arg4) = m ((c.tc : Thread Cert.Sums.nD Cert.Sums.τ).loc Cert.Sums.main_arg4)
      ∧ r.2.mem ((c.tc : Thread Cert.Sums.nD Cert.Sums.τ).loc Cert.Sums.main_arg5) = m ((c.tc : Thread Cert.Sums.nD Cert.Sums.τ).loc Cert.Sums.main_arg5)
      ∧ r.2.mem ((c.tc : Thread Cert.Sums.nD Cert.Sums.τ).loc Cert.Sums.main_arg6) = m ((c.tc : Thread Cert.Sums.nD Cert.Sums.τ).loc Cert.Sums.main_arg6)
      ∧ r.2.mem ((c.tc : Thread Cert.Sums.nD Cert.Sums.τ).loc Cert.Sums.main_arg7) = m ((c.tc : Thread Cert.Sums.nD Cert.Sums.τ).loc Cert.Sums.main_arg7)
      ∧ r.2.mem ((c.tc : Thread Cert.Sums.nD Cert.Sums.τ).loc Cert.Sums.main_arg8) = m ((c.tc : Thread Cert.Sums.nD Cert.Sums.τ).loc Cert.Sums.main_arg8)
      ∧ r.2.mem ((c.tc : Thread Cert.Sums.nD Cert.Sums.τ).loc Cert.Sums.main_arg9) = m ((c.tc : Thread Cert.Sums.nD Cert.Sums.τ).loc Cert.Sums.main_arg9))
      ∧ r.2.sem = fun _ => 0)

def quiescent_SumsIdeal [hSumsIdeal : Cert.SumsIdeal.Facts] : Prop :=
  ∀ (m : (ℓ : Loc Cert.SumsIdeal.nD Cert.SumsIdeal.τ Cert.SumsIdeal.sig) → Buf (Elt Ideal) ℓ) (g : Dev Cert.SumsIdeal.nD → PrngReg), Pre_SumsIdeal m →
    θ_run (Cert.SumsIdeal.defs (F := Ideal)) (onTc (τ := Cert.SumsIdeal.τ) (Cert.SumsIdeal.main (F := Ideal))) ⟨m, fun _ => 0, g⟩ (fun r => (∀ c : Dev Cert.SumsIdeal.nD,
      r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0)
      ∧ r.2.mem ((c.tc : Thread Cert.SumsIdeal.nD Cert.SumsIdeal.τ).loc Cert.SumsIdeal.main_arg1) = m ((c.tc : Thread Cert.SumsIdeal.nD Cert.SumsIdeal.τ).loc Cert.SumsIdeal.main_arg1)
      ∧ r.2.mem ((c.tc : Thread Cert.SumsIdeal.nD Cert.SumsIdeal.τ).loc Cert.SumsIdeal.main_arg2) = m ((c.tc : Thread Cert.SumsIdeal.nD Cert.SumsIdeal.τ).loc Cert.SumsIdeal.main_arg2)
      ∧ r.2.mem ((c.tc : Thread Cert.SumsIdeal.nD Cert.SumsIdeal.τ).loc Cert.SumsIdeal.main_arg3) = m ((c.tc : Thread Cert.SumsIdeal.nD Cert.SumsIdeal.τ).loc Cert.SumsIdeal.main_arg3)
      ∧ r.2.mem ((c.tc : Thread Cert.SumsIdeal.nD Cert.SumsIdeal.τ).loc Cert.SumsIdeal.main_arg4) = m ((c.tc : Thread Cert.SumsIdeal.nD Cert.SumsIdeal.τ).loc Cert.SumsIdeal.main_arg4)
      ∧ r.2.mem ((c.tc : Thread Cert.SumsIdeal.nD Cert.SumsIdeal.τ).loc Cert.SumsIdeal.main_arg5) = m ((c.tc : Thread Cert.SumsIdeal.nD Cert.SumsIdeal.τ).loc Cert.SumsIdeal.main_arg5)
      ∧ r.2.mem ((c.tc : Thread Cert.SumsIdeal.nD Cert.SumsIdeal.τ).loc Cert.SumsIdeal.main_arg6) = m ((c.tc : Thread Cert.SumsIdeal.nD Cert.SumsIdeal.τ).loc Cert.SumsIdeal.main_arg6)
      ∧ r.2.mem ((c.tc : Thread Cert.SumsIdeal.nD Cert.SumsIdeal.τ).loc Cert.SumsIdeal.main_arg7) = m ((c.tc : Thread Cert.SumsIdeal.nD Cert.SumsIdeal.τ).loc Cert.SumsIdeal.main_arg7)
      ∧ r.2.mem ((c.tc : Thread Cert.SumsIdeal.nD Cert.SumsIdeal.τ).loc Cert.SumsIdeal.main_arg8) = m ((c.tc : Thread Cert.SumsIdeal.nD Cert.SumsIdeal.τ).loc Cert.SumsIdeal.main_arg8)
      ∧ r.2.mem ((c.tc : Thread Cert.SumsIdeal.nD Cert.SumsIdeal.τ).loc Cert.SumsIdeal.main_arg9) = m ((c.tc : Thread Cert.SumsIdeal.nD Cert.SumsIdeal.τ).loc Cert.SumsIdeal.main_arg9))
      ∧ r.2.sem = fun _ => 0)

def quiescent_SumsRefIdeal [hSumsRefIdeal : Cert.SumsRefIdeal.Facts] : Prop :=
  ∀ (m : (ℓ : Loc Cert.SumsRefIdeal.nD Cert.SumsRefIdeal.τ Cert.SumsRefIdeal.sig) → Buf (Elt Ideal) ℓ) (g : Dev Cert.SumsRefIdeal.nD → PrngReg), Pre_SumsRefIdeal m →
    θ_run (Cert.SumsRefIdeal.defs (F := Ideal)) (onTc (τ := Cert.SumsRefIdeal.τ) (Cert.SumsRefIdeal.main (F := Ideal))) ⟨m, fun _ => 0, g⟩ (fun r => (∀ c : Dev Cert.SumsRefIdeal.nD,
      r.2.mem ((c.tc : Thread Cert.SumsRefIdeal.nD Cert.SumsRefIdeal.τ).loc Cert.SumsRefIdeal.main_arg0) = m ((c.tc : Thread Cert.SumsRefIdeal.nD Cert.SumsRefIdeal.τ).loc Cert.SumsRefIdeal.main_arg0)
      ∧ r.2.mem ((c.tc : Thread Cert.SumsRefIdeal.nD Cert.SumsRefIdeal.τ).loc Cert.SumsRefIdeal.main_arg1) = m ((c.tc : Thread Cert.SumsRefIdeal.nD Cert.SumsRefIdeal.τ).loc Cert.SumsRefIdeal.main_arg1)
      ∧ r.2.mem ((c.tc : Thread Cert.SumsRefIdeal.nD Cert.SumsRefIdeal.τ).loc Cert.SumsRefIdeal.main_arg2) = m ((c.tc : Thread Cert.SumsRefIdeal.nD Cert.SumsRefIdeal.τ).loc Cert.SumsRefIdeal.main_arg2)
      ∧ r.2.mem ((c.tc : Thread Cert.SumsRefIdeal.nD Cert.SumsRefIdeal.τ).loc Cert.SumsRefIdeal.main_arg3) = m ((c.tc : Thread Cert.SumsRefIdeal.nD Cert.SumsRefIdeal.τ).loc Cert.SumsRefIdeal.main_arg3)
      ∧ r.2.mem ((c.tc : Thread Cert.SumsRefIdeal.nD Cert.SumsRefIdeal.τ).loc Cert.SumsRefIdeal.main_arg4) = m ((c.tc : Thread Cert.SumsRefIdeal.nD Cert.SumsRefIdeal.τ).loc Cert.SumsRefIdeal.main_arg4)
      ∧ r.2.mem ((c.tc : Thread Cert.SumsRefIdeal.nD Cert.SumsRefIdeal.τ).loc Cert.SumsRefIdeal.main_arg5) = m ((c.tc : Thread Cert.SumsRefIdeal.nD Cert.SumsRefIdeal.τ).loc Cert.SumsRefIdeal.main_arg5)
      ∧ r.2.mem ((c.tc : Thread Cert.SumsRefIdeal.nD Cert.SumsRefIdeal.τ).loc Cert.SumsRefIdeal.main_arg6) = m ((c.tc : Thread Cert.SumsRefIdeal.nD Cert.SumsRefIdeal.τ).loc Cert.SumsRefIdeal.main_arg6)
      ∧ r.2.mem ((c.tc : Thread Cert.SumsRefIdeal.nD Cert.SumsRefIdeal.τ).loc Cert.SumsRefIdeal.main_arg7) = m ((c.tc : Thread Cert.SumsRefIdeal.nD Cert.SumsRefIdeal.τ).loc Cert.SumsRefIdeal.main_arg7)
      ∧ r.2.mem ((c.tc : Thread Cert.SumsRefIdeal.nD Cert.SumsRefIdeal.τ).loc Cert.SumsRefIdeal.main_arg8) = m ((c.tc : Thread Cert.SumsRefIdeal.nD Cert.SumsRefIdeal.τ).loc Cert.SumsRefIdeal.main_arg8)
      ∧ r.2.mem ((c.tc : Thread Cert.SumsRefIdeal.nD Cert.SumsRefIdeal.τ).loc Cert.SumsRefIdeal.main_arg9) = m ((c.tc : Thread Cert.SumsRefIdeal.nD Cert.SumsRefIdeal.τ).loc Cert.SumsRefIdeal.main_arg9))
      ∧ r.2.sem = fun _ => 0)

def quiescent_Bigout [hBigout : Cert.Bigout.Facts] [hPre_on_mesh_w_proj_out : Cert.Pre_on_mesh_w_proj_out.Facts] : Prop :=
  ∀ (m : (ℓ : Loc Cert.Bigout.nD Cert.Bigout.τ Cert.Bigout.sig) → Buf (Elt Bits) ℓ) (g : Dev Cert.Bigout.nD → PrngReg), Pre_Bigout m →
    θ_run (Cert.Bigout.defs (F := Bits)) (onTc (τ := Cert.Bigout.τ) (Cert.Bigout.main (F := Bits))) ⟨m, fun _ => 0, g⟩ (fun r => (∀ c : Dev Cert.Bigout.nD,
      r.2.mem ((c.tc : Thread Cert.Bigout.nD Cert.Bigout.τ).loc Cert.Bigout.main_arg0) = m ((c.tc : Thread Cert.Bigout.nD Cert.Bigout.τ).loc Cert.Bigout.main_arg0)
      ∧ r.2.mem ((c.tc : Thread Cert.Bigout.nD Cert.Bigout.τ).loc Cert.Bigout.main_arg1) = m ((c.tc : Thread Cert.Bigout.nD Cert.Bigout.τ).loc Cert.Bigout.main_arg1)
      ∧ r.2.mem ((c.tc : Thread Cert.Bigout.nD Cert.Bigout.τ).loc Cert.Bigout.main_arg2) = m ((c.tc : Thread Cert.Bigout.nD Cert.Bigout.τ).loc Cert.Bigout.main_arg2)
      ∧ r.2.mem ((c.tc : Thread Cert.Bigout.nD Cert.Bigout.τ).loc Cert.Bigout.main_arg3) = m ((c.tc : Thread Cert.Bigout.nD Cert.Bigout.τ).loc Cert.Bigout.main_arg3)
      ∧ r.2.mem ((c.tc : Thread Cert.Bigout.nD Cert.Bigout.τ).loc Cert.Bigout.main_arg4) = m ((c.tc : Thread Cert.Bigout.nD Cert.Bigout.τ).loc Cert.Bigout.main_arg4)
      ∧ r.2.mem ((c.tc : Thread Cert.Bigout.nD Cert.Bigout.τ).loc Cert.Bigout.main_arg5) = m ((c.tc : Thread Cert.Bigout.nD Cert.Bigout.τ).loc Cert.Bigout.main_arg5)
      ∧ r.2.mem ((c.tc : Thread Cert.Bigout.nD Cert.Bigout.τ).loc Cert.Bigout.main_arg6) = m ((c.tc : Thread Cert.Bigout.nD Cert.Bigout.τ).loc Cert.Bigout.main_arg6)
      ∧ r.2.mem ((c.tc : Thread Cert.Bigout.nD Cert.Bigout.τ).loc Cert.Bigout.main_arg7) = m ((c.tc : Thread Cert.Bigout.nD Cert.Bigout.τ).loc Cert.Bigout.main_arg7)
      ∧ r.2.mem ((c.tc : Thread Cert.Bigout.nD Cert.Bigout.τ).loc Cert.Bigout.main_arg8) = m ((c.tc : Thread Cert.Bigout.nD Cert.Bigout.τ).loc Cert.Bigout.main_arg8)
      ∧ r.2.mem ((c.tc : Thread Cert.Bigout.nD Cert.Bigout.τ).loc Cert.Bigout.main_arg9) = m ((c.tc : Thread Cert.Bigout.nD Cert.Bigout.τ).loc Cert.Bigout.main_arg9)
      ∧ r.2.mem ((c.tc : Thread Cert.Bigout.nD Cert.Bigout.τ).loc Cert.Bigout.main_arg10) = m ((c.tc : Thread Cert.Bigout.nD Cert.Bigout.τ).loc Cert.Bigout.main_arg10))
      ∧ r.2.sem = fun _ => 0)

def quiescent_BigoutIdeal [hBigoutIdeal : Cert.BigoutIdeal.Facts] [hPre_on_mesh_w_proj_out : Cert.Pre_on_mesh_w_proj_out.Facts] : Prop :=
  ∀ (m : (ℓ : Loc Cert.BigoutIdeal.nD Cert.BigoutIdeal.τ Cert.BigoutIdeal.sig) → Buf (Elt Ideal) ℓ) (g : Dev Cert.BigoutIdeal.nD → PrngReg), Pre_BigoutIdeal m →
    θ_run (Cert.BigoutIdeal.defs (F := Ideal)) (onTc (τ := Cert.BigoutIdeal.τ) (Cert.BigoutIdeal.main (F := Ideal))) ⟨m, fun _ => 0, g⟩ (fun r => (∀ c : Dev Cert.BigoutIdeal.nD,
      r.2.mem ((c.tc : Thread Cert.BigoutIdeal.nD Cert.BigoutIdeal.τ).loc Cert.BigoutIdeal.main_arg0) = m ((c.tc : Thread Cert.BigoutIdeal.nD Cert.BigoutIdeal.τ).loc Cert.BigoutIdeal.main_arg0)
      ∧ r.2.mem ((c.tc : Thread Cert.BigoutIdeal.nD Cert.BigoutIdeal.τ).loc Cert.BigoutIdeal.main_arg1) = m ((c.tc : Thread Cert.BigoutIdeal.nD Cert.BigoutIdeal.τ).loc Cert.BigoutIdeal.main_arg1)
      ∧ r.2.mem ((c.tc : Thread Cert.BigoutIdeal.nD Cert.BigoutIdeal.τ).loc Cert.BigoutIdeal.main_arg2) = m ((c.tc : Thread Cert.BigoutIdeal.nD Cert.BigoutIdeal.τ).loc Cert.BigoutIdeal.main_arg2)
      ∧ r.2.mem ((c.tc : Thread Cert.BigoutIdeal.nD Cert.BigoutIdeal.τ).loc Cert.BigoutIdeal.main_arg3) = m ((c.tc : Thread Cert.BigoutIdeal.nD Cert.BigoutIdeal.τ).loc Cert.BigoutIdeal.main_arg3)
      ∧ r.2.mem ((c.tc : Thread Cert.BigoutIdeal.nD Cert.BigoutIdeal.τ).loc Cert.BigoutIdeal.main_arg4) = m ((c.tc : Thread Cert.BigoutIdeal.nD Cert.BigoutIdeal.τ).loc Cert.BigoutIdeal.main_arg4)
      ∧ r.2.mem ((c.tc : Thread Cert.BigoutIdeal.nD Cert.BigoutIdeal.τ).loc Cert.BigoutIdeal.main_arg5) = m ((c.tc : Thread Cert.BigoutIdeal.nD Cert.BigoutIdeal.τ).loc Cert.BigoutIdeal.main_arg5)
      ∧ r.2.mem ((c.tc : Thread Cert.BigoutIdeal.nD Cert.BigoutIdeal.τ).loc Cert.BigoutIdeal.main_arg6) = m ((c.tc : Thread Cert.BigoutIdeal.nD Cert.BigoutIdeal.τ).loc Cert.BigoutIdeal.main_arg6)
      ∧ r.2.mem ((c.tc : Thread Cert.BigoutIdeal.nD Cert.BigoutIdeal.τ).loc Cert.BigoutIdeal.main_arg7) = m ((c.tc : Thread Cert.BigoutIdeal.nD Cert.BigoutIdeal.τ).loc Cert.BigoutIdeal.main_arg7)
      ∧ r.2.mem ((c.tc : Thread Cert.BigoutIdeal.nD Cert.BigoutIdeal.τ).loc Cert.BigoutIdeal.main_arg8) = m ((c.tc : Thread Cert.BigoutIdeal.nD Cert.BigoutIdeal.τ).loc Cert.BigoutIdeal.main_arg8)
      ∧ r.2.mem ((c.tc : Thread Cert.BigoutIdeal.nD Cert.BigoutIdeal.τ).loc Cert.BigoutIdeal.main_arg9) = m ((c.tc : Thread Cert.BigoutIdeal.nD Cert.BigoutIdeal.τ).loc Cert.BigoutIdeal.main_arg9)
      ∧ r.2.mem ((c.tc : Thread Cert.BigoutIdeal.nD Cert.BigoutIdeal.τ).loc Cert.BigoutIdeal.main_arg10) = m ((c.tc : Thread Cert.BigoutIdeal.nD Cert.BigoutIdeal.τ).loc Cert.BigoutIdeal.main_arg10))
      ∧ r.2.sem = fun _ => 0)

def quiescent_BigoutRefIdeal [hBigoutRefIdeal : Cert.BigoutRefIdeal.Facts] : Prop :=
  ∀ (m : (ℓ : Loc Cert.BigoutRefIdeal.nD Cert.BigoutRefIdeal.τ Cert.BigoutRefIdeal.sig) → Buf (Elt Ideal) ℓ) (g : Dev Cert.BigoutRefIdeal.nD → PrngReg), Pre_BigoutRefIdeal m →
    θ_run (Cert.BigoutRefIdeal.defs (F := Ideal)) (onTc (τ := Cert.BigoutRefIdeal.τ) (Cert.BigoutRefIdeal.main (F := Ideal))) ⟨m, fun _ => 0, g⟩ (fun r => (∀ c : Dev Cert.BigoutRefIdeal.nD,
      r.2.mem ((c.tc : Thread Cert.BigoutRefIdeal.nD Cert.BigoutRefIdeal.τ).loc Cert.BigoutRefIdeal.main_arg0) = m ((c.tc : Thread Cert.BigoutRefIdeal.nD Cert.BigoutRefIdeal.τ).loc Cert.BigoutRefIdeal.main_arg0)
      ∧ r.2.mem ((c.tc : Thread Cert.BigoutRefIdeal.nD Cert.BigoutRefIdeal.τ).loc Cert.BigoutRefIdeal.main_arg1) = m ((c.tc : Thread Cert.BigoutRefIdeal.nD Cert.BigoutRefIdeal.τ).loc Cert.BigoutRefIdeal.main_arg1)
      ∧ r.2.mem ((c.tc : Thread Cert.BigoutRefIdeal.nD Cert.BigoutRefIdeal.τ).loc Cert.BigoutRefIdeal.main_arg2) = m ((c.tc : Thread Cert.BigoutRefIdeal.nD Cert.BigoutRefIdeal.τ).loc Cert.BigoutRefIdeal.main_arg2)
      ∧ r.2.mem ((c.tc : Thread Cert.BigoutRefIdeal.nD Cert.BigoutRefIdeal.τ).loc Cert.BigoutRefIdeal.main_arg3) = m ((c.tc : Thread Cert.BigoutRefIdeal.nD Cert.BigoutRefIdeal.τ).loc Cert.BigoutRefIdeal.main_arg3)
      ∧ r.2.mem ((c.tc : Thread Cert.BigoutRefIdeal.nD Cert.BigoutRefIdeal.τ).loc Cert.BigoutRefIdeal.main_arg4) = m ((c.tc : Thread Cert.BigoutRefIdeal.nD Cert.BigoutRefIdeal.τ).loc Cert.BigoutRefIdeal.main_arg4)
      ∧ r.2.mem ((c.tc : Thread Cert.BigoutRefIdeal.nD Cert.BigoutRefIdeal.τ).loc Cert.BigoutRefIdeal.main_arg5) = m ((c.tc : Thread Cert.BigoutRefIdeal.nD Cert.BigoutRefIdeal.τ).loc Cert.BigoutRefIdeal.main_arg5)
      ∧ r.2.mem ((c.tc : Thread Cert.BigoutRefIdeal.nD Cert.BigoutRefIdeal.τ).loc Cert.BigoutRefIdeal.main_arg6) = m ((c.tc : Thread Cert.BigoutRefIdeal.nD Cert.BigoutRefIdeal.τ).loc Cert.BigoutRefIdeal.main_arg6)
      ∧ r.2.mem ((c.tc : Thread Cert.BigoutRefIdeal.nD Cert.BigoutRefIdeal.τ).loc Cert.BigoutRefIdeal.main_arg7) = m ((c.tc : Thread Cert.BigoutRefIdeal.nD Cert.BigoutRefIdeal.τ).loc Cert.BigoutRefIdeal.main_arg7)
      ∧ r.2.mem ((c.tc : Thread Cert.BigoutRefIdeal.nD Cert.BigoutRefIdeal.τ).loc Cert.BigoutRefIdeal.main_arg8) = m ((c.tc : Thread Cert.BigoutRefIdeal.nD Cert.BigoutRefIdeal.τ).loc Cert.BigoutRefIdeal.main_arg8)
      ∧ r.2.mem ((c.tc : Thread Cert.BigoutRefIdeal.nD Cert.BigoutRefIdeal.τ).loc Cert.BigoutRefIdeal.main_arg9) = m ((c.tc : Thread Cert.BigoutRefIdeal.nD Cert.BigoutRefIdeal.τ).loc Cert.BigoutRefIdeal.main_arg9)
      ∧ r.2.mem ((c.tc : Thread Cert.BigoutRefIdeal.nD Cert.BigoutRefIdeal.τ).loc Cert.BigoutRefIdeal.main_arg10) = m ((c.tc : Thread Cert.BigoutRefIdeal.nD Cert.BigoutRefIdeal.τ).loc Cert.BigoutRefIdeal.main_arg10))
      ∧ r.2.sem = fun _ => 0)

def quiescent_BigoutRefIdeal_pre_on_mesh_w_proj_out [hBigoutRefIdeal : Cert.BigoutRefIdeal.Facts] [hPre_on_mesh_w_proj_out : Cert.Pre_on_mesh_w_proj_out.Facts] : Prop :=
  ∀ (m : (ℓ : Loc Cert.BigoutRefIdeal.nD Cert.BigoutRefIdeal.τ Cert.BigoutRefIdeal.sig) → Buf (Elt Ideal) ℓ) (g : Dev Cert.BigoutRefIdeal.nD → PrngReg), Pre_BigoutRefIdeal_on_mesh_w_proj_out m →
    θ_run (Cert.BigoutRefIdeal.defs (F := Ideal)) (onTc (τ := Cert.BigoutRefIdeal.τ) (Cert.BigoutRefIdeal.main (F := Ideal))) ⟨m, fun _ => 0, g⟩ (fun r => (∀ c : Dev Cert.BigoutRefIdeal.nD,
      r.2.mem ((c.tc : Thread Cert.BigoutRefIdeal.nD Cert.BigoutRefIdeal.τ).loc Cert.BigoutRefIdeal.main_arg0) = m ((c.tc : Thread Cert.BigoutRefIdeal.nD Cert.BigoutRefIdeal.τ).loc Cert.BigoutRefIdeal.main_arg0)
      ∧ r.2.mem ((c.tc : Thread Cert.BigoutRefIdeal.nD Cert.BigoutRefIdeal.τ).loc Cert.BigoutRefIdeal.main_arg1) = m ((c.tc : Thread Cert.BigoutRefIdeal.nD Cert.BigoutRefIdeal.τ).loc Cert.BigoutRefIdeal.main_arg1)
      ∧ r.2.mem ((c.tc : Thread Cert.BigoutRefIdeal.nD Cert.BigoutRefIdeal.τ).loc Cert.BigoutRefIdeal.main_arg2) = m ((c.tc : Thread Cert.BigoutRefIdeal.nD Cert.BigoutRefIdeal.τ).loc Cert.BigoutRefIdeal.main_arg2)
      ∧ r.2.mem ((c.tc : Thread Cert.BigoutRefIdeal.nD Cert.BigoutRefIdeal.τ).loc Cert.BigoutRefIdeal.main_arg3) = m ((c.tc : Thread Cert.BigoutRefIdeal.nD Cert.BigoutRefIdeal.τ).loc Cert.BigoutRefIdeal.main_arg3)
      ∧ r.2.mem ((c.tc : Thread Cert.BigoutRefIdeal.nD Cert.BigoutRefIdeal.τ).loc Cert.BigoutRefIdeal.main_arg4) = m ((c.tc : Thread Cert.BigoutRefIdeal.nD Cert.BigoutRefIdeal.τ).loc Cert.BigoutRefIdeal.main_arg4)
      ∧ r.2.mem ((c.tc : Thread Cert.BigoutRefIdeal.nD Cert.BigoutRefIdeal.τ).loc Cert.BigoutRefIdeal.main_arg5) = m ((c.tc : Thread Cert.BigoutRefIdeal.nD Cert.BigoutRefIdeal.τ).loc Cert.BigoutRefIdeal.main_arg5)
      ∧ r.2.mem ((c.tc : Thread Cert.BigoutRefIdeal.nD Cert.BigoutRefIdeal.τ).loc Cert.BigoutRefIdeal.main_arg6) = m ((c.tc : Thread Cert.BigoutRefIdeal.nD Cert.BigoutRefIdeal.τ).loc Cert.BigoutRefIdeal.main_arg6)
      ∧ r.2.mem ((c.tc : Thread Cert.BigoutRefIdeal.nD Cert.BigoutRefIdeal.τ).loc Cert.BigoutRefIdeal.main_arg7) = m ((c.tc : Thread Cert.BigoutRefIdeal.nD Cert.BigoutRefIdeal.τ).loc Cert.BigoutRefIdeal.main_arg7)
      ∧ r.2.mem ((c.tc : Thread Cert.BigoutRefIdeal.nD Cert.BigoutRefIdeal.τ).loc Cert.BigoutRefIdeal.main_arg8) = m ((c.tc : Thread Cert.BigoutRefIdeal.nD Cert.BigoutRefIdeal.τ).loc Cert.BigoutRefIdeal.main_arg8)
      ∧ r.2.mem ((c.tc : Thread Cert.BigoutRefIdeal.nD Cert.BigoutRefIdeal.τ).loc Cert.BigoutRefIdeal.main_arg9) = m ((c.tc : Thread Cert.BigoutRefIdeal.nD Cert.BigoutRefIdeal.τ).loc Cert.BigoutRefIdeal.main_arg9)
      ∧ r.2.mem ((c.tc : Thread Cert.BigoutRefIdeal.nD Cert.BigoutRefIdeal.τ).loc Cert.BigoutRefIdeal.main_arg10) = m ((c.tc : Thread Cert.BigoutRefIdeal.nD Cert.BigoutRefIdeal.τ).loc Cert.BigoutRefIdeal.main_arg10))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v43) = v0 c
          ∧ r.2.mem ((c.tc : Thread Cert.MergeRefIdeal.nD Cert.MergeRefIdeal.τ).loc Cert.MergeRefIdeal.main_v44) = v1 c
          ∧ r.2.mem ((c.tc : Thread Cert.MergeRefIdeal.nD Cert.MergeRefIdeal.τ).loc Cert.MergeRefIdeal.main_v45) = v2 c
          ∧ r.2.mem ((c.tc : Thread Cert.MergeRefIdeal.nD Cert.MergeRefIdeal.τ).loc Cert.MergeRefIdeal.main_v46) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v0)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v5) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1))

def preserves_Dm_DmIdeal : Prop :=
  True

def algebraic_DmIdeal_DmRefIdeal [hDmIdeal : Cert.DmIdeal.Facts] [hDmRefIdeal : Cert.DmRefIdeal.Facts] : Prop :=
  ∀ (m : (ℓ : Loc Cert.DmIdeal.nD Cert.DmIdeal.τ Cert.DmIdeal.sig) → Buf (Elt Ideal) ℓ) (g : Dev Cert.DmIdeal.nD → PrngReg)
    (m' : (ℓ : Loc Cert.DmRefIdeal.nD Cert.DmRefIdeal.τ Cert.DmRefIdeal.sig) → Buf (Elt Ideal) ℓ) (g' : Dev Cert.DmRefIdeal.nD → PrngReg), Pre_DmIdeal m →
    (∀ c : Dev Cert.DmIdeal.nD,
      m' ((c.tc : Thread Cert.DmRefIdeal.nD Cert.DmRefIdeal.τ).loc Cert.DmRefIdeal.main_arg0) = m ((c.tc : Thread Cert.DmIdeal.nD Cert.DmIdeal.τ).loc Cert.DmIdeal.main_arg0)
      ∧ m' ((c.tc : Thread Cert.DmRefIdeal.nD Cert.DmRefIdeal.τ).loc Cert.DmRefIdeal.main_arg1) = m ((c.tc : Thread Cert.DmIdeal.nD Cert.DmIdeal.τ).loc Cert.DmIdeal.main_arg1)) →
    ∃ (v0 : (c : Dev Cert.DmIdeal.nD) → Buf (Elt Ideal) ((c.tc : Thread Cert.DmIdeal.nD Cert.DmIdeal.τ).loc Cert.DmIdeal.main_v0)),
      θ_run (Cert.DmIdeal.defs (F := Ideal)) (onTc (τ := Cert.DmIdeal.τ) (Cert.DmIdeal.main (F := Ideal))) ⟨m, fun _ => 0, g⟩ (fun r => ∀ c : Dev Cert.DmIdeal.nD,
          r.2.mem ((c.tc : Thread Cert.DmIdeal.nD Cert.DmIdeal.τ).loc Cert.DmIdeal.main_v0) = v0 c
          ∧ r.2.mem ((c.tc : Thread Cert.DmIdeal.nD Cert.DmIdeal.τ).loc Cert.DmIdeal.main_arg0) = m ((c.tc : Thread Cert.DmIdeal.nD Cert.DmIdeal.τ).loc Cert.DmIdeal.main_arg0)
          ∧ r.2.mem ((c.tc : Thread Cert.DmIdeal.nD Cert.DmIdeal.τ).loc Cert.DmIdeal.main_arg1) = m ((c.tc : Thread Cert.DmIdeal.nD Cert.DmIdeal.τ).loc Cert.DmIdeal.main_arg1))
      ∧ θ_run (Cert.DmRefIdeal.defs (F := Ideal)) (onTc (τ := Cert.DmRefIdeal.τ) (Cert.DmRefIdeal.main (F := Ideal))) ⟨m', fun _ => 0, g'⟩ (fun r => ∀ c : Dev Cert.DmRefIdeal.nD,
          r.2.mem ((c.tc : Thread Cert.DmRefIdeal.nD Cert.DmRefIdeal.τ).loc Cert.DmRefIdeal.main_v5) = v0 c
          ∧ r.2.mem ((c.tc : Thread Cert.DmRefIdeal.nD Cert.DmRefIdeal.τ).loc Cert.DmRefIdeal.main_arg0) = m' ((c.tc : Thread Cert.DmRefIdeal.nD Cert.DmRefIdeal.τ).loc Cert.DmRefIdeal.main_arg0)
          ∧ r.2.mem ((c.tc : Thread Cert.DmRefIdeal.nD Cert.DmRefIdeal.τ).loc Cert.DmRefIdeal.main_arg1) = m' ((c.tc : Thread Cert.DmRefIdeal.nD Cert.DmRefIdeal.τ).loc Cert.DmRefIdeal.main_arg1))

def preserves_Dy_DyIdeal : Prop :=
  True

def algebraic_DyIdeal_DyRefIdeal [hDyIdeal : Cert.DyIdeal.Facts] [hDyRefIdeal : Cert.DyRefIdeal.Facts] : Prop :=
  ∀ (m : (ℓ : Loc Cert.DyIdeal.nD Cert.DyIdeal.τ Cert.DyIdeal.sig) → Buf (Elt Ideal) ℓ) (g : Dev Cert.DyIdeal.nD → PrngReg)
    (m' : (ℓ : Loc Cert.DyRefIdeal.nD Cert.DyRefIdeal.τ Cert.DyRefIdeal.sig) → Buf (Elt Ideal) ℓ) (g' : Dev Cert.DyRefIdeal.nD → PrngReg), Pre_DyIdeal m →
    (∀ c : Dev Cert.DyIdeal.nD,
      m' ((c.tc : Thread Cert.DyRefIdeal.nD Cert.DyRefIdeal.τ).loc Cert.DyRefIdeal.main_arg0) = m ((c.tc : Thread Cert.DyIdeal.nD Cert.DyIdeal.τ).loc Cert.DyIdeal.main_arg0)
      ∧ m' ((c.tc : Thread Cert.DyRefIdeal.nD Cert.DyRefIdeal.τ).loc Cert.DyRefIdeal.main_arg1) = m ((c.tc : Thread Cert.DyIdeal.nD Cert.DyIdeal.τ).loc Cert.DyIdeal.main_arg1)) →
    ∃ (v0 : (c : Dev Cert.DyIdeal.nD) → Buf (Elt Ideal) ((c.tc : Thread Cert.DyIdeal.nD Cert.DyIdeal.τ).loc Cert.DyIdeal.main_v0)),
      θ_run (Cert.DyIdeal.defs (F := Ideal)) (onTc (τ := Cert.DyIdeal.τ) (Cert.DyIdeal.main (F := Ideal))) ⟨m, fun _ => 0, g⟩ (fun r => ∀ c : Dev Cert.DyIdeal.nD,
          r.2.mem ((c.tc : Thread Cert.DyIdeal.nD Cert.DyIdeal.τ).loc Cert.DyIdeal.main_v0) = v0 c
          ∧ r.2.mem ((c.tc : Thread Cert.DyIdeal.nD Cert.DyIdeal.τ).loc Cert.DyIdeal.main_arg0) = m ((c.tc : Thread Cert.DyIdeal.nD Cert.DyIdeal.τ).loc Cert.DyIdeal.main_arg0)
          ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ θ_run (Cert.DyRefIdeal.defs (F := Ideal)) (onTc (τ := Cert.DyRefIdeal.τ) (Cert.DyRefIdeal.main (F := Ideal))) ⟨m', fun _ => 0, g'⟩ (fun r => ∀ c : Dev Cert.DyRefIdeal.nD,
          r.2.mem ((c.tc : Thread Cert.DyRefIdeal.nD Cert.DyRefIdeal.τ).loc Cert.DyRefIdeal.main_v5) = v0 c
          ∧ r.2.mem ((c.tc : Thread Cert.DyRefIdeal.nD Cert.DyRefIdeal.τ).loc Cert.DyRefIdeal.main_arg0) = m' ((c.tc : Thread Cert.DyRefIdeal.nD Cert.DyRefIdeal.τ).loc Cert.DyRefIdeal.main_arg0)
          ∧ r.2.mem ((c.tc : Thread Cert.DyRefIdeal.nD Cert.DyRefIdeal.τ).loc Cert.DyRefIdeal.main_arg1) = m' ((c.tc : Thread Cert.DyRefIdeal.nD Cert.DyRefIdeal.τ).loc Cert.DyRefIdeal.main_arg1))

def preserves_Gdown_GdownIdeal : Prop :=
  True

def algebraic_GdownIdeal_GdownRefIdeal [hGdownIdeal : Cert.GdownIdeal.Facts] [hGdownRefIdeal : Cert.GdownRefIdeal.Facts] : Prop :=
  ∀ (m : (ℓ : Loc Cert.GdownIdeal.nD Cert.GdownIdeal.τ Cert.GdownIdeal.sig) → Buf (Elt Ideal) ℓ) (g : Dev Cert.GdownIdeal.nD → PrngReg)
    (m' : (ℓ : Loc Cert.GdownRefIdeal.nD Cert.GdownRefIdeal.τ Cert.GdownRefIdeal.sig) → Buf (Elt Ideal) ℓ) (g' : Dev Cert.GdownRefIdeal.nD → PrngReg), Pre_GdownIdeal m →
    (∀ c : Dev Cert.GdownIdeal.nD,
      m' ((c.tc : Thread Cert.GdownRefIdeal.nD Cert.GdownRefIdeal.τ).loc Cert.GdownRefIdeal.main_arg0) = m ((c.tc : Thread Cert.GdownIdeal.nD Cert.GdownIdeal.τ).loc Cert.GdownIdeal.main_arg0)
      ∧ m' ((c.tc : Thread Cert.GdownRefIdeal.nD Cert.GdownRefIdeal.τ).loc Cert.GdownRefIdeal.main_arg1) = m ((c.tc : Thread Cert.GdownIdeal.nD Cert.GdownIdeal.τ).loc Cert.GdownIdeal.main_arg1)) →
    ∃ (v0 : (c : Dev Cert.GdownIdeal.nD) → Buf (Elt Ideal) ((c.tc : Thread Cert.GdownIdeal.nD Cert.GdownIdeal.τ).loc Cert.GdownIdeal.main_v0)),
      θ_run (Cert.GdownIdeal.defs (F := Ideal)) (onTc (τ := Cert.GdownIdeal.τ) (Cert.GdownIdeal.main (F := Ideal))) ⟨m, fun _ => 0, g⟩ (fun r => ∀ c : Dev Cert.GdownIdeal.nD,
          r.2.mem ((c.tc : Thread Cert.GdownIdeal.nD Cert.GdownIdeal.τ).loc Cert.GdownIdeal.main_v0) = v0 c
          ∧ r.2.mem ((c.tc : Thread Cert.GdownIdeal.nD Cert.GdownIdeal.τ).loc Cert.GdownIdeal.main_arg0) = m ((c.tc : Thread Cert.GdownIdeal.nD Cert.GdownIdeal.τ).loc Cert.GdownIdeal.main_arg0)
          ∧ r.2.mem ((c.tc : Thread Cert.GdownIdeal.nD Cert.GdownIdeal.τ).loc Cert.GdownIdeal.main_arg1) = m ((c.tc : Thread Cert.GdownIdeal.nD Cert.GdownIdeal.τ).loc Cert.GdownIdeal.main_arg1))
      ∧ θ_run (Cert.GdownRefIdeal.defs (F := Ideal)) (onTc (τ := Cert.GdownRefIdeal.τ) (Cert.GdownRefIdeal.main (F := Ideal))) ⟨m', fun _ => 0, g'⟩ (fun r => ∀ c : Dev Cert.GdownRefIdeal.nD,
          r.2.mem ((c.tc : Thread Cert.GdownRefIdeal.nD Cert.GdownRefIdeal.τ).loc Cert.GdownRefIdeal.main_v6) = v0 c
          ∧ r.2.mem ((c.tc : Thread Cert.GdownRefIdeal.nD Cert.GdownRefIdeal.τ).loc Cert.GdownRefIdeal.main_arg0) = m' ((c.tc : Thread Cert.GdownRefIdeal.nD Cert.GdownRefIdeal.τ).loc Cert.GdownRefIdeal.main_arg0)
          ∧ r.2.mem ((c.tc : Thread Cert.GdownRefIdeal.nD Cert.GdownRefIdeal.τ).loc Cert.GdownRefIdeal.main_arg1) = m' ((c.tc : Thread Cert.GdownRefIdeal.nD Cert.GdownRefIdeal.τ).loc Cert.GdownRefIdeal.main_arg1))

def preserves_Go_GoIdeal : Prop :=
  True

def algebraic_GoIdeal_GoRefIdeal [hGoIdeal : Cert.GoIdeal.Facts] [hGoRefIdeal : Cert.GoRefIdeal.Facts] : Prop :=
  ∀ (m : (ℓ : Loc Cert.GoIdeal.nD Cert.GoIdeal.τ Cert.GoIdeal.sig) → Buf (Elt Ideal) ℓ) (g : Dev Cert.GoIdeal.nD → PrngReg)
    (m' : (ℓ : Loc Cert.GoRefIdeal.nD Cert.GoRefIdeal.τ Cert.GoRefIdeal.sig) → Buf (Elt Ideal) ℓ) (g' : Dev Cert.GoRefIdeal.nD → PrngReg), Pre_GoIdeal m →
    (∀ c : Dev Cert.GoIdeal.nD,
      m' ((c.tc : Thread Cert.GoRefIdeal.nD Cert.GoRefIdeal.τ).loc Cert.GoRefIdeal.main_arg0) = m ((c.tc : Thread Cert.GoIdeal.nD Cert.GoIdeal.τ).loc Cert.GoIdeal.main_arg0)
      ∧ m' ((c.tc : Thread Cert.GoRefIdeal.nD Cert.GoRefIdeal.τ).loc Cert.GoRefIdeal.main_arg1) = m ((c.tc : Thread Cert.GoIdeal.nD Cert.GoIdeal.τ).loc Cert.GoIdeal.main_arg1)) →
    ∃ (v0 : (c : Dev Cert.GoIdeal.nD) → Buf (Elt Ideal) ((c.tc : Thread Cert.GoIdeal.nD Cert.GoIdeal.τ).loc Cert.GoIdeal.main_v0)),
      θ_run (Cert.GoIdeal.defs (F := Ideal)) (onTc (τ := Cert.GoIdeal.τ) (Cert.GoIdeal.main (F := Ideal))) ⟨m, fun _ => 0, g⟩ (fun r => ∀ c : Dev Cert.GoIdeal.nD,
          r.2.mem ((c.tc : Thread Cert.GoIdeal.nD Cert.GoIdeal.τ).loc Cert.GoIdeal.main_v0) = v0 c
          ∧ r.2.mem ((c.tc : Thread Cert.GoIdeal.nD Cert.GoIdeal.τ).loc Cert.GoIdeal.main_arg0) = m ((c.tc : Thread Cert.GoIdeal.nD Cert.GoIdeal.τ).loc Cert.GoIdeal.main_arg0)
          ∧ r.2.mem ((c.tc : Thread Cert.GoIdeal.nD Cert.GoIdeal.τ).loc Cert.GoIdeal.main_arg1) = m ((c.tc : Thread Cert.GoIdeal.nD Cert.GoIdeal.τ).loc Cert.GoIdeal.main_arg1))
      ∧ θ_run (Cert.GoRefIdeal.defs (F := Ideal)) (onTc (τ := Cert.GoRefIdeal.τ) (Cert.GoRefIdeal.main (F := Ideal))) ⟨m', fun _ => 0, g'⟩ (fun r => ∀ c : Dev Cert.GoRefIdeal.nD,
          r.2.mem ((c.tc : Thread Cert.GoRefIdeal.nD Cert.GoRefIdeal.τ).loc Cert.GoRefIdeal.main_v6) = v0 c
          ∧ r.2.mem ((c.tc : Thread Cert.GoRefIdeal.nD Cert.GoRefIdeal.τ).loc Cert.GoRefIdeal.main_arg0) = m' ((c.tc : Thread Cert.GoRefIdeal.nD Cert.GoRefIdeal.τ).loc Cert.GoRefIdeal.main_arg0)
          ∧ r.2.mem ((c.tc : Thread Cert.GoRefIdeal.nD Cert.GoRefIdeal.τ).loc Cert.GoRefIdeal.main_arg1) = m' ((c.tc : Thread Cert.GoRefIdeal.nD Cert.GoRefIdeal.τ).loc Cert.GoRefIdeal.main_arg1))

def preserves_Gy_GyIdeal : Prop :=
  True

def algebraic_GyIdeal_GyRefIdeal [hGyIdeal : Cert.GyIdeal.Facts] [hGyRefIdeal : Cert.GyRefIdeal.Facts] : Prop :=
  ∀ (m : (ℓ : Loc Cert.GyIdeal.nD Cert.GyIdeal.τ Cert.GyIdeal.sig) → Buf (Elt Ideal) ℓ) (g : Dev Cert.GyIdeal.nD → PrngReg)
    (m' : (ℓ : Loc Cert.GyRefIdeal.nD Cert.GyRefIdeal.τ Cert.GyRefIdeal.sig) → Buf (Elt Ideal) ℓ) (g' : Dev Cert.GyRefIdeal.nD → PrngReg), Pre_GyIdeal m →
    (∀ c : Dev Cert.GyIdeal.nD,
      m' ((c.tc : Thread Cert.GyRefIdeal.nD Cert.GyRefIdeal.τ).loc Cert.GyRefIdeal.main_arg0) = m ((c.tc : Thread Cert.GyIdeal.nD Cert.GyIdeal.τ).loc Cert.GyIdeal.main_arg0)
      ∧ m' ((c.tc : Thread Cert.GyRefIdeal.nD Cert.GyRefIdeal.τ).loc Cert.GyRefIdeal.main_arg1) = m ((c.tc : Thread Cert.GyIdeal.nD Cert.GyIdeal.τ).loc Cert.GyIdeal.main_arg1)) →
    ∃ (v0 : (c : Dev Cert.GyIdeal.nD) → Buf (Elt Ideal) ((c.tc : Thread Cert.GyIdeal.nD Cert.GyIdeal.τ).loc Cert.GyIdeal.main_v0)),
      θ_run (Cert.GyIdeal.defs (F := Ideal)) (onTc (τ := Cert.GyIdeal.τ) (Cert.GyIdeal.main (F := Ideal))) ⟨m, fun _ => 0, g⟩ (fun r => ∀ c : Dev Cert.GyIdeal.nD,
          r.2.mem ((c.tc : Thread Cert.GyIdeal.nD Cert.GyIdeal.τ).loc Cert.GyIdeal.main_v0) = v0 c
          ∧ r.2.mem ((c.tc : Thread Cert.GyIdeal.nD Cert.GyIdeal.τ).loc Cert.GyIdeal.main_arg0) = m ((c.tc : Thread Cert.GyIdeal.nD Cert.GyIdeal.τ).loc Cert.GyIdeal.main_arg0)
          ∧ r.2.mem ((c.tc : Thread Cert.GyIdeal.nD Cert.GyIdeal.τ).loc Cert.GyIdeal.main_arg1) = m ((c.tc : Thread Cert.GyIdeal.nD Cert.GyIdeal.τ).loc Cert.GyIdeal.main_arg1))
      ∧ θ_run (Cert.GyRefIdeal.defs (F := Ideal)) (onTc (τ := Cert.GyRefIdeal.τ) (Cert.GyRefIdeal.main (F := Ideal))) ⟨m', fun _ => 0, g'⟩ (fun r => ∀ c : Dev Cert.GyRefIdeal.nD,
          r.2.mem ((c.tc : Thread Cert.GyRefIdeal.nD Cert.GyRefIdeal.τ).loc Cert.GyRefIdeal.main_v6) = v0 c
          ∧ r.2.mem ((c.tc : Thread Cert.GyRefIdeal.nD Cert.GyRefIdeal.τ).loc Cert.GyRefIdeal.main_arg0) = m' ((c.tc : Thread Cert.GyRefIdeal.nD Cert.GyRefIdeal.τ).loc Cert.GyRefIdeal.main_arg0)
          ∧ r.2.mem ((c.tc : Thread Cert.GyRefIdeal.nD Cert.GyRefIdeal.τ).loc Cert.GyRefIdeal.main_arg1) = m' ((c.tc : Thread Cert.GyRefIdeal.nD Cert.GyRefIdeal.τ).loc Cert.GyRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v3) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Gup_GupIdeal : Prop :=
  True

def algebraic_GupIdeal_GupRefIdeal [hGupIdeal : Cert.GupIdeal.Facts] [hGupRefIdeal : Cert.GupRefIdeal.Facts] : Prop :=
  ∀ (m : (ℓ : Loc Cert.GupIdeal.nD Cert.GupIdeal.τ Cert.GupIdeal.sig) → Buf (Elt Ideal) ℓ) (g : Dev Cert.GupIdeal.nD → PrngReg)
    (m' : (ℓ : Loc Cert.GupRefIdeal.nD Cert.GupRefIdeal.τ Cert.GupRefIdeal.sig) → Buf (Elt Ideal) ℓ) (g' : Dev Cert.GupRefIdeal.nD → PrngReg), Pre_GupIdeal m →
    (∀ c : Dev Cert.GupIdeal.nD,
      m' ((c.tc : Thread Cert.GupRefIdeal.nD Cert.GupRefIdeal.τ).loc Cert.GupRefIdeal.main_arg0) = m ((c.tc : Thread Cert.GupIdeal.nD Cert.GupIdeal.τ).loc Cert.GupIdeal.main_arg0)
      ∧ m' ((c.tc : Thread Cert.GupRefIdeal.nD Cert.GupRefIdeal.τ).loc Cert.GupRefIdeal.main_arg1) = m ((c.tc : Thread Cert.GupIdeal.nD Cert.GupIdeal.τ).loc Cert.GupIdeal.main_arg1)
      ∧ m' ((c.tc : Thread Cert.GupRefIdeal.nD Cert.GupRefIdeal.τ).loc Cert.GupRefIdeal.main_arg2) = m ((c.tc : Thread Cert.GupIdeal.nD Cert.GupIdeal.τ).loc Cert.GupIdeal.main_arg2)) →
    ∃ (v0 : (c : Dev Cert.GupIdeal.nD) → Buf (Elt Ideal) ((c.tc : Thread Cert.GupIdeal.nD Cert.GupIdeal.τ).loc Cert.GupIdeal.main_v0)),
      θ_run (Cert.GupIdeal.defs (F := Ideal)) (onTc (τ := Cert.GupIdeal.τ) (Cert.GupIdeal.main (F := Ideal))) ⟨m, fun _ => 0, g⟩ (fun r => ∀ c : Dev Cert.GupIdeal.nD,
          r.2.mem ((c.tc : Thread Cert.GupIdeal.nD Cert.GupIdeal.τ).loc Cert.GupIdeal.main_v0) = v0 c
          ∧ r.2.mem ((c.tc : Thread Cert.GupIdeal.nD Cert.GupIdeal.τ).loc Cert.GupIdeal.main_arg0) = m ((c.tc : Thread Cert.GupIdeal.nD Cert.GupIdeal.τ).loc Cert.GupIdeal.main_arg0)
          ∧ r.2.mem ((c.tc : Thread Cert.GupIdeal.nD Cert.GupIdeal.τ).loc Cert.GupIdeal.main_arg1) = m ((c.tc : Thread Cert.GupIdeal.nD Cert.GupIdeal.τ).loc Cert.GupIdeal.main_arg1)
          ∧ r.2.mem ((c.tc : Thread Cert.GupIdeal.nD Cert.GupIdeal.τ).loc Cert.GupIdeal.main_arg2) = m ((c.tc : Thread Cert.GupIdeal.nD Cert.GupIdeal.τ).loc Cert.GupIdeal.main_arg2))
      ∧ θ_run (Cert.GupRefIdeal.defs (F := Ideal)) (onTc (τ := Cert.GupRefIdeal.τ) (Cert.GupRefIdeal.main (F := Ideal))) ⟨m', fun _ => 0, g'⟩ (fun r => ∀ c : Dev Cert.GupRefIdeal.nD,
          r.2.mem ((c.tc : Thread Cert.GupRefIdeal.nD Cert.GupRefIdeal.τ).loc Cert.GupRefIdeal.main_v8) = v0 c
          ∧ r.2.mem ((c.tc : Thread Cert.GupRefIdeal.nD Cert.GupRefIdeal.τ).loc Cert.GupRefIdeal.main_arg0) = m' ((c.tc : Thread Cert.GupRefIdeal.nD Cert.GupRefIdeal.τ).loc Cert.GupRefIdeal.main_arg0)
          ∧ r.2.mem ((c.tc : Thread Cert.GupRefIdeal.nD Cert.GupRefIdeal.τ).loc Cert.GupRefIdeal.main_arg1) = m' ((c.tc : Thread Cert.GupRefIdeal.nD Cert.GupRefIdeal.τ).loc Cert.GupRefIdeal.main_arg1)
          ∧ r.2.mem ((c.tc : Thread Cert.GupRefIdeal.nD Cert.GupRefIdeal.τ).loc Cert.GupRefIdeal.main_arg2) = m' ((c.tc : Thread Cert.GupRefIdeal.nD Cert.GupRefIdeal.τ).loc Cert.GupRefIdeal.main_arg2))

def preserves_Gin_GinIdeal : Prop :=
  True

def algebraic_GinIdeal_GinRefIdeal [hGinIdeal : Cert.GinIdeal.Facts] [hGinRefIdeal : Cert.GinRefIdeal.Facts] : Prop :=
  ∀ (m : (ℓ : Loc Cert.GinIdeal.nD Cert.GinIdeal.τ Cert.GinIdeal.sig) → Buf (Elt Ideal) ℓ) (g : Dev Cert.GinIdeal.nD → PrngReg)
    (m' : (ℓ : Loc Cert.GinRefIdeal.nD Cert.GinRefIdeal.τ Cert.GinRefIdeal.sig) → Buf (Elt Ideal) ℓ) (g' : Dev Cert.GinRefIdeal.nD → PrngReg), Pre_GinIdeal m →
    (∀ c : Dev Cert.GinIdeal.nD,
      m' ((c.tc : Thread Cert.GinRefIdeal.nD Cert.GinRefIdeal.τ).loc Cert.GinRefIdeal.main_arg0) = m ((c.tc : Thread Cert.GinIdeal.nD Cert.GinIdeal.τ).loc Cert.GinIdeal.main_arg0)
      ∧ m' ((c.tc : Thread Cert.GinRefIdeal.nD Cert.GinRefIdeal.τ).loc Cert.GinRefIdeal.main_arg1) = m ((c.tc : Thread Cert.GinIdeal.nD Cert.GinIdeal.τ).loc Cert.GinIdeal.main_arg1)
      ∧ m' ((c.tc : Thread Cert.GinRefIdeal.nD Cert.GinRefIdeal.τ).loc Cert.GinRefIdeal.main_arg2) = m ((c.tc : Thread Cert.GinIdeal.nD Cert.GinIdeal.τ).loc Cert.GinIdeal.main_arg2)) →
    ∃ (v0 : (c : Dev Cert.GinIdeal.nD) → Buf (Elt Ideal) ((c.tc : Thread Cert.GinIdeal.nD Cert.GinIdeal.τ).loc Cert.GinIdeal.main_v0)),
      θ_run (Cert.GinIdeal.defs (F := Ideal)) (onTc (τ := Cert.GinIdeal.τ) (Cert.GinIdeal.main (F := Ideal))) ⟨m, fun _ => 0, g⟩ (fun r => ∀ c : Dev Cert.GinIdeal.nD,
          r.2.mem ((c.tc : Thread Cert.GinIdeal.nD Cert.GinIdeal.τ).loc Cert.GinIdeal.main_v0) = v0 c
          ∧ r.2.mem ((c.tc : Thread Cert.GinIdeal.nD Cert.GinIdeal.τ).loc Cert.GinIdeal.main_arg0) = m ((c.tc : Thread Cert.GinIdeal.nD Cert.GinIdeal.τ).loc Cert.GinIdeal.main_arg0)
          ∧ r.2.mem ((c.tc : Thread Cert.GinIdeal.nD Cert.GinIdeal.τ).loc Cert.GinIdeal.main_arg1) = m ((c.tc : Thread Cert.GinIdeal.nD Cert.GinIdeal.τ).loc Cert.GinIdeal.main_arg1)
          ∧ r.2.mem ((c.tc : Thread Cert.GinIdeal.nD Cert.GinIdeal.τ).loc Cert.GinIdeal.main_arg2) = m ((c.tc : Thread Cert.GinIdeal.nD Cert.GinIdeal.τ).loc Cert.GinIdeal.main_arg2))
      ∧ θ_run (Cert.GinRefIdeal.defs (F := Ideal)) (onTc (τ := Cert.GinRefIdeal.τ) (Cert.GinRefIdeal.main (F := Ideal))) ⟨m', fun _ => 0, g'⟩ (fun r => ∀ c : Dev Cert.GinRefIdeal.nD,
          r.2.mem ((c.tc : Thread Cert.GinRefIdeal.nD Cert.GinRefIdeal.τ).loc Cert.GinRefIdeal.main_v8) = v0 c
          ∧ r.2.mem ((c.tc : Thread Cert.GinRefIdeal.nD Cert.GinRefIdeal.τ).loc Cert.GinRefIdeal.main_arg0) = m' ((c.tc : Thread Cert.GinRefIdeal.nD Cert.GinRefIdeal.τ).loc Cert.GinRefIdeal.main_arg0)
          ∧ r.2.mem ((c.tc : Thread Cert.GinRefIdeal.nD Cert.GinRefIdeal.τ).loc Cert.GinRefIdeal.main_arg1) = m' ((c.tc : Thread Cert.GinRefIdeal.nD Cert.GinRefIdeal.τ).loc Cert.GinRefIdeal.main_arg1)
          ∧ r.2.mem ((c.tc : Thread Cert.GinRefIdeal.nD Cert.GinRefIdeal.τ).loc Cert.GinRefIdeal.main_arg2) = m' ((c.tc : Thread Cert.GinRefIdeal.nD Cert.GinRefIdeal.τ).loc Cert.GinRefIdeal.main_arg2))

def preserves_Gupa_GupaIdeal : Prop :=
  True

def algebraic_GupaIdeal_GupaRefIdeal_on_g_upa_written [hGupaIdeal : Cert.GupaIdeal.Facts] [hGupaRefIdeal : Cert.GupaRefIdeal.Facts] [hOn_g_upa_written : Cert.On_g_upa_written.Facts] : Prop :=
  ∀ (m : (ℓ : Loc Cert.GupaIdeal.nD Cert.GupaIdeal.τ Cert.GupaIdeal.sig) → Buf (Elt Ideal) ℓ) (g : Dev Cert.GupaIdeal.nD → PrngReg)
    (m' : (ℓ : Loc Cert.GupaRefIdeal.nD Cert.GupaRefIdeal.τ Cert.GupaRefIdeal.sig) → Buf (Elt Ideal) ℓ) (g' : Dev Cert.GupaRefIdeal.nD → PrngReg), Pre_GupaIdeal m →
    (∀ c : Dev Cert.GupaIdeal.nD,
      m' ((c.tc : Thread Cert.GupaRefIdeal.nD Cert.GupaRefIdeal.τ).loc Cert.GupaRefIdeal.main_arg0) = m ((c.tc : Thread Cert.GupaIdeal.nD Cert.GupaIdeal.τ).loc Cert.GupaIdeal.main_arg0)
      ∧ m' ((c.tc : Thread Cert.GupaRefIdeal.nD Cert.GupaRefIdeal.τ).loc Cert.GupaRefIdeal.main_arg1) = m ((c.tc : Thread Cert.GupaIdeal.nD Cert.GupaIdeal.τ).loc Cert.GupaIdeal.main_arg1)) →
    ∃ (v0 : (c : Dev Cert.GupaIdeal.nD) → Buf (Elt Ideal) ((c.tc : Thread Cert.GupaIdeal.nD Cert.GupaIdeal.τ).loc Cert.GupaIdeal.main_v0)),
      θ_run (Cert.GupaIdeal.defs (F := Ideal)) (onTc (τ := Cert.GupaIdeal.τ) (Cert.GupaIdeal.main (F := Ideal))) ⟨m, fun _ => 0, g⟩ (fun r => ∀ c : Dev Cert.GupaIdeal.nD,
          (∀ i : (⟨2, ![2048, 11264]⟩ : Shape).Idx, (Cert.On_g_upa_written.fn (F := Ideal) (m ((c.tc : Thread Cert.GupaIdeal.nD Cert.GupaIdeal.τ).loc Cert.GupaIdeal.main_arg0)) (m ((c.tc : Thread Cert.GupaIdeal.nD Cert.GupaIdeal.τ).loc Cert.GupaIdeal.main_arg1))) i = 1#1 → r.2.mem ((c.tc : Thread Cert.GupaIdeal.nD Cert.GupaIdeal.τ).loc Cert.GupaIdeal.main_v0) i = v0 c i)
          ∧ r.2.mem ((c.tc : Thread Cert.GupaIdeal.nD Cert.GupaIdeal.τ).loc Cert.GupaIdeal.main_arg0) = m ((c.tc : Thread Cert.GupaIdeal.nD Cert.GupaIdeal.τ).loc Cert.GupaIdeal.main_arg0)
          ∧ r.2.mem ((c.tc : Thread Cert.GupaIdeal.nD Cert.GupaIdeal.τ).loc Cert.GupaIdeal.main_arg1) = m ((c.tc : Thread Cert.GupaIdeal.nD Cert.GupaIdeal.τ).loc Cert.GupaIdeal.main_arg1))
      ∧ θ_run (Cert.GupaRefIdeal.defs (F := Ideal)) (onTc (τ := Cert.GupaRefIdeal.τ) (Cert.GupaRefIdeal.main (F := Ideal))) ⟨m', fun _ => 0, g'⟩ (fun r => ∀ c : Dev Cert.GupaRefIdeal.nD,
          (∀ i : (⟨2, ![2048, 11264]⟩ : Shape).Idx, (Cert.On_g_upa_written.fn (F := Ideal) (m ((c.tc : Thread Cert.GupaIdeal.nD Cert.GupaIdeal.τ).loc Cert.GupaIdeal.main_arg0)) (m ((c.tc : Thread Cert.GupaIdeal.nD Cert.GupaIdeal.τ).loc Cert.GupaIdeal.main_arg1))) i = 1#1 → r.2.mem ((c.tc : Thread Cert.GupaRefIdeal.nD Cert.GupaRefIdeal.τ).loc Cert.GupaRefIdeal.main_v8) i = v0 c i)
          ∧ r.2.mem ((c.tc : Thread Cert.GupaRefIdeal.nD Cert.GupaRefIdeal.τ).loc Cert.GupaRefIdeal.main_arg0) = m' ((c.tc : Thread Cert.GupaRefIdeal.nD Cert.GupaRefIdeal.τ).loc Cert.GupaRefIdeal.main_arg0)
          ∧ r.2.mem ((c.tc : Thread Cert.GupaRefIdeal.nD Cert.GupaRefIdeal.τ).loc Cert.GupaRefIdeal.main_arg1) = m' ((c.tc : Thread Cert.GupaRefIdeal.nD Cert.GupaRefIdeal.τ).loc Cert.GupaRefIdeal.main_arg1))

def preserves_Gina_GinaIdeal : Prop :=
  True

def algebraic_GinaIdeal_GinaRefIdeal_on_g_ina_written [hGinaIdeal : Cert.GinaIdeal.Facts] [hGinaRefIdeal : Cert.GinaRefIdeal.Facts] [hOn_g_ina_written : Cert.On_g_ina_written.Facts] : Prop :=
  ∀ (m : (ℓ : Loc Cert.GinaIdeal.nD Cert.GinaIdeal.τ Cert.GinaIdeal.sig) → Buf (Elt Ideal) ℓ) (g : Dev Cert.GinaIdeal.nD → PrngReg)
    (m' : (ℓ : Loc Cert.GinaRefIdeal.nD Cert.GinaRefIdeal.τ Cert.GinaRefIdeal.sig) → Buf (Elt Ideal) ℓ) (g' : Dev Cert.GinaRefIdeal.nD → PrngReg), Pre_GinaIdeal m →
    (∀ c : Dev Cert.GinaIdeal.nD,
      m' ((c.tc : Thread Cert.GinaRefIdeal.nD Cert.GinaRefIdeal.τ).loc Cert.GinaRefIdeal.main_arg0) = m ((c.tc : Thread Cert.GinaIdeal.nD Cert.GinaIdeal.τ).loc Cert.GinaIdeal.main_arg0)
      ∧ m' ((c.tc : Thread Cert.GinaRefIdeal.nD Cert.GinaRefIdeal.τ).loc Cert.GinaRefIdeal.main_arg1) = m ((c.tc : Thread Cert.GinaIdeal.nD Cert.GinaIdeal.τ).loc Cert.GinaIdeal.main_arg1)) →
    ∃ (v0 : (c : Dev Cert.GinaIdeal.nD) → Buf (Elt Ideal) ((c.tc : Thread Cert.GinaIdeal.nD Cert.GinaIdeal.τ).loc Cert.GinaIdeal.main_v0)),
      θ_run (Cert.GinaIdeal.defs (F := Ideal)) (onTc (τ := Cert.GinaIdeal.τ) (Cert.GinaIdeal.main (F := Ideal))) ⟨m, fun _ => 0, g⟩ (fun r => ∀ c : Dev Cert.GinaIdeal.nD,
          (∀ i : (⟨2, ![2048, 12288]⟩ : Shape).Idx, (Cert.On_g_ina_written.fn (F := Ideal) (m ((c.tc : Thread Cert.GinaIdeal.nD Cert.GinaIdeal.τ).loc Cert.GinaIdeal.main_arg0)) (m ((c.tc : Thread Cert.GinaIdeal.nD Cert.GinaIdeal.τ).loc Cert.GinaIdeal.main_arg1))) i = 1#1 → r.2.mem ((c.tc : Thread Cert.GinaIdeal.nD Cert.GinaIdeal.τ).loc Cert.GinaIdeal.main_v0) i = v0 c i)
          ∧ r.2.mem ((c.tc : Thread Cert.GinaIdeal.nD Cert.GinaIdeal.τ).loc Cert.GinaIdeal.main_arg0) = m ((c.tc : Thread Cert.GinaIdeal.nD Cert.GinaIdeal.τ).loc Cert.GinaIdeal.main_arg0)
          ∧ r.2.mem ((c.tc : Thread Cert.GinaIdeal.nD Cert.GinaIdeal.τ).loc Cert.GinaIdeal.main_arg1) = m ((c.tc : Thread Cert.GinaIdeal.nD Cert.GinaIdeal.τ).loc Cert.GinaIdeal.main_arg1))
      ∧ θ_run (Cert.GinaRefIdeal.defs (F := Ideal)) (onTc (τ := Cert.GinaRefIdeal.τ) (Cert.GinaRefIdeal.main (F := Ideal))) ⟨m', fun _ => 0, g'⟩ (fun r => ∀ c : Dev Cert.GinaRefIdeal.nD,
          (∀ i : (⟨2, ![2048, 12288]⟩ : Shape).Idx, (Cert.On_g_ina_written.fn (F := Ideal) (m ((c.tc : Thread Cert.GinaIdeal.nD Cert.GinaIdeal.τ).loc Cert.GinaIdeal.main_arg0)) (m ((c.tc : Thread Cert.GinaIdeal.nD Cert.GinaIdeal.τ).loc Cert.GinaIdeal.main_arg1))) i = 1#1 → r.2.mem ((c.tc : Thread Cert.GinaRefIdeal.nD Cert.GinaRefIdeal.τ).loc Cert.GinaRefIdeal.main_v8) i = v0 c i)
          ∧ r.2.mem ((c.tc : Thread Cert.GinaRefIdeal.nD Cert.GinaRefIdeal.τ).loc Cert.GinaRefIdeal.main_arg0) = m' ((c.tc : Thread Cert.GinaRefIdeal.nD Cert.GinaRefIdeal.τ).loc Cert.GinaRefIdeal.main_arg0)
          ∧ r.2.mem ((c.tc : Thread Cert.GinaRefIdeal.nD Cert.GinaRefIdeal.τ).loc Cert.GinaRefIdeal.main_arg1) = m' ((c.tc : Thread Cert.GinaRefIdeal.nD Cert.GinaRefIdeal.τ).loc Cert.GinaRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v6) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2))

def preserves_Dhin_DhinIdeal : Prop :=
  True

def algebraic_DhinIdeal_DhinRefIdeal [hDhinIdeal : Cert.DhinIdeal.Facts] [hDhinRefIdeal : Cert.DhinRefIdeal.Facts] : Prop :=
  ∀ (m : (ℓ : Loc Cert.DhinIdeal.nD Cert.DhinIdeal.τ Cert.DhinIdeal.sig) → Buf (Elt Ideal) ℓ) (g : Dev Cert.DhinIdeal.nD → PrngReg)
    (m' : (ℓ : Loc Cert.DhinRefIdeal.nD Cert.DhinRefIdeal.τ Cert.DhinRefIdeal.sig) → Buf (Elt Ideal) ℓ) (g' : Dev Cert.DhinRefIdeal.nD → PrngReg), Pre_DhinIdeal m →
    (∀ c : Dev Cert.DhinIdeal.nD,
      m' ((c.tc : Thread Cert.DhinRefIdeal.nD Cert.DhinRefIdeal.τ).loc Cert.DhinRefIdeal.main_arg0) = m ((c.tc : Thread Cert.DhinIdeal.nD Cert.DhinIdeal.τ).loc Cert.DhinIdeal.main_arg0)
      ∧ m' ((c.tc : Thread Cert.DhinRefIdeal.nD Cert.DhinRefIdeal.τ).loc Cert.DhinRefIdeal.main_arg1) = m ((c.tc : Thread Cert.DhinIdeal.nD Cert.DhinIdeal.τ).loc Cert.DhinIdeal.main_arg1)
      ∧ m' ((c.tc : Thread Cert.DhinRefIdeal.nD Cert.DhinRefIdeal.τ).loc Cert.DhinRefIdeal.main_arg2) = m ((c.tc : Thread Cert.DhinIdeal.nD Cert.DhinIdeal.τ).loc Cert.DhinIdeal.main_arg2)) →
    ∃ (v0 : (c : Dev Cert.DhinIdeal.nD) → Buf (Elt Ideal) ((c.tc : Thread Cert.DhinIdeal.nD Cert.DhinIdeal.τ).loc Cert.DhinIdeal.main_v0)),
      θ_run (Cert.DhinIdeal.defs (F := Ideal)) (onTc (τ := Cert.DhinIdeal.τ) (Cert.DhinIdeal.main (F := Ideal))) ⟨m, fun _ => 0, g⟩ (fun r => ∀ c : Dev Cert.DhinIdeal.nD,
          r.2.mem ((c.tc : Thread Cert.DhinIdeal.nD Cert.DhinIdeal.τ).loc Cert.DhinIdeal.main_v0) = v0 c
          ∧ r.2.mem ((c.tc : Thread Cert.DhinIdeal.nD Cert.DhinIdeal.τ).loc Cert.DhinIdeal.main_arg0) = m ((c.tc : Thread Cert.DhinIdeal.nD Cert.DhinIdeal.τ).loc Cert.DhinIdeal.main_arg0)
          ∧ r.2.mem ((c.tc : Thread Cert.DhinIdeal.nD Cert.DhinIdeal.τ).loc Cert.DhinIdeal.main_arg1) = m ((c.tc : Thread Cert.DhinIdeal.nD Cert.DhinIdeal.τ).loc Cert.DhinIdeal.main_arg1)
          ∧ r.2.mem ((c.tc : Thread Cert.DhinIdeal.nD Cert.DhinIdeal.τ).loc Cert.DhinIdeal.main_arg2) = m ((c.tc : Thread Cert.DhinIdeal.nD Cert.DhinIdeal.τ).loc Cert.DhinIdeal.main_arg2))
      ∧ θ_run (Cert.DhinRefIdeal.defs (F := Ideal)) (onTc (τ := Cert.DhinRefIdeal.τ) (Cert.DhinRefIdeal.main (F := Ideal))) ⟨m', fun _ => 0, g'⟩ (fun r => ∀ c : Dev Cert.DhinRefIdeal.nD,
          r.2.mem ((c.tc : Thread Cert.DhinRefIdeal.nD Cert.DhinRefIdeal.τ).loc Cert.DhinRefIdeal.main_v6) = v0 c
          ∧ r.2.mem ((c.tc : Thread Cert.DhinRefIdeal.nD Cert.DhinRefIdeal.τ).loc Cert.DhinRefIdeal.main_arg0) = m' ((c.tc : Thread Cert.DhinRefIdeal.nD Cert.DhinRefIdeal.τ).loc Cert.DhinRefIdeal.main_arg0)
          ∧ r.2.mem ((c.tc : Thread Cert.DhinRefIdeal.nD Cert.DhinRefIdeal.τ).loc Cert.DhinRefIdeal.main_arg1) = m' ((c.tc : Thread Cert.DhinRefIdeal.nD Cert.DhinRefIdeal.τ).loc Cert.DhinRefIdeal.main_arg1)
          ∧ r.2.mem ((c.tc : Thread Cert.DhinRefIdeal.nD Cert.DhinRefIdeal.τ).loc Cert.DhinRefIdeal.main_arg2) = m' ((c.tc : Thread Cert.DhinRefIdeal.nD Cert.DhinRefIdeal.τ).loc Cert.DhinRefIdeal.main_arg2))

def preserves_Dhina_DhinaIdeal : Prop :=
  True

def algebraic_DhinaIdeal_DhinaRefIdeal [hDhinaIdeal : Cert.DhinaIdeal.Facts] [hDhinaRefIdeal : Cert.DhinaRefIdeal.Facts] : Prop :=
  ∀ (m : (ℓ : Loc Cert.DhinaIdeal.nD Cert.DhinaIdeal.τ Cert.DhinaIdeal.sig) → Buf (Elt Ideal) ℓ) (g : Dev Cert.DhinaIdeal.nD → PrngReg)
    (m' : (ℓ : Loc Cert.DhinaRefIdeal.nD Cert.DhinaRefIdeal.τ Cert.DhinaRefIdeal.sig) → Buf (Elt Ideal) ℓ) (g' : Dev Cert.DhinaRefIdeal.nD → PrngReg), Pre_DhinaIdeal m →
    (∀ c : Dev Cert.DhinaIdeal.nD,
      m' ((c.tc : Thread Cert.DhinaRefIdeal.nD Cert.DhinaRefIdeal.τ).loc Cert.DhinaRefIdeal.main_arg0) = m ((c.tc : Thread Cert.DhinaIdeal.nD Cert.DhinaIdeal.τ).loc Cert.DhinaIdeal.main_arg0)
      ∧ m' ((c.tc : Thread Cert.DhinaRefIdeal.nD Cert.DhinaRefIdeal.τ).loc Cert.DhinaRefIdeal.main_arg1) = m ((c.tc : Thread Cert.DhinaIdeal.nD Cert.DhinaIdeal.τ).loc Cert.DhinaIdeal.main_arg1)) →
    ∃ (v0 : (c : Dev Cert.DhinaIdeal.nD) → Buf (Elt Ideal) ((c.tc : Thread Cert.DhinaIdeal.nD Cert.DhinaIdeal.τ).loc Cert.DhinaIdeal.main_v0)),
      θ_run (Cert.DhinaIdeal.defs (F := Ideal)) (onTc (τ := Cert.DhinaIdeal.τ) (Cert.DhinaIdeal.main (F := Ideal))) ⟨m, fun _ => 0, g⟩ (fun r => ∀ c : Dev Cert.DhinaIdeal.nD,
          r.2.mem ((c.tc : Thread Cert.DhinaIdeal.nD Cert.DhinaIdeal.τ).loc Cert.DhinaIdeal.main_v0) = v0 c
          ∧ r.2.mem ((c.tc : Thread Cert.DhinaIdeal.nD Cert.DhinaIdeal.τ).loc Cert.DhinaIdeal.main_arg0) = m ((c.tc : Thread Cert.DhinaIdeal.nD Cert.DhinaIdeal.τ).loc Cert.DhinaIdeal.main_arg0)
          ∧ r.2.mem ((c.tc : Thread Cert.DhinaIdeal.nD Cert.DhinaIdeal.τ).loc Cert.DhinaIdeal.main_arg1) = m ((c.tc : Thread Cert.DhinaIdeal.nD Cert.DhinaIdeal.τ).loc Cert.DhinaIdeal.main_arg1))
      ∧ θ_run (Cert.DhinaRefIdeal.defs (F := Ideal)) (onTc (τ := Cert.DhinaRefIdeal.τ) (Cert.DhinaRefIdeal.main (F := Ideal))) ⟨m', fun _ => 0, g'⟩ (fun r => ∀ c : Dev Cert.DhinaRefIdeal.nD,
          r.2.mem ((c.tc : Thread Cert.DhinaRefIdeal.nD Cert.DhinaRefIdeal.τ).loc Cert.DhinaRefIdeal.main_v5) = v0 c
          ∧ r.2.mem ((c.tc : Thread Cert.DhinaRefIdeal.nD Cert.DhinaRefIdeal.τ).loc Cert.DhinaRefIdeal.main_arg0) = m' ((c.tc : Thread Cert.DhinaRefIdeal.nD Cert.DhinaRefIdeal.τ).loc Cert.DhinaRefIdeal.main_arg0)
          ∧ r.2.mem ((c.tc : Thread Cert.DhinaRefIdeal.nD Cert.DhinaRefIdeal.τ).loc Cert.DhinaRefIdeal.main_arg1) = m' ((c.tc : Thread Cert.DhinaRefIdeal.nD Cert.DhinaRefIdeal.τ).loc Cert.DhinaRefIdeal.main_arg1))

def preserves_Dhinb_DhinbIdeal : Prop :=
  True

def algebraic_DhinbIdeal_DhinbRefIdeal [hDhinbIdeal : Cert.DhinbIdeal.Facts] [hDhinbRefIdeal : Cert.DhinbRefIdeal.Facts] : Prop :=
  ∀ (m : (ℓ : Loc Cert.DhinbIdeal.nD Cert.DhinbIdeal.τ Cert.DhinbIdeal.sig) → Buf (Elt Ideal) ℓ) (g : Dev Cert.DhinbIdeal.nD → PrngReg)
    (m' : (ℓ : Loc Cert.DhinbRefIdeal.nD Cert.DhinbRefIdeal.τ Cert.DhinbRefIdeal.sig) → Buf (Elt Ideal) ℓ) (g' : Dev Cert.DhinbRefIdeal.nD → PrngReg), Pre_DhinbIdeal m →
    (∀ c : Dev Cert.DhinbIdeal.nD,
      m' ((c.tc : Thread Cert.DhinbRefIdeal.nD Cert.DhinbRefIdeal.τ).loc Cert.DhinbRefIdeal.main_arg0) = m ((c.tc : Thread Cert.DhinbIdeal.nD Cert.DhinbIdeal.τ).loc Cert.DhinbIdeal.main_arg0)
      ∧ m' ((c.tc : Thread Cert.DhinbRefIdeal.nD Cert.DhinbRefIdeal.τ).loc Cert.DhinbRefIdeal.main_arg1) = m ((c.tc : Thread Cert.DhinbIdeal.nD Cert.DhinbIdeal.τ).loc Cert.DhinbIdeal.main_arg1)
      ∧ m' ((c.tc : Thread Cert.DhinbRefIdeal.nD Cert.DhinbRefIdeal.τ).loc Cert.DhinbRefIdeal.main_arg2) = m ((c.tc : Thread Cert.DhinbIdeal.nD Cert.DhinbIdeal.τ).loc Cert.DhinbIdeal.main_arg2)) →
    ∃ (v0 : (c : Dev Cert.DhinbIdeal.nD) → Buf (Elt Ideal) ((c.tc : Thread Cert.DhinbIdeal.nD Cert.DhinbIdeal.τ).loc Cert.DhinbIdeal.main_v0)),
      θ_run (Cert.DhinbIdeal.defs (F := Ideal)) (onTc (τ := Cert.DhinbIdeal.τ) (Cert.DhinbIdeal.main (F := Ideal))) ⟨m, fun _ => 0, g⟩ (fun r => ∀ c : Dev Cert.DhinbIdeal.nD,
          r.2.mem ((c.tc : Thread Cert.DhinbIdeal.nD Cert.DhinbIdeal.τ).loc Cert.DhinbIdeal.main_v0) = v0 c
          ∧ r.2.mem ((c.tc : Thread Cert.DhinbIdeal.nD Cert.DhinbIdeal.τ).loc Cert.DhinbIdeal.main_arg0) = m ((c.tc : Thread Cert.DhinbIdeal.nD Cert.DhinbIdeal.τ).loc Cert.DhinbIdeal.main_arg0)
          ∧ r.2.mem ((c.tc : Thread Cert.DhinbIdeal.nD Cert.DhinbIdeal.τ).loc Cert.DhinbIdeal.main_arg1) = m ((c.tc : Thread Cert.DhinbIdeal.nD Cert.DhinbIdeal.τ).loc Cert.DhinbIdeal.main_arg1)
          ∧ r.2.mem ((c.tc : Thread Cert.DhinbIdeal.nD Cert.DhinbIdeal.τ).loc Cert.DhinbIdeal.main_arg2) = m ((c.tc : Thread Cert.DhinbIdeal.nD Cert.DhinbIdeal.τ).loc Cert.DhinbIdeal.main_arg2))
      ∧ θ_run (Cert.DhinbRefIdeal.defs (F := Ideal)) (onTc (τ := Cert.DhinbRefIdeal.τ) (Cert.DhinbRefIdeal.main (F := Ideal))) ⟨m', fun _ => 0, g'⟩ (fun r => ∀ c : Dev Cert.DhinbRefIdeal.nD,
          r.2.mem ((c.tc : Thread Cert.DhinbRefIdeal.nD Cert.DhinbRefIdeal.τ).loc Cert.DhinbRefIdeal.main_v7) = v0 c
          ∧ r.2.mem ((c.tc : Thread Cert.DhinbRefIdeal.nD Cert.DhinbRefIdeal.τ).loc Cert.DhinbRefIdeal.main_arg0) = m' ((c.tc : Thread Cert.DhinbRefIdeal.nD Cert.DhinbRefIdeal.τ).loc Cert.DhinbRefIdeal.main_arg0)
          ∧ r.2.mem ((c.tc : Thread Cert.DhinbRefIdeal.nD Cert.DhinbRefIdeal.τ).loc Cert.DhinbRefIdeal.main_arg1) = m' ((c.tc : Thread Cert.DhinbRefIdeal.nD Cert.DhinbRefIdeal.τ).loc Cert.DhinbRefIdeal.main_arg1)
          ∧ r.2.mem ((c.tc : Thread Cert.DhinbRefIdeal.nD Cert.DhinbRefIdeal.τ).loc Cert.DhinbRefIdeal.main_arg2) = m' ((c.tc : Thread Cert.DhinbRefIdeal.nD Cert.DhinbRefIdeal.τ).loc Cert.DhinbRefIdeal.main_arg2))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)
      ∧ m' ((c.tc : Thread Cert.RmsRefIdeal.nD Cert.RmsRefIdeal.τ).loc Cert.RmsRefIdeal.main_arg2) = m ((c.tc : Thread Cert.RmsIdeal.nD Cert.RmsIdeal.τ).loc Cert.RmsIdeal.main_arg2)
      ∧ m' ((c.tc : Thread Cert.RmsRefIdeal.nD Cert.RmsRefIdeal.τ).loc Cert.RmsRefIdeal.main_arg3) = m ((c.tc : Thread Cert.RmsIdeal.nD Cert.RmsIdeal.τ).loc Cert.RmsIdeal.main_arg3)) →
    ∃ (v0 : (c : Dev Cert.RmsIdeal.nD) → Buf (Elt Ideal) ((c.tc : Thread Cert.RmsIdeal.nD Cert.RmsIdeal.τ).loc Cert.RmsIdeal.main_v0_0)) (v1 : (c : Dev Cert.RmsIdeal.nD) → Buf (Elt Ideal) ((c.tc : Thread Cert.RmsIdeal.nD Cert.RmsIdeal.τ).loc Cert.RmsIdeal.main_v0_1)) (v2 : (c : Dev Cert.RmsIdeal.nD) → Buf (Elt Ideal) ((c.tc : Thread Cert.RmsIdeal.nD Cert.RmsIdeal.τ).loc Cert.RmsIdeal.main_v0_2)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v0_0) = v0 c
          ∧ r.2.mem ((c.tc : Thread Cert.RmsIdeal.nD Cert.RmsIdeal.τ).loc Cert.RmsIdeal.main_v0_1) = v1 c
          ∧ r.2.mem ((c.tc : Thread Cert.RmsIdeal.nD Cert.RmsIdeal.τ).loc Cert.RmsIdeal.main_v0_2) = v2 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
          ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v38) = v0 c
          ∧ r.2.mem ((c.tc : Thread Cert.RmsRefIdeal.nD Cert.RmsRefIdeal.τ).loc Cert.RmsRefIdeal.main_v39) = v1 c
          ∧ r.2.mem ((c.tc : Thread Cert.RmsRefIdeal.nD Cert.RmsRefIdeal.τ).loc Cert.RmsRefIdeal.main_v40) = v2 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3))

def preserves_Adams_AdamsIdeal : Prop :=
  True

def algebraic_AdamsIdeal_AdamsRefIdeal [hAdamsIdeal : Cert.AdamsIdeal.Facts] [hAdamsRefIdeal : Cert.AdamsRefIdeal.Facts] : Prop :=
  ∀ (m : (ℓ : Loc Cert.AdamsIdeal.nD Cert.AdamsIdeal.τ Cert.AdamsIdeal.sig) → Buf (Elt Ideal) ℓ) (g : Dev Cert.AdamsIdeal.nD → PrngReg)
    (m' : (ℓ : Loc Cert.AdamsRefIdeal.nD Cert.AdamsRefIdeal.τ Cert.AdamsRefIdeal.sig) → Buf (Elt Ideal) ℓ) (g' : Dev Cert.AdamsRefIdeal.nD → PrngReg), Pre_AdamsIdeal m →
    (∀ c : Dev Cert.AdamsIdeal.nD,
      m' ((c.tc : Thread Cert.AdamsRefIdeal.nD Cert.AdamsRefIdeal.τ).loc Cert.AdamsRefIdeal.main_arg0) = m ((c.tc : Thread Cert.AdamsIdeal.nD Cert.AdamsIdeal.τ).loc Cert.AdamsIdeal.main_arg0)
      ∧ m' ((c.tc : Thread Cert.AdamsRefIdeal.nD Cert.AdamsRefIdeal.τ).loc Cert.AdamsRefIdeal.main_arg1) = m ((c.tc : Thread Cert.AdamsIdeal.nD Cert.AdamsIdeal.τ).loc Cert.AdamsIdeal.main_arg1)
      ∧ m' ((c.tc : Thread Cert.AdamsRefIdeal.nD Cert.AdamsRefIdeal.τ).loc Cert.AdamsRefIdeal.main_arg2) = m ((c.tc : Thread Cert.AdamsIdeal.nD Cert.AdamsIdeal.τ).loc Cert.AdamsIdeal.main_arg2)
      ∧ m' ((c.tc : Thread Cert.AdamsRefIdeal.nD Cert.AdamsRefIdeal.τ).loc Cert.AdamsRefIdeal.main_arg3) = m ((c.tc : Thread Cert.AdamsIdeal.nD Cert.AdamsIdeal.τ).loc Cert.AdamsIdeal.main_arg3)
      ∧ m' ((c.tc : Thread Cert.AdamsRefIdeal.nD Cert.AdamsRefIdeal.τ).loc Cert.AdamsRefIdeal.main_arg4) = m ((c.tc : Thread Cert.AdamsIdeal.nD Cert.AdamsIdeal.τ).loc Cert.AdamsIdeal.main_arg4)
      ∧ m' ((c.tc : Thread Cert.AdamsRefIdeal.nD Cert.AdamsRefIdeal.τ).loc Cert.AdamsRefIdeal.main_arg5) = m ((c.tc : Thread Cert.AdamsIdeal.nD Cert.AdamsIdeal.τ).loc Cert.AdamsIdeal.main_arg5)
      ∧ m' ((c.tc : Thread Cert.AdamsRefIdeal.nD Cert.AdamsRefIdeal.τ).loc Cert.AdamsRefIdeal.main_arg6) = m ((c.tc : Thread Cert.AdamsIdeal.nD Cert.AdamsIdeal.τ).loc Cert.AdamsIdeal.main_arg6)
      ∧ m' ((c.tc : Thread Cert.AdamsRefIdeal.nD Cert.AdamsRefIdeal.τ).loc Cert.AdamsRefIdeal.main_arg7) = m ((c.tc : Thread Cert.AdamsIdeal.nD Cert.AdamsIdeal.τ).loc Cert.AdamsIdeal.main_arg7)
      ∧ m' ((c.tc : Thread Cert.AdamsRefIdeal.nD Cert.AdamsRefIdeal.τ).loc Cert.AdamsRefIdeal.main_arg8) = m ((c.tc : Thread Cert.AdamsIdeal.nD Cert.AdamsIdeal.τ).loc Cert.AdamsIdeal.main_arg8)
      ∧ m' ((c.tc : Thread Cert.AdamsRefIdeal.nD Cert.AdamsRefIdeal.τ).loc Cert.AdamsRefIdeal.main_arg9) = m ((c.tc : Thread Cert.AdamsIdeal.nD Cert.AdamsIdeal.τ).loc Cert.AdamsIdeal.main_arg9)
      ∧ m' ((c.tc : Thread Cert.AdamsRefIdeal.nD Cert.AdamsRefIdeal.τ).loc Cert.AdamsRefIdeal.main_arg10) = m ((c.tc : Thread Cert.AdamsIdeal.nD Cert.AdamsIdeal.τ).loc Cert.AdamsIdeal.main_arg10)
      ∧ m' ((c.tc : Thread Cert.AdamsRefIdeal.nD Cert.AdamsRefIdeal.τ).loc Cert.AdamsRefIdeal.main_arg11) = m ((c.tc : Thread Cert.AdamsIdeal.nD Cert.AdamsIdeal.τ).loc Cert.AdamsIdeal.main_arg11)
      ∧ m' ((c.tc : Thread Cert.AdamsRefIdeal.nD Cert.AdamsRefIdeal.τ).loc Cert.AdamsRefIdeal.main_arg12) = m ((c.tc : Thread Cert.AdamsIdeal.nD Cert.AdamsIdeal.τ).loc Cert.AdamsIdeal.main_arg12)
      ∧ m' ((c.tc : Thread Cert.AdamsRefIdeal.nD Cert.AdamsRefIdeal.τ).loc Cert.AdamsRefIdeal.main_arg13) = m ((c.tc : Thread Cert.AdamsIdeal.nD Cert.AdamsIdeal.τ).loc Cert.AdamsIdeal.main_arg13)
      ∧ m' ((c.tc : Thread Cert.AdamsRefIdeal.nD Cert.AdamsRefIdeal.τ).loc Cert.AdamsRefIdeal.main_arg14) = m ((c.tc : Thread Cert.AdamsIdeal.nD Cert.AdamsIdeal.τ).loc Cert.AdamsIdeal.main_arg14)
      ∧ m' ((c.tc : Thread Cert.AdamsRefIdeal.nD Cert.AdamsRefIdeal.τ).loc Cert.AdamsRefIdeal.main_arg15) = m ((c.tc : Thread Cert.AdamsIdeal.nD Cert.AdamsIdeal.τ).loc Cert.AdamsIdeal.main_arg15)
      ∧ m' ((c.tc : Thread Cert.AdamsRefIdeal.nD Cert.AdamsRefIdeal.τ).loc Cert.AdamsRefIdeal.main_arg16) = m ((c.tc : Thread Cert.AdamsIdeal.nD Cert.AdamsIdeal.τ).loc Cert.AdamsIdeal.main_arg16)
      ∧ m' ((c.tc : Thread Cert.AdamsRefIdeal.nD Cert.AdamsRefIdeal.τ).loc Cert.AdamsRefIdeal.main_arg17) = m ((c.tc : Thread Cert.AdamsIdeal.nD Cert.AdamsIdeal.τ).loc Cert.AdamsIdeal.main_arg17)
      ∧ m' ((c.tc : Thread Cert.AdamsRefIdeal.nD Cert.AdamsRefIdeal.τ).loc Cert.AdamsRefIdeal.main_arg18) = m ((c.tc : Thread Cert.AdamsIdeal.nD Cert.AdamsIdeal.τ).loc Cert.AdamsIdeal.main_arg18)
      ∧ m' ((c.tc : Thread Cert.AdamsRefIdeal.nD Cert.AdamsRefIdeal.τ).loc Cert.AdamsRefIdeal.main_arg19) = m ((c.tc : Thread Cert.AdamsIdeal.nD Cert.AdamsIdeal.τ).loc Cert.AdamsIdeal.main_arg19)
      ∧ m' ((c.tc : Thread Cert.AdamsRefIdeal.nD Cert.AdamsRefIdeal.τ).loc Cert.AdamsRefIdeal.main_arg20) = m ((c.tc : Thread Cert.AdamsIdeal.nD Cert.AdamsIdeal.τ).loc Cert.AdamsIdeal.main_arg20)
      ∧ m' ((c.tc : Thread Cert.AdamsRefIdeal.nD Cert.AdamsRefIdeal.τ).loc Cert.AdamsRefIdeal.main_arg21) = m ((c.tc : Thread Cert.AdamsIdeal.nD Cert.AdamsIdeal.τ).loc Cert.AdamsIdeal.main_arg21)
      ∧ m' ((c.tc : Thread Cert.AdamsRefIdeal.nD Cert.AdamsRefIdeal.τ).loc Cert.AdamsRefIdeal.main_arg22) = m ((c.tc : Thread Cert.AdamsIdeal.nD Cert.AdamsIdeal.τ).loc Cert.AdamsIdeal.main_arg22)
      ∧ m' ((c.tc : Thread Cert.AdamsRefIdeal.nD Cert.AdamsRefIdeal.τ).loc Cert.AdamsRefIdeal.main_arg23) = m ((c.tc : Thread Cert.AdamsIdeal.nD Cert.AdamsIdeal.τ).loc Cert.AdamsIdeal.main_arg23)
      ∧ m' ((c.tc : Thread Cert.AdamsRefIdeal.nD Cert.AdamsRefIdeal.τ).loc Cert.AdamsRefIdeal.main_arg24) = m ((c.tc : Thread Cert.AdamsIdeal.nD Cert.AdamsIdeal.τ).loc Cert.AdamsIdeal.main_arg24)
      ∧ m' ((c.tc : Thread Cert.AdamsRefIdeal.nD Cert.AdamsRefIdeal.τ).loc Cert.AdamsRefIdeal.main_arg25) = m ((c.tc : Thread Cert.AdamsIdeal.nD Cert.AdamsIdeal.τ).loc Cert.AdamsIdeal.main_arg25)
      ∧ m' ((c.tc : Thread Cert.AdamsRefIdeal.nD Cert.AdamsRefIdeal.τ).loc Cert.AdamsRefIdeal.main_arg26) = m ((c.tc : Thread Cert.AdamsIdeal.nD Cert.AdamsIdeal.τ).loc Cert.AdamsIdeal.main_arg26)
      ∧ m' ((c.tc : Thread Cert.AdamsRefIdeal.nD Cert.AdamsRefIdeal.τ).loc Cert.AdamsRefIdeal.main_arg27) = m ((c.tc : Thread Cert.AdamsIdeal.nD Cert.AdamsIdeal.τ).loc Cert.AdamsIdeal.main_arg27)
      ∧ m' ((c.tc : Thread Cert.AdamsRefIdeal.nD Cert.AdamsRefIdeal.τ).loc Cert.AdamsRefIdeal.main_arg28) = m ((c.tc : Thread Cert.AdamsIdeal.nD Cert.AdamsIdeal.τ).loc Cert.AdamsIdeal.main_arg28)
      ∧ m' ((c.tc : Thread Cert.AdamsRefIdeal.nD Cert.AdamsRefIdeal.τ).loc Cert.AdamsRefIdeal.main_arg29) = m ((c.tc : Thread Cert.AdamsIdeal.nD Cert.AdamsIdeal.τ).loc Cert.AdamsIdeal.main_arg29)
      ∧ m' ((c.tc : Thread Cert.AdamsRefIdeal.nD Cert.AdamsRefIdeal.τ).loc Cert.AdamsRefIdeal.main_arg30) = m ((c.tc : Thread Cert.AdamsIdeal.nD Cert.AdamsIdeal.τ).loc Cert.AdamsIdeal.main_arg30)
      ∧ m' ((c.tc : Thread Cert.AdamsRefIdeal.nD Cert.AdamsRefIdeal.τ).loc Cert.AdamsRefIdeal.main_arg31) = m ((c.tc : Thread Cert.AdamsIdeal.nD Cert.AdamsIdeal.τ).loc Cert.AdamsIdeal.main_arg31)
      ∧ m' ((c.tc : Thread Cert.AdamsRefIdeal.nD Cert.AdamsRefIdeal.τ).loc Cert.AdamsRefIdeal.main_arg32) = m ((c.tc : Thread Cert.AdamsIdeal.nD Cert.AdamsIdeal.τ).loc Cert.AdamsIdeal.main_arg32)
      ∧ m' ((c.tc : Thread Cert.AdamsRefIdeal.nD Cert.AdamsRefIdeal.τ).loc Cert.AdamsRefIdeal.main_arg33) = m ((c.tc : Thread Cert.AdamsIdeal.nD Cert.AdamsIdeal.τ).loc Cert.AdamsIdeal.main_arg33)
      ∧ m' ((c.tc : Thread Cert.AdamsRefIdeal.nD Cert.AdamsRefIdeal.τ).loc Cert.AdamsRefIdeal.main_arg34) = m ((c.tc : Thread Cert.AdamsIdeal.nD Cert.AdamsIdeal.τ).loc Cert.AdamsIdeal.main_arg34)
      ∧ m' ((c.tc : Thread Cert.AdamsRefIdeal.nD Cert.AdamsRefIdeal.τ).loc Cert.AdamsRefIdeal.main_arg35) = m ((c.tc : Thread Cert.AdamsIdeal.nD Cert.AdamsIdeal.τ).loc Cert.AdamsIdeal.main_arg35)) →
    ∃ (v0 : (c : Dev Cert.AdamsIdeal.nD) → Buf (Elt Ideal) ((c.tc : Thread Cert.AdamsIdeal.nD Cert.AdamsIdeal.τ).loc Cert.AdamsIdeal.main_v83)) (v1 : (c : Dev Cert.AdamsIdeal.nD) → Buf (Elt Ideal) ((c.tc : Thread Cert.AdamsIdeal.nD Cert.AdamsIdeal.τ).loc Cert.AdamsIdeal.main_v86)) (v2 : (c : Dev Cert.AdamsIdeal.nD) → Buf (Elt Ideal) ((c.tc : Thread Cert.AdamsIdeal.nD Cert.AdamsIdeal.τ).loc Cert.AdamsIdeal.main_v89)) (v3 : (c : Dev Cert.AdamsIdeal.nD) → Buf (Elt Ideal) ((c.tc : Thread Cert.AdamsIdeal.nD Cert.AdamsIdeal.τ).loc Cert.AdamsIdeal.main_v92)) (v4 : (c : Dev Cert.AdamsIdeal.nD) → Buf (Elt Ideal) ((c.tc : Thread Cert.AdamsIdeal.nD Cert.AdamsIdeal.τ).loc Cert.AdamsIdeal.main_v95)) (v5 : (c : Dev Cert.AdamsIdeal.nD) → Buf (Elt Ideal) ((c.tc : Thread Cert.AdamsIdeal.nD Cert.AdamsIdeal.τ).loc Cert.AdamsIdeal.main_v99)) (v6 : (c : Dev Cert.AdamsIdeal.nD) → Buf (Elt Ideal) ((c.tc : Thread Cert.AdamsIdeal.nD Cert.AdamsIdeal.τ).loc Cert.AdamsIdeal.main_v102)) (v7 : (c : Dev Cert.AdamsIdeal.nD) → Buf (Elt Ideal) ((c.tc : Thread Cert.AdamsIdeal.nD Cert.AdamsIdeal.τ).loc Cert.AdamsIdeal.main_v106)) (v8 : (c : Dev Cert.AdamsIdeal.nD) → Buf (Elt Ideal) ((c.tc : Thread Cert.AdamsIdeal.nD Cert.AdamsIdeal.τ).loc Cert.AdamsIdeal.main_v108)) (v9 : (c : Dev Cert.AdamsIdeal.nD) → Buf (Elt Ideal) ((c.tc : Thread Cert.AdamsIdeal.nD Cert.AdamsIdeal.τ).loc Cert.AdamsIdeal.main_v111)) (v10 : (c : Dev Cert.AdamsIdeal.nD) → Buf (Elt Ideal) ((c.tc : Thread Cert.AdamsIdeal.nD Cert.AdamsIdeal.τ).loc Cert.AdamsIdeal.main_v114)) (v11 : (c : Dev Cert.AdamsIdeal.nD) → Buf (Elt Ideal) ((c.tc : Thread Cert.AdamsIdeal.nD Cert.AdamsIdeal.τ).loc Cert.AdamsIdeal.main_v117)) (v12 : (c : Dev Cert.AdamsIdeal.nD) → Buf (Elt Ideal) ((c.tc : Thread Cert.AdamsIdeal.nD Cert.AdamsIdeal.τ).loc Cert.AdamsIdeal.main_v120)) (v13 : (c : Dev Cert.AdamsIdeal.nD) → Buf (Elt Ideal) ((c.tc : Thread Cert.AdamsIdeal.nD Cert.AdamsIdeal.τ).loc Cert.AdamsIdeal.main_v123)) (v14 : (c : Dev Cert.AdamsIdeal.nD) → Buf (Elt Ideal) ((c.tc : Thread Cert.AdamsIdeal.nD Cert.AdamsIdeal.τ).loc Cert.AdamsIdeal.main_v127)) (v15 : (c : Dev Cert.AdamsIdeal.nD) → Buf (Elt Ideal) ((c.tc : Thread Cert.AdamsIdeal.nD Cert.AdamsIdeal.τ).loc Cert.AdamsIdeal.main_v130)) (v16 : (c : Dev Cert.AdamsIdeal.nD) → Buf (Elt Ideal) ((c.tc : Thread Cert.AdamsIdeal.nD Cert.AdamsIdeal.τ).loc Cert.AdamsIdeal.main_v134)) (v17 : (c : Dev Cert.AdamsIdeal.nD) → Buf (Elt Ideal) ((c.tc : Thread Cert.AdamsIdeal.nD Cert.AdamsIdeal.τ).loc Cert.AdamsIdeal.main_v136)) (v18 : (c : Dev Cert.AdamsIdeal.nD) → Buf (Elt Ideal) ((c.tc : Thread Cert.AdamsIdeal.nD Cert.AdamsIdeal.τ).loc Cert.AdamsIdeal.main_v139)) (v19 : (c : Dev Cert.AdamsIdeal.nD) → Buf (Elt Ideal) ((c.tc : Thread Cert.AdamsIdeal.nD Cert.AdamsIdeal.τ).loc Cert.AdamsIdeal.main_v142)) (v20 : (c : Dev Cert.AdamsIdeal.nD) → Buf (Elt Ideal) ((c.tc : Thread Cert.AdamsIdeal.nD Cert.AdamsIdeal.τ).loc Cert.AdamsIdeal.main_v145)) (v21 : (c : Dev Cert.AdamsIdeal.nD) → Buf (Elt Ideal) ((c.tc : Thread Cert.AdamsIdeal.nD Cert.AdamsIdeal.τ).loc Cert.AdamsIdeal.main_v148)) (v22 : (c : Dev Cert.AdamsIdeal.nD) → Buf (Elt Ideal) ((c.tc : Thread Cert.AdamsIdeal.nD Cert.AdamsIdeal.τ).loc Cert.AdamsIdeal.main_v151)) (v23 : (c : Dev Cert.AdamsIdeal.nD) → Buf (Elt Ideal) ((c.tc : Thread Cert.AdamsIdeal.nD Cert.AdamsIdeal.τ).loc Cert.AdamsIdeal.main_v155)) (v24 : (c : Dev Cert.AdamsIdeal.nD) → Buf (Elt Ideal) ((c.tc : Thread Cert.AdamsIdeal.nD Cert.AdamsIdeal.τ).loc Cert.AdamsIdeal.main_v158)) (v25 : (c : Dev Cert.AdamsIdeal.nD) → Buf (Elt Ideal) ((c.tc : Thread Cert.AdamsIdeal.nD Cert.AdamsIdeal.τ).loc Cert.AdamsIdeal.main_v162)) (v26 : (c : Dev Cert.AdamsIdeal.nD) → Buf (Elt Ideal) ((c.tc : Thread Cert.AdamsIdeal.nD Cert.AdamsIdeal.τ).loc Cert.AdamsIdeal.main_v164)),
      θ_run (Cert.AdamsIdeal.defs (F := Ideal)) (onTc (τ := Cert.AdamsIdeal.τ) (Cert.AdamsIdeal.main (F := Ideal))) ⟨m, fun _ => 0, g⟩ (fun r => ∀ c : Dev Cert.AdamsIdeal.nD,
          r.2.mem ((c.tc : Thread Cert.AdamsIdeal.nD Cert.AdamsIdeal.τ).loc Cert.AdamsIdeal.main_v83) = v0 c
          ∧ r.2.mem ((c.tc : Thread Cert.AdamsIdeal.nD Cert.AdamsIdeal.τ).loc Cert.AdamsIdeal.main_v86) = v1 c
          ∧ r.2.mem ((c.tc : Thread Cert.AdamsIdeal.nD Cert.AdamsIdeal.τ).loc Cert.AdamsIdeal.main_v89) = v2 c
          ∧ r.2.mem ((c.tc : Thread Cert.AdamsIdeal.nD Cert.AdamsIdeal.τ).loc Cert.AdamsIdeal.main_v92) = v3 c
          ∧ r.2.mem ((c.tc : Thread Cert.AdamsIdeal.nD Cert.AdamsIdeal.τ).loc Cert.AdamsIdeal.main_v95) = v4 c
          ∧ r.2.mem ((c.tc : Thread Cert.AdamsIdeal.nD Cert.AdamsIdeal.τ).loc Cert.AdamsIdeal.main_v99) = v5 c
          ∧ r.2.mem ((c.tc : Thread Cert.AdamsIdeal.nD Cert.AdamsIdeal.τ).loc Cert.AdamsIdeal.main_v102) = v6 c
          ∧ r.2.mem ((c.tc : Thread Cert.AdamsIdeal.nD Cert.AdamsIdeal.τ).loc Cert.AdamsIdeal.main_v106) = v7 c
          ∧ r.2.mem ((c.tc : Thread Cert.AdamsIdeal.nD Cert.AdamsIdeal.τ).loc Cert.AdamsIdeal.main_v108) = v8 c
          ∧ r.2.mem ((c.tc : Thread Cert.AdamsIdeal.nD Cert.AdamsIdeal.τ).loc Cert.AdamsIdeal.main_v111) = v9 c
          ∧ r.2.mem ((c.tc : Thread Cert.AdamsIdeal.nD Cert.AdamsIdeal.τ).loc Cert.AdamsIdeal.main_v114) = v10 c
          ∧ r.2.mem ((c.tc : Thread Cert.AdamsIdeal.nD Cert.AdamsIdeal.τ).loc Cert.AdamsIdeal.main_v117) = v11 c
          ∧ r.2.mem ((c.tc : Thread Cert.AdamsIdeal.nD Cert.AdamsIdeal.τ).loc Cert.AdamsIdeal.main_v120) = v12 c
          ∧ r.2.mem ((c.tc : Thread Cert.AdamsIdeal.nD Cert.AdamsIdeal.τ).loc Cert.AdamsIdeal.main_v123) = v13 c
          ∧ r.2.mem ((c.tc : Thread Cert.AdamsIdeal.nD Cert.AdamsIdeal.τ).loc Cert.AdamsIdeal.main_v127) = v14 c
          ∧ r.2.mem ((c.tc : Thread Cert.AdamsIdeal.nD Cert.AdamsIdeal.τ).loc Cert.AdamsIdeal.main_v130) = v15 c
          ∧ r.2.mem ((c.tc : Thread Cert.AdamsIdeal.nD Cert.AdamsIdeal.τ).loc Cert.AdamsIdeal.main_v134) = v16 c
          ∧ r.2.mem ((c.tc : Thread Cert.AdamsIdeal.nD Cert.AdamsIdeal.τ).loc Cert.AdamsIdeal.main_v136) = v17 c
          ∧ r.2.mem ((c.tc : Thread Cert.AdamsIdeal.nD Cert.AdamsIdeal.τ).loc Cert.AdamsIdeal.main_v139) = v18 c
          ∧ r.2.mem ((c.tc : Thread Cert.AdamsIdeal.nD Cert.AdamsIdeal.τ).loc Cert.AdamsIdeal.main_v142) = v19 c
          ∧ r.2.mem ((c.tc : Thread Cert.AdamsIdeal.nD Cert.AdamsIdeal.τ).loc Cert.AdamsIdeal.main_v145) = v20 c
          ∧ r.2.mem ((c.tc : Thread Cert.AdamsIdeal.nD Cert.AdamsIdeal.τ).loc Cert.AdamsIdeal.main_v148) = v21 c
          ∧ r.2.mem ((c.tc : Thread Cert.AdamsIdeal.nD Cert.AdamsIdeal.τ).loc Cert.AdamsIdeal.main_v151) = v22 c
          ∧ r.2.mem ((c.tc : Thread Cert.AdamsIdeal.nD Cert.AdamsIdeal.τ).loc Cert.AdamsIdeal.main_v155) = v23 c
          ∧ r.2.mem ((c.tc : Thread Cert.AdamsIdeal.nD Cert.AdamsIdeal.τ).loc Cert.AdamsIdeal.main_v158) = v24 c
          ∧ r.2.mem ((c.tc : Thread Cert.AdamsIdeal.nD Cert.AdamsIdeal.τ).loc Cert.AdamsIdeal.main_v162) = v25 c
          ∧ r.2.mem ((c.tc : Thread Cert.AdamsIdeal.nD Cert.AdamsIdeal.τ).loc Cert.AdamsIdeal.main_v164) = v26 c
          ∧ r.2.mem ((c.tc : Thread Cert.AdamsIdeal.nD Cert.AdamsIdeal.τ).loc Cert.AdamsIdeal.main_arg0) = m ((c.tc : Thread Cert.AdamsIdeal.nD Cert.AdamsIdeal.τ).loc Cert.AdamsIdeal.main_arg0)
          ∧ r.2.mem ((c.tc : Thread Cert.AdamsIdeal.nD Cert.AdamsIdeal.τ).loc Cert.AdamsIdeal.main_arg1) = m ((c.tc : Thread Cert.AdamsIdeal.nD Cert.AdamsIdeal.τ).loc Cert.AdamsIdeal.main_arg1)
          ∧ r.2.mem ((c.tc : Thread Cert.AdamsIdeal.nD Cert.AdamsIdeal.τ).loc Cert.AdamsIdeal.main_arg2) = m ((c.tc : Thread Cert.AdamsIdeal.nD Cert.AdamsIdeal.τ).loc Cert.AdamsIdeal.main_arg2)
          ∧ r.2.mem ((c.tc : Thread Cert.AdamsIdeal.nD Cert.AdamsIdeal.τ).loc Cert.AdamsIdeal.main_arg3) = m ((c.tc : Thread Cert.AdamsIdeal.nD Cert.AdamsIdeal.τ).loc Cert.AdamsIdeal.main_arg3)
          ∧ r.2.mem ((c.tc : Thread Cert.AdamsIdeal.nD Cert.AdamsIdeal.τ).loc Cert.AdamsIdeal.main_arg4) = m ((c.tc : Thread Cert.AdamsIdeal.nD Cert.AdamsIdeal.τ).loc Cert.AdamsIdeal.main_arg4)
          ∧ r.2.mem ((c.tc : Thread Cert.AdamsIdeal.nD Cert.AdamsIdeal.τ).loc Cert.AdamsIdeal.main_arg5) = m ((c.tc : Thread Cert.AdamsIdeal.nD Cert.AdamsIdeal.τ).loc Cert.AdamsIdeal.main_arg5)
          ∧ r.2.mem ((c.tc : Thread Cert.AdamsIdeal.nD Cert.AdamsIdeal.τ).loc Cert.AdamsIdeal.main_arg6) = m ((c.tc : Thread Cert.AdamsIdeal.nD Cert.AdamsIdeal.τ).loc Cert.AdamsIdeal.main_arg6)
          ∧ r.2.mem ((c.tc : Thread Cert.AdamsIdeal.nD Cert.AdamsIdeal.τ).loc Cert.AdamsIdeal.main_arg7) = m ((c.tc : Thread Cert.AdamsIdeal.nD Cert.AdamsIdeal.τ).loc Cert.AdamsIdeal.main_arg7)
          ∧ r.2.mem ((c.tc : Thread Cert.AdamsIdeal.nD Cert.AdamsIdeal.τ).loc Cert.AdamsIdeal.main_arg8) = m ((c.tc : Thread Cert.AdamsIdeal.nD Cert.AdamsIdeal.τ).loc Cert.AdamsIdeal.main_arg8)
          ∧ r.2.mem ((c.tc : Thread Cert.AdamsIdeal.nD Cert.AdamsIdeal.τ).loc Cert.AdamsIdeal.main_arg9) = m ((c.tc : Thread Cert.AdamsIdeal.nD Cert.AdamsIdeal.τ).loc Cert.AdamsIdeal.main_arg9)
          ∧ r.2.mem ((c.tc : Thread Cert.AdamsIdeal.nD Cert.AdamsIdeal.τ).loc Cert.AdamsIdeal.main_arg10) = m ((c.tc : Thread Cert.AdamsIdeal.nD Cert.AdamsIdeal.τ).loc Cert.AdamsIdeal.main_arg10)
          ∧ r.2.mem ((c.tc : Thread Cert.AdamsIdeal.nD Cert.AdamsIdeal.τ).loc Cert.AdamsIdeal.main_arg11) = m ((c.tc : Thread Cert.AdamsIdeal.nD Cert.AdamsIdeal.τ).loc Cert.AdamsIdeal.main_arg11)
          ∧ r.2.mem ((c.tc : Thread Cert.AdamsIdeal.nD Cert.AdamsIdeal.τ).loc Cert.AdamsIdeal.main_arg12) = m ((c.tc : Thread Cert.AdamsIdeal.nD Cert.AdamsIdeal.τ).loc Cert.AdamsIdeal.main_arg12)
          ∧ r.2.mem ((c.tc : Thread Cert.AdamsIdeal.nD Cert.AdamsIdeal.τ).loc Cert.AdamsIdeal.main_arg13) = m ((c.tc : Thread Cert.AdamsIdeal.nD Cert.AdamsIdeal.τ).loc Cert.AdamsIdeal.main_arg13)
          ∧ r.2.mem ((c.tc : Thread Cert.AdamsIdeal.nD Cert.AdamsIdeal.τ).loc Cert.AdamsIdeal.main_arg14) = m ((c.tc : Thread Cert.AdamsIdeal.nD Cert.AdamsIdeal.τ).loc Cert.AdamsIdeal.main_arg14)
          ∧ r.2.mem ((c.tc : Thread Cert.AdamsIdeal.nD Cert.AdamsIdeal.τ).loc Cert.AdamsIdeal.main_arg15) = m ((c.tc : Thread Cert.AdamsIdeal.nD Cert.AdamsIdeal.τ).loc Cert.AdamsIdeal.main_arg15)
          ∧ r.2.mem ((c.tc : Thread Cert.AdamsIdeal.nD Cert.AdamsIdeal.τ).loc Cert.AdamsIdeal.main_arg16) = m ((c.tc : Thread Cert.AdamsIdeal.nD Cert.AdamsIdeal.τ).loc Cert.AdamsIdeal.main_arg16)
          ∧ r.2.mem ((c.tc : Thread Cert.AdamsIdeal.nD Cert.AdamsIdeal.τ).loc Cert.AdamsIdeal.main_arg17) = m ((c.tc : Thread Cert.AdamsIdeal.nD Cert.AdamsIdeal.τ).loc Cert.AdamsIdeal.main_arg17)
          ∧ r.2.mem ((c.tc : Thread Cert.AdamsIdeal.nD Cert.AdamsIdeal.τ).loc Cert.AdamsIdeal.main_arg18) = m ((c.tc : Thread Cert.AdamsIdeal.nD Cert.AdamsIdeal.τ).loc Cert.AdamsIdeal.main_arg18)
          ∧ r.2.mem ((c.tc : Thread Cert.AdamsIdeal.nD Cert.AdamsIdeal.τ).loc Cert.AdamsIdeal.main_arg19) = m ((c.tc : Thread Cert.AdamsIdeal.nD Cert.AdamsIdeal.τ).loc Cert.AdamsIdeal.main_arg19)
          ∧ r.2.mem ((c.tc : Thread Cert.AdamsIdeal.nD Cert.AdamsIdeal.τ).loc Cert.AdamsIdeal.main_arg20) = m ((c.tc : Thread Cert.AdamsIdeal.nD Cert.AdamsIdeal.τ).loc Cert.AdamsIdeal.main_arg20)
          ∧ r.2.mem ((c.tc : Thread Cert.AdamsIdeal.nD Cert.AdamsIdeal.τ).loc Cert.AdamsIdeal.main_arg21) = m ((c.tc : Thread Cert.AdamsIdeal.nD Cert.AdamsIdeal.τ).loc Cert.AdamsIdeal.main_arg21)
          ∧ r.2.mem ((c.tc : Thread Cert.AdamsIdeal.nD Cert.AdamsIdeal.τ).loc Cert.AdamsIdeal.main_arg22) = m ((c.tc : Thread Cert.AdamsIdeal.nD Cert.AdamsIdeal.τ).loc Cert.AdamsIdeal.main_arg22)
          ∧ r.2.mem ((c.tc : Thread Cert.AdamsIdeal.nD Cert.AdamsIdeal.τ).loc Cert.AdamsIdeal.main_arg23) = m ((c.tc : Thread Cert.AdamsIdeal.nD Cert.AdamsIdeal.τ).loc Cert.AdamsIdeal.main_arg23)
          ∧ r.2.mem ((c.tc : Thread Cert.AdamsIdeal.nD Cert.AdamsIdeal.τ).loc Cert.AdamsIdeal.main_arg24) = m ((c.tc : Thread Cert.AdamsIdeal.nD Cert.AdamsIdeal.τ).loc Cert.AdamsIdeal.main_arg24)
          ∧ r.2.mem ((c.tc : Thread Cert.AdamsIdeal.nD Cert.AdamsIdeal.τ).loc Cert.AdamsIdeal.main_arg25) = m ((c.tc : Thread Cert.AdamsIdeal.nD Cert.AdamsIdeal.τ).loc Cert.AdamsIdeal.main_arg25)
          ∧ r.2.mem ((c.tc : Thread Cert.AdamsIdeal.nD Cert.AdamsIdeal.τ).loc Cert.AdamsIdeal.main_arg26) = m ((c.tc : Thread Cert.AdamsIdeal.nD Cert.AdamsIdeal.τ).loc Cert.AdamsIdeal.main_arg26)
          ∧ r.2.mem ((c.tc : Thread Cert.AdamsIdeal.nD Cert.AdamsIdeal.τ).loc Cert.AdamsIdeal.main_arg27) = m ((c.tc : Thread Cert.AdamsIdeal.nD Cert.AdamsIdeal.τ).loc Cert.AdamsIdeal.main_arg27)
          ∧ r.2.mem ((c.tc : Thread Cert.AdamsIdeal.nD Cert.AdamsIdeal.τ).loc Cert.AdamsIdeal.main_arg28) = m ((c.tc : Thread Cert.AdamsIdeal.nD Cert.AdamsIdeal.τ).loc Cert.AdamsIdeal.main_arg28)
          ∧ r.2.mem ((c.tc : Thread Cert.AdamsIdeal.nD Cert.AdamsIdeal.τ).loc Cert.AdamsIdeal.main_arg29) = m ((c.tc : Thread Cert.AdamsIdeal.nD Cert.AdamsIdeal.τ).loc Cert.AdamsIdeal.main_arg29)
          ∧ r.2.mem ((c.tc : Thread Cert.AdamsIdeal.nD Cert.AdamsIdeal.τ).loc Cert.AdamsIdeal.main_arg30) = m ((c.tc : Thread Cert.AdamsIdeal.nD Cert.AdamsIdeal.τ).loc Cert.AdamsIdeal.main_arg30)
          ∧ r.2.mem ((c.tc : Thread Cert.AdamsIdeal.nD Cert.AdamsIdeal.τ).loc Cert.AdamsIdeal.main_arg31) = m ((c.tc : Thread Cert.AdamsIdeal.nD Cert.AdamsIdeal.τ).loc Cert.AdamsIdeal.main_arg31)
          ∧ r.2.mem ((c.tc : Thread Cert.AdamsIdeal.nD Cert.AdamsIdeal.τ).loc Cert.AdamsIdeal.main_arg32) = m ((c.tc : Thread Cert.AdamsIdeal.nD Cert.AdamsIdeal.τ).loc Cert.AdamsIdeal.main_arg32)
          ∧ r.2.mem ((c.tc : Thread Cert.AdamsIdeal.nD Cert.AdamsIdeal.τ).loc Cert.AdamsIdeal.main_arg33) = m ((c.tc : Thread Cert.AdamsIdeal.nD Cert.AdamsIdeal.τ).loc Cert.AdamsIdeal.main_arg33)
          ∧ r.2.mem ((c.tc : Thread Cert.AdamsIdeal.nD Cert.AdamsIdeal.τ).loc Cert.AdamsIdeal.main_arg34) = m ((c.tc : Thread Cert.AdamsIdeal.nD Cert.AdamsIdeal.τ).loc Cert.AdamsIdeal.main_arg34)
          ∧ r.2.mem ((c.tc : Thread Cert.AdamsIdeal.nD Cert.AdamsIdeal.τ).loc Cert.AdamsIdeal.main_arg35) = m ((c.tc : Thread Cert.AdamsIdeal.nD Cert.AdamsIdeal.τ).loc Cert.AdamsIdeal.main_arg35))
      ∧ θ_run (Cert.AdamsRefIdeal.defs (F := Ideal)) (onTc (τ := Cert.AdamsRefIdeal.τ) (Cert.AdamsRefIdeal.main (F := Ideal))) ⟨m', fun _ => 0, g'⟩ (fun r => ∀ c : Dev Cert.AdamsRefIdeal.nD,
          r.2.mem ((c.tc : Thread Cert.AdamsRefIdeal.nD Cert.AdamsRefIdeal.τ).loc Cert.AdamsRefIdeal.main_v23) = v0 c
          ∧ r.2.mem ((c.tc : Thread Cert.AdamsRefIdeal.nD Cert.AdamsRefIdeal.τ).loc Cert.AdamsRefIdeal.main_v47) = v1 c
          ∧ r.2.mem ((c.tc : Thread Cert.AdamsRefIdeal.nD Cert.AdamsRefIdeal.τ).loc Cert.AdamsRefIdeal.main_v71) = v2 c
          ∧ r.2.mem ((c.tc : Thread Cert.AdamsRefIdeal.nD Cert.AdamsRefIdeal.τ).loc Cert.AdamsRefIdeal.main_v95) = v3 c
          ∧ r.2.mem ((c.tc : Thread Cert.AdamsRefIdeal.nD Cert.AdamsRefIdeal.τ).loc Cert.AdamsRefIdeal.main_v119) = v4 c
          ∧ r.2.mem ((c.tc : Thread Cert.AdamsRefIdeal.nD Cert.AdamsRefIdeal.τ).loc Cert.AdamsRefIdeal.main_v143) = v5 c
          ∧ r.2.mem ((c.tc : Thread Cert.AdamsRefIdeal.nD Cert.AdamsRefIdeal.τ).loc Cert.AdamsRefIdeal.main_v167) = v6 c
          ∧ r.2.mem ((c.tc : Thread Cert.AdamsRefIdeal.nD Cert.AdamsRefIdeal.τ).loc Cert.AdamsRefIdeal.main_v191) = v7 c
          ∧ r.2.mem ((c.tc : Thread Cert.AdamsRefIdeal.nD Cert.AdamsRefIdeal.τ).loc Cert.AdamsRefIdeal.main_v215) = v8 c
          ∧ r.2.mem ((c.tc : Thread Cert.AdamsRefIdeal.nD Cert.AdamsRefIdeal.τ).loc Cert.AdamsRefIdeal.main_v4) = v9 c
          ∧ r.2.mem ((c.tc : Thread Cert.AdamsRefIdeal.nD Cert.AdamsRefIdeal.τ).loc Cert.AdamsRefIdeal.main_v28) = v10 c
          ∧ r.2.mem ((c.tc : Thread Cert.AdamsRefIdeal.nD Cert.AdamsRefIdeal.τ).loc Cert.AdamsRefIdeal.main_v52) = v11 c
          ∧ r.2.mem ((c.tc : Thread Cert.AdamsRefIdeal.nD Cert.AdamsRefIdeal.τ).loc Cert.AdamsRefIdeal.main_v76) = v12 c
          ∧ r.2.mem ((c.tc : Thread Cert.AdamsRefIdeal.nD Cert.AdamsRefIdeal.τ).loc Cert.AdamsRefIdeal.main_v100) = v13 c
          ∧ r.2.mem ((c.tc : Thread Cert.AdamsRefIdeal.nD Cert.AdamsRefIdeal.τ).loc Cert.AdamsRefIdeal.main_v124) = v14 c
          ∧ r.2.mem ((c.tc : Thread Cert.AdamsRefIdeal.nD Cert.AdamsRefIdeal.τ).loc Cert.AdamsRefIdeal.main_v148) = v15 c
          ∧ r.2.mem ((c.tc : Thread Cert.AdamsRefIdeal.nD Cert.AdamsRefIdeal.τ).loc Cert.AdamsRefIdeal.main_v172) = v16 c
          ∧ r.2.mem ((c.tc : Thread Cert.AdamsRefIdeal.nD Cert.AdamsRefIdeal.τ).loc Cert.AdamsRefIdeal.main_v196) = v17 c
          ∧ r.2.mem ((c.tc : Thread Cert.AdamsRefIdeal.nD Cert.AdamsRefIdeal.τ).loc Cert.AdamsRefIdeal.main_v10) = v18 c
          ∧ r.2.mem ((c.tc : Thread Cert.AdamsRefIdeal.nD Cert.AdamsRefIdeal.τ).loc Cert.AdamsRefIdeal.main_v34) = v19 c
          ∧ r.2.mem ((c.tc : Thread Cert.AdamsRefIdeal.nD Cert.AdamsRefIdeal.τ).loc Cert.AdamsRefIdeal.main_v58) = v20 c
          ∧ r.2.mem ((c.tc : Thread Cert.AdamsRefIdeal.nD Cert.AdamsRefIdeal.τ).loc Cert.AdamsRefIdeal.main_v82) = v21 c
          ∧ r.2.mem ((c.tc : Thread Cert.AdamsRefIdeal.nD Cert.AdamsRefIdeal.τ).loc Cert.AdamsRefIdeal.main_v106) = v22 c
          ∧ r.2.mem ((c.tc : Thread Cert.AdamsRefIdeal.nD Cert.AdamsRefIdeal.τ).loc Cert.AdamsRefIdeal.main_v130) = v23 c
          ∧ r.2.mem ((c.tc : Thread Cert.AdamsRefIdeal.nD Cert.AdamsRefIdeal.τ).loc Cert.AdamsRefIdeal.main_v154) = v24 c
          ∧ r.2.mem ((c.tc : Thread Cert.AdamsRefIdeal.nD Cert.AdamsRefIdeal.τ).loc Cert.AdamsRefIdeal.main_v178) = v25 c
          ∧ r.2.mem ((c.tc : Thread Cert.AdamsRefIdeal.nD Cert.AdamsRefIdeal.τ).loc Cert.AdamsRefIdeal.main_v202) = v26 c
          ∧ r.2.mem ((c.tc : Thread Cert.AdamsRefIdeal.nD Cert.AdamsRefIdeal.τ).loc Cert.AdamsRefIdeal.main_arg0) = m' ((c.tc : Thread Cert.AdamsRefIdeal.nD Cert.AdamsRefIdeal.τ).loc Cert.AdamsRefIdeal.main_arg0)
          ∧ r.2.mem ((c.tc : Thread Cert.AdamsRefIdeal.nD Cert.AdamsRefIdeal.τ).loc Cert.AdamsRefIdeal.main_arg1) = m' ((c.tc : Thread Cert.AdamsRefIdeal.nD Cert.AdamsRefIdeal.τ).loc Cert.AdamsRefIdeal.main_arg1)
          ∧ r.2.mem ((c.tc : Thread Cert.AdamsRefIdeal.nD Cert.AdamsRefIdeal.τ).loc Cert.AdamsRefIdeal.main_arg2) = m' ((c.tc : Thread Cert.AdamsRefIdeal.nD Cert.AdamsRefIdeal.τ).loc Cert.AdamsRefIdeal.main_arg2)
          ∧ r.2.mem ((c.tc : Thread Cert.AdamsRefIdeal.nD Cert.AdamsRefIdeal.τ).loc Cert.AdamsRefIdeal.main_arg3) = m' ((c.tc : Thread Cert.AdamsRefIdeal.nD Cert.AdamsRefIdeal.τ).loc Cert.AdamsRefIdeal.main_arg3)
          ∧ r.2.mem ((c.tc : Thread Cert.AdamsRefIdeal.nD Cert.AdamsRefIdeal.τ).loc Cert.AdamsRefIdeal.main_arg4) = m' ((c.tc : Thread Cert.AdamsRefIdeal.nD Cert.AdamsRefIdeal.τ).loc Cert.AdamsRefIdeal.main_arg4)
          ∧ r.2.mem ((c.tc : Thread Cert.AdamsRefIdeal.nD Cert.AdamsRefIdeal.τ).loc Cert.AdamsRefIdeal.main_arg5) = m' ((c.tc : Thread Cert.AdamsRefIdeal.nD Cert.AdamsRefIdeal.τ).loc Cert.AdamsRefIdeal.main_arg5)
          ∧ r.2.mem ((c.tc : Thread Cert.AdamsRefIdeal.nD Cert.AdamsRefIdeal.τ).loc Cert.AdamsRefIdeal.main_arg6) = m' ((c.tc : Thread Cert.AdamsRefIdeal.nD Cert.AdamsRefIdeal.τ).loc Cert.AdamsRefIdeal.main_arg6)
          ∧ r.2.mem ((c.tc : Thread Cert.AdamsRefIdeal.nD Cert.AdamsRefIdeal.τ).loc Cert.AdamsRefIdeal.main_arg7) = m' ((c.tc : Thread Cert.AdamsRefIdeal.nD Cert.AdamsRefIdeal.τ).loc Cert.AdamsRefIdeal.main_arg7)
          ∧ r.2.mem ((c.tc : Thread Cert.AdamsRefIdeal.nD Cert.AdamsRefIdeal.τ).loc Cert.AdamsRefIdeal.main_arg8) = m' ((c.tc : Thread Cert.AdamsRefIdeal.nD Cert.AdamsRefIdeal.τ).loc Cert.AdamsRefIdeal.main_arg8)
          ∧ r.2.mem ((c.tc : Thread Cert.AdamsRefIdeal.nD Cert.AdamsRefIdeal.τ).loc Cert.AdamsRefIdeal.main_arg9) = m' ((c.tc : Thread Cert.AdamsRefIdeal.nD Cert.AdamsRefIdeal.τ).loc Cert.AdamsRefIdeal.main_arg9)
          ∧ r.2.mem ((c.tc : Thread Cert.AdamsRefIdeal.nD Cert.AdamsRefIdeal.τ).loc Cert.AdamsRefIdeal.main_arg10) = m' ((c.tc : Thread Cert.AdamsRefIdeal.nD Cert.AdamsRefIdeal.τ).loc Cert.AdamsRefIdeal.main_arg10)
          ∧ r.2.mem ((c.tc : Thread Cert.AdamsRefIdeal.nD Cert.AdamsRefIdeal.τ).loc Cert.AdamsRefIdeal.main_arg11) = m' ((c.tc : Thread Cert.AdamsRefIdeal.nD Cert.AdamsRefIdeal.τ).loc Cert.AdamsRefIdeal.main_arg11)
          ∧ r.2.mem ((c.tc : Thread Cert.AdamsRefIdeal.nD Cert.AdamsRefIdeal.τ).loc Cert.AdamsRefIdeal.main_arg12) = m' ((c.tc : Thread Cert.AdamsRefIdeal.nD Cert.AdamsRefIdeal.τ).loc Cert.AdamsRefIdeal.main_arg12)
          ∧ r.2.mem ((c.tc : Thread Cert.AdamsRefIdeal.nD Cert.AdamsRefIdeal.τ).loc Cert.AdamsRefIdeal.main_arg13) = m' ((c.tc : Thread Cert.AdamsRefIdeal.nD Cert.AdamsRefIdeal.τ).loc Cert.AdamsRefIdeal.main_arg13)
          ∧ r.2.mem ((c.tc : Thread Cert.AdamsRefIdeal.nD Cert.AdamsRefIdeal.τ).loc Cert.AdamsRefIdeal.main_arg14) = m' ((c.tc : Thread Cert.AdamsRefIdeal.nD Cert.AdamsRefIdeal.τ).loc Cert.AdamsRefIdeal.main_arg14)
          ∧ r.2.mem ((c.tc : Thread Cert.AdamsRefIdeal.nD Cert.AdamsRefIdeal.τ).loc Cert.AdamsRefIdeal.main_arg15) = m' ((c.tc : Thread Cert.AdamsRefIdeal.nD Cert.AdamsRefIdeal.τ).loc Cert.AdamsRefIdeal.main_arg15)
          ∧ r.2.mem ((c.tc : Thread Cert.AdamsRefIdeal.nD Cert.AdamsRefIdeal.τ).loc Cert.AdamsRefIdeal.main_arg16) = m' ((c.tc : Thread Cert.AdamsRefIdeal.nD Cert.AdamsRefIdeal.τ).loc Cert.AdamsRefIdeal.main_arg16)
          ∧ r.2.mem ((c.tc : Thread Cert.AdamsRefIdeal.nD Cert.AdamsRefIdeal.τ).loc Cert.AdamsRefIdeal.main_arg17) = m' ((c.tc : Thread Cert.AdamsRefIdeal.nD Cert.AdamsRefIdeal.τ).loc Cert.AdamsRefIdeal.main_arg17)
          ∧ r.2.mem ((c.tc : Thread Cert.AdamsRefIdeal.nD Cert.AdamsRefIdeal.τ).loc Cert.AdamsRefIdeal.main_arg18) = m' ((c.tc : Thread Cert.AdamsRefIdeal.nD Cert.AdamsRefIdeal.τ).loc Cert.AdamsRefIdeal.main_arg18)
          ∧ r.2.mem ((c.tc : Thread Cert.AdamsRefIdeal.nD Cert.AdamsRefIdeal.τ).loc Cert.AdamsRefIdeal.main_arg19) = m' ((c.tc : Thread Cert.AdamsRefIdeal.nD Cert.AdamsRefIdeal.τ).loc Cert.AdamsRefIdeal.main_arg19)
          ∧ r.2.mem ((c.tc : Thread Cert.AdamsRefIdeal.nD Cert.AdamsRefIdeal.τ).loc Cert.AdamsRefIdeal.main_arg20) = m' ((c.tc : Thread Cert.AdamsRefIdeal.nD Cert.AdamsRefIdeal.τ).loc Cert.AdamsRefIdeal.main_arg20)
          ∧ r.2.mem ((c.tc : Thread Cert.AdamsRefIdeal.nD Cert.AdamsRefIdeal.τ).loc Cert.AdamsRefIdeal.main_arg21) = m' ((c.tc : Thread Cert.AdamsRefIdeal.nD Cert.AdamsRefIdeal.τ).loc Cert.AdamsRefIdeal.main_arg21)
          ∧ r.2.mem ((c.tc : Thread Cert.AdamsRefIdeal.nD Cert.AdamsRefIdeal.τ).loc Cert.AdamsRefIdeal.main_arg22) = m' ((c.tc : Thread Cert.AdamsRefIdeal.nD Cert.AdamsRefIdeal.τ).loc Cert.AdamsRefIdeal.main_arg22)
          ∧ r.2.mem ((c.tc : Thread Cert.AdamsRefIdeal.nD Cert.AdamsRefIdeal.τ).loc Cert.AdamsRefIdeal.main_arg23) = m' ((c.tc : Thread Cert.AdamsRefIdeal.nD Cert.AdamsRefIdeal.τ).loc Cert.AdamsRefIdeal.main_arg23)
          ∧ r.2.mem ((c.tc : Thread Cert.AdamsRefIdeal.nD Cert.AdamsRefIdeal.τ).loc Cert.AdamsRefIdeal.main_arg24) = m' ((c.tc : Thread Cert.AdamsRefIdeal.nD Cert.AdamsRefIdeal.τ).loc Cert.AdamsRefIdeal.main_arg24)
          ∧ r.2.mem ((c.tc : Thread Cert.AdamsRefIdeal.nD Cert.AdamsRefIdeal.τ).loc Cert.AdamsRefIdeal.main_arg25) = m' ((c.tc : Thread Cert.AdamsRefIdeal.nD Cert.AdamsRefIdeal.τ).loc Cert.AdamsRefIdeal.main_arg25)
          ∧ r.2.mem ((c.tc : Thread Cert.AdamsRefIdeal.nD Cert.AdamsRefIdeal.τ).loc Cert.AdamsRefIdeal.main_arg26) = m' ((c.tc : Thread Cert.AdamsRefIdeal.nD Cert.AdamsRefIdeal.τ).loc Cert.AdamsRefIdeal.main_arg26)
          ∧ r.2.mem ((c.tc : Thread Cert.AdamsRefIdeal.nD Cert.AdamsRefIdeal.τ).loc Cert.AdamsRefIdeal.main_arg27) = m' ((c.tc : Thread Cert.AdamsRefIdeal.nD Cert.AdamsRefIdeal.τ).loc Cert.AdamsRefIdeal.main_arg27)
          ∧ r.2.mem ((c.tc : Thread Cert.AdamsRefIdeal.nD Cert.AdamsRefIdeal.τ).loc Cert.AdamsRefIdeal.main_arg28) = m' ((c.tc : Thread Cert.AdamsRefIdeal.nD Cert.AdamsRefIdeal.τ).loc Cert.AdamsRefIdeal.main_arg28)
          ∧ r.2.mem ((c.tc : Thread Cert.AdamsRefIdeal.nD Cert.AdamsRefIdeal.τ).loc Cert.AdamsRefIdeal.main_arg29) = m' ((c.tc : Thread Cert.AdamsRefIdeal.nD Cert.AdamsRefIdeal.τ).loc Cert.AdamsRefIdeal.main_arg29)
          ∧ r.2.mem ((c.tc : Thread Cert.AdamsRefIdeal.nD Cert.AdamsRefIdeal.τ).loc Cert.AdamsRefIdeal.main_arg30) = m' ((c.tc : Thread Cert.AdamsRefIdeal.nD Cert.AdamsRefIdeal.τ).loc Cert.AdamsRefIdeal.main_arg30)
          ∧ r.2.mem ((c.tc : Thread Cert.AdamsRefIdeal.nD Cert.AdamsRefIdeal.τ).loc Cert.AdamsRefIdeal.main_arg31) = m' ((c.tc : Thread Cert.AdamsRefIdeal.nD Cert.AdamsRefIdeal.τ).loc Cert.AdamsRefIdeal.main_arg31)
          ∧ r.2.mem ((c.tc : Thread Cert.AdamsRefIdeal.nD Cert.AdamsRefIdeal.τ).loc Cert.AdamsRefIdeal.main_arg32) = m' ((c.tc : Thread Cert.AdamsRefIdeal.nD Cert.AdamsRefIdeal.τ).loc Cert.AdamsRefIdeal.main_arg32)
          ∧ r.2.mem ((c.tc : Thread Cert.AdamsRefIdeal.nD Cert.AdamsRefIdeal.τ).loc Cert.AdamsRefIdeal.main_arg33) = m' ((c.tc : Thread Cert.AdamsRefIdeal.nD Cert.AdamsRefIdeal.τ).loc Cert.AdamsRefIdeal.main_arg33)
          ∧ r.2.mem ((c.tc : Thread Cert.AdamsRefIdeal.nD Cert.AdamsRefIdeal.τ).loc Cert.AdamsRefIdeal.main_arg34) = m' ((c.tc : Thread Cert.AdamsRefIdeal.nD Cert.AdamsRefIdeal.τ).loc Cert.AdamsRefIdeal.main_arg34)
          ∧ r.2.mem ((c.tc : Thread Cert.AdamsRefIdeal.nD Cert.AdamsRefIdeal.τ).loc Cert.AdamsRefIdeal.main_arg35) = m' ((c.tc : Thread Cert.AdamsRefIdeal.nD Cert.AdamsRefIdeal.τ).loc Cert.AdamsRefIdeal.main_arg35))

def preserves_Sums_SumsIdeal : Prop :=
  True

def algebraic_SumsIdeal_SumsRefIdeal [hSumsIdeal : Cert.SumsIdeal.Facts] [hSumsRefIdeal : Cert.SumsRefIdeal.Facts] : Prop :=
  ∀ (m : (ℓ : Loc Cert.SumsIdeal.nD Cert.SumsIdeal.τ Cert.SumsIdeal.sig) → Buf (Elt Ideal) ℓ) (g : Dev Cert.SumsIdeal.nD → PrngReg)
    (m' : (ℓ : Loc Cert.SumsRefIdeal.nD Cert.SumsRefIdeal.τ Cert.SumsRefIdeal.sig) → Buf (Elt Ideal) ℓ) (g' : Dev Cert.SumsRefIdeal.nD → PrngReg), Pre_SumsIdeal m →
    (∀ c : Dev Cert.SumsIdeal.nD,
      m' ((c.tc : Thread Cert.SumsRefIdeal.nD Cert.SumsRefIdeal.τ).loc Cert.SumsRefIdeal.main_arg0) = m ((c.tc : Thread Cert.SumsIdeal.nD Cert.SumsIdeal.τ).loc Cert.SumsIdeal.main_arg0)
      ∧ m' ((c.tc : Thread Cert.SumsRefIdeal.nD Cert.SumsRefIdeal.τ).loc Cert.SumsRefIdeal.main_arg1) = m ((c.tc : Thread Cert.SumsIdeal.nD Cert.SumsIdeal.τ).loc Cert.SumsIdeal.main_arg1)
      ∧ m' ((c.tc : Thread Cert.SumsRefIdeal.nD Cert.SumsRefIdeal.τ).loc Cert.SumsRefIdeal.main_arg2) = m ((c.tc : Thread Cert.SumsIdeal.nD Cert.SumsIdeal.τ).loc Cert.SumsIdeal.main_arg2)
      ∧ m' ((c.tc : Thread Cert.SumsRefIdeal.nD Cert.SumsRefIdeal.τ).loc Cert.SumsRefIdeal.main_arg3) = m ((c.tc : Thread Cert.SumsIdeal.nD Cert.SumsIdeal.τ).loc Cert.SumsIdeal.main_arg3)
      ∧ m' ((c.tc : Thread Cert.SumsRefIdeal.nD Cert.SumsRefIdeal.τ).loc Cert.SumsRefIdeal.main_arg4) = m ((c.tc : Thread Cert.SumsIdeal.nD Cert.SumsIdeal.τ).loc Cert.SumsIdeal.main_arg4)
      ∧ m' ((c.tc : Thread Cert.SumsRefIdeal.nD Cert.SumsRefIdeal.τ).loc Cert.SumsRefIdeal.main_arg5) = m ((c.tc : Thread Cert.SumsIdeal.nD Cert.SumsIdeal.τ).loc Cert.SumsIdeal.main_arg5)
      ∧ m' ((c.tc : Thread Cert.SumsRefIdeal.nD Cert.SumsRefIdeal.τ).loc Cert.SumsRefIdeal.main_arg6) = m ((c.tc : Thread Cert.SumsIdeal.nD Cert.SumsIdeal.τ).loc Cert.SumsIdeal.main_arg6)
      ∧ m' ((c.tc : Thread Cert.SumsRefIdeal.nD Cert.SumsRefIdeal.τ).loc Cert.SumsRefIdeal.main_arg7) = m ((c.tc : Thread Cert.SumsIdeal.nD Cert.SumsIdeal.τ).loc Cert.SumsIdeal.main_arg7)
      ∧ m' ((c.tc : Thread Cert.SumsRefIdeal.nD Cert.SumsRefIdeal.τ).loc Cert.SumsRefIdeal.main_arg8) = m ((c.tc : Thread Cert.SumsIdeal.nD Cert.SumsIdeal.τ).loc Cert.SumsIdeal.main_arg8)
      ∧ m' ((c.tc : Thread Cert.SumsRefIdeal.nD Cert.SumsRefIdeal.τ).loc Cert.SumsRefIdeal.main_arg9) = m ((c.tc : Thread Cert.SumsIdeal.nD Cert.SumsIdeal.τ).loc Cert.SumsIdeal.main_arg9)) →
    ∃ (v0 : (c : Dev Cert.SumsIdeal.nD) → Buf (Elt Ideal) ((c.tc : Thread Cert.SumsIdeal.nD Cert.SumsIdeal.τ).loc Cert.SumsIdeal.main_v21)) (v1 : (c : Dev Cert.SumsIdeal.nD) → Buf (Elt Ideal) ((c.tc : Thread Cert.SumsIdeal.nD Cert.SumsIdeal.τ).loc Cert.SumsIdeal.main_v24)) (v2 : (c : Dev Cert.SumsIdeal.nD) → Buf (Elt Ideal) ((c.tc : Thread Cert.SumsIdeal.nD Cert.SumsIdeal.τ).loc Cert.SumsIdeal.main_v27)) (v3 : (c : Dev Cert.SumsIdeal.nD) → Buf (Elt Ideal) ((c.tc : Thread Cert.SumsIdeal.nD Cert.SumsIdeal.τ).loc Cert.SumsIdeal.main_v30)) (v4 : (c : Dev Cert.SumsIdeal.nD) → Buf (Elt Ideal) ((c.tc : Thread Cert.SumsIdeal.nD Cert.SumsIdeal.τ).loc Cert.SumsIdeal.main_v33)) (v5 : (c : Dev Cert.SumsIdeal.nD) → Buf (Elt Ideal) ((c.tc : Thread Cert.SumsIdeal.nD Cert.SumsIdeal.τ).loc Cert.SumsIdeal.main_v49)) (v6 : (c : Dev Cert.SumsIdeal.nD) → Buf (Elt Ideal) ((c.tc : Thread Cert.SumsIdeal.nD Cert.SumsIdeal.τ).loc Cert.SumsIdeal.main_v39)) (v7 : (c : Dev Cert.SumsIdeal.nD) → Buf (Elt Ideal) ((c.tc : Thread Cert.SumsIdeal.nD Cert.SumsIdeal.τ).loc Cert.SumsIdeal.main_v54)) (v8 : (c : Dev Cert.SumsIdeal.nD) → Buf (Elt Ideal) ((c.tc : Thread Cert.SumsIdeal.nD Cert.SumsIdeal.τ).loc Cert.SumsIdeal.main_v44)),
      θ_run (Cert.SumsIdeal.defs (F := Ideal)) (onTc (τ := Cert.SumsIdeal.τ) (Cert.SumsIdeal.main (F := Ideal))) ⟨m, fun _ => 0, g⟩ (fun r => ∀ c : Dev Cert.SumsIdeal.nD,
          r.2.mem ((c.tc : Thread Cert.SumsIdeal.nD Cert.SumsIdeal.τ).loc Cert.SumsIdeal.main_v21) = v0 c
          ∧ r.2.mem ((c.tc : Thread Cert.SumsIdeal.nD Cert.SumsIdeal.τ).loc Cert.SumsIdeal.main_v24) = v1 c
          ∧ r.2.mem ((c.tc : Thread Cert.SumsIdeal.nD Cert.SumsIdeal.τ).loc Cert.SumsIdeal.main_v27) = v2 c
          ∧ r.2.mem ((c.tc : Thread Cert.SumsIdeal.nD Cert.SumsIdeal.τ).loc Cert.SumsIdeal.main_v30) = v3 c
          ∧ r.2.mem ((c.tc : Thread Cert.SumsIdeal.nD Cert.SumsIdeal.τ).loc Cert.SumsIdeal.main_v33) = v4 c
          ∧ r.2.mem ((c.tc : Thread Cert.SumsIdeal.nD Cert.SumsIdeal.τ).loc Cert.SumsIdeal.main_v49) = v5 c
          ∧ r.2.mem ((c.tc : Thread Cert.SumsIdeal.nD Cert.SumsIdeal.τ).loc Cert.SumsIdeal.main_v39) = v6 c
          ∧ r.2.mem ((c.tc : Thread Cert.SumsIdeal.nD Cert.SumsIdeal.τ).loc Cert.SumsIdeal.main_v54) = v7 c
          ∧ r.2.mem ((c.tc : Thread Cert.SumsIdeal.nD Cert.SumsIdeal.τ).loc Cert.SumsIdeal.main_v44) = v8 c
          ∧ r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0)
          ∧ r.2.mem ((c.tc : Thread Cert.SumsIdeal.nD Cert.SumsIdeal.τ).loc Cert.SumsIdeal.main_arg1) = m ((c.tc : Thread Cert.SumsIdeal.nD Cert.SumsIdeal.τ).loc Cert.SumsIdeal.main_arg1)
          ∧ r.2.mem ((c.tc : Thread Cert.SumsIdeal.nD Cert.SumsIdeal.τ).loc Cert.SumsIdeal.main_arg2) = m ((c.tc : Thread Cert.SumsIdeal.nD Cert.SumsIdeal.τ).loc Cert.SumsIdeal.main_arg2)
          ∧ r.2.mem ((c.tc : Thread Cert.SumsIdeal.nD Cert.SumsIdeal.τ).loc Cert.SumsIdeal.main_arg3) = m ((c.tc : Thread Cert.SumsIdeal.nD Cert.SumsIdeal.τ).loc Cert.SumsIdeal.main_arg3)
          ∧ r.2.mem ((c.tc : Thread Cert.SumsIdeal.nD Cert.SumsIdeal.τ).loc Cert.SumsIdeal.main_arg4) = m ((c.tc : Thread Cert.SumsIdeal.nD Cert.SumsIdeal.τ).loc Cert.SumsIdeal.main_arg4)
          ∧ r.2.mem ((c.tc : Thread Cert.SumsIdeal.nD Cert.SumsIdeal.τ).loc Cert.SumsIdeal.main_arg5) = m ((c.tc : Thread Cert.SumsIdeal.nD Cert.SumsIdeal.τ).loc Cert.SumsIdeal.main_arg5)
          ∧ r.2.mem ((c.tc : Thread Cert.SumsIdeal.nD Cert.SumsIdeal.τ).loc Cert.SumsIdeal.main_arg6) = m ((c.tc : Thread Cert.SumsIdeal.nD Cert.SumsIdeal.τ).loc Cert.SumsIdeal.main_arg6)
          ∧ r.2.mem ((c.tc : Thread Cert.SumsIdeal.nD Cert.SumsIdeal.τ).loc Cert.SumsIdeal.main_arg7) = m ((c.tc : Thread Cert.SumsIdeal.nD Cert.SumsIdeal.τ).loc Cert.SumsIdeal.main_arg7)
          ∧ r.2.mem ((c.tc : Thread Cert.SumsIdeal.nD Cert.SumsIdeal.τ).loc Cert.SumsIdeal.main_arg8) = m ((c.tc : Thread Cert.SumsIdeal.nD Cert.SumsIdeal.τ).loc Cert.SumsIdeal.main_arg8)
          ∧ r.2.mem ((c.tc : Thread Cert.SumsIdeal.nD Cert.SumsIdeal.τ).loc Cert.SumsIdeal.main_arg9) = m ((c.tc : Thread Cert.SumsIdeal.nD Cert.SumsIdeal.τ).loc Cert.SumsIdeal.main_arg9))
      ∧ θ_run (Cert.SumsRefIdeal.defs (F := Ideal)) (onTc (τ := Cert.SumsRefIdeal.τ) (Cert.SumsRefIdeal.main (F := Ideal))) ⟨m', fun _ => 0, g'⟩ (fun r => ∀ c : Dev Cert.SumsRefIdeal.nD,
          r.2.mem ((c.tc : Thread Cert.SumsRefIdeal.nD Cert.SumsRefIdeal.τ).loc Cert.SumsRefIdeal.main_v0) = v0 c
          ∧ r.2.mem ((c.tc : Thread Cert.SumsRefIdeal.nD Cert.SumsRefIdeal.τ).loc Cert.SumsRefIdeal.main_v1) = v1 c
          ∧ r.2.mem ((c.tc : Thread Cert.SumsRefIdeal.nD Cert.SumsRefIdeal.τ).loc Cert.SumsRefIdeal.main_v2) = v2 c
          ∧ r.2.mem ((c.tc : Thread Cert.SumsRefIdeal.nD Cert.SumsRefIdeal.τ).loc Cert.SumsRefIdeal.main_v3) = v3 c
          ∧ r.2.mem ((c.tc : Thread Cert.SumsRefIdeal.nD Cert.SumsRefIdeal.τ).loc Cert.SumsRefIdeal.main_v4) = v4 c
          ∧ r.2.mem ((c.tc : Thread Cert.SumsRefIdeal.nD Cert.SumsRefIdeal.τ).loc Cert.SumsRefIdeal.main_v13) = v5 c
          ∧ r.2.mem ((c.tc : Thread Cert.SumsRefIdeal.nD Cert.SumsRefIdeal.τ).loc Cert.SumsRefIdeal.main_v6) = v6 c
          ∧ r.2.mem ((c.tc : Thread Cert.SumsRefIdeal.nD Cert.SumsRefIdeal.τ).loc Cert.SumsRefIdeal.main_v18) = v7 c
          ∧ r.2.mem ((c.tc : Thread Cert.SumsRefIdeal.nD Cert.SumsRefIdeal.τ).loc Cert.SumsRefIdeal.main_v8) = v8 c
          ∧ r.2.mem ((c.tc : Thread Cert.SumsRefIdeal.nD Cert.SumsRefIdeal.τ).loc Cert.SumsRefIdeal.main_arg0) = m' ((c.tc : Thread Cert.SumsRefIdeal.nD Cert.SumsRefIdeal.τ).loc Cert.SumsRefIdeal.main_arg0)
          ∧ r.2.mem ((c.tc : Thread Cert.SumsRefIdeal.nD Cert.SumsRefIdeal.τ).loc Cert.SumsRefIdeal.main_arg1) = m' ((c.tc : Thread Cert.SumsRefIdeal.nD Cert.SumsRefIdeal.τ).loc Cert.SumsRefIdeal.main_arg1)
          ∧ r.2.mem ((c.tc : Thread Cert.SumsRefIdeal.nD Cert.SumsRefIdeal.τ).loc Cert.SumsRefIdeal.main_arg2) = m' ((c.tc : Thread Cert.SumsRefIdeal.nD Cert.SumsRefIdeal.τ).loc Cert.SumsRefIdeal.main_arg2)
          ∧ r.2.mem ((c.tc : Thread Cert.SumsRefIdeal.nD Cert.SumsRefIdeal.τ).loc Cert.SumsRefIdeal.main_arg3) = m' ((c.tc : Thread Cert.SumsRefIdeal.nD Cert.SumsRefIdeal.τ).loc Cert.SumsRefIdeal.main_arg3)
          ∧ r.2.mem ((c.tc : Thread Cert.SumsRefIdeal.nD Cert.SumsRefIdeal.τ).loc Cert.SumsRefIdeal.main_arg4) = m' ((c.tc : Thread Cert.SumsRefIdeal.nD Cert.SumsRefIdeal.τ).loc Cert.SumsRefIdeal.main_arg4)
          ∧ r.2.mem ((c.tc : Thread Cert.SumsRefIdeal.nD Cert.SumsRefIdeal.τ).loc Cert.SumsRefIdeal.main_arg5) = m' ((c.tc : Thread Cert.SumsRefIdeal.nD Cert.SumsRefIdeal.τ).loc Cert.SumsRefIdeal.main_arg5)
          ∧ r.2.mem ((c.tc : Thread Cert.SumsRefIdeal.nD Cert.SumsRefIdeal.τ).loc Cert.SumsRefIdeal.main_arg6) = m' ((c.tc : Thread Cert.SumsRefIdeal.nD Cert.SumsRefIdeal.τ).loc Cert.SumsRefIdeal.main_arg6)
          ∧ r.2.mem ((c.tc : Thread Cert.SumsRefIdeal.nD Cert.SumsRefIdeal.τ).loc Cert.SumsRefIdeal.main_arg7) = m' ((c.tc : Thread Cert.SumsRefIdeal.nD Cert.SumsRefIdeal.τ).loc Cert.SumsRefIdeal.main_arg7)
          ∧ r.2.mem ((c.tc : Thread Cert.SumsRefIdeal.nD Cert.SumsRefIdeal.τ).loc Cert.SumsRefIdeal.main_arg8) = m' ((c.tc : Thread Cert.SumsRefIdeal.nD Cert.SumsRefIdeal.τ).loc Cert.SumsRefIdeal.main_arg8)
          ∧ r.2.mem ((c.tc : Thread Cert.SumsRefIdeal.nD Cert.SumsRefIdeal.τ).loc Cert.SumsRefIdeal.main_arg9) = m' ((c.tc : Thread Cert.SumsRefIdeal.nD Cert.SumsRefIdeal.τ).loc Cert.SumsRefIdeal.main_arg9))

def preserves_Bigout_BigoutIdeal : Prop :=
  True

def algebraic_BigoutIdeal_BigoutRefIdeal [hBigoutIdeal : Cert.BigoutIdeal.Facts] [hBigoutRefIdeal : Cert.BigoutRefIdeal.Facts] [hPre_on_mesh_w_proj_out : Cert.Pre_on_mesh_w_proj_out.Facts] : Prop :=
  ∀ (m : (ℓ : Loc Cert.BigoutIdeal.nD Cert.BigoutIdeal.τ Cert.BigoutIdeal.sig) → Buf (Elt Ideal) ℓ) (g : Dev Cert.BigoutIdeal.nD → PrngReg)
    (m' : (ℓ : Loc Cert.BigoutRefIdeal.nD Cert.BigoutRefIdeal.τ Cert.BigoutRefIdeal.sig) → Buf (Elt Ideal) ℓ) (g' : Dev Cert.BigoutRefIdeal.nD → PrngReg), Pre_BigoutIdeal m →
    (∀ c : Dev Cert.BigoutIdeal.nD,
      m' ((c.tc : Thread Cert.BigoutRefIdeal.nD Cert.BigoutRefIdeal.τ).loc Cert.BigoutRefIdeal.main_arg0) = m ((c.tc : Thread Cert.BigoutIdeal.nD Cert.BigoutIdeal.τ).loc Cert.BigoutIdeal.main_arg0)
      ∧ m' ((c.tc : Thread Cert.BigoutRefIdeal.nD Cert.BigoutRefIdeal.τ).loc Cert.BigoutRefIdeal.main_arg1) = m ((c.tc : Thread Cert.BigoutIdeal.nD Cert.BigoutIdeal.τ).loc Cert.BigoutIdeal.main_arg1)
      ∧ m' ((c.tc : Thread Cert.BigoutRefIdeal.nD Cert.BigoutRefIdeal.τ).loc Cert.BigoutRefIdeal.main_arg2) = m ((c.tc : Thread Cert.BigoutIdeal.nD Cert.BigoutIdeal.τ).loc Cert.BigoutIdeal.main_arg2)
      ∧ m' ((c.tc : Thread Cert.BigoutRefIdeal.nD Cert.BigoutRefIdeal.τ).loc Cert.BigoutRefIdeal.main_arg3) = m ((c.tc : Thread Cert.BigoutIdeal.nD Cert.BigoutIdeal.τ).loc Cert.BigoutIdeal.main_arg3)
      ∧ m' ((c.tc : Thread Cert.BigoutRefIdeal.nD Cert.BigoutRefIdeal.τ).loc Cert.BigoutRefIdeal.main_arg4) = m ((c.tc : Thread Cert.BigoutIdeal.nD Cert.BigoutIdeal.τ).loc Cert.BigoutIdeal.main_arg4)
      ∧ m' ((c.tc : Thread Cert.BigoutRefIdeal.nD Cert.BigoutRefIdeal.τ).loc Cert.BigoutRefIdeal.main_arg5) = m ((c.tc : Thread Cert.BigoutIdeal.nD Cert.BigoutIdeal.τ).loc Cert.BigoutIdeal.main_arg5)
      ∧ m' ((c.tc : Thread Cert.BigoutRefIdeal.nD Cert.BigoutRefIdeal.τ).loc Cert.BigoutRefIdeal.main_arg6) = m ((c.tc : Thread Cert.BigoutIdeal.nD Cert.BigoutIdeal.τ).loc Cert.BigoutIdeal.main_arg6)
      ∧ m' ((c.tc : Thread Cert.BigoutRefIdeal.nD Cert.BigoutRefIdeal.τ).loc Cert.BigoutRefIdeal.main_arg7) = m ((c.tc : Thread Cert.BigoutIdeal.nD Cert.BigoutIdeal.τ).loc Cert.BigoutIdeal.main_arg7)
      ∧ m' ((c.tc : Thread Cert.BigoutRefIdeal.nD Cert.BigoutRefIdeal.τ).loc Cert.BigoutRefIdeal.main_arg8) = m ((c.tc : Thread Cert.BigoutIdeal.nD Cert.BigoutIdeal.τ).loc Cert.BigoutIdeal.main_arg8)
      ∧ m' ((c.tc : Thread Cert.BigoutRefIdeal.nD Cert.BigoutRefIdeal.τ).loc Cert.BigoutRefIdeal.main_arg9) = m ((c.tc : Thread Cert.BigoutIdeal.nD Cert.BigoutIdeal.τ).loc Cert.BigoutIdeal.main_arg9)
      ∧ m' ((c.tc : Thread Cert.BigoutRefIdeal.nD Cert.BigoutRefIdeal.τ).loc Cert.BigoutRefIdeal.main_arg10) = m ((c.tc : Thread Cert.BigoutIdeal.nD Cert.BigoutIdeal.τ).loc Cert.BigoutIdeal.main_arg10)) →
    ∃ (v0 : (c : Dev Cert.BigoutIdeal.nD) → Buf (Elt Ideal) ((c.tc : Thread Cert.BigoutIdeal.nD Cert.BigoutIdeal.τ).loc Cert.BigoutIdeal.main_v0_0)) (v1 : (c : Dev Cert.BigoutIdeal.nD) → Buf (Elt Ideal) ((c.tc : Thread Cert.BigoutIdeal.nD Cert.BigoutIdeal.τ).loc Cert.BigoutIdeal.main_v0_1)) (v2 : (c : Dev Cert.BigoutIdeal.nD) → Buf (Elt Ideal) ((c.tc : Thread Cert.BigoutIdeal.nD Cert.BigoutIdeal.τ).loc Cert.BigoutIdeal.main_v0_2)) (v3 : (c : Dev Cert.BigoutIdeal.nD) → Buf (Elt Ideal) ((c.tc : Thread Cert.BigoutIdeal.nD Cert.BigoutIdeal.τ).loc Cert.BigoutIdeal.main_v0_3)),
      θ_run (Cert.BigoutIdeal.defs (F := Ideal)) (onTc (τ := Cert.BigoutIdeal.τ) (Cert.BigoutIdeal.main (F := Ideal))) ⟨m, fun _ => 0, g⟩ (fun r => ∀ c : Dev Cert.BigoutIdeal.nD,
          r.2.mem ((c.tc : Thread Cert.BigoutIdeal.nD Cert.BigoutIdeal.τ).loc Cert.BigoutIdeal.main_v0_0) = v0 c
          ∧ r.2.mem ((c.tc : Thread Cert.BigoutIdeal.nD Cert.BigoutIdeal.τ).loc Cert.BigoutIdeal.main_v0_1) = v1 c
          ∧ r.2.mem ((c.tc : Thread Cert.BigoutIdeal.nD Cert.BigoutIdeal.τ).loc Cert.BigoutIdeal.main_v0_2) = v2 c
          ∧ r.2.mem ((c.tc : Thread Cert.BigoutIdeal.nD Cert.BigoutIdeal.τ).loc Cert.BigoutIdeal.main_v0_3) = v3 c
          ∧ r.2.mem ((c.tc : Thread Cert.BigoutIdeal.nD Cert.BigoutIdeal.τ).loc Cert.BigoutIdeal.main_arg0) = m ((c.tc : Thread Cert.BigoutIdeal.nD Cert.BigoutIdeal.τ).loc Cert.BigoutIdeal.main_arg0)
          ∧ r.2.mem ((c.tc : Thread Cert.BigoutIdeal.nD Cert.BigoutIdeal.τ).loc Cert.BigoutIdeal.main_arg1) = m ((c.tc : Thread Cert.BigoutIdeal.nD Cert.BigoutIdeal.τ).loc Cert.BigoutIdeal.main_arg1)
          ∧ r.2.mem ((c.tc : Thread Cert.BigoutIdeal.nD Cert.BigoutIdeal.τ).loc Cert.BigoutIdeal.main_arg2) = m ((c.tc : Thread Cert.BigoutIdeal.nD Cert.BigoutIdeal.τ).loc Cert.BigoutIdeal.main_arg2)
          ∧ r.2.mem ((c.tc : Thread Cert.BigoutIdeal.nD Cert.BigoutIdeal.τ).loc Cert.BigoutIdeal.main_arg3) = m ((c.tc : Thread Cert.BigoutIdeal.nD Cert.BigoutIdeal.τ).loc Cert.BigoutIdeal.main_arg3)
          ∧ r.2.mem ((c.tc : Thread Cert.BigoutIdeal.nD Cert.BigoutIdeal.τ).loc Cert.BigoutIdeal.main_arg4) = m ((c.tc : Thread Cert.BigoutIdeal.nD Cert.BigoutIdeal.τ).loc Cert.BigoutIdeal.main_arg4)
          ∧ r.2.mem ((c.tc : Thread Cert.BigoutIdeal.nD Cert.BigoutIdeal.τ).loc Cert.BigoutIdeal.main_arg5) = m ((c.tc : Thread Cert.BigoutIdeal.nD Cert.BigoutIdeal.τ).loc Cert.BigoutIdeal.main_arg5)
          ∧ r.2.mem ((c.tc : Thread Cert.BigoutIdeal.nD Cert.BigoutIdeal.τ).loc Cert.BigoutIdeal.main_arg6) = m ((c.tc : Thread Cert.BigoutIdeal.nD Cert.BigoutIdeal.τ).loc Cert.BigoutIdeal.main_arg6)
          ∧ r.2.mem ((c.tc : Thread Cert.BigoutIdeal.nD Cert.BigoutIdeal.τ).loc Cert.BigoutIdeal.main_arg7) = m ((c.tc : Thread Cert.BigoutIdeal.nD Cert.BigoutIdeal.τ).loc Cert.BigoutIdeal.main_arg7)
          ∧ r.2.mem ((c.tc : Thread Cert.BigoutIdeal.nD Cert.BigoutIdeal.τ).loc Cert.BigoutIdeal.main_arg8) = m ((c.tc : Thread Cert.BigoutIdeal.nD Cert.BigoutIdeal.τ).loc Cert.BigoutIdeal.main_arg8)
          ∧ r.2.mem ((c.tc : Thread Cert.BigoutIdeal.nD Cert.BigoutIdeal.τ).loc Cert.BigoutIdeal.main_arg9) = m ((c.tc : Thread Cert.BigoutIdeal.nD Cert.BigoutIdeal.τ).loc Cert.BigoutIdeal.main_arg9)
          ∧ r.2.mem ((c.tc : Thread Cert.BigoutIdeal.nD Cert.BigoutIdeal.τ).loc Cert.BigoutIdeal.main_arg10) = m ((c.tc : Thread Cert.BigoutIdeal.nD Cert.BigoutIdeal.τ).loc Cert.BigoutIdeal.main_arg10))
      ∧ θ_run (Cert.BigoutRefIdeal.defs (F := Ideal)) (onTc (τ := Cert.BigoutRefIdeal.τ) (Cert.BigoutRefIdeal.main (F := Ideal))) ⟨m', fun _ => 0, g'⟩ (fun r => ∀ c : Dev Cert.BigoutRefIdeal.nD,
          r.2.mem ((c.tc : Thread Cert.BigoutRefIdeal.nD Cert.BigoutRefIdeal.τ).loc Cert.BigoutRefIdeal.main_v68) = v0 c
          ∧ r.2.mem ((c.tc : Thread Cert.BigoutRefIdeal.nD Cert.BigoutRefIdeal.τ).loc Cert.BigoutRefIdeal.main_v71) = v1 c
          ∧ r.2.mem ((c.tc : Thread Cert.BigoutRefIdeal.nD Cert.BigoutRefIdeal.τ).loc Cert.BigoutRefIdeal.main_v74) = v2 c
          ∧ r.2.mem ((c.tc : Thread Cert.BigoutRefIdeal.nD Cert.BigoutRefIdeal.τ).loc Cert.BigoutRefIdeal.main_v77) = v3 c
          ∧ r.2.mem ((c.tc : Thread Cert.BigoutRefIdeal.nD Cert.BigoutRefIdeal.τ).loc Cert.BigoutRefIdeal.main_arg0) = m' ((c.tc : Thread Cert.BigoutRefIdeal.nD Cert.BigoutRefIdeal.τ).loc Cert.BigoutRefIdeal.main_arg0)
          ∧ r.2.mem ((c.tc : Thread Cert.BigoutRefIdeal.nD Cert.BigoutRefIdeal.τ).loc Cert.BigoutRefIdeal.main_arg1) = m' ((c.tc : Thread Cert.BigoutRefIdeal.nD Cert.BigoutRefIdeal.τ).loc Cert.BigoutRefIdeal.main_arg1)
          ∧ r.2.mem ((c.tc : Thread Cert.BigoutRefIdeal.nD Cert.BigoutRefIdeal.τ).loc Cert.BigoutRefIdeal.main_arg2) = m' ((c.tc : Thread Cert.BigoutRefIdeal.nD Cert.BigoutRefIdeal.τ).loc Cert.BigoutRefIdeal.main_arg2)
          ∧ r.2.mem ((c.tc : Thread Cert.BigoutRefIdeal.nD Cert.BigoutRefIdeal.τ).loc Cert.BigoutRefIdeal.main_arg3) = m' ((c.tc : Thread Cert.BigoutRefIdeal.nD Cert.BigoutRefIdeal.τ).loc Cert.BigoutRefIdeal.main_arg3)
          ∧ r.2.mem ((c.tc : Thread Cert.BigoutRefIdeal.nD Cert.BigoutRefIdeal.τ).loc Cert.BigoutRefIdeal.main_arg4) = m' ((c.tc : Thread Cert.BigoutRefIdeal.nD Cert.BigoutRefIdeal.τ).loc Cert.BigoutRefIdeal.main_arg4)
          ∧ r.2.mem ((c.tc : Thread Cert.BigoutRefIdeal.nD Cert.BigoutRefIdeal.τ).loc Cert.BigoutRefIdeal.main_arg5) = m' ((c.tc : Thread Cert.BigoutRefIdeal.nD Cert.BigoutRefIdeal.τ).loc Cert.BigoutRefIdeal.main_arg5)
          ∧ r.2.mem ((c.tc : Thread Cert.BigoutRefIdeal.nD Cert.BigoutRefIdeal.τ).loc Cert.BigoutRefIdeal.main_arg6) = m' ((c.tc : Thread Cert.BigoutRefIdeal.nD Cert.BigoutRefIdeal.τ).loc Cert.BigoutRefIdeal.main_arg6)
          ∧ r.2.mem ((c.tc : Thread Cert.BigoutRefIdeal.nD Cert.BigoutRefIdeal.τ).loc Cert.BigoutRefIdeal.main_arg7) = m' ((c.tc : Thread Cert.BigoutRefIdeal.nD Cert.BigoutRefIdeal.τ).loc Cert.BigoutRefIdeal.main_arg7)
          ∧ r.2.mem ((c.tc : Thread Cert.BigoutRefIdeal.nD Cert.BigoutRefIdeal.τ).loc Cert.BigoutRefIdeal.main_arg8) = m' ((c.tc : Thread Cert.BigoutRefIdeal.nD Cert.BigoutRefIdeal.τ).loc Cert.BigoutRefIdeal.main_arg8)
          ∧ r.2.mem ((c.tc : Thread Cert.BigoutRefIdeal.nD Cert.BigoutRefIdeal.τ).loc Cert.BigoutRefIdeal.main_arg9) = m' ((c.tc : Thread Cert.BigoutRefIdeal.nD Cert.BigoutRefIdeal.τ).loc Cert.BigoutRefIdeal.main_arg9)
          ∧ r.2.mem ((c.tc : Thread Cert.BigoutRefIdeal.nD Cert.BigoutRefIdeal.τ).loc Cert.BigoutRefIdeal.main_arg10) = m' ((c.tc : Thread Cert.BigoutRefIdeal.nD Cert.BigoutRefIdeal.τ).loc Cert.BigoutRefIdeal.main_arg10))

def Claim : Prop :=
  ∃ (hMerge : Cert.Merge.Facts) (hMergeIdeal : Cert.MergeIdeal.Facts) (hMergeRefIdeal : Cert.MergeRefIdeal.Facts) (hDact : Cert.Dact.Facts) (hDactIdeal : Cert.DactIdeal.Facts) (hDactRefIdeal : Cert.DactRefIdeal.Facts) (hDm : Cert.Dm.Facts) (hDmIdeal : Cert.DmIdeal.Facts) (hDmRefIdeal : Cert.DmRefIdeal.Facts) (hDy : Cert.Dy.Facts) (hDyIdeal : Cert.DyIdeal.Facts) (hDyRefIdeal : Cert.DyRefIdeal.Facts) (hGdown : Cert.Gdown.Facts) (hGdownIdeal : Cert.GdownIdeal.Facts) (hGdownRefIdeal : Cert.GdownRefIdeal.Facts) (hGo : Cert.Go.Facts) (hGoIdeal : Cert.GoIdeal.Facts) (hGoRefIdeal : Cert.GoRefIdeal.Facts) (hGy : Cert.Gy.Facts) (hGyIdeal : Cert.GyIdeal.Facts) (hGyRefIdeal : Cert.GyRefIdeal.Facts) (hUp : Cert.Up.Facts) (hUpIdeal : Cert.UpIdeal.Facts) (hUpRefIdeal : Cert.UpRefIdeal.Facts) (hIn : Cert.In.Facts) (hInIdeal : Cert.InIdeal.Facts) (hInRefIdeal : Cert.InRefIdeal.Facts) (hDown : Cert.Down.Facts) (hDownIdeal : Cert.DownIdeal.Facts) (hDownRefIdeal : Cert.DownRefIdeal.Facts) (hGup : Cert.Gup.Facts) (hGupIdeal : Cert.GupIdeal.Facts) (hGupRefIdeal : Cert.GupRefIdeal.Facts) (hGin : Cert.Gin.Facts) (hGinIdeal : Cert.GinIdeal.Facts) (hGinRefIdeal : Cert.GinRefIdeal.Facts) (hGupa : Cert.Gupa.Facts) (hGupaIdeal : Cert.GupaIdeal.Facts) (hGupaRefIdeal : Cert.GupaRefIdeal.Facts) (hGina : Cert.Gina.Facts) (hGinaIdeal : Cert.GinaIdeal.Facts) (hGinaRefIdeal : Cert.GinaRefIdeal.Facts) (hDh : Cert.Dh.Facts) (hDhIdeal : Cert.DhIdeal.Facts) (hDhRefIdeal : Cert.DhRefIdeal.Facts) (hDhin : Cert.Dhin.Facts) (hDhinIdeal : Cert.DhinIdeal.Facts) (hDhinRefIdeal : Cert.DhinRefIdeal.Facts) (hDhina : Cert.Dhina.Facts) (hDhinaIdeal : Cert.DhinaIdeal.Facts) (hDhinaRefIdeal : Cert.DhinaRefIdeal.Facts) (hDhinb : Cert.Dhinb.Facts) (hDhinbIdeal : Cert.DhinbIdeal.Facts) (hDhinbRefIdeal : Cert.DhinbRefIdeal.Facts) (hRms : Cert.Rms.Facts) (hRmsIdeal : Cert.RmsIdeal.Facts) (hRmsRefIdeal : Cert.RmsRefIdeal.Facts) (hAdams : Cert.Adams.Facts) (hAdamsIdeal : Cert.AdamsIdeal.Facts) (hAdamsRefIdeal : Cert.AdamsRefIdeal.Facts) (hSums : Cert.Sums.Facts) (hSumsIdeal : Cert.SumsIdeal.Facts) (hSumsRefIdeal : Cert.SumsRefIdeal.Facts) (hBigout : Cert.Bigout.Facts) (hBigoutIdeal : Cert.BigoutIdeal.Facts) (hBigoutRefIdeal : Cert.BigoutRefIdeal.Facts) (hPre_on_mesh_w_proj_out : Cert.Pre_on_mesh_w_proj_out.Facts) (hOn_g_upa_written : Cert.On_g_upa_written.Facts) (hOn_g_ina_written : Cert.On_g_ina_written.Facts),
    quiescent_Merge (hMerge := hMerge)
    ∧ quiescent_MergeIdeal (hMergeIdeal := hMergeIdeal)
    ∧ quiescent_MergeRefIdeal (hMergeRefIdeal := hMergeRefIdeal)
    ∧ quiescent_Dact (hDact := hDact)
    ∧ quiescent_DactIdeal (hDactIdeal := hDactIdeal)
    ∧ quiescent_DactRefIdeal (hDactRefIdeal := hDactRefIdeal)
    ∧ quiescent_Dm (hDm := hDm)
    ∧ quiescent_DmIdeal (hDmIdeal := hDmIdeal)
    ∧ quiescent_DmRefIdeal (hDmRefIdeal := hDmRefIdeal)
    ∧ quiescent_Dy (hDy := hDy)
    ∧ quiescent_DyIdeal (hDyIdeal := hDyIdeal)
    ∧ quiescent_DyRefIdeal (hDyRefIdeal := hDyRefIdeal)
    ∧ quiescent_Gdown (hGdown := hGdown)
    ∧ quiescent_GdownIdeal (hGdownIdeal := hGdownIdeal)
    ∧ quiescent_GdownRefIdeal (hGdownRefIdeal := hGdownRefIdeal)
    ∧ quiescent_Go (hGo := hGo)
    ∧ quiescent_GoIdeal (hGoIdeal := hGoIdeal)
    ∧ quiescent_GoRefIdeal (hGoRefIdeal := hGoRefIdeal)
    ∧ quiescent_Gy (hGy := hGy)
    ∧ quiescent_GyIdeal (hGyIdeal := hGyIdeal)
    ∧ quiescent_GyRefIdeal (hGyRefIdeal := hGyRefIdeal)
    ∧ quiescent_Up (hUp := hUp)
    ∧ quiescent_UpIdeal (hUpIdeal := hUpIdeal)
    ∧ quiescent_UpRefIdeal (hUpRefIdeal := hUpRefIdeal)
    ∧ quiescent_In (hIn := hIn)
    ∧ quiescent_InIdeal (hInIdeal := hInIdeal)
    ∧ quiescent_InRefIdeal (hInRefIdeal := hInRefIdeal)
    ∧ quiescent_Down (hDown := hDown)
    ∧ quiescent_DownIdeal (hDownIdeal := hDownIdeal)
    ∧ quiescent_DownRefIdeal (hDownRefIdeal := hDownRefIdeal)
    ∧ quiescent_Gup (hGup := hGup)
    ∧ quiescent_GupIdeal (hGupIdeal := hGupIdeal)
    ∧ quiescent_GupRefIdeal (hGupRefIdeal := hGupRefIdeal)
    ∧ quiescent_Gin (hGin := hGin)
    ∧ quiescent_GinIdeal (hGinIdeal := hGinIdeal)
    ∧ quiescent_GinRefIdeal (hGinRefIdeal := hGinRefIdeal)
    ∧ quiescent_Gupa (hGupa := hGupa)
    ∧ quiescent_GupaIdeal (hGupaIdeal := hGupaIdeal)
    ∧ quiescent_GupaRefIdeal (hGupaRefIdeal := hGupaRefIdeal)
    ∧ quiescent_Gina (hGina := hGina)
    ∧ quiescent_GinaIdeal (hGinaIdeal := hGinaIdeal)
    ∧ quiescent_GinaRefIdeal (hGinaRefIdeal := hGinaRefIdeal)
    ∧ quiescent_Dh (hDh := hDh)
    ∧ quiescent_DhIdeal (hDhIdeal := hDhIdeal)
    ∧ quiescent_DhRefIdeal (hDhRefIdeal := hDhRefIdeal)
    ∧ quiescent_Dhin (hDhin := hDhin)
    ∧ quiescent_DhinIdeal (hDhinIdeal := hDhinIdeal)
    ∧ quiescent_DhinRefIdeal (hDhinRefIdeal := hDhinRefIdeal)
    ∧ quiescent_Dhina (hDhina := hDhina)
    ∧ quiescent_DhinaIdeal (hDhinaIdeal := hDhinaIdeal)
    ∧ quiescent_DhinaRefIdeal (hDhinaRefIdeal := hDhinaRefIdeal)
    ∧ quiescent_Dhinb (hDhinb := hDhinb)
    ∧ quiescent_DhinbIdeal (hDhinbIdeal := hDhinbIdeal)
    ∧ quiescent_DhinbRefIdeal (hDhinbRefIdeal := hDhinbRefIdeal)
    ∧ quiescent_Rms (hRms := hRms)
    ∧ quiescent_RmsIdeal (hRmsIdeal := hRmsIdeal)
    ∧ quiescent_RmsRefIdeal (hRmsRefIdeal := hRmsRefIdeal)
    ∧ quiescent_Adams (hAdams := hAdams)
    ∧ quiescent_AdamsIdeal (hAdamsIdeal := hAdamsIdeal)
    ∧ quiescent_AdamsRefIdeal (hAdamsRefIdeal := hAdamsRefIdeal)
    ∧ quiescent_Sums (hSums := hSums)
    ∧ quiescent_SumsIdeal (hSumsIdeal := hSumsIdeal)
    ∧ quiescent_SumsRefIdeal (hSumsRefIdeal := hSumsRefIdeal)
    ∧ quiescent_Bigout (hBigout := hBigout) (hPre_on_mesh_w_proj_out := hPre_on_mesh_w_proj_out)
    ∧ quiescent_BigoutIdeal (hBigoutIdeal := hBigoutIdeal) (hPre_on_mesh_w_proj_out := hPre_on_mesh_w_proj_out)
    ∧ quiescent_BigoutRefIdeal (hBigoutRefIdeal := hBigoutRefIdeal)
    ∧ quiescent_BigoutRefIdeal_pre_on_mesh_w_proj_out (hBigoutRefIdeal := hBigoutRefIdeal) (hPre_on_mesh_w_proj_out := hPre_on_mesh_w_proj_out)
    ∧ preserves_Merge_MergeIdeal
    ∧ algebraic_MergeIdeal_MergeRefIdeal (hMergeIdeal := hMergeIdeal) (hMergeRefIdeal := hMergeRefIdeal)
    ∧ preserves_Dact_DactIdeal
    ∧ algebraic_DactIdeal_DactRefIdeal (hDactIdeal := hDactIdeal) (hDactRefIdeal := hDactRefIdeal)
    ∧ preserves_Dm_DmIdeal
    ∧ algebraic_DmIdeal_DmRefIdeal (hDmIdeal := hDmIdeal) (hDmRefIdeal := hDmRefIdeal)
    ∧ preserves_Dy_DyIdeal
    ∧ algebraic_DyIdeal_DyRefIdeal (hDyIdeal := hDyIdeal) (hDyRefIdeal := hDyRefIdeal)
    ∧ preserves_Gdown_GdownIdeal
    ∧ algebraic_GdownIdeal_GdownRefIdeal (hGdownIdeal := hGdownIdeal) (hGdownRefIdeal := hGdownRefIdeal)
    ∧ preserves_Go_GoIdeal
    ∧ algebraic_GoIdeal_GoRefIdeal (hGoIdeal := hGoIdeal) (hGoRefIdeal := hGoRefIdeal)
    ∧ preserves_Gy_GyIdeal
    ∧ algebraic_GyIdeal_GyRefIdeal (hGyIdeal := hGyIdeal) (hGyRefIdeal := hGyRefIdeal)
    ∧ preserves_Up_UpIdeal
    ∧ algebraic_UpIdeal_UpRefIdeal (hUpIdeal := hUpIdeal) (hUpRefIdeal := hUpRefIdeal)
    ∧ preserves_In_InIdeal
    ∧ algebraic_InIdeal_InRefIdeal (hInIdeal := hInIdeal) (hInRefIdeal := hInRefIdeal)
    ∧ preserves_Down_DownIdeal
    ∧ algebraic_DownIdeal_DownRefIdeal (hDownIdeal := hDownIdeal) (hDownRefIdeal := hDownRefIdeal)
    ∧ preserves_Gup_GupIdeal
    ∧ algebraic_GupIdeal_GupRefIdeal (hGupIdeal := hGupIdeal) (hGupRefIdeal := hGupRefIdeal)
    ∧ preserves_Gin_GinIdeal
    ∧ algebraic_GinIdeal_GinRefIdeal (hGinIdeal := hGinIdeal) (hGinRefIdeal := hGinRefIdeal)
    ∧ preserves_Gupa_GupaIdeal
    ∧ algebraic_GupaIdeal_GupaRefIdeal_on_g_upa_written (hGupaIdeal := hGupaIdeal) (hGupaRefIdeal := hGupaRefIdeal) (hOn_g_upa_written := hOn_g_upa_written)
    ∧ preserves_Gina_GinaIdeal
    ∧ algebraic_GinaIdeal_GinaRefIdeal_on_g_ina_written (hGinaIdeal := hGinaIdeal) (hGinaRefIdeal := hGinaRefIdeal) (hOn_g_ina_written := hOn_g_ina_written)
    ∧ preserves_Dh_DhIdeal
    ∧ algebraic_DhIdeal_DhRefIdeal (hDhIdeal := hDhIdeal) (hDhRefIdeal := hDhRefIdeal)
    ∧ preserves_Dhin_DhinIdeal
    ∧ algebraic_DhinIdeal_DhinRefIdeal (hDhinIdeal := hDhinIdeal) (hDhinRefIdeal := hDhinRefIdeal)
    ∧ preserves_Dhina_DhinaIdeal
    ∧ algebraic_DhinaIdeal_DhinaRefIdeal (hDhinaIdeal := hDhinaIdeal) (hDhinaRefIdeal := hDhinaRefIdeal)
    ∧ preserves_Dhinb_DhinbIdeal
    ∧ algebraic_DhinbIdeal_DhinbRefIdeal (hDhinbIdeal := hDhinbIdeal) (hDhinbRefIdeal := hDhinbRefIdeal)
    ∧ preserves_Rms_RmsIdeal
    ∧ algebraic_RmsIdeal_RmsRefIdeal (hRmsIdeal := hRmsIdeal) (hRmsRefIdeal := hRmsRefIdeal)
    ∧ preserves_Adams_AdamsIdeal
    ∧ algebraic_AdamsIdeal_AdamsRefIdeal (hAdamsIdeal := hAdamsIdeal) (hAdamsRefIdeal := hAdamsRefIdeal)
    ∧ preserves_Sums_SumsIdeal
    ∧ algebraic_SumsIdeal_SumsRefIdeal (hSumsIdeal := hSumsIdeal) (hSumsRefIdeal := hSumsRefIdeal)
    ∧ preserves_Bigout_BigoutIdeal
    ∧ algebraic_BigoutIdeal_BigoutRefIdeal (hBigoutIdeal := hBigoutIdeal) (hBigoutRefIdeal := hBigoutRefIdeal) (hPre_on_mesh_w_proj_out := hPre_on_mesh_w_proj_out)
-- ==== On_g_ina_written.lean ====
abbrev S4096x2048 : Shape := ⟨2, ![4096, 2048]⟩
abbrev S4096x6144 : Shape := ⟨2, ![4096, 6144]⟩
abbrev S2048x12288 : Shape := ⟨2, ![2048, 12288]⟩
abbrev S_ : Shape := ⟨0, ![]⟩

class Facts : Prop where
  bcast_S_S2048x12288 : S_.BroadcastsInDim S2048x12288 (![] : Fin 0 → Fin S2048x12288.rank)

variable [Facts]

def fn {F : FTy → Type} [FloatOps F] (main_arg0 : FVec F S4096x2048 .bf16) (main_arg1 : FVec F S4096x6144 .bf16) : IVec S2048x12288 1 :=
  let main_v0 : IVec S2048x12288 32 := iotaInDim S2048x12288 32 1
  let main_c : IVec S_ 32 := constantI S_ 32 6144#32
  let main_v1 : IVec S2048x12288 32 := broadcastInDim S2048x12288 ![] bcast_S_S2048x12288 main_c
  let main_v2 : IVec S2048x12288 1 := cmpi .slt main_v0 main_v1
  main_v2
-- ==== On_g_upa_written.lean ====
abbrev S4096x2048 : Shape := ⟨2, ![4096, 2048]⟩
abbrev S4096x5632 : Shape := ⟨2, ![4096, 5632]⟩
abbrev S2048x11264 : Shape := ⟨2, ![2048, 11264]⟩
abbrev S_ : Shape := ⟨0, ![]⟩

class Facts : Prop where
  bcast_S_S2048x11264 : S_.BroadcastsInDim S2048x11264 (![] : Fin 0 → Fin S2048x11264.rank)

variable [Facts]

def fn {F : FTy → Type} [FloatOps F] (main_arg0 : FVec F S4096x2048 .bf16) (main_arg1 : FVec F S4096x5632 .bf16) : IVec S2048x11264 1 :=
  let main_v0 : IVec S2048x11264 32 := iotaInDim S2048x11264 32 1
  let main_c : IVec S_ 32 := constantI S_ 32 5632#32
  let main_v1 : IVec S2048x11264 32 := broadcastInDim S2048x11264 ![] bcast_S_S2048x11264 main_c
  let main_v2 : IVec S2048x11264 1 := cmpi .slt main_v0 main_v1
  main_v2
-- ==== Pre_on_mesh_w_proj_out.lean ====
abbrev S1024x2048 : Shape := ⟨2, ![1024, 2048]⟩
abbrev S4x1024x256 : Shape := ⟨3, ![4, 1024, 256]⟩
abbrev S3x1024x256 : Shape := ⟨3, ![3, 1024, 256]⟩
abbrev S2x1024x256 : Shape := ⟨3, ![2, 1024, 256]⟩
abbrev S3 : Shape := ⟨1, ![3]⟩
abbrev S_ : Shape := ⟨0, ![]⟩

class Facts : Prop where
  bcast_S_S3 : S_.BroadcastsInDim S3 (![] : Fin 0 → Fin S3.rank)

variable [Facts]

def fn {F : FTy → Type} [FloatOps F] (main_arg0 : FVec F S1024x2048 .bf16) (main_arg1 : FVec F S4x1024x256 .bf16) (main_arg2 : FVec F S3x1024x256 .bf16) (main_arg3 : FVec F S2x1024x256 .f32) (main_arg4 : FVec F S2x1024x256 .f32) (main_arg5 : FVec F S2x1024x256 .f32) (main_arg6 : IVec S3 32) (main_arg7 : FVec F S2x1024x256 .f32) (main_arg8 : FVec F S2x1024x256 .f32) (main_arg9 : FVec F S2x1024x256 .f32) (main_arg10 : FVec F S2x1024x256 .f32) : IVec S3 1 :=
  let main_c : IVec S_ 32 := constantI S_ 32 0#32
  let main_v0 : IVec S3 32 := broadcastInDim S3 ![] bcast_S_S3 main_c
  let main_v1 : IVec S3 1 := cmpi .sge main_arg6 main_v0
  let main_c_0 : IVec S_ 32 := constantI S_ 32 1#32
  let main_v2 : IVec S3 32 := broadcastInDim S3 ![] bcast_S_S3 main_c_0
  let main_v3 : IVec S3 1 := cmpi .sle main_arg6 main_v2
  let main_v4 : IVec S3 1 := andi main_v1 main_v3
  main_v4
-- ==== Merge.lean ====
abbrev S4096x12288 : Shape := ⟨2, ![4096, 12288]⟩
abbrev S4096x2048 : Shape := ⟨2, ![4096, 2048]⟩
abbrev S4096x6144 : Shape := ⟨2, ![4096, 6144]⟩
abbrev S256x2048 : Shape := ⟨2, ![256, 2048]⟩
abbrev S256x6144 : Shape := ⟨2, ![256, 6144]⟩

abbrev nBuf : Space → Nat
  | .hbm => 9
  | .vmem => 18
  | .smem => 0
  | _ => 0

abbrev bufTy : (tb : Table) → Fin (tcTables nBuf tb) → BufTy
  | .hbm, ⟨0, _⟩ => ⟨S4096x12288, .bf16⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S4096x2048, .bf16⟩
  | .hbm, ⟨7, _⟩ => ⟨S4096x2048, .bf16⟩
  | .hbm, ⟨8, _⟩ => ⟨S4096x6144, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x6144, .bf16⟩
  | .local _ .vmem, ⟨9, _⟩ => ⟨S256x6144, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x6144, .bf16⟩
  | .local _ .vmem, ⟨17, _⟩ => ⟨S256x6144, .bf16⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x6144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x6144 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S4096x12288 : Shape := ⟨2, ![4096, 12288]⟩
abbrev S4096x2048 : Shape := ⟨2, ![4096, 2048]⟩
abbrev S4096x6144 : Shape := ⟨2, ![4096, 6144]⟩
abbrev S_ : Shape := ⟨0, ![]⟩
abbrev S4096x3x2048 : Shape := ⟨3, ![4096, 3, 2048]⟩
abbrev S4096x1x2048 : Shape := ⟨3, ![4096, 1, 2048]⟩

abbrev nBuf : Space → Nat
  | .hbm => 58
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x6144, .bf16⟩
  | .hbm, ⟨6, _⟩ => ⟨S4096x6144, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x6144, .f32⟩
  | .hbm, ⟨11, _⟩ => ⟨S4096x6144, .f32⟩
  | .hbm, ⟨12, _⟩ => ⟨S_, .f32⟩
  | .hbm, ⟨13, _⟩ => ⟨S4096x6144, .f32⟩
  | .hbm, ⟨14, _⟩ => ⟨S4096x6144, .f32⟩
  | .hbm, ⟨15, _⟩ => ⟨S_, .f32⟩
  | .hbm, ⟨16, _⟩ => ⟨S4096x6144, .f32⟩
  | .hbm, ⟨17, _⟩ => ⟨S4096x6144, .f32⟩
  | .hbm, ⟨18, _⟩ => ⟨S_, .f32⟩
  | .hbm, ⟨19, _⟩ => ⟨S4096x6144, .f32⟩
  | .hbm, ⟨20, _⟩ => ⟨S4096x6144, .f32⟩
  | .hbm, ⟨21, _⟩ => ⟨S4096x6144, .f32⟩
  | .hbm, ⟨22, _⟩ => ⟨S4096x3x2048, .f32⟩
  | .hbm, ⟨23, _⟩ => ⟨S4096x1x2048, .f32⟩
  | .hbm, ⟨24, _⟩ => ⟨S4096x2048, .f32⟩
  | .hbm, ⟨25, _⟩ => ⟨S4096x2048, .f32⟩
  | .hbm, ⟨26, _⟩ => ⟨S4096x1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x1x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x1x2048, .f32⟩
  | .hbm, ⟨38, _⟩ => ⟨S_, .f32⟩
  | .hbm, ⟨39, _⟩ => ⟨S4096x3x2048, .f32⟩
  | .hbm, ⟨40, _⟩ => ⟨S4096x2048, .f32⟩
  | .hbm, ⟨41, _⟩ => ⟨S4096x2048, .f32⟩
  | .hbm, ⟨42, _⟩ => ⟨S4096x1x2048, .f32⟩
  | .hbm, ⟨43, _⟩ => ⟨S_, .f32⟩
  | .hbm, ⟨44, _⟩ => ⟨S4096x3x2048, .f32⟩
  | .hbm, ⟨45, _⟩ => ⟨S4096x3x2048, .f32⟩
  | .hbm, ⟨46, _⟩ => ⟨S4096x2048, .f32⟩
  | .hbm, ⟨47, _⟩ => ⟨S4096x2048, .f32⟩
  | .hbm, ⟨48, _⟩ => ⟨S4096x1x2048, .f32⟩
  | .hbm, ⟨49, _⟩ => ⟨S_, .f32⟩
  | .hbm, ⟨50, _⟩ => ⟨S4096x3x2048, .f32⟩
  | .hbm, ⟨51, _⟩ => ⟨S4096x3x2048, .f32⟩
  | .hbm, ⟨52, _⟩ => ⟨S4096x6144, .f32⟩
  | .hbm, ⟨53, _⟩ => ⟨S4096x6144, .f32⟩
  | .hbm, ⟨54, _⟩ => ⟨S4096x2048, .bf16⟩
  | .hbm, ⟨55, _⟩ => ⟨S4096x2048, .bf16⟩
  | .hbm, ⟨56, _⟩ => ⟨S4096x2048, .bf16⟩
  | .hbm, ⟨57, _⟩ => ⟨S4096x6144, .bf16⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]
-- ==== Dact.lean ====
abbrev S4096x2048 : Shape := ⟨2, ![4096, 2048]⟩
abbrev S5632x2048 : Shape := ⟨2, ![5632, 2048]⟩
abbrev S4096x5632 : Shape := ⟨2, ![4096, 5632]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactRefIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S_, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S4096x5632, .f32⟩
  | .hbm, ⟨8, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dm.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dy.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyRefIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S_, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S4096x1024, .f32⟩
  | .hbm, ⟨8, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Gdown.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GdownRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Go.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GoRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Gy.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GyRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Up.lean ====
abbrev S4096x2048 : Shape := ⟨2, ![4096, 2048]⟩
abbrev S2048x11264 : Shape := ⟨2, ![2048, 11264]⟩
abbrev S4096x11264 : Shape := ⟨2, ![4096, 11264]⟩
abbrev S2048x2048 : Shape := ⟨2, ![2048, 2048]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x11264, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi c0_i32 v0
  let c0_i32_0 : BitVec 32 := 0#32
  ![arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi c0_i32 v0
  let c0_i32_0 : BitVec 32 := 0#32
  ![arg0.toNat, v1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x2048 : Shape := ⟨2, ![4096, 2048]⟩
abbrev S2048x11264 : Shape := ⟨2, ![2048, 11264]⟩
abbrev S4096x11264 : Shape := ⟨2, ![4096, 11264]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x2048, .f32⟩
  | .hbm, ⟨3, _⟩ => ⟨S2048x11264, .f32⟩
  | .hbm, ⟨4, _⟩ => ⟨S4096x11264, .f32⟩
  | .hbm, ⟨5, _⟩ => ⟨S4096x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== In.lean ====
abbrev S4096x2048 : Shape := ⟨2, ![4096, 2048]⟩
abbrev S2048x12288 : Shape := ⟨2, ![2048, 12288]⟩
abbrev S4096x12288 : Shape := ⟨2, ![4096, 12288]⟩
abbrev S2048x2048 : Shape := ⟨2, ![2048, 2048]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x12288, .bf16⟩
  | .hbm, ⟨2, _⟩ => ⟨S4096x12288, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi c0_i32 v0
  let c0_i32_0 : BitVec 32 := 0#32
  ![arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi c0_i32 v0
  let c0_i32_0 : BitVec 32 := 0#32
  ![arg0.toNat, v1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S4096x2048 : Shape := ⟨2, ![4096, 2048]⟩
abbrev S2048x12288 : Shape := ⟨2, ![2048, 12288]⟩
abbrev S4096x12288 : Shape := ⟨2, ![4096, 12288]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x12288, .bf16⟩
  | .hbm, ⟨2, _⟩ => ⟨S4096x2048, .f32⟩
  | .hbm, ⟨3, _⟩ => ⟨S2048x12288, .f32⟩
  | .hbm, ⟨4, _⟩ => ⟨S4096x12288, .f32⟩
  | .hbm, ⟨5, _⟩ => ⟨S4096x12288, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S4096x5632 : Shape := ⟨2, ![4096, 5632]⟩
abbrev S5632x2048 : Shape := ⟨2, ![5632, 2048]⟩
abbrev S4096x2048 : Shape := ⟨2, ![4096, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi c0_i32 v0
  let c0_i32_0 : BitVec 32 := 0#32
  ![arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c0_i32 : BitVec 32 := 0#32
  let v1 : BitVec 32 := Scalar.addi c0_i32 v0
  let c0_i32_0 : BitVec 32 := 0#32
  ![arg0.toNat, v1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Gup.lean ====
abbrev S4096x2048 : Shape := ⟨2, ![4096, 2048]⟩
abbrev S4096x5632 : Shape := ⟨2, ![4096, 5632]⟩
abbrev S2048x11264 : Shape := ⟨2, ![2048, 11264]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S2048x11264, .bf16⟩
  | .hbm, ⟨3, _⟩ => ⟨S2048x11264, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg1
  let c0_i32 : BitVec 32 := 0#32
  ![arg0.toNat, v0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GupRefIdeal.lean ====
abbrev S4096x2048 : Shape := ⟨2, ![4096, 2048]⟩
abbrev S4096x5632 : Shape := ⟨2, ![4096, 5632]⟩
abbrev S2048x11264 : Shape := ⟨2, ![2048, 11264]⟩
abbrev S_ : Shape := ⟨0, ![]⟩
abbrev S2048x5632 : Shape := ⟨2, ![2048, 5632]⟩
abbrev S5632x2048 : Shape := ⟨2, ![5632, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S2048x11264, .bf16⟩
  | .hbm, ⟨3, _⟩ => ⟨S_, .f32⟩
  | .hbm, ⟨4, _⟩ => ⟨S2048x5632, .f32⟩
  | .hbm, ⟨5, _⟩ => ⟨S4096x2048, .f32⟩
  | .hbm, ⟨6, _⟩ => ⟨S4096x5632, .f32⟩
  | .hbm, ⟨7, _⟩ => ⟨S4096x5632, .f32⟩
  | .hbm, ⟨8, _⟩ => ⟨S5632x2048, .f32⟩
  | .hbm, ⟨9, _⟩ => ⟨S2048x5632, .f32⟩
  | .hbm, ⟨10, _⟩ => ⟨S2048x5632, .bf16⟩
  | .hbm, ⟨11, _⟩ => ⟨S2048x5632, .bf16⟩
  | .hbm, ⟨12, _⟩ => ⟨S2048x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Gin.lean ====
abbrev S4096x2048 : Shape := ⟨2, ![4096, 2048]⟩
abbrev S4096x6144 : Shape := ⟨2, ![4096, 6144]⟩
abbrev S2048x12288 : Shape := ⟨2, ![2048, 12288]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S2048x12288, .bf16⟩
  | .hbm, ⟨3, _⟩ => ⟨S2048x12288, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, v0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GinRefIdeal.lean ====
abbrev S4096x2048 : Shape := ⟨2, ![4096, 2048]⟩
abbrev S4096x6144 : Shape := ⟨2, ![4096, 6144]⟩
abbrev S2048x12288 : Shape := ⟨2, ![2048, 12288]⟩
abbrev S_ : Shape := ⟨0, ![]⟩
abbrev S2048x6144 : Shape := ⟨2, ![2048, 6144]⟩
abbrev S6144x2048 : Shape := ⟨2, ![6144, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S2048x12288, .bf16⟩
  | .hbm, ⟨3, _⟩ => ⟨S_, .f32⟩
  | .hbm, ⟨4, _⟩ => ⟨S2048x6144, .f32⟩
  | .hbm, ⟨5, _⟩ => ⟨S4096x2048, .f32⟩
  | .hbm, ⟨6, _⟩ => ⟨S4096x6144, .f32⟩
  | .hbm, ⟨7, _⟩ => ⟨S4096x6144, .f32⟩
  | .hbm, ⟨8, _⟩ => ⟨S6144x2048, .f32⟩
  | .hbm, ⟨9, _⟩ => ⟨S2048x6144, .f32⟩
  | .hbm, ⟨10, _⟩ => ⟨S2048x6144, .bf16⟩
  | .hbm, ⟨11, _⟩ => ⟨S2048x6144, .bf16⟩
  | .hbm, ⟨12, _⟩ => ⟨S2048x12288, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Gupa.lean ====
abbrev S4096x2048 : Shape := ⟨2, ![4096, 2048]⟩
abbrev S4096x5632 : Shape := ⟨2, ![4096, 5632]⟩
abbrev S2048x11264 : Shape := ⟨2, ![2048, 11264]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S2048x11264, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GupaRefIdeal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩
abbrev S2048x11264 : Shape := ⟨2, ![2048, 11264]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S_, .f32⟩
  | .hbm, ⟨3, _⟩ => ⟨S2048x5632, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | .hbm, ⟨10, _⟩ => ⟨S_, .bf16⟩
  | .hbm, ⟨11, _⟩ => ⟨S2048x5632, .bf16⟩
  | .hbm, ⟨12, _⟩ => ⟨S2048x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Gina.lean ====
abbrev S4096x2048 : Shape := ⟨2, ![4096, 2048]⟩
abbrev S4096x6144 : Shape := ⟨2, ![4096, 6144]⟩
abbrev S2048x12288 : Shape := ⟨2, ![2048, 12288]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S2048x12288, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GinaRefIdeal.lean ====
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩
abbrev S2048x12288 : Shape := ⟨2, ![2048, 12288]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S_, .f32⟩
  | .hbm, ⟨3, _⟩ => ⟨S2048x6144, .f32⟩
  | .hbm, ⟨4, _⟩ => ⟨S4096x2048, .f32⟩
  | .hbm, ⟨5, _⟩ => ⟨S4096x6144, .f32⟩
  | .hbm, ⟨6, _⟩ => ⟨S4096x6144, .f32⟩
  | .hbm, ⟨7, _⟩ => ⟨S6144x2048, .f32⟩
  | .hbm, ⟨8, _⟩ => ⟨S2048x6144, .f32⟩
  | .hbm, ⟨9, _⟩ => ⟨S2048x6144, .bf16⟩
  | .hbm, ⟨10, _⟩ => ⟨S_, .bf16⟩
  | .hbm, ⟨11, _⟩ => ⟨S2048x6144, .bf16⟩
  | .hbm, ⟨12, _⟩ => ⟨S2048x12288, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Dh.lean ====
abbrev S4096x5632 : Shape := ⟨2, ![4096, 5632]⟩
abbrev S2048x11264 : Shape := ⟨2, ![2048, 11264]⟩
abbrev S4096x2048 : Shape := ⟨2, ![4096, 2048]⟩
abbrev S1024x2816 : Shape := ⟨2, ![1024, 2816]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S2048x11264, .bf16⟩
  | .hbm, ⟨2, _⟩ => ⟨S4096x5632, .bf16⟩
  | .hbm, ⟨3, _⟩ => ⟨S4096x2048, .bf16⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .bf16⟩
  | .local _ .vmem, ⟨5, _⟩ => ⟨S1024x2816, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c0_i32_0 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhRefIdeal.lean ====
abbrev S4096x5632 : Shape := ⟨2, ![4096, 5632]⟩
abbrev S2048x11264 : Shape := ⟨2, ![2048, 11264]⟩
abbrev S_ : Shape := ⟨0, ![]⟩
abbrev S4096x2048 : Shape := ⟨2, ![4096, 2048]⟩
abbrev S4096x11264 : Shape := ⟨2, ![4096, 11264]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S2048x11264, .bf16⟩
  | .hbm, ⟨2, _⟩ => ⟨S4096x5632, .bf16⟩
  | .hbm, ⟨3, _⟩ => ⟨S_, .f32⟩
  | .hbm, ⟨4, _⟩ => ⟨S4096x2048, .f32⟩
  | .hbm, ⟨5, _⟩ => ⟨S4096x11264, .bf16⟩
  | .hbm, ⟨6, _⟩ => ⟨S4096x11264, .f32⟩
  | .hbm, ⟨7, _⟩ => ⟨S2048x11264, .f32⟩
  | .hbm, ⟨8, _⟩ => ⟨S4096x11264, .f32⟩
  | .hbm, ⟨9, _⟩ => ⟨S4096x2048, .f32⟩
  | .hbm, ⟨10, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Dhin.lean ====
abbrev S4096x6144 : Shape := ⟨2, ![4096, 6144]⟩
abbrev S2048x12288 : Shape := ⟨2, ![2048, 12288]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x6144, .bf16⟩
  | .hbm, ⟨1, _⟩ => ⟨S2048x12288, .bf16⟩
  | .hbm, ⟨2, _⟩ => ⟨S4096x6144, .bf16⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 6], ![false, false, false]⟩

def k0_cond4 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.minsi arg2 c2_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let v1 : BitVec 32 := Scalar.maxsi v0 c0_i32
  let c0_i32_0 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhinRefIdeal.lean ====
abbrev S4096x6144 : Shape := ⟨2, ![4096, 6144]⟩
abbrev S2048x12288 : Shape := ⟨2, ![2048, 12288]⟩
abbrev S_ : Shape := ⟨0, ![]⟩
abbrev S4096x2048 : Shape := ⟨2, ![4096, 2048]⟩
abbrev S4096x12288 : Shape := ⟨2, ![4096, 12288]⟩

abbrev nBuf : Space → Nat
  | .hbm => 11
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S2048x12288, .bf16⟩
  | .hbm, ⟨2, _⟩ => ⟨S4096x6144, .bf16⟩
  | .hbm, ⟨3, _⟩ => ⟨S_, .f32⟩
  | .hbm, ⟨4, _⟩ => ⟨S4096x2048, .f32⟩
  | .hbm, ⟨5, _⟩ => ⟨S4096x12288, .bf16⟩
  | .hbm, ⟨6, _⟩ => ⟨S4096x12288, .f32⟩
  | .hbm, ⟨7, _⟩ => ⟨S2048x12288, .f32⟩
  | .hbm, ⟨8, _⟩ => ⟨S4096x12288, .f32⟩
  | .hbm, ⟨9, _⟩ => ⟨S4096x2048, .f32⟩
  | .hbm, ⟨10, _⟩ => ⟨S4096x2048, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Dhina.lean ====
abbrev S4096x6144 : Shape := ⟨2, ![4096, 6144]⟩
abbrev S2048x12288 : Shape := ⟨2, ![2048, 12288]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S2048x12288, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.minsi arg2 c2_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhinaRefIdeal.lean ====
abbrev S4096x6144 : Shape := ⟨2, ![4096, 6144]⟩
abbrev S2048x12288 : Shape := ⟨2, ![2048, 12288]⟩
abbrev S_ : Shape := ⟨0, ![]⟩
abbrev S4096x2048 : Shape := ⟨2, ![4096, 2048]⟩
abbrev S2048x6144 : Shape := ⟨2, ![2048, 6144]⟩

abbrev nBuf : Space → Nat
  | .hbm => 9
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S2048x12288, .bf16⟩
  | .hbm, ⟨2, _⟩ => ⟨S_, .f32⟩
  | .hbm, ⟨3, _⟩ => ⟨S4096x2048, .f32⟩
  | .hbm, ⟨4, _⟩ => ⟨S2048x6144, .bf16⟩
  | .hbm, ⟨5, _⟩ => ⟨S2048x6144, .f32⟩
  | .hbm, ⟨6, _⟩ => ⟨S4096x6144, .f32⟩
  | .hbm, ⟨7, _⟩ => ⟨S4096x6144, .f32⟩
  | .hbm, ⟨8, _⟩ => ⟨S4096x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dhinb.lean ====
abbrev S4096x6144 : Shape := ⟨2, ![4096, 6144]⟩
abbrev S2048x12288 : Shape := ⟨2, ![2048, 12288]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x6144, .bf16⟩
  | .hbm, ⟨1, _⟩ => ⟨S2048x12288, .bf16⟩
  | .hbm, ⟨2, _⟩ => ⟨S4096x2048, .f32⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.minsi arg2 c2_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg2
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhinbRefIdeal.lean ====
abbrev S4096x6144 : Shape := ⟨2, ![4096, 6144]⟩
abbrev S2048x12288 : Shape := ⟨2, ![2048, 12288]⟩
abbrev S4096x2048 : Shape := ⟨2, ![4096, 2048]⟩
abbrev S_ : Shape := ⟨0, ![]⟩
abbrev S2048x6144 : Shape := ⟨2, ![2048, 6144]⟩

abbrev nBuf : Space → Nat
  | .hbm => 12
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S2048x12288, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S2048x6144, .bf16⟩
  | .hbm, ⟨6, _⟩ => ⟨S2048x6144, .f32⟩
  | .hbm, ⟨7, _⟩ => ⟨S4096x6144, .f32⟩
  | .hbm, ⟨8, _⟩ => ⟨S4096x6144, .f32⟩
  | .hbm, ⟨9, _⟩ => ⟨S4096x2048, .f32⟩
  | .hbm, ⟨10, _⟩ => ⟨S4096x2048, .f32⟩
  | .hbm, ⟨11, _⟩ => ⟨S4096x2048, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Rms.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_16 : BitVec 32 := 0#32
  let v36 : BitVec 1 := Scalar.cmpi .ne v35 c0_i32_16
  v36

def k0_cond2 (i : grid0.Coords) : BitVec 1 :=
  let arg0 : BitVec 32 := BitVec.ofNat 32 (i 0).val
  let c0_i32_17 : BitVec 32 := 0#32
  let v37 : BitVec 1 := Scalar.cmpi .sgt arg0 c0_i32_17
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .bf16⟩
  | .hbm, ⟨53, _⟩ => ⟨S1x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Adams.lean ====
abbrev S2x2048 : Shape := ⟨2, ![2, 2048]⟩
abbrev S2x1024 : Shape := ⟨2, ![2, 1024]⟩
abbrev S2x8x128x128 : Shape := ⟨4, ![2, 8, 128, 128]⟩
abbrev S2x128x8 : Shape := ⟨3, ![2, 128, 8]⟩
abbrev S2x3x128 : Shape := ⟨3, ![2, 3, 128]⟩
abbrev S2x3x1408 : Shape := ⟨3, ![2, 3, 1408]⟩
abbrev S2048 : Shape := ⟨1, ![2048]⟩
abbrev S4096 : Shape := ⟨1, ![4096]⟩
abbrev S32x128 : Shape := ⟨2, ![32, 128]⟩
abbrev S16x128 : Shape := ⟨2, ![16, 128]⟩
abbrev S262144 : Shape := ⟨1, ![262144]⟩
abbrev S2048x128 : Shape := ⟨2, ![2048, 128]⟩
abbrev S768 : Shape := ⟨1, ![768]⟩
abbrev S_ : Shape := ⟨0, ![]⟩
abbrev S1024 : Shape := ⟨1, ![1024]⟩
abbrev S8x128 : Shape := ⟨2, ![8, 128]⟩
abbrev S8448 : Shape := ⟨1, ![8448]⟩
abbrev S9216 : Shape := ⟨1, ![9216]⟩
abbrev S72x128 : Shape := ⟨2, ![72, 128]⟩
abbrev S2256x128 : Shape := ⟨2, ![2256, 128]⟩

abbrev nBuf : Space → Nat
  | .hbm => 219
  | .vmem => 7
  | .smem => 0
  | _ => 0

abbrev hbmTy0_0 (i : Nat) : BufTy := match i % 128 with
  | 0 => ⟨S2x2048, .f32⟩
  | 1 => ⟨S2x1024, .f32⟩
  | 2 => ⟨S2x1024, .f32⟩
  | 3 => ⟨S2x8x128x128, .f32⟩
  | 4 => ⟨S2x128x8, .f32⟩
  | 5 => ⟨S2x3x128, .f32⟩
  | 6 => ⟨S2x2048, .f32⟩
  | 7 => ⟨S2x3x1408, .f32⟩
  | 8 => ⟨S2048, .f32⟩
  | 9 => ⟨S2x2048, .f32⟩
  | 10 => ⟨S2x1024, .f32⟩
  | 11 => ⟨S2x1024, .f32⟩
  | 12 => ⟨S2x8x128x128, .f32⟩
  | 13 => ⟨S2x128x8, .f32⟩
  | 14 => ⟨S2x3x128, .f32⟩
  | 15 => ⟨S2x2048, .f32⟩
  | 16 => ⟨S2x3x1408, .f32⟩
  | 17 => ⟨S2048, .f32⟩
  | 18 => ⟨S2x2048, .f32⟩
  | 19 => ⟨S2x1024, .f32⟩
  | 20 => ⟨S2x1024, .f32⟩
  | 21 => ⟨S2x8x128x128, .f32⟩
  | 22 => ⟨S2x128x8, .f32⟩
  | 23 => ⟨S2x3x128, .f32⟩
  | 24 => ⟨S2x2048, .f32⟩
  | 25 => ⟨S2x3x1408, .f32⟩
  | 26 => ⟨S2048, .f32⟩
  | 27 => ⟨S2x2048, .f32⟩
  | 28 => ⟨S2x1024, .f32⟩
  | 29 => ⟨S2x1024, .f32⟩
  | 30 => ⟨S2x8x128x128, .f32⟩
  | 31 => ⟨S2x128x8, .f32⟩
  | 32 => ⟨S2x3x128, .f32⟩
  | 33 => ⟨S2x2048, .f32⟩
  | 34 => ⟨S2x3x1408, .f32⟩
  | 35 => ⟨S2048, .f32⟩
  | 36 => ⟨S4096, .f32⟩
  | 37 => ⟨S32x128, .f32⟩
  | 38 => ⟨S2048, .f32⟩
  | 39 => ⟨S16x128, .f32⟩
  | 40 => ⟨S2048, .f32⟩
  | 41 => ⟨S16x128, .f32⟩
  | 42 => ⟨S262144, .f32⟩
  | 43 => ⟨S2048x128, .f32⟩
  | 44 => ⟨S2048, .f32⟩
  | 45 => ⟨S16x128, .f32⟩
  | 46 => ⟨S768, .f32⟩
  | 47 => ⟨S_, .i32⟩
  | 48 => ⟨S_, .f32⟩
  | 49 => ⟨S1024, .f32⟩
  | 50 => ⟨S8x128, .f32⟩
  | 51 => ⟨S4096, .f32⟩
  | 52 => ⟨S32x128, .f32⟩
  | 53 => ⟨S8448, .f32⟩
  | 54 => ⟨S_, .i32⟩
  | 55 => ⟨S_, .f32⟩
  | 56 => ⟨S9216, .f32⟩
  | 57 => ⟨S72x128, .f32⟩
  | 58 => ⟨S16x128, .f32⟩
  | 59 => ⟨S2256x128, .f32⟩
  | 60 => ⟨S4096, .f32⟩
  | 61 => ⟨S32x128, .f32⟩
  | 62 => ⟨S2048, .f32⟩
  | 63 => ⟨S16x128, .f32⟩
  | 64 => ⟨S2048, .f32⟩
  | 65 => ⟨S16x128, .f32⟩
  | 66 => ⟨S262144, .f32⟩
  | 67 => ⟨S2048x128, .f32⟩
  | 68 => ⟨S2048, .f32⟩
  | 69 => ⟨S16x128, .f32⟩
  | 70 => ⟨S768, .f32⟩
  | 71 => ⟨S_, .i32⟩
  | 72 => ⟨S_, .f32⟩
  | 73 => ⟨S1024, .f32⟩
  | 74 => ⟨S8x128, .f32⟩
  | 75 => ⟨S4096, .f32⟩
  | 76 => ⟨S32x128, .f32⟩
  | 77 => ⟨S8448, .f32⟩
  | 78 => ⟨S_, .i32⟩
  | 79 => ⟨S_, .f32⟩
  | 80 => ⟨S9216, .f32⟩
  | 81 => ⟨S72x128, .f32⟩
  | 82 => ⟨S16x128, .f32⟩
  | 83 => ⟨S2256x128, .f32⟩
  | 84 => ⟨S4096, .f32⟩
  | 85 => ⟨S32x128, .f32⟩
  | 86 => ⟨S2048, .f32⟩
  | 87 => ⟨S16x128, .f32⟩
  | 88 => ⟨S2048, .f32⟩
  | 89 => ⟨S16x128, .f32⟩
  | 90 => ⟨S262144, .f32⟩
  | 91 => ⟨S2048x128, .f32⟩
  | 92 => ⟨S2048, .f32⟩
  | 93 => ⟨S16x128, .f32⟩
  | 94 => ⟨S768, .f32⟩
  | 95 => ⟨S_, .i32⟩
  | 96 => ⟨S_, .f32⟩
  | 97 => ⟨S1024, .f32⟩
  | 98 => ⟨S8x128, .f32⟩
  | 99 => ⟨S4096, .f32⟩
  | 100 => ⟨S32x128, .f32⟩
  | 101 => ⟨S8448, .f32⟩
  | 102 => ⟨S_, .i32⟩
  | 103 => ⟨S_, .f32⟩
  | 104 => ⟨S9216, .f32⟩
  | 105 => ⟨S72x128, .f32⟩
  | 106 => ⟨S16x128, .f32⟩
  | 107 => ⟨S2256x128, .f32⟩
  | 108 => ⟨S4096, .f32⟩
  | 109 => ⟨S32x128, .f32⟩
  | 110 => ⟨S2048, .f32⟩
  | 111 => ⟨S16x128, .f32⟩
  | 112 => ⟨S2048, .f32⟩
  | 113 => ⟨S16x128, .f32⟩
  | 114 => ⟨S262144, .f32⟩
  | 115 => ⟨S2048x128, .f32⟩
  | 116 => ⟨S2048, .f32⟩
  | 117 => ⟨S16x128, .f32⟩
  | 118 => ⟨S768, .f32⟩
  | 119 => ⟨S_, .i32⟩
  | 120 => ⟨S_, .f32⟩
  | 121 => ⟨S1024, .f32⟩
  | 122 => ⟨S8x128, .f32⟩
  | 123 => ⟨S4096, .f32⟩
  | 124 => ⟨S32x128, .f32⟩
  | 125 => ⟨S8448, .f32⟩
  | 126 => ⟨S_, .i32⟩
  | 127 => ⟨S_, .f32⟩
  | _ => ⟨S2x2048, .f32⟩

abbrev hbmTy0_1 (i : Nat) : BufTy := match i % 128 with
  | 0 => ⟨S9216, .f32⟩
  | 1 => ⟨S72x128, .f32⟩
  | 2 => ⟨S16x128, .f32⟩
  | 3 => ⟨S2256x128, .f32⟩
  | 4 => ⟨S2256x128, .f32⟩
  | 5 => ⟨S2256x128, .f32⟩
  | 6 => ⟨S2256x128, .f32⟩
  | 7 => ⟨S32x128, .f32⟩
  | 8 => ⟨S4096, .f32⟩
  | 9 => ⟨S2x2048, .f32⟩
  | 10 => ⟨S16x128, .f32⟩
  | 11 => ⟨S2048, .f32⟩
  | 12 => ⟨S2x1024, .f32⟩
  | 13 => ⟨S16x128, .f32⟩
  | 14 => ⟨S2048, .f32⟩
  | 15 => ⟨S2x1024, .f32⟩
  | 16 => ⟨S2048x128, .f32⟩
  | 17 => ⟨S262144, .f32⟩
  | 18 => ⟨S2x8x128x128, .f32⟩
  | 19 => ⟨S16x128, .f32⟩
  | 20 => ⟨S2048, .f32⟩
  | 21 => ⟨S2x128x8, .f32⟩
  | 22 => ⟨S8x128, .f32⟩
  | 23 => ⟨S1024, .f32⟩
  | 24 => ⟨S768, .f32⟩
  | 25 => ⟨S2x3x128, .f32⟩
  | 26 => ⟨S32x128, .f32⟩
  | 27 => ⟨S4096, .f32⟩
  | 28 => ⟨S2x2048, .f32⟩
  | 29 => ⟨S72x128, .f32⟩
  | 30 => ⟨S9216, .f32⟩
  | 31 => ⟨S8448, .f32⟩
  | 32 => ⟨S2x3x1408, .f32⟩
  | 33 => ⟨S16x128, .f32⟩
  | 34 => ⟨S2048, .f32⟩
  | 35 => ⟨S32x128, .f32⟩
  | 36 => ⟨S4096, .f32⟩
  | 37 => ⟨S2x2048, .f32⟩
  | 38 => ⟨S16x128, .f32⟩
  | 39 => ⟨S2048, .f32⟩
  | 40 => ⟨S2x1024, .f32⟩
  | 41 => ⟨S16x128, .f32⟩
  | 42 => ⟨S2048, .f32⟩
  | 43 => ⟨S2x1024, .f32⟩
  | 44 => ⟨S2048x128, .f32⟩
  | 45 => ⟨S262144, .f32⟩
  | 46 => ⟨S2x8x128x128, .f32⟩
  | 47 => ⟨S16x128, .f32⟩
  | 48 => ⟨S2048, .f32⟩
  | 49 => ⟨S2x128x8, .f32⟩
  | 50 => ⟨S8x128, .f32⟩
  | 51 => ⟨S1024, .f32⟩
  | 52 => ⟨S768, .f32⟩
  | 53 => ⟨S2x3x128, .f32⟩
  | 54 => ⟨S32x128, .f32⟩
  | 55 => ⟨S4096, .f32⟩
  | 56 => ⟨S2x2048, .f32⟩
  | 57 => ⟨S72x128, .f32⟩
  | 58 => ⟨S9216, .f32⟩
  | 59 => ⟨S8448, .f32⟩
  | 60 => ⟨S2x3x1408, .f32⟩
  | 61 => ⟨S16x128, .f32⟩
  | 62 => ⟨S2048, .f32⟩
  | 63 => ⟨S32x128, .f32⟩
  | 64 => ⟨S4096, .f32⟩
  | 65 => ⟨S2x2048, .f32⟩
  | 66 => ⟨S16x128, .f32⟩
  | 67 => ⟨S2048, .f32⟩
  | 68 => ⟨S2x1024, .f32⟩
  | 69 => ⟨S16x128, .f32⟩
  | 70 => ⟨S2048, .f32⟩
  | 71 => ⟨S2x1024, .f32⟩
  | 72 => ⟨S2048x128, .f32⟩
  | 73 => ⟨S262144, .f32⟩
  | 74 => ⟨S2x8x128x128, .f32⟩
  | 75 => ⟨S16x128, .f32⟩
  | 76 => ⟨S2048, .f32⟩
  | 77 => ⟨S2x128x8, .f32⟩
  | 78 => ⟨S8x128, .f32⟩
  | 79 => ⟨S1024, .f32⟩
  | 80 => ⟨S768, .f32⟩
  | 81 => ⟨S2x3x128, .f32⟩
  | 82 => ⟨S32x128, .f32⟩
  | 83 => ⟨S4096, .f32⟩
  | 84 => ⟨S2x2048, .f32⟩
  | 85 => ⟨S72x128, .f32⟩
  | 86 => ⟨S9216, .f32⟩
  | 87 => ⟨S8448, .f32⟩
  | 88 => ⟨S2x3x1408, .f32⟩
  | 89 => ⟨S16x128, .f32⟩
  | 90 => ⟨S2048, .f32⟩
  | _ => ⟨S2x2048, .f32⟩

abbrev hbmTy (i : Nat) : BufTy := match i / 128 with
  | 0 => hbmTy0_0 i
  | 1 => hbmTy0_1 i
  | _ => ⟨S2x2048, .f32⟩

abbrev bufTy : (tb : Table) → Fin (tcTables nBuf tb) → BufTy
  | .hbm, ⟨i, _⟩ => hbmTy i
  | .local _ .vmem, ⟨0, _⟩ => ⟨S2256x128, .f32⟩
  | .local _ .vmem, ⟨1, _⟩ => ⟨S2256x128, .f32⟩
  | .local _ .vmem, ⟨2, _⟩ => ⟨S2256x128, .f32⟩
  | .local _ .vmem, ⟨3, _⟩ => ⟨S2256x128, .f32⟩
  | .local _ .vmem, ⟨4, _⟩ => ⟨S2256x128, .f32⟩
  | .local _ .vmem, ⟨5, _⟩ => ⟨S2256x128, .f32⟩
  | .local _ .vmem, ⟨6, _⟩ => ⟨S2256x128, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_c : Ref sig .tc := ⟨.hbm, 47, rfl⟩
abbrev main_call0_v0 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_c_0 : Ref sig .tc := ⟨.hbm, 54, rfl⟩
abbrev main_call1_v0 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_c_1 : Ref sig .tc := ⟨.hbm, 71, rfl⟩
abbrev main_call2_v0 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_c_2 : Ref sig .tc := ⟨.hbm, 78, rfl⟩
abbrev main_call3_v0 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_c_3 : Ref sig .tc := ⟨.hbm, 95, rfl⟩
abbrev main_call4_v0 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_c_4 : Ref sig .tc := ⟨.hbm, 102, rfl⟩
abbrev main_call5_v0 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_c_5 : Ref sig .tc := ⟨.hbm, 119, rfl⟩
abbrev main_call6_v0 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_c_6 : Ref sig .tc := ⟨.hbm, 126, rfl⟩
abbrev main_call7_v0 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80_0 : Ref sig .tc := ⟨.hbm, 132, rfl⟩
abbrev main_v80_1 : Ref sig .tc := ⟨.hbm, 133, rfl⟩
abbrev main_v80_2 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamsRefIdeal.lean ====
abbrev S2x2048 : Shape := ⟨2, ![2, 2048]⟩
abbrev S2x1024 : Shape := ⟨2, ![2, 1024]⟩
abbrev S2x8x128x128 : Shape := ⟨4, ![2, 8, 128, 128]⟩
abbrev S2x128x8 : Shape := ⟨3, ![2, 128, 8]⟩
abbrev S2x3x128 : Shape := ⟨3, ![2, 3, 128]⟩
abbrev S2x3x1408 : Shape := ⟨3, ![2, 3, 1408]⟩
abbrev S2048 : Shape := ⟨1, ![2048]⟩
abbrev S_ : Shape := ⟨0, ![]⟩

abbrev nBuf : Space → Nat
  | .hbm => 333
  | .vmem => 0
  | .smem => 0
  | _ => 0

abbrev hbmTy0_0 (i : Nat) : BufTy := match i % 128 with
  | 0 => ⟨S2x2048, .f32⟩
  | 1 => ⟨S2x1024, .f32⟩
  | 2 => ⟨S2x1024, .f32⟩
  | 3 => ⟨S2x8x128x128, .f32⟩
  | 4 => ⟨S2x128x8, .f32⟩
  | 5 => ⟨S2x3x128, .f32⟩
  | 6 => ⟨S2x2048, .f32⟩
  | 7 => ⟨S2x3x1408, .f32⟩
  | 8 => ⟨S2048, .f32⟩
  | 9 => ⟨S2x2048, .f32⟩
  | 10 => ⟨S2x1024, .f32⟩
  | 11 => ⟨S2x1024, .f32⟩
  | 12 => ⟨S2x8x128x128, .f32⟩
  | 13 => ⟨S2x128x8, .f32⟩
  | 14 => ⟨S2x3x128, .f32⟩
  | 15 => ⟨S2x2048, .f32⟩
  | 16 => ⟨S2x3x1408, .f32⟩
  | 17 => ⟨S2048, .f32⟩
  | 18 => ⟨S2x2048, .f32⟩
  | 19 => ⟨S2x1024, .f32⟩
  | 20 => ⟨S2x1024, .f32⟩
  | 21 => ⟨S2x8x128x128, .f32⟩
  | 22 => ⟨S2x128x8, .f32⟩
  | 23 => ⟨S2x3x128, .f32⟩
  | 24 => ⟨S2x2048, .f32⟩
  | 25 => ⟨S2x3x1408, .f32⟩
  | 26 => ⟨S2048, .f32⟩
  | 27 => ⟨S2x2048, .f32⟩
  | 28 => ⟨S2x1024, .f32⟩
  | 29 => ⟨S2x1024, .f32⟩
  | 30 => ⟨S2x8x128x128, .f32⟩
  | 31 => ⟨S2x128x8, .f32⟩
  | 32 => ⟨S2x3x128, .f32⟩
  | 33 => ⟨S2x2048, .f32⟩
  | 34 => ⟨S2x3x1408, .f32⟩
  | 35 => ⟨S2048, .f32⟩
  | 36 => ⟨S_, .f32⟩
  | 37 => ⟨S2x2048, .f32⟩
  | 38 => ⟨S2x2048, .f32⟩
  | 39 => ⟨S_, .f32⟩
  | 40 => ⟨S2x2048, .f32⟩
  | 41 => ⟨S2x2048, .f32⟩
  | 42 => ⟨S2x2048, .f32⟩
  | 43 => ⟨S_, .f32⟩
  | 44 => ⟨S2x2048, .f32⟩
  | 45 => ⟨S2x2048, .f32⟩
  | 46 => ⟨S2x2048, .f32⟩
  | 47 => ⟨S_, .f32⟩
  | 48 => ⟨S2x2048, .f32⟩
  | 49 => ⟨S2x2048, .f32⟩
  | 50 => ⟨S2x2048, .f32⟩
  | 51 => ⟨S_, .f32⟩
  | 52 => ⟨S2x2048, .f32⟩
  | 53 => ⟨S2x2048, .f32⟩
  | 54 => ⟨S_, .f32⟩
  | 55 => ⟨S2x2048, .f32⟩
  | 56 => ⟨S2x2048, .f32⟩
  | 57 => ⟨S2x2048, .f32⟩
  | 58 => ⟨S_, .f32⟩
  | 59 => ⟨S2x2048, .f32⟩
  | 60 => ⟨S2x2048, .f32⟩
  | 61 => ⟨S2x2048, .f32⟩
  | 62 => ⟨S_, .f32⟩
  | 63 => ⟨S2x2048, .f32⟩
  | 64 => ⟨S2x2048, .f32⟩
  | 65 => ⟨S2x2048, .f32⟩
  | 66 => ⟨S_, .f32⟩
  | 67 => ⟨S2x2048, .f32⟩
  | 68 => ⟨S2x2048, .f32⟩
  | 69 => ⟨S_, .f32⟩
  | 70 => ⟨S2x1024, .f32⟩
  | 71 => ⟨S2x1024, .f32⟩
  | 72 => ⟨S_, .f32⟩
  | 73 => ⟨S2x1024, .f32⟩
  | 74 => ⟨S2x1024, .f32⟩
  | 75 => ⟨S2x1024, .f32⟩
  | 76 => ⟨S_, .f32⟩
  | 77 => ⟨S2x1024, .f32⟩
  | 78 => ⟨S2x1024, .f32⟩
  | 79 => ⟨S2x1024, .f32⟩
  | 80 => ⟨S_, .f32⟩
  | 81 => ⟨S2x1024, .f32⟩
  | 82 => ⟨S2x1024, .f32⟩
  | 83 => ⟨S2x1024, .f32⟩
  | 84 => ⟨S_, .f32⟩
  | 85 => ⟨S2x1024, .f32⟩
  | 86 => ⟨S2x1024, .f32⟩
  | 87 => ⟨S_, .f32⟩
  | 88 => ⟨S2x1024, .f32⟩
  | 89 => ⟨S2x1024, .f32⟩
  | 90 => ⟨S2x1024, .f32⟩
  | 91 => ⟨S_, .f32⟩
  | 92 => ⟨S2x1024, .f32⟩
  | 93 => ⟨S2x1024, .f32⟩
  | 94 => ⟨S2x1024, .f32⟩
  | 95 => ⟨S_, .f32⟩
  | 96 => ⟨S2x1024, .f32⟩
  | 97 => ⟨S2x1024, .f32⟩
  | 98 => ⟨S2x1024, .f32⟩
  | 99 => ⟨S_, .f32⟩
  | 100 => ⟨S2x1024, .f32⟩
  | 101 => ⟨S2x1024, .f32⟩
  | 102 => ⟨S_, .f32⟩
  | 103 => ⟨S2x1024, .f32⟩
  | 104 => ⟨S2x1024, .f32⟩
  | 105 => ⟨S_, .f32⟩
  | 106 => ⟨S2x1024, .f32⟩
  | 107 => ⟨S2x1024, .f32⟩
  | 108 => ⟨S2x1024, .f32⟩
  | 109 => ⟨S_, .f32⟩
  | 110 => ⟨S2x1024, .f32⟩
  | 111 => ⟨S2x1024, .f32⟩
  | 112 => ⟨S2x1024, .f32⟩
  | 113 => ⟨S_, .f32⟩
  | 114 => ⟨S2x1024, .f32⟩
  | 115 => ⟨S2x1024, .f32⟩
  | 116 => ⟨S2x1024, .f32⟩
  | 117 => ⟨S_, .f32⟩
  | 118 => ⟨S2x1024, .f32⟩
  | 119 => ⟨S2x1024, .f32⟩
  | 120 => ⟨S_, .f32⟩
  | 121 => ⟨S2x1024, .f32⟩
  | 122 => ⟨S2x1024, .f32⟩
  | 123 => ⟨S2x1024, .f32⟩
  | 124 => ⟨S_, .f32⟩
  | 125 => ⟨S2x1024, .f32⟩
  | 126 => ⟨S2x1024, .f32⟩
  | 127 => ⟨S2x1024, .f32⟩
  | _ => ⟨S2x2048, .f32⟩

abbrev hbmTy0_1 (i : Nat) : BufTy := match i % 128 with
  | 0 => ⟨S_, .f32⟩
  | 1 => ⟨S2x1024, .f32⟩
  | 2 => ⟨S2x1024, .f32⟩
  | 3 => ⟨S2x1024, .f32⟩
  | 4 => ⟨S_, .f32⟩
  | 5 => ⟨S2x1024, .f32⟩
  | 6 => ⟨S2x1024, .f32⟩
  | 7 => ⟨S_, .f32⟩
  | 8 => ⟨S2x8x128x128, .f32⟩
  | 9 => ⟨S2x8x128x128, .f32⟩
  | 10 => ⟨S_, .f32⟩
  | 11 => ⟨S2x8x128x128, .f32⟩
  | 12 => ⟨S2x8x128x128, .f32⟩
  | 13 => ⟨S2x8x128x128, .f32⟩
  | 14 => ⟨S_, .f32⟩
  | 15 => ⟨S2x8x128x128, .f32⟩
  | 16 => ⟨S2x8x128x128, .f32⟩
  | 17 => ⟨S2x8x128x128, .f32⟩
  | 18 => ⟨S_, .f32⟩
  | 19 => ⟨S2x8x128x128, .f32⟩
  | 20 => ⟨S2x8x128x128, .f32⟩
  | 21 => ⟨S2x8x128x128, .f32⟩
  | 22 => ⟨S_, .f32⟩
  | 23 => ⟨S2x8x128x128, .f32⟩
  | 24 => ⟨S2x8x128x128, .f32⟩
  | 25 => ⟨S_, .f32⟩
  | 26 => ⟨S2x8x128x128, .f32⟩
  | 27 => ⟨S2x8x128x128, .f32⟩
  | 28 => ⟨S2x8x128x128, .f32⟩
  | 29 => ⟨S_, .f32⟩
  | 30 => ⟨S2x8x128x128, .f32⟩
  | 31 => ⟨S2x8x128x128, .f32⟩
  | 32 => ⟨S2x8x128x128, .f32⟩
  | 33 => ⟨S_, .f32⟩
  | 34 => ⟨S2x8x128x128, .f32⟩
  | 35 => ⟨S2x8x128x128, .f32⟩
  | 36 => ⟨S2x8x128x128, .f32⟩
  | 37 => ⟨S_, .f32⟩
  | 38 => ⟨S2x8x128x128, .f32⟩
  | 39 => ⟨S2x8x128x128, .f32⟩
  | 40 => ⟨S_, .f32⟩
  | 41 => ⟨S2x128x8, .f32⟩
  | 42 => ⟨S2x128x8, .f32⟩
  | 43 => ⟨S_, .f32⟩
  | 44 => ⟨S2x128x8, .f32⟩
  | 45 => ⟨S2x128x8, .f32⟩
  | 46 => ⟨S2x128x8, .f32⟩
  | 47 => ⟨S_, .f32⟩
  | 48 => ⟨S2x128x8, .f32⟩
  | 49 => ⟨S2x128x8, .f32⟩
  | 50 => ⟨S2x128x8, .f32⟩
  | 51 => ⟨S_, .f32⟩
  | 52 => ⟨S2x128x8, .f32⟩
  | 53 => ⟨S2x128x8, .f32⟩
  | 54 => ⟨S2x128x8, .f32⟩
  | 55 => ⟨S_, .f32⟩
  | 56 => ⟨S2x128x8, .f32⟩
  | 57 => ⟨S2x128x8, .f32⟩
  | 58 => ⟨S_, .f32⟩
  | 59 => ⟨S2x128x8, .f32⟩
  | 60 => ⟨S2x128x8, .f32⟩
  | 61 => ⟨S2x128x8, .f32⟩
  | 62 => ⟨S_, .f32⟩
  | 63 => ⟨S2x128x8, .f32⟩
  | 64 => ⟨S2x128x8, .f32⟩
  | 65 => ⟨S2x128x8, .f32⟩
  | 66 => ⟨S_, .f32⟩
  | 67 => ⟨S2x128x8, .f32⟩
  | 68 => ⟨S2x128x8, .f32⟩
  | 69 => ⟨S2x128x8, .f32⟩
  | 70 => ⟨S_, .f32⟩
  | 71 => ⟨S2x128x8, .f32⟩
  | 72 => ⟨S2x128x8, .f32⟩
  | 73 => ⟨S_, .f32⟩
  | 74 => ⟨S2x3x128, .f32⟩
  | 75 => ⟨S2x3x128, .f32⟩
  | 76 => ⟨S_, .f32⟩
  | 77 => ⟨S2x3x128, .f32⟩
  | 78 => ⟨S2x3x128, .f32⟩
  | 79 => ⟨S2x3x128, .f32⟩
  | 80 => ⟨S_, .f32⟩
  | 81 => ⟨S2x3x128, .f32⟩
  | 82 => ⟨S2x3x128, .f32⟩
  | 83 => ⟨S2x3x128, .f32⟩
  | 84 => ⟨S_, .f32⟩
  | 85 => ⟨S2x3x128, .f32⟩
  | 86 => ⟨S2x3x128, .f32⟩
  | 87 => ⟨S2x3x128, .f32⟩
  | 88 => ⟨S_, .f32⟩
  | 89 => ⟨S2x3x128, .f32⟩
  | 90 => ⟨S2x3x128, .f32⟩
  | 91 => ⟨S_, .f32⟩
  | 92 => ⟨S2x3x128, .f32⟩
  | 93 => ⟨S2x3x128, .f32⟩
  | 94 => ⟨S2x3x128, .f32⟩
  | 95 => ⟨S_, .f32⟩
  | 96 => ⟨S2x3x128, .f32⟩
  | 97 => ⟨S2x3x128, .f32⟩
  | 98 => ⟨S2x3x128, .f32⟩
  | 99 => ⟨S_, .f32⟩
  | 100 => ⟨S2x3x128, .f32⟩
  | 101 => ⟨S2x3x128, .f32⟩
  | 102 => ⟨S2x3x128, .f32⟩
  | 103 => ⟨S_, .f32⟩
  | 104 => ⟨S2x3x128, .f32⟩
  | 105 => ⟨S2x3x128, .f32⟩
  | 106 => ⟨S_, .f32⟩
  | 107 => ⟨S2x2048, .f32⟩
  | 108 => ⟨S2x2048, .f32⟩
  | 109 => ⟨S_, .f32⟩
  | 110 => ⟨S2x2048, .f32⟩
  | 111 => ⟨S2x2048, .f32⟩
  | 112 => ⟨S2x2048, .f32⟩
  | 113 => ⟨S_, .f32⟩
  | 114 => ⟨S2x2048, .f32⟩
  | 115 => ⟨S2x2048, .f32⟩
  | 116 => ⟨S2x2048, .f32⟩
  | 117 => ⟨S_, .f32⟩
  | 118 => ⟨S2x2048, .f32⟩
  | 119 => ⟨S2x2048, .f32⟩
  | 120 => ⟨S2x2048, .f32⟩
  | 121 => ⟨S_, .f32⟩
  | 122 => ⟨S2x2048, .f32⟩
  | 123 => ⟨S2x2048, .f32⟩
  | 124 => ⟨S_, .f32⟩
  | 125 => ⟨S2x2048, .f32⟩
  | 126 => ⟨S2x2048, .f32⟩
  | 127 => ⟨S2x2048, .f32⟩
  | _ => ⟨S2x2048, .f32⟩

abbrev hbmTy0_2 (i : Nat) : BufTy := match i % 128 with
  | 0 => ⟨S_, .f32⟩
  | 1 => ⟨S2x2048, .f32⟩
  | 2 => ⟨S2x2048, .f32⟩
  | 3 => ⟨S2x2048, .f32⟩
  | 4 => ⟨S_, .f32⟩
  | 5 => ⟨S2x2048, .f32⟩
  | 6 => ⟨S2x2048, .f32⟩
  | 7 => ⟨S2x2048, .f32⟩
  | 8 => ⟨S_, .f32⟩
  | 9 => ⟨S2x2048, .f32⟩
  | 10 => ⟨S2x2048, .f32⟩
  | 11 => ⟨S_, .f32⟩
  | 12 => ⟨S2x3x1408, .f32⟩
  | 13 => ⟨S2x3x1408, .f32⟩
  | 14 => ⟨S_, .f32⟩
  | 15 => ⟨S2x3x1408, .f32⟩
  | 16 => ⟨S2x3x1408, .f32⟩
  | 17 => ⟨S2x3x1408, .f32⟩
  | 18 => ⟨S_, .f32⟩
  | 19 => ⟨S2x3x1408, .f32⟩
  | 20 => ⟨S2x3x1408, .f32⟩
  | 21 => ⟨S2x3x1408, .f32⟩
  | 22 => ⟨S_, .f32⟩
  | 23 => ⟨S2x3x1408, .f32⟩
  | 24 => ⟨S2x3x1408, .f32⟩
  | 25 => ⟨S2x3x1408, .f32⟩
  | 26 => ⟨S_, .f32⟩
  | 27 => ⟨S2x3x1408, .f32⟩
  | 28 => ⟨S2x3x1408, .f32⟩
  | 29 => ⟨S_, .f32⟩
  | 30 => ⟨S2x3x1408, .f32⟩
  | 31 => ⟨S2x3x1408, .f32⟩
  | 32 => ⟨S2x3x1408, .f32⟩
  | 33 => ⟨S_, .f32⟩
  | 34 => ⟨S2x3x1408, .f32⟩
  | 35 => ⟨S2x3x1408, .f32⟩
  | 36 => ⟨S2x3x1408, .f32⟩
  | 37 => ⟨S_, .f32⟩
  | 38 => ⟨S2x3x1408, .f32⟩
  | 39 => ⟨S2x3x1408, .f32⟩
  | 40 => ⟨S2x3x1408, .f32⟩
  | 41 => ⟨S_, .f32⟩
  | 42 => ⟨S2x3x1408, .f32⟩
  | 43 => ⟨S2x3x1408, .f32⟩
  | 44 => ⟨S_, .f32⟩
  | 45 => ⟨S2048, .f32⟩
  | 46 => ⟨S2048, .f32⟩
  | 47 => ⟨S_, .f32⟩
  | 48 => ⟨S2048, .f32⟩
  | 49 => ⟨S2048, .f32⟩
  | 50 => ⟨S2048, .f32⟩
  | 51 => ⟨S_, .f32⟩
  | 52 => ⟨S2048, .f32⟩
  | 53 => ⟨S2048, .f32⟩
  | 54 => ⟨S2048, .f32⟩
  | 55 => ⟨S_, .f32⟩
  | 56 => ⟨S2048, .f32⟩
  | 57 => ⟨S2048, .f32⟩
  | 58 => ⟨S2048, .f32⟩
  | 59 => ⟨S_, .f32⟩
  | 60 => ⟨S2048, .f32⟩
  | 61 => ⟨S2048, .f32⟩
  | 62 => ⟨S_, .f32⟩
  | 63 => ⟨S2048, .f32⟩
  | 64 => ⟨S2048, .f32⟩
  | 65 => ⟨S2048, .f32⟩
  | 66 => ⟨S_, .f32⟩
  | 67 => ⟨S2048, .f32⟩
  | 68 => ⟨S2048, .f32⟩
  | 69 => ⟨S2048, .f32⟩
  | 70 => ⟨S_, .f32⟩
  | 71 => ⟨S2048, .f32⟩
  | 72 => ⟨S2048, .f32⟩
  | 73 => ⟨S2048, .f32⟩
  | 74 => ⟨S_, .f32⟩
  | 75 => ⟨S2048, .f32⟩
  | 76 => ⟨S2048, .f32⟩
  | _ => ⟨S2x2048, .f32⟩

abbrev hbmTy (i : Nat) : BufTy := match i / 128 with
  | 0 => hbmTy0_0 i
  | 1 => hbmTy0_1 i
  | 2 => hbmTy0_2 i
  | _ => ⟨S2x2048, .f32⟩

abbrev bufTy : (tb : Table) → Fin (tcTables nBuf tb) → BufTy
  | .hbm, ⟨i, _⟩ => hbmTy i
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_v1 : Ref sig .tc := ⟨.hbm, 38, rfl⟩
abbrev main_cst_0 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst_1 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_3 : Ref sig .tc := ⟨.hbm, 51, rfl⟩
abbrev main_v11 : Ref sig .tc := ⟨.hbm, 52, rfl⟩
abbrev main_v12 : Ref sig .tc := ⟨.hbm, 53, rfl⟩
abbrev main_cst_4 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_5 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_6 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_7 : Ref sig .tc := ⟨.hbm, 66, rfl⟩
abbrev main_v22 : Ref sig .tc := ⟨.hbm, 67, rfl⟩
abbrev main_v23 : Ref sig .tc := ⟨.hbm, 68, rfl⟩
abbrev main_cst_8 : Ref sig .tc := ⟨.hbm, 69, rfl⟩
abbrev main_v24 : Ref sig .tc := ⟨.hbm, 70, rfl⟩
abbrev main_v25 : Ref sig .tc := ⟨.hbm, 71, rfl⟩
abbrev main_cst_9 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_10 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_11 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_12 : Ref sig .tc := ⟨.hbm, 84, rfl⟩
abbrev main_v35 : Ref sig .tc := ⟨.hbm, 85, rfl⟩
abbrev main_v36 : Ref sig .tc := ⟨.hbm, 86, rfl⟩
abbrev main_cst_13 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_14 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_15 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_16 : Ref sig .tc := ⟨.hbm, 99, rfl⟩
abbrev main_v46 : Ref sig .tc := ⟨.hbm, 100, rfl⟩
abbrev main_v47 : Ref sig .tc := ⟨.hbm, 101, rfl⟩
abbrev main_cst_17 : Ref sig .tc := ⟨.hbm, 102, rfl⟩
abbrev main_v48 : Ref sig .tc := ⟨.hbm, 103, rfl⟩
abbrev main_v49 : Ref sig .tc := ⟨.hbm, 104, rfl⟩
abbrev main_cst_18 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_19 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_20 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_21 : Ref sig .tc := ⟨.hbm, 117, rfl⟩
abbrev main_v59 : Ref sig .tc := ⟨.hbm, 118, rfl⟩
abbrev main_v60 : Ref sig .tc := ⟨.hbm, 119, rfl⟩
abbrev main_cst_22 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_23 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_24 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_25 : Ref sig .tc := ⟨.hbm, 132, rfl⟩
abbrev main_v70 : Ref sig .tc := ⟨.hbm, 133, rfl⟩
abbrev main_v71 : Ref sig .tc := ⟨.hbm, 134, rfl⟩
abbrev main_cst_26 : Ref sig .tc := ⟨.hbm, 135, rfl⟩
abbrev main_v72 : Ref sig .tc := ⟨.hbm, 136, rfl⟩
abbrev main_v73 : Ref sig .tc := ⟨.hbm, 137, rfl⟩
abbrev main_cst_27 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_28 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_cst_29 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_cst_30 : Ref sig .tc := ⟨.hbm, 150, rfl⟩
abbrev main_v83 : Ref sig .tc := ⟨.hbm, 151, rfl⟩
abbrev main_v84 : Ref sig .tc := ⟨.hbm, 152, rfl⟩
abbrev main_cst_31 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_cst_32 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_33 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_34 : Ref sig .tc := ⟨.hbm, 165, rfl⟩
abbrev main_v94 : Ref sig .tc := ⟨.hbm, 166, rfl⟩
abbrev main_v95 : Ref sig .tc := ⟨.hbm, 167, rfl⟩
abbrev main_cst_35 : Ref sig .tc := ⟨.hbm, 168, rfl⟩
abbrev main_v96 : Ref sig .tc := ⟨.hbm, 169, rfl⟩
abbrev main_v97 : Ref sig .tc := ⟨.hbm, 170, rfl⟩
abbrev main_cst_36 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_37 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_cst_38 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_cst_39 : Ref sig .tc := ⟨.hbm, 183, rfl⟩
abbrev main_v107 : Ref sig .tc := ⟨.hbm, 184, rfl⟩
abbrev main_v108 : Ref sig .tc := ⟨.hbm, 185, rfl⟩
abbrev main_cst_40 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_cst_41 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_42 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_cst_43 : Ref sig .tc := ⟨.hbm, 198, rfl⟩
abbrev main_v118 : Ref sig .tc := ⟨.hbm, 199, rfl⟩
abbrev main_v119 : Ref sig .tc := ⟨.hbm, 200, rfl⟩
abbrev main_cst_44 : Ref sig .tc := ⟨.hbm, 201, rfl⟩
abbrev main_v120 : Ref sig .tc := ⟨.hbm, 202, rfl⟩
abbrev main_v121 : Ref sig .tc := ⟨.hbm, 203, rfl⟩
abbrev main_cst_45 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_cst_46 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_47 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_48 : Ref sig .tc := ⟨.hbm, 216, rfl⟩
abbrev main_v131 : Ref sig .tc := ⟨.hbm, 217, rfl⟩
abbrev main_v132 : Ref sig .tc := ⟨.hbm, 218, rfl⟩
abbrev main_cst_49 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_cst_50 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_cst_51 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_cst_52 : Ref sig .tc := ⟨.hbm, 231, rfl⟩
abbrev main_v142 : Ref sig .tc := ⟨.hbm, 232, rfl⟩
abbrev main_v143 : Ref sig .tc := ⟨.hbm, 233, rfl⟩
abbrev main_cst_53 : Ref sig .tc := ⟨.hbm, 234, rfl⟩
abbrev main_v144 : Ref sig .tc := ⟨.hbm, 235, rfl⟩
abbrev main_v145 : Ref sig .tc := ⟨.hbm, 236, rfl⟩
abbrev main_cst_54 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_cst_55 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_cst_56 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_cst_57 : Ref sig .tc := ⟨.hbm, 249, rfl⟩
abbrev main_v155 : Ref sig .tc := ⟨.hbm, 250, rfl⟩
abbrev main_v156 : Ref sig .tc := ⟨.hbm, 251, rfl⟩
abbrev main_cst_58 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_cst_59 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_cst_60 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_61 : Ref sig .tc := ⟨.hbm, 264, rfl⟩
abbrev main_v166 : Ref sig .tc := ⟨.hbm, 265, rfl⟩
abbrev main_v167 : Ref sig .tc := ⟨.hbm, 266, rfl⟩
abbrev main_cst_62 : Ref sig .tc := ⟨.hbm, 267, rfl⟩
abbrev main_v168 : Ref sig .tc := ⟨.hbm, 268, rfl⟩
abbrev main_v169 : Ref sig .tc := ⟨.hbm, 269, rfl⟩
abbrev main_cst_63 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_cst_64 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_cst_65 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_cst_66 : Ref sig .tc := ⟨.hbm, 282, rfl⟩
abbrev main_v179 : Ref sig .tc := ⟨.hbm, 283, rfl⟩
abbrev main_v180 : Ref sig .tc := ⟨.hbm, 284, rfl⟩
abbrev main_cst_67 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_cst_68 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_cst_69 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_cst_70 : Ref sig .tc := ⟨.hbm, 297, rfl⟩
abbrev main_v190 : Ref sig .tc := ⟨.hbm, 298, rfl⟩
abbrev main_v191 : Ref sig .tc := ⟨.hbm, 299, rfl⟩
abbrev main_cst_71 : Ref sig .tc := ⟨.hbm, 300, rfl⟩
abbrev main_v192 : Ref sig .tc := ⟨.hbm, 301, rfl⟩
abbrev main_v193 : Ref sig .tc := ⟨.hbm, 302, rfl⟩
abbrev main_cst_72 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_cst_73 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_cst_74 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_cst_75 : Ref sig .tc := ⟨.hbm, 315, rfl⟩
abbrev main_v203 : Ref sig .tc := ⟨.hbm, 316, rfl⟩
abbrev main_v204 : Ref sig .tc := ⟨.hbm, 317, rfl⟩
abbrev main_cst_76 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_cst_77 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_cst_78 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_cst_79 : Ref sig .tc := ⟨.hbm, 330, rfl⟩
abbrev main_v214 : Ref sig .tc := ⟨.hbm, 331, rfl⟩
abbrev main_v215 : Ref sig .tc := ⟨.hbm, 332, rfl⟩

abbrev nD : Nat := 1
abbrev τ : Topo := Topo.v7x

variable {F : FTy → Type} [FloatOps F]
-- ==== Sums.lean ====
abbrev S8x2x2048 : Shape := ⟨3, ![8, 2, 2048]⟩
abbrev S8x2x1024 : Shape := ⟨3, ![8, 2, 1024]⟩
abbrev S8x2x8x128x128 : Shape := ⟨5, ![8, 2, 8, 128, 128]⟩
abbrev S8x2x128x8 : Shape := ⟨4, ![8, 2, 128, 8]⟩
abbrev S8x2x3x1024 : Shape := ⟨4, ![8, 2, 3, 1024]⟩
abbrev S8x2x3x11264 : Shape := ⟨4, ![8, 2, 3, 11264]⟩
abbrev S8x2048 : Shape := ⟨2, ![8, 2048]⟩
abbrev S_ : Shape := ⟨0, ![]⟩
abbrev S8x4096 : Shape := ⟨2, ![8, 4096]⟩
abbrev S8x32x128 : Shape := ⟨3, ![8, 32, 128]⟩
abbrev S8x16x128 : Shape := ⟨3, ![8, 16, 128]⟩
abbrev S8x262144 : Shape := ⟨2, ![8, 262144]⟩
abbrev S8x2048x128 : Shape := ⟨3, ![8, 2048, 128]⟩
abbrev S8x6144 : Shape := ⟨2, ![8, 6144]⟩
abbrev S8x48x128 : Shape := ⟨3, ![8, 48, 128]⟩
abbrev S8x67584 : Shape := ⟨2, ![8, 67584]⟩
abbrev S8x528x128 : Shape := ⟨3, ![8, 528, 128]⟩
abbrev S8x2752x128 : Shape := ⟨3, ![8, 2752, 128]⟩
abbrev S2752x128 : Shape := ⟨2, ![2752, 128]⟩
abbrev S1x2752x128 : Shape := ⟨3, ![1, 2752, 128]⟩
abbrev S32x128 : Shape := ⟨2, ![32, 128]⟩
abbrev S4096 : Shape := ⟨1, ![4096]⟩
abbrev S2x2048 : Shape := ⟨2, ![2, 2048]⟩
abbrev S16x128 : Shape := ⟨2, ![16, 128]⟩
abbrev S2048 : Shape := ⟨1, ![2048]⟩
abbrev S2x1024 : Shape := ⟨2, ![2, 1024]⟩
abbrev S2048x128 : Shape := ⟨2, ![2048, 128]⟩
abbrev S262144 : Shape := ⟨1, ![262144]⟩
abbrev S2x8x128x128 : Shape := ⟨4, ![2, 8, 128, 128]⟩
abbrev S2x128x8 : Shape := ⟨3, ![2, 128, 8]⟩
abbrev S48x128 : Shape := ⟨2, ![48, 128]⟩
abbrev S6144 : Shape := ⟨1, ![6144]⟩
abbrev S2x3x1024 : Shape := ⟨3, ![2, 3, 1024]⟩
abbrev S528x128 : Shape := ⟨2, ![528, 128]⟩
abbrev S67584 : Shape := ⟨1, ![67584]⟩
abbrev S2x3x11264 : Shape := ⟨3, ![2, 3, 11264]⟩
abbrev S2x3x128 : Shape := ⟨3, ![2, 3, 128]⟩
abbrev S2x3x1408 : Shape := ⟨3, ![2, 3, 1408]⟩

abbrev nBuf : Space → Nat
  | .hbm => 75
  | .vmem => 2
  | .smem => 0
  | _ => 0

abbrev bufTy : (tb : Table) → Fin (tcTables nBuf tb) → BufTy
  | .hbm, ⟨0, _⟩ => ⟨S8x2x2048, .f32⟩
  | .hbm, ⟨1, _⟩ => ⟨S8x2x1024, .f32⟩
  | .hbm, ⟨2, _⟩ => ⟨S8x2x1024, .f32⟩
  | .hbm, ⟨3, _⟩ => ⟨S8x2x8x128x128, .f32⟩
  | .hbm, ⟨4, _⟩ => ⟨S8x2x128x8, .f32⟩
  | .hbm, ⟨5, _⟩ => ⟨S8x2x3x1024, .f32⟩
  | .hbm, ⟨6, _⟩ => ⟨S8x2x2048, .f32⟩
  | .hbm, ⟨7, _⟩ => ⟨S8x2x3x11264, .f32⟩
  | .hbm, ⟨8, _⟩ => ⟨S8x2048, .f32⟩
  | .hbm, ⟨9, _⟩ => ⟨S_, .i32⟩
  | .hbm, ⟨10, _⟩ => ⟨S8x4096, .f32⟩
  | .hbm, ⟨11, _⟩ => ⟨S8x32x128, .f32⟩
  | .hbm, ⟨12, _⟩ => ⟨S8x2048, .f32⟩
  | .hbm, ⟨13, _⟩ => ⟨S8x16x128, .f32⟩
  | .hbm, ⟨14, _⟩ => ⟨S8x2048, .f32⟩
  | .hbm, ⟨15, _⟩ => ⟨S8x16x128, .f32⟩
  | .hbm, ⟨16, _⟩ => ⟨S8x262144, .f32⟩
  | .hbm, ⟨17, _⟩ => ⟨S8x2048x128, .f32⟩
  | .hbm, ⟨18, _⟩ => ⟨S8x2048, .f32⟩
  | .hbm, ⟨19, _⟩ => ⟨S8x16x128, .f32⟩
  | .hbm, ⟨20, _⟩ => ⟨S8x6144, .f32⟩
  | .hbm, ⟨21, _⟩ => ⟨S8x48x128, .f32⟩
  | .hbm, ⟨22, _⟩ => ⟨S8x4096, .f32⟩
  | .hbm, ⟨23, _⟩ => ⟨S8x32x128, .f32⟩
  | .hbm, ⟨24, _⟩ => ⟨S8x67584, .f32⟩
  | .hbm, ⟨25, _⟩ => ⟨S8x528x128, .f32⟩
  | .hbm, ⟨26, _⟩ => ⟨S8x16x128, .f32⟩
  | .hbm, ⟨27, _⟩ => ⟨S8x2752x128, .f32⟩
  | .hbm, ⟨28, _⟩ => ⟨S2752x128, .f32⟩
  | .hbm, ⟨29, _⟩ => ⟨S32x128, .f32⟩
  | .hbm, ⟨30, _⟩ => ⟨S4096, .f32⟩
  | .hbm, ⟨31, _⟩ => ⟨S2x2048, .f32⟩
  | .hbm, ⟨32, _⟩ => ⟨S16x128, .f32⟩
  | .hbm, ⟨33, _⟩ => ⟨S2048, .f32⟩
  | .hbm, ⟨34, _⟩ => ⟨S2x1024, .f32⟩
  | .hbm, ⟨35, _⟩ => ⟨S16x128, .f32⟩
  | .hbm, ⟨36, _⟩ => ⟨S2048, .f32⟩
  | .hbm, ⟨37, _⟩ => ⟨S2x1024, .f32⟩
  | .hbm, ⟨38, _⟩ => ⟨S2048x128, .f32⟩
  | .hbm, ⟨39, _⟩ => ⟨S262144, .f32⟩
  | .hbm, ⟨40, _⟩ => ⟨S2x8x128x128, .f32⟩
  | .hbm, ⟨41, _⟩ => ⟨S16x128, .f32⟩
  | .hbm, ⟨42, _⟩ => ⟨S2048, .f32⟩
  | .hbm, ⟨43, _⟩ => ⟨S2x128x8, .f32⟩
  | .hbm, ⟨44, _⟩ => ⟨S48x128, .f32⟩
  | .hbm, ⟨45, _⟩ => ⟨S6144, .f32⟩
  | .hbm, ⟨46, _⟩ => ⟨S2x3x1024, .f32⟩
  | .hbm, ⟨47, _⟩ => ⟨S32x128, .f32⟩
  | .hbm, ⟨48, _⟩ => ⟨S4096, .f32⟩
  | .hbm, ⟨49, _⟩ => ⟨S2x2048, .f32⟩
  | .hbm, ⟨50, _⟩ => ⟨S528x128, .f32⟩
  | .hbm, ⟨51, _⟩ => ⟨S67584, .f32⟩
  | .hbm, ⟨52, _⟩ => ⟨S2x3x11264, .f32⟩
  | .hbm, ⟨53, _⟩ => ⟨S16x128, .f32⟩
  | .hbm, ⟨54, _⟩ => ⟨S2048, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i1⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S2x3x128, .f32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i1⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S2x3x1408, .f32⟩
  | .local _ .vmem, ⟨0, _⟩ => ⟨S8x2752x128, .f32⟩
  | .local _ .vmem, ⟨1, _⟩ => ⟨S2752x128, .f32⟩
  | _, _ => ⟨S8x2x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c : Ref sig .tc := ⟨.hbm, 55, rfl⟩
abbrev main_v45 : Ref sig .tc := ⟨.hbm, 56, rfl⟩
abbrev main_c_0 : Ref sig .tc := ⟨.hbm, 57, rfl⟩
abbrev main_v46 : Ref sig .tc := ⟨.hbm, 58, rfl⟩
abbrev main_c_1 : Ref sig .tc := ⟨.hbm, 59, rfl⟩
abbrev main_v47 : Ref sig .tc := ⟨.hbm, 60, rfl⟩
abbrev main_v48 : Ref sig .tc := ⟨.hbm, 61, rfl⟩
abbrev main_c_2 : Ref sig .tc := ⟨.hbm, 62, rfl⟩
abbrev main_c_3 : Ref sig .tc := ⟨.hbm, 63, rfl⟩
abbrev main_v49 : Ref sig .tc := ⟨.hbm, 64, rfl⟩
abbrev main_c_4 : Ref sig .tc := ⟨.hbm, 65, rfl⟩
abbrev main_v50 : Ref sig .tc := ⟨.hbm, 66, rfl⟩
abbrev main_c_5 : Ref sig .tc := ⟨.hbm, 67, rfl⟩
abbrev main_v51 : Ref sig .tc := ⟨.hbm, 68, rfl⟩
abbrev main_c_6 : Ref sig .tc := ⟨.hbm, 69, rfl⟩
abbrev main_v52 : Ref sig .tc := ⟨.hbm, 70, rfl⟩
abbrev main_v53 : Ref sig .tc := ⟨.hbm, 71, rfl⟩
abbrev main_c_7 : Ref sig .tc := ⟨.hbm, 72, rfl⟩
abbrev main_c_8 : Ref sig .tc := ⟨.hbm, 73, rfl⟩
abbrev main_v54 : Ref sig .tc := ⟨.hbm, 74, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2752x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2752x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumsRefIdeal.lean ====
abbrev S8x2x2048 : Shape := ⟨3, ![8, 2, 2048]⟩
abbrev S8x2x1024 : Shape := ⟨3, ![8, 2, 1024]⟩
abbrev S8x2x8x128x128 : Shape := ⟨5, ![8, 2, 8, 128, 128]⟩
abbrev S8x2x128x8 : Shape := ⟨4, ![8, 2, 128, 8]⟩
abbrev S8x2x3x1024 : Shape := ⟨4, ![8, 2, 3, 1024]⟩
abbrev S8x2x3x11264 : Shape := ⟨4, ![8, 2, 3, 11264]⟩
abbrev S8x2048 : Shape := ⟨2, ![8, 2048]⟩
abbrev S_ : Shape := ⟨0, ![]⟩
abbrev S2x2048 : Shape := ⟨2, ![2, 2048]⟩
abbrev S2x1024 : Shape := ⟨2, ![2, 1024]⟩
abbrev S2x8x128x128 : Shape := ⟨4, ![2, 8, 128, 128]⟩
abbrev S2x128x8 : Shape := ⟨3, ![2, 128, 8]⟩
abbrev S2x3x1024 : Shape := ⟨3, ![2, 3, 1024]⟩
abbrev S2x3x11264 : Shape := ⟨3, ![2, 3, 11264]⟩
abbrev S2048 : Shape := ⟨1, ![2048]⟩
abbrev S2x3x128 : Shape := ⟨3, ![2, 3, 128]⟩
abbrev S2x3x1408 : Shape := ⟨3, ![2, 3, 1408]⟩

abbrev nBuf : Space → Nat
  | .hbm => 48
  | .vmem => 0
  | .smem => 0
  | _ => 0

abbrev bufTy : (tb : Table) → Fin (tcTables nBuf tb) → BufTy
  | .hbm, ⟨0, _⟩ => ⟨S8x2x2048, .f32⟩
  | .hbm, ⟨1, _⟩ => ⟨S8x2x1024, .f32⟩
  | .hbm, ⟨2, _⟩ => ⟨S8x2x1024, .f32⟩
  | .hbm, ⟨3, _⟩ => ⟨S8x2x8x128x128, .f32⟩
  | .hbm, ⟨4, _⟩ => ⟨S8x2x128x8, .f32⟩
  | .hbm, ⟨5, _⟩ => ⟨S8x2x3x1024, .f32⟩
  | .hbm, ⟨6, _⟩ => ⟨S8x2x2048, .f32⟩
  | .hbm, ⟨7, _⟩ => ⟨S8x2x3x11264, .f32⟩
  | .hbm, ⟨8, _⟩ => ⟨S8x2048, .f32⟩
  | .hbm, ⟨9, _⟩ => ⟨S_, .i32⟩
  | .hbm, ⟨10, _⟩ => ⟨S_, .f32⟩
  | .hbm, ⟨11, _⟩ => ⟨S2x2048, .f32⟩
  | .hbm, ⟨12, _⟩ => ⟨S_, .f32⟩
  | .hbm, ⟨13, _⟩ => ⟨S2x1024, .f32⟩
  | .hbm, ⟨14, _⟩ => ⟨S_, .f32⟩
  | .hbm, ⟨15, _⟩ => ⟨S2x1024, .f32⟩
  | .hbm, ⟨16, _⟩ => ⟨S_, .f32⟩
  | .hbm, ⟨17, _⟩ => ⟨S2x8x128x128, .f32⟩
  | .hbm, ⟨18, _⟩ => ⟨S_, .f32⟩
  | .hbm, ⟨19, _⟩ => ⟨S2x128x8, .f32⟩
  | .hbm, ⟨20, _⟩ => ⟨S_, .f32⟩
  | .hbm, ⟨21, _⟩ => ⟨S2x3x1024, .f32⟩
  | .hbm, ⟨22, _⟩ => ⟨S_, .f32⟩
  | .hbm, ⟨23, _⟩ => ⟨S2x2048, .f32⟩
  | .hbm, ⟨24, _⟩ => ⟨S_, .f32⟩
  | .hbm, ⟨25, _⟩ => ⟨S2x3x11264, .f32⟩
  | .hbm, ⟨26, _⟩ => ⟨S_, .f32⟩
  | .hbm, ⟨27, _⟩ => ⟨S2048, .f32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S2x3x128, .f32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S2x3x1408, .f32⟩
  | _, _ => ⟨S8x2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_cst_2 : Ref sig .tc := ⟨.hbm, 16, rfl⟩
abbrev main_v3 : Ref sig .tc := ⟨.hbm, 17, rfl⟩
abbrev main_cst_3 : Ref sig .tc := ⟨.hbm, 18, rfl⟩
abbrev main_v4 : Ref sig .tc := ⟨.hbm, 19, rfl⟩
abbrev main_cst_4 : Ref sig .tc := ⟨.hbm, 20, rfl⟩
abbrev main_v5 : Ref sig .tc := ⟨.hbm, 21, rfl⟩
abbrev main_cst_5 : Ref sig .tc := ⟨.hbm, 22, rfl⟩
abbrev main_v6 : Ref sig .tc := ⟨.hbm, 23, rfl⟩
abbrev main_cst_6 : Ref sig .tc := ⟨.hbm, 24, rfl⟩
abbrev main_v7 : Ref sig .tc := ⟨.hbm, 25, rfl⟩
abbrev main_cst_7 : Ref sig .tc := ⟨.hbm, 26, rfl⟩
abbrev main_v8 : Ref sig .tc := ⟨.hbm, 27, rfl⟩
abbrev main_c : Ref sig .tc := ⟨.hbm, 28, rfl⟩
abbrev main_v9 : Ref sig .tc := ⟨.hbm, 29, rfl⟩
abbrev main_c_8 : Ref sig .tc := ⟨.hbm, 30, rfl⟩
abbrev main_v10 : Ref sig .tc := ⟨.hbm, 31, rfl⟩
abbrev main_c_9 : Ref sig .tc := ⟨.hbm, 32, rfl⟩
abbrev main_v11 : Ref sig .tc := ⟨.hbm, 33, rfl⟩
abbrev main_v12 : Ref sig .tc := ⟨.hbm, 34, rfl⟩
abbrev main_c_10 : Ref sig .tc := ⟨.hbm, 35, rfl⟩
abbrev main_c_11 : Ref sig .tc := ⟨.hbm, 36, rfl⟩
abbrev main_v13 : Ref sig .tc := ⟨.hbm, 37, rfl⟩
abbrev main_c_12 : Ref sig .tc := ⟨.hbm, 38, rfl⟩
abbrev main_v14 : Ref sig .tc := ⟨.hbm, 39, rfl⟩
abbrev main_c_13 : Ref sig .tc := ⟨.hbm, 40, rfl⟩
abbrev main_v15 : Ref sig .tc := ⟨.hbm, 41, rfl⟩
abbrev main_c_14 : Ref sig .tc := ⟨.hbm, 42, rfl⟩
abbrev main_v16 : Ref sig .tc := ⟨.hbm, 43, rfl⟩
abbrev main_v17 : Ref sig .tc := ⟨.hbm, 44, rfl⟩
abbrev main_c_15 : Ref sig .tc := ⟨.hbm, 45, rfl⟩
abbrev main_c_16 : Ref sig .tc := ⟨.hbm, 46, rfl⟩
abbrev main_v18 : Ref sig .tc := ⟨.hbm, 47, rfl⟩

abbrev nD : Nat := 1
abbrev τ : Topo := Topo.v7x

variable {F : FTy → Type} [FloatOps F]
-- ==== Bigout.lean ====
abbrev S1024x2048 : Shape := ⟨2, ![1024, 2048]⟩
abbrev S4x1024x256 : Shape := ⟨3, ![4, 1024, 256]⟩
abbrev S3x1024x256 : Shape := ⟨3, ![3, 1024, 256]⟩
abbrev S2x1024x256 : Shape := ⟨3, ![2, 1024, 256]⟩
abbrev S3 : Shape := ⟨1, ![3]⟩
abbrev S1024x256 : Shape := ⟨2, ![1024, 256]⟩
abbrev S1 : Shape := ⟨1, ![1]⟩
abbrev S1x1024x256 : Shape := ⟨3, ![1, 1024, 256]⟩

abbrev nBuf : Space → Nat
  | .hbm => 14
  | .vmem => 12
  | .smem => 1
  | _ => 0

abbrev bufTy : (tb : Table) → Fin (tcTables nBuf tb) → BufTy
  | .hbm, ⟨0, _⟩ => ⟨S1024x2048, .bf16⟩
  | .hbm, ⟨1, _⟩ => ⟨S4x1024x256, .bf16⟩
  | .hbm, ⟨2, _⟩ => ⟨S3x1024x256, .bf16⟩
  | .hbm, ⟨3, _⟩ => ⟨S2x1024x256, .f32⟩
  | .hbm, ⟨4, _⟩ => ⟨S2x1024x256, .f32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S2x1024x256, .f32⟩
  | .hbm, ⟨9, _⟩ => ⟨S2x1024x256, .f32⟩
  | .hbm, ⟨10, _⟩ => ⟨S2x1024x256, .f32⟩
  | .hbm, ⟨11, _⟩ => ⟨S2x1024x256, .f32⟩
  | .hbm, ⟨12, _⟩ => ⟨S2x1024x256, .f32⟩
  | .hbm, ⟨13, _⟩ => ⟨S2x1024x256, .f32⟩
  | .local _ .vmem, ⟨0, _⟩ => ⟨S1024x256, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x1024x256, .f32⟩
  | .local _ .vmem, ⟨10, _⟩ => ⟨S1x1024x256, .f32⟩
  | .local _ .vmem, ⟨11, _⟩ => ⟨S1x1024x256, .f32⟩
  | .local _ .smem, ⟨0, _⟩ => ⟨S3, .i32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_arg6 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S3_S1_0 : ∀ a, (![0] : Fin 1 → Nat) a + S1.size a ≤ S3.size a) (numel1_S1 : S1.numel = 1) (inb_S3_S1_1 : ∀ a, (![1] : Fin 1 → Nat) a + S1.size a ≤ S3.size a) (inb_S3_S1_2 : ∀ a, (![2] : Fin 1 → Nat) a + S1.size a ≤ S3.size a) (pf : pre0.Contents (Elt F)) (i : grid0.Coords) : Fin 2 → Nat :=
  let arg0 : BitVec 32 := BitVec.ofNat 32 (i 0).val
  let c0 : Index := 0#32
  let v0 : BitVec 32 := pf.at 0 (Rect.unit (s := S3) ![0] S1.size inb_S3_S1_0) numel1_S1
  let c4_i32 : BitVec 32 := 4#32
  let v1 : BitVec 32 := Scalar.muli c4_i32 v0
  let c1 : Index := 1#32
  let v2 : BitVec 32 := pf.at 0 (Rect.unit (s := S3) ![1] S1.size inb_S3_S1_1) numel1_S1
  let c2_i32 : BitVec 32 := 2#32
  let v3 : BitVec 32 := Scalar.muli c2_i32 v2
  let v4 : BitVec 32 := Scalar.addi v1 v3
  let c2 : Index := 2#32
  let v5 : BitVec 32 := pf.at 0 (Rect.unit (s := S3) ![2] S1.size inb_S3_S1_2) numel1_S1
  let v6 : BitVec 32 := Scalar.addi v4 v5
  let c0_i32 : BitVec 32 := 0#32
  ![arg0.toNat, v6.toNat]

def cc0_transform_1 (inb_S3_S1_0 : ∀ a, (![0] : Fin 1 → Nat) a + S1.size a ≤ S3.size a) (numel1_S1 : S1.numel = 1) (inb_S3_S1_1 : ∀ a, (![1] : Fin 1 → Nat) a + S1.size a ≤ S3.size a) (pf : pre0.Contents (Elt F)) (i : grid0.Coords) : Fin 3 → Nat :=
  let arg0 : BitVec 32 := BitVec.ofNat 32 (i 0).val
  let c0 : Index := 0#32
  let v0 : BitVec 32 := pf.at 0 (Rect.unit (s := S3) ![0] S1.size inb_S3_S1_0) numel1_S1
  let c2_i32 : BitVec 32 := 2#32
  let v1 : BitVec 32 := Scalar.muli c2_i32 v0
  let c1 : Index := 1#32
  let v2 : BitVec 32 := pf.at 0 (Rect.unit (s := S3) ![1] S1.size inb_S3_S1_1) numel1_S1
  let v3 : BitVec 32 := Scalar.addi v1 v2
  let c0_i32 : BitVec 32 := 0#32
  let c0_i32_0 : BitVec 32 := 0#32
  ![v3.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x1024x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x1024x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S1x1024x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== BigoutRefIdeal.lean ====
abbrev S1024x2048 : Shape := ⟨2, ![1024, 2048]⟩
abbrev S4x1024x256 : Shape := ⟨3, ![4, 1024, 256]⟩
abbrev S3x1024x256 : Shape := ⟨3, ![3, 1024, 256]⟩
abbrev S2x1024x256 : Shape := ⟨3, ![2, 1024, 256]⟩
abbrev S3 : Shape := ⟨1, ![3]⟩
abbrev S1024x8x256 : Shape := ⟨3, ![1024, 8, 256]⟩
abbrev S8x1024x256 : Shape := ⟨3, ![8, 1024, 256]⟩
abbrev S1 : Shape := ⟨1, ![1]⟩
abbrev S_ : Shape := ⟨0, ![]⟩
abbrev S8 : Shape := ⟨1, ![8]⟩
abbrev S8x1x1 : Shape := ⟨3, ![8, 1, 1]⟩
abbrev S1024x256 : Shape := ⟨2, ![1024, 256]⟩
abbrev S4 : Shape := ⟨1, ![4]⟩
abbrev S4x1x1 : Shape := ⟨3, ![4, 1, 1]⟩
abbrev S1x1024x256 : Shape := ⟨3, ![1, 1024, 256]⟩

abbrev nBuf : Space → Nat
  | .hbm => 112
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S4x1024x256, .bf16⟩
  | .hbm, ⟨2, _⟩ => ⟨S3x1024x256, .bf16⟩
  | .hbm, ⟨3, _⟩ => ⟨S2x1024x256, .f32⟩
  | .hbm, ⟨4, _⟩ => ⟨S2x1024x256, .f32⟩
  | .hbm, ⟨5, _⟩ => ⟨S2x1024x256, .f32⟩
  | .hbm, ⟨6, _⟩ => ⟨S3, .i32⟩
  | .hbm, ⟨7, _⟩ => ⟨S2x1024x256, .f32⟩
  | .hbm, ⟨8, _⟩ => ⟨S2x1024x256, .f32⟩
  | .hbm, ⟨9, _⟩ => ⟨S2x1024x256, .f32⟩
  | .hbm, ⟨10, _⟩ => ⟨S2x1024x256, .f32⟩
  | .hbm, ⟨11, _⟩ => ⟨S1024x8x256, .bf16⟩
  | .hbm, ⟨12, _⟩ => ⟨S8x1024x256, .bf16⟩
  | .hbm, ⟨13, _⟩ => ⟨S8x1024x256, .f32⟩
  | .hbm, ⟨14, _⟩ => ⟨S1, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8, .i1⟩
  | .hbm, ⟨29, _⟩ => ⟨S8x1x1, .i1⟩
  | .hbm, ⟨30, _⟩ => ⟨S_, .f32⟩
  | .hbm, ⟨31, _⟩ => ⟨S_, .f32⟩
  | .hbm, ⟨32, _⟩ => ⟨S8x1024x256, .i1⟩
  | .hbm, ⟨33, _⟩ => ⟨S8x1024x256, .f32⟩
  | .hbm, ⟨34, _⟩ => ⟨S8x1024x256, .f32⟩
  | .hbm, ⟨35, _⟩ => ⟨S_, .f32⟩
  | .hbm, ⟨36, _⟩ => ⟨S1024x256, .f32⟩
  | .hbm, ⟨37, _⟩ => ⟨S4x1024x256, .f32⟩
  | .hbm, ⟨38, _⟩ => ⟨S1, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1, .i32⟩
  | .hbm, ⟨43, _⟩ => ⟨S_, .i32⟩
  | .hbm, ⟨44, _⟩ => ⟨S_, .i32⟩
  | .hbm, ⟨45, _⟩ => ⟨S4, .i32⟩
  | .hbm, ⟨46, _⟩ => ⟨S4, .i32⟩
  | .hbm, ⟨47, _⟩ => ⟨S4, .i1⟩
  | .hbm, ⟨48, _⟩ => ⟨S4x1x1, .i1⟩
  | .hbm, ⟨49, _⟩ => ⟨S_, .f32⟩
  | .hbm, ⟨50, _⟩ => ⟨S_, .f32⟩
  | .hbm, ⟨51, _⟩ => ⟨S4x1024x256, .i1⟩
  | .hbm, ⟨52, _⟩ => ⟨S4x1024x256, .f32⟩
  | .hbm, ⟨53, _⟩ => ⟨S4x1024x256, .f32⟩
  | .hbm, ⟨54, _⟩ => ⟨S_, .f32⟩
  | .hbm, ⟨55, _⟩ => ⟨S1024x256, .f32⟩
  | .hbm, ⟨56, _⟩ => ⟨S1024x256, .f32⟩
  | .hbm, ⟨57, _⟩ => ⟨S3x1024x256, .f32⟩
  | .hbm, ⟨58, _⟩ => ⟨S_, .f32⟩
  | .hbm, ⟨59, _⟩ => ⟨S1024x256, .f32⟩
  | .hbm, ⟨60, _⟩ => ⟨S1024x256, .f32⟩
  | .hbm, ⟨61, _⟩ => ⟨S1x1024x256, .f32⟩
  | .hbm, ⟨62, _⟩ => ⟨S1024x256, .f32⟩
  | .hbm, ⟨63, _⟩ => ⟨S1x1024x256, .f32⟩
  | .hbm, ⟨64, _⟩ => ⟨S1024x256, .f32⟩
  | .hbm, ⟨65, _⟩ => ⟨S1x1024x256, .f32⟩
  | .hbm, ⟨66, _⟩ => ⟨S1024x256, .f32⟩
  | .hbm, ⟨67, _⟩ => ⟨S_, .f32⟩
  | .hbm, ⟨68, _⟩ => ⟨S1024x256, .f32⟩
  | .hbm, ⟨69, _⟩ => ⟨S1024x256, .f32⟩
  | .hbm, ⟨70, _⟩ => ⟨S_, .f32⟩
  | .hbm, ⟨71, _⟩ => ⟨S1024x256, .f32⟩
  | .hbm, ⟨72, _⟩ => ⟨S1024x256, .f32⟩
  | .hbm, ⟨73, _⟩ => ⟨S1024x256, .f32⟩
  | .hbm, ⟨74, _⟩ => ⟨S_, .f32⟩
  | .hbm, ⟨75, _⟩ => ⟨S1024x256, .f32⟩
  | .hbm, ⟨76, _⟩ => ⟨S1024x256, .f32⟩
  | .hbm, ⟨77, _⟩ => ⟨S1024x256, .f32⟩
  | .hbm, ⟨78, _⟩ => ⟨S_, .f32⟩
  | .hbm, ⟨79, _⟩ => ⟨S1024x256, .f32⟩
  | .hbm, ⟨80, _⟩ => ⟨S1024x256, .f32⟩
  | .hbm, ⟨81, _⟩ => ⟨S1024x256, .f32⟩
  | .hbm, ⟨82, _⟩ => ⟨S_, .f32⟩
  | .hbm, ⟨83, _⟩ => ⟨S1024x256, .f32⟩
  | .hbm, ⟨84, _⟩ => ⟨S1024x256, .f32⟩
  | .hbm, ⟨85, _⟩ => ⟨S_, .f32⟩
  | .hbm, ⟨86, _⟩ => ⟨S1024x256, .f32⟩
  | .hbm, ⟨87, _⟩ => ⟨S1024x256, .f32⟩
  | .hbm, ⟨88, _⟩ => ⟨S1024x256, .f32⟩
  | .hbm, ⟨89, _⟩ => ⟨S_, .f32⟩
  | .hbm, ⟨90, _⟩ => ⟨S1024x256, .f32⟩
  | .hbm, ⟨91, _⟩ => ⟨S1024x256, .f32⟩
  | .hbm, ⟨92, _⟩ => ⟨S1024x256, .f32⟩
  | .hbm, ⟨93, _⟩ => ⟨S_, .f32⟩
  | .hbm, ⟨94, _⟩ => ⟨S1024x256, .f32⟩
  | .hbm, ⟨95, _⟩ => ⟨S1024x256, .f32⟩
  | .hbm, ⟨96, _⟩ => ⟨S1024x256, .f32⟩
  | .hbm, ⟨97, _⟩ => ⟨S_, .f32⟩
  | .hbm, ⟨98, _⟩ => ⟨S1024x256, .f32⟩
  | .hbm, ⟨99, _⟩ => ⟨S1024x256, .f32⟩
  | .hbm, ⟨100, _⟩ => ⟨S1x1024x256, .f32⟩
  | .hbm, ⟨101, _⟩ => ⟨S1x1024x256, .f32⟩
  | .hbm, ⟨102, _⟩ => ⟨S2x1024x256, .f32⟩
  | .hbm, ⟨103, _⟩ => ⟨S1x1024x256, .f32⟩
  | .hbm, ⟨104, _⟩ => ⟨S1x1024x256, .f32⟩
  | .hbm, ⟨105, _⟩ => ⟨S2x1024x256, .f32⟩
  | .hbm, ⟨106, _⟩ => ⟨S1x1024x256, .f32⟩
  | .hbm, ⟨107, _⟩ => ⟨S1x1024x256, .f32⟩
  | .hbm, ⟨108, _⟩ => ⟨S2x1024x256, .f32⟩
  | .hbm, ⟨109, _⟩ => ⟨S1x1024x256, .f32⟩
  | .hbm, ⟨110, _⟩ => ⟨S1x1024x256, .f32⟩
  | .hbm, ⟨111, _⟩ => ⟨S2x1024x256, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v30 : Ref sig .tc := ⟨.hbm, 53, rfl⟩
abbrev main_cst_4 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_6 : Ref sig .tc := ⟨.hbm, 67, rfl⟩
abbrev main_v42 : Ref sig .tc := ⟨.hbm, 68, rfl⟩
abbrev main_v43 : Ref sig .tc := ⟨.hbm, 69, rfl⟩
abbrev main_cst_7 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_10 : Ref sig .tc := ⟨.hbm, 82, rfl⟩
abbrev main_v53 : Ref sig .tc := ⟨.hbm, 83, rfl⟩
abbrev main_v54 : Ref sig .tc := ⟨.hbm, 84, rfl⟩
abbrev main_cst_11 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_12 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_13 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_14 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩

abbrev nD : Nat := 1
abbrev τ : Topo := Topo.v7x

variable {F : FTy → Type} [FloatOps F]
-- ==== Proof.Scalars.lean ====
/-
  Facts about single extended reals that several calls use: the values of the constants of the programs, and the
  logistic function written with a hyperbolic tangent.
-/
module

public import Idealize.ShloMosaic.PureOps.Ideal
public import Idealize.ShloMosaic.Lib.Pointwise

@[expose] public section

noncomputable section

namespace Cert.Scalars

open Idealize.ShloMosaic

/-- The word of one half is one half. -/
theorem half_val : Ideal.ofBits .f32 0x3F000000#32 = ((1 / 2 : ℝ) : EReal) := by
  simp [Ideal.ofBits, Ideal.ieee, -EReal.coe_mul]
  norm_num

/-- `½ (tanh (x / 2) + 1) = 1 / (1 + e^(-x))` at the reals. -/
theorem tanh_half_real (r : ℝ) : 1 / 2 * (Real.tanh (1 / 2 * r) + 1) = (1 + Real.exp (-r))⁻¹ := by
  have e : Real.exp (-r) = Real.exp (-(1 / 2 * r)) * Real.exp (-(1 / 2 * r)) := by
    rw [← Real.exp_add]; ring_nf
  have h1 : Real.exp (1 / 2 * r) * Real.exp (-(1 / 2 * r)) = 1 := by
    rw [← Real.exp_add]; simp
  have hp := Real.exp_pos (1 / 2 * r)
  have hn := Real.exp_pos (-(1 / 2 * r))
  rw [Real.tanh_eq_sinh_div_cosh, Real.sinh_eq, Real.cosh_eq, e]
  generalize Real.exp (1 / 2 * r) = a at *
  generalize Real.exp (-(1 / 2 * r)) = b at *
  have ha : a + b ≠ 0 := by positivity
  have hb : 1 + b * b ≠ 0 := by positivity
  field_simp
  ring_nf
  nlinarith [h1]

/-- The logistic function as the kernels write it is the logistic function as the reference writes it, at every
    extended real. -/
theorem sigmoid_eq (x : EReal) :
    Ideal.ofBits .f32 0x3F000000#32 * (Ideal.tanh (Ideal.ofBits .f32 0x3F000000#32 * x) + 1)
      = Ideal.div 1 (1 + Ideal.exp (-x)) := by
  rw [half_val]
  change _ = Ideal.logistic x
  induction x with
  | bot =>
    rw [EReal.coe_mul_bot_of_pos (by norm_num), Ideal.tanh_bot, Ideal.logistic_bot,
      show (-1 : EReal) + 1 = 0 by rw [← EReal.coe_one, ← EReal.coe_neg, ← EReal.coe_add]; norm_num, mul_zero]
  | top =>
    rw [EReal.coe_mul_top_of_pos (by norm_num), Ideal.tanh_top, Ideal.logistic_top, ← EReal.coe_one, ← EReal.coe_add,
      ← EReal.coe_mul]
    norm_num
  | coe r =>
    rw [← EReal.coe_mul, Ideal.tanh_coe, Ideal.logistic_coe, ← EReal.coe_one, ← EReal.coe_add, ← EReal.coe_mul,
      tanh_half_real]

end Cert.Scalars

end
-- ==== Proof.Merge.lean ====
module

public import proofs.«01_k».proof.Defs
public import proofs.«01_k».proof.Proof.Gen.MergeIdeal.Frame
public import proofs.«01_k».proof.Proof.Gen.MergeRefIdeal.Read
public import Idealize.ShloMosaic.Lib.Pipeline.ValueKit
public import Idealize.ShloMosaic.Lib.Pointwise
public import Idealize.ShloMosaic.Lib.Claim
public import proofs.«01_k».proof.Proof.Scalars

@[expose] public section

set_option maxRecDepth 16384

noncomputable section

open Idealize.ShloMosaic Idealize.ShloMosaic.TcCoe Idealize.SL.Sem
open Idealize.ShloMosaic.Pipeline (Dat)

namespace Cert.MergeProof

open Cert.MergeIdeal Cert.MergeIdeal.Gen Cert.Scalars

variable (m : (ℓ : Loc nD τ sig) → Buf (Elt Ideal) ℓ)

/-- Where each window's block stands at each grid point: the block rows of that point; of the projections the second
    half of the columns. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 1] ∧ win0_5.index t = ![t.val, 0]
    ∧ win0_6.index t = ![t.val, 0] ∧ win0_7.index t = ![t.val, 0] ∧ win0_8.index t = ![t.val, 0] :=
  (by decide +kernel : ∀ t : Fin grid0.N, _)

open Cert.MergeRefIdeal.Read in
/-- The gradient of the first branch's output: the incoming gradient times the first gate. -/
theorem final5 (c : Dev nD) : (dats m 0 c).arrAt 5 (cfgs 0).N
    = val_main_v43 (F := Ideal) (m ((c : Thread nD τ).loc main_arg0)) (m ((c : Thread nD τ).loc main_arg1)) := by
  refine (dats m 0 c).arrAt_eq_of_covers 5 _ (by decide +kernel) fun t _ y => ?_
  blk_simp
  rw [after0_5]; frame_out
  pointwise [k0_pay1, k0_pay2, k0_pay3, k0_pay4, k0_pay5, k0_pay6, k0_pay7, k0_pay8, k0_pay9, k0_pay10, k0_pay11,
    val_main_v43, val_main_v36, val_main_v26, val_main_v16, val_main_v15, val_main_v10, val_main_cst_0, val_main_v9, val_main_v8, val_main_v7, val_main_cst, val_main_v6, val_main_v5, val_main_v1, val_main_v0, val_main_v14, sigmoid_eq]
  blk_point [iblk, V, idx t]

open Cert.MergeRefIdeal.Read in
/-- The gradient of the second branch's output: the incoming gradient times the second gate. -/
theorem final6 (c : Dev nD) : (dats m 0 c).arrAt 6 (cfgs 0).N
    = val_main_v44 (F := Ideal) (m ((c : Thread nD τ).loc main_arg0)) (m ((c : Thread nD τ).loc main_arg1)) := by
  refine (dats m 0 c).arrAt_eq_of_covers 6 _ (by decide +kernel) fun t _ y => ?_
  blk_simp
  rw [after0_6]; frame_out
  pointwise [k0_pay1, k0_pay2, k0_pay3, k0_pay4, k0_pay5, k0_pay6, k0_pay7, k0_pay8, k0_pay9, k0_pay10, k0_pay11,
    val_main_v44, val_main_v31, val_main_v26, val_main_v19, val_main_v18, val_main_v10, val_main_cst_0, val_main_v9, val_main_v8, val_main_v7, val_main_cst, val_main_v6, val_main_v5, val_main_v1, val_main_v0, val_main_v14, sigmoid_eq]
  blk_point [iblk, V, idx t]

open Cert.MergeRefIdeal.Read in
/-- The gradient of the third branch's output: the incoming gradient times the third gate. -/
theorem final7 (c : Dev nD) : (dats m 0 c).arrAt 7 (cfgs 0).N
    = val_main_v45 (F := Ideal) (m ((c : Thread nD τ).loc main_arg0)) (m ((c : Thread nD τ).loc main_arg1)) := by
  refine (dats m 0 c).arrAt_eq_of_covers 7 _ (by decide +kernel) fun t _ y => ?_
  blk_simp
  rw [after0_7]; frame_out
  pointwise [k0_pay1, k0_pay2, k0_pay3, k0_pay4, k0_pay5, k0_pay6, k0_pay7, k0_pay8, k0_pay9, k0_pay10, k0_pay11,
    val_main_v45, val_main_v27, val_main_v26, val_main_v23, val_main_v22, val_main_v10, val_main_cst_0, val_main_v9, val_main_v8, val_main_v7, val_main_cst, val_main_v6, val_main_v5, val_main_v1, val_main_v0, val_main_v14, sigmoid_eq]
  blk_point [iblk, V, idx t]

/-- The logistic function. -/
def sg (x : EReal) : EReal := Ideal.div 1 (1 + Ideal.exp (-x))

open Cert.MergeRefIdeal.Read in
/-- The plain lines' gradient of the third gate at one column of it. -/
theorem gate_third (x0 : FVec Ideal S4096x12288 .bf16) (x1 x2 x3 x4 : FVec Ideal S4096x2048 .bf16) (r : Fin 4096) (j : Fin 2048) :
    val_main_v46 (F := Ideal) x0 x1 x2 x3 x4 (ix2 r ⟨4096 + j.val, by omega⟩)
      = x1 (ix2 r j) * x4 (ix2 r j) * sg (x0 (ix2 r ⟨10240 + j.val, by omega⟩))
          * ((1 : EReal) - sg (x0 (ix2 r ⟨10240 + j.val, by omega⟩))) := by
  have e1 : (4096 + j.val) / 2048 = 2 := by omega
  have e2 : (4096 + j.val) % 2048 = j.val := by omega
  have e3 : 6144 + (4096 + j.val) = 10240 + j.val := by omega
  pointwise [val_main_v46, val_main_v42, val_main_v41, val_main_v40, val_main_v39, val_main_v38, val_main_v37, val_main_v36, val_main_v35, val_main_v34, val_main_v33, val_main_v32, val_main_v31, val_main_v30, val_main_v29, val_main_v28, val_main_v26, val_main_v13, val_main_v12, val_main_v11, val_main_cst_1, val_main_cst_2, val_main_cst_3, val_main_cst_4, val_main_v2, val_main_v3, val_main_v4, val_main_v10, val_main_cst_0, val_main_v9, val_main_v8, val_main_v7, val_main_cst, val_main_v6, val_main_v5, val_main_v1, val_main_v0]
  simp only [e1, e2, e3, sg]
  simp [mul_assoc]

open Cert.MergeRefIdeal.Read in
/-- The plain lines' gradient of the second gate at one column of it. -/
theorem gate_second (x0 : FVec Ideal S4096x12288 .bf16) (x1 x2 x3 x4 : FVec Ideal S4096x2048 .bf16) (r : Fin 4096) (j : Fin 2048) :
    val_main_v46 (F := Ideal) x0 x1 x2 x3 x4 (ix2 r ⟨2048 + j.val, by omega⟩)
      = x1 (ix2 r j) * x3 (ix2 r j) * sg (x0 (ix2 r ⟨8192 + j.val, by omega⟩))
          * ((1 : EReal) - sg (x0 (ix2 r ⟨8192 + j.val, by omega⟩))) := by
  have e1 : (2048 + j.val) / 2048 = 1 := by omega
  have e2 : (2048 + j.val) % 2048 = j.val := by omega
  have e3 : 6144 + (2048 + j.val) = 8192 + j.val := by omega
  pointwise [val_main_v46, val_main_v42, val_main_v41, val_main_v40, val_main_v39, val_main_v38, val_main_v37, val_main_v36, val_main_v35, val_main_v34, val_main_v33, val_main_v32, val_main_v31, val_main_v30, val_main_v29, val_main_v28, val_main_v26, val_main_v13, val_main_v12, val_main_v11, val_main_cst_1, val_main_cst_2, val_main_cst_3, val_main_cst_4, val_main_v2, val_main_v3, val_main_v4, val_main_v10, val_main_cst_0, val_main_v9, val_main_v8, val_main_v7, val_main_cst, val_main_v6, val_main_v5, val_main_v1, val_main_v0]
  simp only [e1, e2, e3, sg]
  simp [mul_assoc]

open Cert.MergeRefIdeal.Read in
/-- The plain lines' gradient of the first gate at one column of it. -/
theorem gate_first (x0 : FVec Ideal S4096x12288 .bf16) (x1 x2 x3 x4 : FVec Ideal S4096x2048 .bf16) (r : Fin 4096) (j : Fin 2048) :
    val_main_v46 (F := Ideal) x0 x1 x2 x3 x4 (ix2 r ⟨j.val, by omega⟩)
      = x1 (ix2 r j) * x2 (ix2 r j) * sg (x0 (ix2 r ⟨6144 + j.val, by omega⟩))
          * ((1 : EReal) - sg (x0 (ix2 r ⟨6144 + j.val, by omega⟩))) := by
  have e1 : j.val / 2048 = 0 := by omega
  have e2 : j.val % 2048 = j.val := by omega
  pointwise [val_main_v46, val_main_v42, val_main_v41, val_main_v40, val_main_v39, val_main_v38, val_main_v37, val_main_v36, val_main_v35, val_main_v34, val_main_v33, val_main_v32, val_main_v31, val_main_v30, val_main_v29, val_main_v28, val_main_v26, val_main_v13, val_main_v12, val_main_v11, val_main_cst_1, val_main_cst_2, val_main_cst_3, val_main_cst_4, val_main_v2, val_main_v3, val_main_v4, val_main_v10, val_main_cst_0, val_main_v9, val_main_v8, val_main_v7, val_main_cst, val_main_v6, val_main_v5, val_main_v1, val_main_v0]
  simp only [e1, e2, sg]
  simp [mul_assoc]

open Cert.MergeRefIdeal.Read in
/-- The gradient of the gates: in each third of the columns the incoming gradient times that branch's output times the
    slope of the logistic function. -/
theorem final8 (c : Dev nD) : (dats m 0 c).arrAt 8 (cfgs 0).N
    = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  unfold_out out0_8
  have ht : t.val < 16 := lt_of_lt_of_eq t.isLt N_0
  canon_tiles x h
  · have e : ((cfg0.win 8).blk t).view.emb y = ix2 (⟨t.val * 256 + (x 0).val, by omega⟩ : Fin 4096) (⟨4096 + (x 1).val, by omega⟩ : Fin 6144) := by
      blk_ext [idx t]
    rw [e]
    refine Eq.trans ?_ (gate_third _ _ _ _ _ ⟨t.val * 256 + (x 0).val, by omega⟩ ⟨(x 1).val, by omega⟩).symm
    pointwise [k0_pay1, k0_pay2, k0_pay3, k0_pay4, k0_pay5, k0_pay6, k0_pay7, k0_pay8, k0_pay9, k0_pay10, sigmoid_eq, sg]
    blk_point [iblk, V, idx t]
  · have e : ((cfg0.win 8).blk t).view.emb y = ix2 (⟨t.val * 256 + (x 0).val, by omega⟩ : Fin 4096) (⟨2048 + (x 1).val, by omega⟩ : Fin 6144) := by
      blk_ext [idx t]
    rw [e]
    refine Eq.trans ?_ (gate_second _ _ _ _ _ ⟨t.val * 256 + (x 0).val, by omega⟩ ⟨(x 1).val, by omega⟩).symm
    pointwise [k0_pay1, k0_pay2, k0_pay3, k0_pay4, k0_pay5, k0_pay6, k0_pay7, k0_pay8, k0_pay9, k0_pay10, sigmoid_eq, sg]
    blk_point [iblk, V, idx t]
  · have e : ((cfg0.win 8).blk t).view.emb y = ix2 (⟨t.val * 256 + (x 0).val, by omega⟩ : Fin 4096) (⟨(x 1).val, by omega⟩ : Fin 6144) := by
      blk_ext [idx t]
    rw [e]
    refine Eq.trans ?_ (gate_first _ _ _ _ _ ⟨t.val * 256 + (x 0).val, by omega⟩ ⟨(x 1).val, by omega⟩).symm
    pointwise [k0_pay1, k0_pay2, k0_pay3, k0_pay4, k0_pay5, k0_pay6, k0_pay7, k0_pay8, k0_pay9, k0_pay10, sigmoid_eq, sg]
    blk_point [iblk, V, idx t]

/-- The call and the plain lines end with equal results from equal arguments. -/
theorem equal : Cert.algebraic_MergeIdeal_MergeRefIdeal := by
  pair_intro
  · run_from Cert.MergeIdeal.Gen.run_main m g
  · run_from Cert.MergeRefIdeal.Value.run m' g'
    · exact (final5 m c).symm
    · exact (final6 m c).symm
    · exact (final7 m c).symm
    · exact (final8 m c).symm

end Cert.MergeProof

end
-- ==== Proof.Dact.lean ====
module

public import proofs.«01_k».proof.Defs
public import proofs.«01_k».proof.Proof.Gen.DactIdeal.Frame
public import proofs.«01_k».proof.Proof.Gen.DactRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DactProof

open Cert.DactIdeal Cert.DactIdeal.Gen

variable (m : (ℓ : Loc nD τ sig) → Buf (Elt Ideal) ℓ)

/-- Where each window's block stands at each grid point, decided over all of them. -/
theorem idx : ∀ t : Fin cfg0.N, win0_0.index t = ![t.val / 11, 0] ∧ win0_1.index t = ![t.val % 11, 0]
    ∧ win0_2.index t = ![t.val / 11, t.val % 11] :=
  (by decide +kernel : ∀ t : Fin grid0.N, _)

/-- What the body stores at a block index is the plain product at the array index it stands for. -/
theorem point (c : Dev nD) (t : Fin cfg0.N) (y) : k0_pay1 (F := Ideal) (iblk m c 0 t) (iblk m c 1 t) y
    = Cert.DactRefIdeal.Read.val_main_v5 (F := Ideal) (m ((c : Thread nD τ).loc main_arg0)) (m ((c : Thread nD τ).loc main_arg1))
        (((cfg0.win 2).blk t).view.emb y) := by
  pointwise [k0_pay1, Cert.DactRefIdeal.Read.val_main_v5, Cert.DactRefIdeal.Read.val_main_v4, Cert.DactRefIdeal.Read.val_main_v3,
    Cert.DactRefIdeal.Read.val_main_v1]
  blk_point [iblk, V, idx t]

/-- The kernel's result array is the plain product of its two arguments. -/
theorem final (c : Dev nD) : (dats m 0 c).arrAt 2 (cfgs 0).N
    = Cert.DactRefIdeal.Read.val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The call and the plain lines end with equal results from equal arguments. -/
theorem equal : Cert.algebraic_DactIdeal_DactRefIdeal := by
  pair_intro
  · run_from Cert.DactIdeal.Gen.run_main m g
  · run_from Cert.DactRefIdeal.Value.run m' g'
    exact (final m c).symm

end Cert.DactProof

end
-- ==== Proof.Dm.lean ====
module

public import proofs.«01_k».proof.Defs
public import proofs.«01_k».proof.Proof.Gen.DmIdeal.Frame
public import proofs.«01_k».proof.Proof.Gen.DmRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DmProof

open Cert.DmIdeal Cert.DmIdeal.Gen

variable (m : (ℓ : Loc nD τ sig) → Buf (Elt Ideal) ℓ)

/-- Where each window's block stands at each grid point, decided over all of them. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

open Cert.DmRefIdeal.Read in
/-- The kernel's result array is the gradient of the left factor of the plain product. -/
theorem final (c : Dev nD) : (dats m 0 c).arrAt 2 (cfgs 0).N
    = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, val_main_v5, val_main_v4, val_main_v3, val_main_v1]
  blk_point [iblk, V, idx t]

/-- The call and the plain lines end with equal results from equal arguments. -/
theorem equal : Cert.algebraic_DmIdeal_DmRefIdeal := by
  pair_intro
  · run_from Cert.DmIdeal.Gen.run_main m g
  · run_from Cert.DmRefIdeal.Value.run m' g'
    exact (final m c).symm

end Cert.DmProof

end
-- ==== Proof.Dy.lean ====
module

public import proofs.«01_k».proof.Defs
public import proofs.«01_k».proof.Proof.Gen.DyIdeal.Frame
public import proofs.«01_k».proof.Proof.Gen.DyRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DyProof

open Cert.DyIdeal Cert.DyIdeal.Gen

variable (m : (ℓ : Loc nD τ sig) → Buf (Elt Ideal) ℓ)

/-- Where each window's block stands at each grid point, decided over all of them. -/
theorem idx : ∀ t : Fin cfg0.N, win0_0.index t = ![t.val / 1, 0] ∧ win0_1.index t = ![t.val % 1, 0]
    ∧ win0_2.index t = ![t.val / 1, t.val % 1] :=
  (by decide +kernel : ∀ t : Fin grid0.N, _)

open Cert.DyRefIdeal.Read in
/-- The kernel's result array is the gradient of the left factor of the plain product. -/
theorem final (c : Dev nD) : (dats m 0 c).arrAt 2 (cfgs 0).N
    = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, val_main_v5, val_main_v4, val_main_v3, val_main_v1]
  blk_point [iblk, V, idx t]

/-- The call and the plain lines end with equal results from equal arguments. -/
theorem equal : Cert.algebraic_DyIdeal_DyRefIdeal := by
  pair_intro
  · run_from Cert.DyIdeal.Gen.run_main m g
  · run_from Cert.DyRefIdeal.Value.run m' g'
    exact (final m c).symm

end Cert.DyProof

end
-- ==== Proof.Gdown.lean ====
module

public import proofs.«01_k».proof.Defs
public import proofs.«01_k».proof.Proof.Gen.GdownIdeal.Frame
public import proofs.«01_k».proof.Proof.Gen.GdownRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GdownProof

open Cert.GdownIdeal Cert.GdownIdeal.Gen

variable (m : (ℓ : Loc nD τ sig) → Buf (Elt Ideal) ℓ)

/-- Where each window's block stands at each grid point, decided over all of them. -/
theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

open Cert.GdownRefIdeal.Read in
/-- What the plain lines' product holds at each index: the sum over the rows of the two arrays. -/
theorem plain (x0 : FVec Ideal S4096x5632 .bf16) (x1 : FVec Ideal S4096x2048 .bf16) :
    val_main_v6 (F := Ideal) x0 x1 = fun i => ∑ k : Fin 4096, x0 (ix2 k (i 0)) * x1 (ix2 k (i 1)) := by
  funext i
  pointwise! [val_main_v6, val_main_v5, val_main_v4, val_main_v3, val_main_v1]

open Cert.GdownRefIdeal.Read in
/-- The kernel's result array is the gradient of the right factor of the plain product. -/
theorem final (c : Dev nD) : (dats m 0 c).arrAt 2 (cfgs 0).N
    = val_main_v6 (F := Ideal) (m ((c : Thread nD τ).loc main_arg0)) (m ((c : Thread nD τ).loc main_arg1)) := by
  rw [plain]
  refine (dats m 0 c).arrAt_eq_of_covers 2 _ (by decide +kernel) fun t _ y => ?_
  blk_simp
  rw [after0_2]; frame_out
  pointwise [k0_pay1]
  blk_point [iblk, V, idx t]

/-- The call and the plain lines end with equal results from equal arguments. -/
theorem equal : Cert.algebraic_GdownIdeal_GdownRefIdeal := by
  pair_intro
  · run_from Cert.GdownIdeal.Gen.run_main m g
  · run_from Cert.GdownRefIdeal.Value.run m' g'
    exact (final m c).symm

end Cert.GdownProof

end
-- ==== Proof.Go.lean ====
module

public import proofs.«01_k».proof.Defs
public import proofs.«01_k».proof.Proof.Gen.GoIdeal.Frame
public import proofs.«01_k».proof.Proof.Gen.GoRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GoProof

open Cert.GoIdeal Cert.GoIdeal.Gen

variable (m : (ℓ : Loc nD τ sig) → Buf (Elt Ideal) ℓ)

/-- Where each window's block stands at each grid point, decided over all of them. -/
theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

open Cert.GoRefIdeal.Read in
/-- What the plain lines' product holds at each index: the sum over the rows of the two arrays. -/
theorem plain (x0 : FVec Ideal S4096x2048 .bf16) (x1 : FVec Ideal S4096x2048 .bf16) :
    val_main_v6 (F := Ideal) x0 x1 = fun i => ∑ k : Fin 4096, x0 (ix2 k (i 0)) * x1 (ix2 k (i 1)) := by
  funext i
  pointwise! [val_main_v6, val_main_v5, val_main_v4, val_main_v3, val_main_v1]

open Cert.GoRefIdeal.Read in
/-- The kernel's result array is the gradient of the right factor of the plain product. -/
theorem final (c : Dev nD) : (dats m 0 c).arrAt 2 (cfgs 0).N
    = val_main_v6 (F := Ideal) (m ((c : Thread nD τ).loc main_arg0)) (m ((c : Thread nD τ).loc main_arg1)) := by
  rw [plain]
  refine (dats m 0 c).arrAt_eq_of_covers 2 _ (by decide +kernel) fun t _ y => ?_
  blk_simp
  rw [after0_2]; frame_out
  pointwise [k0_pay1]
  blk_point [iblk, V, idx t]

/-- The call and the plain lines end with equal results from equal arguments. -/
theorem equal : Cert.algebraic_GoIdeal_GoRefIdeal := by
  pair_intro
  · run_from Cert.GoIdeal.Gen.run_main m g
  · run_from Cert.GoRefIdeal.Value.run m' g'
    exact (final m c).symm

end Cert.GoProof

end
-- ==== Proof.Gy.lean ====
module

public import proofs.«01_k».proof.Defs
public import proofs.«01_k».proof.Proof.Gen.GyIdeal.Frame
public import proofs.«01_k».proof.Proof.Gen.GyRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GyProof

open Cert.GyIdeal Cert.GyIdeal.Gen

variable (m : (ℓ : Loc nD τ sig) → Buf (Elt Ideal) ℓ)

/-- Where each window's block stands at each grid point, decided over all of them. -/
theorem idx : ∀ t : Fin cfg0.N, win0_0.index t = ![0, t.val / 2] ∧ win0_1.index t = ![0, t.val % 2]
    ∧ win0_2.index t = ![t.val / 2, t.val % 2] :=
  (by decide +kernel : ∀ t : Fin grid0.N, _)

open Cert.GyRefIdeal.Read in
/-- What the plain lines' product holds at each index: the sum over the rows of the two arrays. -/
theorem plain (x0 : FVec Ideal S4096x1024 .bf16) (x1 : FVec Ideal S4096x2048 .bf16) :
    val_main_v6 (F := Ideal) x0 x1 = fun i => ∑ k : Fin 4096, x0 (ix2 k (i 0)) * x1 (ix2 k (i 1)) := by
  funext i
  pointwise! [val_main_v6, val_main_v5, val_main_v4, val_main_v3, val_main_v1]

open Cert.GyRefIdeal.Read in
/-- The kernel's result array is the gradient of the right factor of the plain product. -/
theorem final (c : Dev nD) : (dats m 0 c).arrAt 2 (cfgs 0).N
    = val_main_v6 (F := Ideal) (m ((c : Thread nD τ).loc main_arg0)) (m ((c : Thread nD τ).loc main_arg1)) := by
  rw [plain]
  refine (dats m 0 c).arrAt_eq_of_covers 2 _ (by decide +kernel) fun t _ y => ?_
  blk_simp
  rw [after0_2]; frame_out
  pointwise [k0_pay1]
  blk_point [iblk, V, idx t]

/-- The call and the plain lines end with equal results from equal arguments. -/
theorem equal : Cert.algebraic_GyIdeal_GyRefIdeal := by
  pair_intro
  · run_from Cert.GyIdeal.Gen.run_main m g
  · run_from Cert.GyRefIdeal.Value.run m' g'
    exact (final m c).symm

end Cert.GyProof

end
-- ==== Proof.Up.lean ====
module

public import proofs.«01_k».proof.Defs
public import proofs.«01_k».proof.Proof.Gen.UpIdeal.Frame
public import proofs.«01_k».proof.Proof.Gen.UpRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpProof

open Cert.UpIdeal Cert.UpIdeal.Gen

variable (m : (ℓ : Loc nD τ sig) → Buf (Elt Ideal) ℓ)

/-- Where each window's block stands at each grid point, decided over all of them. -/
theorem idx : ∀ t : Fin cfg0.N, win0_0.index t = ![t.val / 11, 0] ∧ win0_1.index t = ![0, t.val % 11]
    ∧ win0_2.index t = ![t.val / 11, t.val % 11] :=
  (by decide +kernel : ∀ t : Fin grid0.N, _)

open Cert.UpRefIdeal.Read in
/-- The kernel's result array is the plain product. -/
theorem final (c : Dev nD) : (dats m 0 c).arrAt 2 (cfgs 0).N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, val_main_v3, val_main_v2, val_main_v1, val_main_v0]
  blk_point [iblk, V, idx t]

/-- The call and the plain lines end with equal results from equal arguments. -/
theorem equal : Cert.algebraic_UpIdeal_UpRefIdeal := by
  pair_intro
  · run_from Cert.UpIdeal.Gen.run_main m g
  · run_from Cert.UpRefIdeal.Value.run m' g'
    exact (final m c).symm

end Cert.UpProof

end
-- ==== Proof.In.lean ====
module

public import proofs.«01_k».proof.Defs
public import proofs.«01_k».proof.Proof.Gen.InIdeal.Frame
public import proofs.«01_k».proof.Proof.Gen.InRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProof

open Cert.InIdeal Cert.InIdeal.Gen

variable (m : (ℓ : Loc nD τ sig) → Buf (Elt Ideal) ℓ)

/-- Where each window's block stands at each grid point, decided over all of them. -/
theorem idx : ∀ t : Fin cfg0.N, win0_0.index t = ![t.val / 12, 0] ∧ win0_1.index t = ![0, t.val % 12]
    ∧ win0_2.index t = ![t.val / 12, t.val % 12] :=
  (by decide +kernel : ∀ t : Fin grid0.N, _)

open Cert.InRefIdeal.Read in
/-- The kernel's result array is the plain product. -/
theorem final (c : Dev nD) : (dats m 0 c).arrAt 2 (cfgs 0).N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, val_main_v3, val_main_v2, val_main_v1, val_main_v0]
  blk_point [iblk, V, idx t]

/-- The call and the plain lines end with equal results from equal arguments. -/
theorem equal : Cert.algebraic_InIdeal_InRefIdeal := by
  pair_intro
  · run_from Cert.InIdeal.Gen.run_main m g
  · run_from Cert.InRefIdeal.Value.run m' g'
    exact (final m c).symm

end Cert.InProof

end
-- ==== Proof.Down.lean ====
module

public import proofs.«01_k».proof.Defs
public import proofs.«01_k».proof.Proof.Gen.DownIdeal.Frame
public import proofs.«01_k».proof.Proof.Gen.DownRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownProof

open Cert.DownIdeal Cert.DownIdeal.Gen

variable (m : (ℓ : Loc nD τ sig) → Buf (Elt Ideal) ℓ)

/-- Where each window's block stands at each grid point, decided over all of them. -/
theorem idx : ∀ t : Fin cfg0.N, win0_0.index t = ![t.val / 4, 0] ∧ win0_1.index t = ![0, t.val % 4] ∧ win0_2.index t = ![t.val / 4, t.val % 4]
    ∧ win0_3.index t = ![t.val / 4, t.val % 4] :=
  (by decide +kernel : ∀ t : Fin grid0.N, _)

open Cert.DownRefIdeal.Read in
/-- The kernel's result array is the residual plus the plain product. -/
theorem final (c : Dev nD) : (dats m 0 c).arrAt 3 (cfgs 0).N
    = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay1, val_main_v3, val_main_v2, val_main_v1, val_main_v0]
  blk_point [iblk, V, idx t]

/-- The call and the plain lines end with equal results from equal arguments. -/
theorem equal : Cert.algebraic_DownIdeal_DownRefIdeal := by
  pair_intro
  · run_from Cert.DownIdeal.Gen.run_main m g
  · run_from Cert.DownRefIdeal.Value.run m' g'
    exact (final m c).symm

end Cert.DownProof

end
-- ==== Proof.Gup.lean ====
module

public import proofs.«01_k».proof.Defs
public import proofs.«01_k».proof.Proof.Gen.GupIdeal.Frame
public import proofs.«01_k».proof.Proof.Gen.GupRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GupProof

open Cert.GupIdeal Cert.GupIdeal.Gen

variable (m : (ℓ : Loc nD τ sig) → Buf (Elt Ideal) ℓ)

/-- Where each window's block stands at each grid point, decided over all of them. -/
theorem idx : ∀ t : Fin cfg0.N, win0_0.index t = ![0, t.val / 11] ∧ win0_1.index t = ![0, t.val % 11]
    ∧ win0_2.index t = ![t.val / 11, 11 + t.val % 11] :=
  (by decide +kernel : ∀ t : Fin grid0.N, _)

open Cert.GupRefIdeal.Read in
/-- What the plain lines hold at a column the call writes: the sum over the rows of the two arrays. -/
theorem plain (x0 : FVec Ideal S4096x2048 .bf16) (x1 : FVec Ideal S4096x5632 .bf16) (x2 : FVec Ideal S2048x11264 .bf16) (r : Fin 2048) (j : Fin 5632) :
    val_main_v8 (F := Ideal) x0 x1 x2 (ix2 r ⟨5632 + j.val, by omega⟩) = ∑ k : Fin 4096, x0 (ix2 k r) * x1 (ix2 k j) := by
  pointwise! [val_main_v8, val_main_v7, val_main_v6, val_main_v5, val_main_v4, val_main_v3, val_main_v1]

open Cert.GupRefIdeal.Read in
/-- What the plain lines hold at the other columns: the array the call was given. -/
theorem kept (x0 : FVec Ideal S4096x2048 .bf16) (x1 : FVec Ideal S4096x5632 .bf16) (x2 : FVec Ideal S2048x11264 .bf16) (i : S2048x11264.Idx) (h : ¬ 5632 ≤ (i 1).val) :
    val_main_v8 (F := Ideal) x0 x1 x2 i = x2 i := by
  idx_vars i
  pointwise [val_main_v8, val_main_v7, val_main_v6, val_main_v5, val_main_v4, val_main_v3, val_main_v1]
  exact dif_pos (Nat.lt_of_not_le h)

/-- The result array is given to the call holding its third argument. -/
theorem entry_out (c : Dev nD) : V m c main_v0 = m ((c : Thread nD τ).loc main_arg2) := by
  unfold V; after_results; try rfl

open Cert.GupRefIdeal.Read in
/-- The call's result array: the plain lines' elements at the columns it writes, elsewhere what the array held before. -/
theorem final (c : Dev nD) : (dats m 0 c).arrAt 2 (cfgs 0).N
    = fun i => if 5632 ≤ (i 1).val then val_main_v8 (F := Ideal) (m ((c : Thread nD τ).loc main_arg0)) (m ((c : Thread nD τ).loc main_arg1)) (m ((c : Thread nD τ).loc main_arg2)) i
        else V m c main_v0 i := by
  refine (dats m 0 c).arrAt_eq_of_coversWhere 2 _ (fun β => 11 ≤ β 1) (by decide +kernel) (fun t _ y => ?_)
    (fun j => by blk_simp [Pipeline.Window.cell_apply]; omega)
  blk_simp
  rw [after0_2]; unfold outsAt0; frame_out
  have ht : t.val < 22 := lt_of_lt_of_eq t.isLt N_0
  have h0 : (y 0).val < 1024 := (y 0).isLt
  have h1 : (y 1).val < 512 := (y 1).isLt
  have e : ((cfg0.win 2).blk t).view.emb y = ix2 (⟨t.val / 11 * 1024 + (y 0).val, by omega⟩ : Fin 2048)
      (⟨5632 + (t.val % 11 * 512 + (y 1).val), by omega⟩ : Fin 11264) := by
    blk_ext [idx t]
  rw [e]
  refine Eq.trans ?_ (plain _ _ _ ⟨t.val / 11 * 1024 + (y 0).val, by omega⟩ ⟨t.val % 11 * 512 + (y 1).val, by omega⟩).symm
  pointwise [k0_pay1]
  blk_point [iblk, V, idx t]

open Cert.GupRefIdeal.Read in
/-- The call's result array is the plain lines' array. -/
theorem whole (c : Dev nD) : (dats m 0 c).arrAt 2 (cfgs 0).N = val_main_v8 (F := Ideal) (m ((c : Thread nD τ).loc main_arg0)) (m ((c : Thread nD τ).loc main_arg1)) (m ((c : Thread nD τ).loc main_arg2)) := by
  rw [final m c, entry_out m c]
  funext i
  split
  · rfl
  · exact (kept _ _ _ i (by assumption)).symm

/-- The call and the plain lines end with equal results from equal arguments. -/
theorem equal : Cert.algebraic_GupIdeal_GupRefIdeal := by
  pair_intro
  · run_from Cert.GupIdeal.Gen.run_main m g
  · run_from Cert.GupRefIdeal.Value.run m' g'
    rw [(hagree c).2.2]
    exact (whole m c).symm

end Cert.GupProof

end
-- ==== Proof.Gin.lean ====
module

public import proofs.«01_k».proof.Defs
public import proofs.«01_k».proof.Proof.Gen.GinIdeal.Frame
public import proofs.«01_k».proof.Proof.Gen.GinRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GinProof

open Cert.GinIdeal Cert.GinIdeal.Gen

variable (m : (ℓ : Loc nD τ sig) → Buf (Elt Ideal) ℓ)

/-- Where each window's block stands at each grid point, decided over all of them. -/
theorem idx : ∀ t : Fin cfg0.N, win0_0.index t = ![0, t.val / 6] ∧ win0_1.index t = ![0, t.val % 6]
    ∧ win0_2.index t = ![t.val / 6, 6 + t.val % 6] :=
  (by decide +kernel : ∀ t : Fin grid0.N, _)

open Cert.GinRefIdeal.Read in
/-- What the plain lines hold at a column the call writes: the sum over the rows of the two arrays. -/
theorem plain (x0 : FVec Ideal S4096x2048 .bf16) (x1 : FVec Ideal S4096x6144 .bf16) (x2 : FVec Ideal S2048x12288 .bf16) (r : Fin 2048) (j : Fin 6144) :
    val_main_v8 (F := Ideal) x0 x1 x2 (ix2 r ⟨6144 + j.val, by omega⟩) = ∑ k : Fin 4096, x0 (ix2 k r) * x1 (ix2 k j) := by
  pointwise! [val_main_v8, val_main_v7, val_main_v6, val_main_v5, val_main_v4, val_main_v3, val_main_v1]

open Cert.GinRefIdeal.Read in
/-- What the plain lines hold at the other columns: the array the call was given. -/
theorem kept (x0 : FVec Ideal S4096x2048 .bf16) (x1 : FVec Ideal S4096x6144 .bf16) (x2 : FVec Ideal S2048x12288 .bf16) (i : S2048x12288.Idx) (h : ¬ 6144 ≤ (i 1).val) :
    val_main_v8 (F := Ideal) x0 x1 x2 i = x2 i := by
  idx_vars i
  pointwise [val_main_v8, val_main_v7, val_main_v6, val_main_v5, val_main_v4, val_main_v3, val_main_v1]
  exact dif_pos (Nat.lt_of_not_le h)

/-- The result array is given to the call holding its third argument. -/
theorem entry_out (c : Dev nD) : V m c main_v0 = m ((c : Thread nD τ).loc main_arg2) := by
  unfold V; after_results; try rfl

open Cert.GinRefIdeal.Read in
/-- The call's result array: the plain lines' elements at the columns it writes, elsewhere what the array held before. -/
theorem final (c : Dev nD) : (dats m 0 c).arrAt 2 (cfgs 0).N
    = fun i => if 6144 ≤ (i 1).val then val_main_v8 (F := Ideal) (m ((c : Thread nD τ).loc main_arg0)) (m ((c : Thread nD τ).loc main_arg1)) (m ((c : Thread nD τ).loc main_arg2)) i
        else V m c main_v0 i := by
  refine (dats m 0 c).arrAt_eq_of_coversWhere 2 _ (fun β => 6 ≤ β 1) (by decide +kernel) (fun t _ y => ?_)
    (fun j => by blk_simp [Pipeline.Window.cell_apply]; omega)
  blk_simp
  rw [after0_2]; unfold outsAt0; frame_out
  have ht : t.val < 12 := lt_of_lt_of_eq t.isLt N_0
  have h0 : (y 0).val < 1024 := (y 0).isLt
  have h1 : (y 1).val < 1024 := (y 1).isLt
  have e : ((cfg0.win 2).blk t).view.emb y = ix2 (⟨t.val / 6 * 1024 + (y 0).val, by omega⟩ : Fin 2048)
      (⟨6144 + (t.val % 6 * 1024 + (y 1).val), by omega⟩ : Fin 12288) := by
    blk_ext [idx t]
  rw [e]
  refine Eq.trans ?_ (plain _ _ _ ⟨t.val / 6 * 1024 + (y 0).val, by omega⟩ ⟨t.val % 6 * 1024 + (y 1).val, by omega⟩).symm
  pointwise [k0_pay1]
  blk_point [iblk, V, idx t]

open Cert.GinRefIdeal.Read in
/-- The call's result array is the plain lines' array. -/
theorem whole (c : Dev nD) : (dats m 0 c).arrAt 2 (cfgs 0).N = val_main_v8 (F := Ideal) (m ((c : Thread nD τ).loc main_arg0)) (m ((c : Thread nD τ).loc main_arg1)) (m ((c : Thread nD τ).loc main_arg2)) := by
  rw [final m c, entry_out m c]
  funext i
  split
  · rfl
  · exact (kept _ _ _ i (by assumption)).symm

/-- The call and the plain lines end with equal results from equal arguments. -/
theorem equal : Cert.algebraic_GinIdeal_GinRefIdeal := by
  pair_intro
  · run_from Cert.GinIdeal.Gen.run_main m g
  · run_from Cert.GinRefIdeal.Value.run m' g'
    rw [(hagree c).2.2]
    exact (whole m c).symm

end Cert.GinProof

end
-- ==== Proof.Gupa.lean ====
module

public import proofs.«01_k».proof.Defs
public import proofs.«01_k».proof.Proof.Gen.GupaIdeal.Frame
public import proofs.«01_k».proof.Proof.Gen.GupaRefIdeal.Read
public import proofs.«01_k».proof.Proof.Gen.On_g_upa_written
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GupaProof

open Cert.GupaIdeal Cert.GupaIdeal.Gen

variable (m : (ℓ : Loc nD τ sig) → Buf (Elt Ideal) ℓ)

/-- Where each window's block stands at each grid point, decided over all of them. -/
theorem idx : ∀ t : Fin cfg0.N, win0_0.index t = ![0, t.val / 11] ∧ win0_1.index t = ![0, t.val % 11]
    ∧ win0_2.index t = ![t.val / 11, t.val % 11] :=
  (by decide +kernel : ∀ t : Fin grid0.N, _)

open Cert.GupaRefIdeal.Read in
/-- What the plain lines hold at a column the call writes: the sum over the rows of the two arrays. -/
theorem plain (x0 : FVec Ideal S4096x2048 .bf16) (x1 : FVec Ideal S4096x5632 .bf16) (r : Fin 2048) (j : Fin 5632) :
    val_main_v8 (F := Ideal) x0 x1 (ix2 r ⟨j.val, by omega⟩) = ∑ k : Fin 4096, x0 (ix2 k r) * x1 (ix2 k j) := by
  pointwise! [val_main_v8, val_main_v7, val_main_cst_0, val_main_v6, val_main_v5, val_main_v4, val_main_v3,
    val_main_v1]

open Cert.GupaRefIdeal.Read in
/-- The call's result array: the plain lines' elements at the columns it writes, elsewhere what the array held before. -/
theorem final (c : Dev nD) : (dats m 0 c).arrAt 2 (cfgs 0).N
    = fun i => if (i 1).val < 5632 then val_main_v8 (F := Ideal) (m ((c : Thread nD τ).loc main_arg0)) (m ((c : Thread nD τ).loc main_arg1)) i
        else V m c main_v0 i := by
  refine (dats m 0 c).arrAt_eq_of_coversWhere 2 _ (fun β => β 1 < 11) (by decide +kernel) (fun t _ y => ?_)
    (fun j => by blk_simp [Pipeline.Window.cell_apply]; omega)
  blk_simp
  rw [after0_2]; frame_out
  have ht : t.val < 22 := lt_of_lt_of_eq t.isLt N_0
  have h0 : (y 0).val < 1024 := (y 0).isLt
  have h1 : (y 1).val < 512 := (y 1).isLt
  have e : ((cfg0.win 2).blk t).view.emb y = ix2 (⟨t.val / 11 * 1024 + (y 0).val, by omega⟩ : Fin 2048)
      (⟨(t.val % 11 * 512 + (y 1).val), by omega⟩ : Fin 11264) := by
    blk_ext [idx t]
  rw [e]
  refine Eq.trans ?_ (plain _ _ ⟨t.val / 11 * 1024 + (y 0).val, by omega⟩ ⟨t.val % 11 * 512 + (y 1).val, by omega⟩).symm
  pointwise [k0_pay1]
  blk_point [iblk, V, idx t]

/-- The mask is set exactly at the columns the call writes. -/
theorem written_iff (x : FVec Ideal S4096x2048 .bf16) (y : FVec Ideal S4096x5632 .bf16) (i : (⟨2, ![2048, 11264]⟩ : Shape).Idx) :
    Cert.On_g_upa_written.fn (F := Ideal) x y i = 1#1 ↔ (i 1).val < 5632 := by
  show IntOp.cmpi .slt (BitVec.ofNat 32 (i 1).val) 5632#32 = 1#1 ↔ _
  have h : (i 1).val < 11264 := (i 1).isLt
  generalize (i 1).val = n at h ⊢
  have hn : n % 4294967296 = n := by omega
  have e : (BitVec.ofNat 32 n).toInt = n := by
    rw [BitVec.toInt_eq_toNat_of_lt (by rw [BitVec.toNat_ofNat]; omega), BitVec.toNat_ofNat, hn]
  have e' : (5632#32).toInt = 5632 := by decide
  by_cases hc : n < 5632 <;> simp [IntOp.cmpi, BitVec.slt, e, e', hc]

open Cert.GupaRefIdeal.Read in
/-- The call and the plain lines end with equal elements at the columns the call writes. -/
theorem equal : Cert.algebraic_GupaIdeal_GupaRefIdeal_on_g_upa_written := by
  intro m g m' g' hpre hagree
  refine ⟨fun c => val_main_v8 (F := Ideal) (m ((c : Thread nD τ).loc main_arg0)) (m ((c : Thread nD τ).loc main_arg1)), ?_, ?_⟩
  · run_from Cert.GupaIdeal.Gen.run_main m g
    intro i hi
    rw [final m c]
    exact if_pos ((written_iff _ _ i).mp hi)
  · run_from Cert.GupaRefIdeal.Value.run m' g'
    intro i _
    rfl

end Cert.GupaProof

end
-- ==== Proof.Gina.lean ====
module

public import proofs.«01_k».proof.Defs
public import proofs.«01_k».proof.Proof.Gen.GinaIdeal.Frame
public import proofs.«01_k».proof.Proof.Gen.GinaRefIdeal.Read
public import proofs.«01_k».proof.Proof.Gen.On_g_ina_written
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GinaProof

open Cert.GinaIdeal Cert.GinaIdeal.Gen

variable (m : (ℓ : Loc nD τ sig) → Buf (Elt Ideal) ℓ)

/-- Where each window's block stands at each grid point, decided over all of them. -/
theorem idx : ∀ t : Fin cfg0.N, win0_0.index t = ![0, t.val / 6] ∧ win0_1.index t = ![0, t.val % 6]
    ∧ win0_2.index t = ![t.val / 6, t.val % 6] :=
  (by decide +kernel : ∀ t : Fin grid0.N, _)

open Cert.GinaRefIdeal.Read in
/-- What the plain lines hold at a column the call writes: the sum over the rows of the two arrays. -/
theorem plain (x0 : FVec Ideal S4096x2048 .bf16) (x1 : FVec Ideal S4096x6144 .bf16) (r : Fin 2048) (j : Fin 6144) :
    val_main_v8 (F := Ideal) x0 x1 (ix2 r ⟨j.val, by omega⟩) = ∑ k : Fin 4096, x0 (ix2 k r) * x1 (ix2 k j) := by
  pointwise! [val_main_v8, val_main_v7, val_main_cst_0, val_main_v6, val_main_v5, val_main_v4, val_main_v3,
    val_main_v1]

open Cert.GinaRefIdeal.Read in
/-- The call's result array: the plain lines' elements at the columns it writes, elsewhere what the array held before. -/
theorem final (c : Dev nD) : (dats m 0 c).arrAt 2 (cfgs 0).N
    = fun i => if (i 1).val < 6144 then val_main_v8 (F := Ideal) (m ((c : Thread nD τ).loc main_arg0)) (m ((c : Thread nD τ).loc main_arg1)) i
        else V m c main_v0 i := by
  refine (dats m 0 c).arrAt_eq_of_coversWhere 2 _ (fun β => β 1 < 6) (by decide +kernel) (fun t _ y => ?_)
    (fun j => by blk_simp [Pipeline.Window.cell_apply]; omega)
  blk_simp
  rw [after0_2]; frame_out
  have ht : t.val < 12 := lt_of_lt_of_eq t.isLt N_0
  have h0 : (y 0).val < 1024 := (y 0).isLt
  have h1 : (y 1).val < 1024 := (y 1).isLt
  have e : ((cfg0.win 2).blk t).view.emb y = ix2 (⟨t.val / 6 * 1024 + (y 0).val, by omega⟩ : Fin 2048)
      (⟨(t.val % 6 * 1024 + (y 1).val), by omega⟩ : Fin 12288) := by
    blk_ext [idx t]
  rw [e]
  refine Eq.trans ?_ (plain _ _ ⟨t.val / 6 * 1024 + (y 0).val, by omega⟩ ⟨t.val % 6 * 1024 + (y 1).val, by omega⟩).symm
  pointwise [k0_pay1]
  blk_point [iblk, V, idx t]

/-- The mask is set exactly at the columns the call writes. -/
theorem written_iff (x : FVec Ideal S4096x2048 .bf16) (y : FVec Ideal S4096x6144 .bf16) (i : (⟨2, ![2048, 12288]⟩ : Shape).Idx) :
    Cert.On_g_ina_written.fn (F := Ideal) x y i = 1#1 ↔ (i 1).val < 6144 := by
  show IntOp.cmpi .slt (BitVec.ofNat 32 (i 1).val) 6144#32 = 1#1 ↔ _
  have h : (i 1).val < 12288 := (i 1).isLt
  generalize (i 1).val = n at h ⊢
  have hn : n % 4294967296 = n := by omega
  have e : (BitVec.ofNat 32 n).toInt = n := by
    rw [BitVec.toInt_eq_toNat_of_lt (by rw [BitVec.toNat_ofNat]; omega), BitVec.toNat_ofNat, hn]
  have e' : (6144#32).toInt = 6144 := by decide
  by_cases hc : n < 6144 <;> simp [IntOp.cmpi, BitVec.slt, e, e', hc]

open Cert.GinaRefIdeal.Read in
/-- The call and the plain lines end with equal elements at the columns the call writes. -/
theorem equal : Cert.algebraic_GinaIdeal_GinaRefIdeal_on_g_ina_written := by
  intro m g m' g' hpre hagree
  refine ⟨fun c => val_main_v8 (F := Ideal) (m ((c : Thread nD τ).loc main_arg0)) (m ((c : Thread nD τ).loc main_arg1)), ?_, ?_⟩
  · run_from Cert.GinaIdeal.Gen.run_main m g
    intro i hi
    rw [final m c]
    exact if_pos ((written_iff _ _ i).mp hi)
  · run_from Cert.GinaRefIdeal.Value.run m' g'
    intro i _
    rfl

end Cert.GinaProof

end
-- ==== Proof.Dh.lean ====
module

public import proofs.«01_k».proof.Defs
public import proofs.«01_k».proof.Proof.Gen.DhIdeal.Frame
public import proofs.«01_k».proof.Proof.Gen.DhRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DhProof

open Cert.DhIdeal Cert.DhIdeal.Gen

variable (m : (ℓ : Loc nD τ sig) → Buf (Elt Ideal) ℓ)

/-- Where each window's block stands at each grid point, decided over all of them. -/
theorem idx : ∀ t : Fin cfg0.N, win0_0.index t = ![t.val / 8, min (t.val % 4) 1] ∧ win0_1.index t = ![t.val / 4 % 2, t.val % 4]
    ∧ win0_2.index t = ![t.val / 8, t.val % 4 - 2] ∧ win0_3.index t = ![t.val / 8, t.val / 4 % 2] :=
  (by decide +kernel : ∀ t : Fin grid0.N, _)

/-- One point's product of two tiles. -/
def tile (a b : FVec Ideal S1024x2816 .bf16) (y : S1024x1024.Idx) : EReal :=
  ∑ k : Fin 2816, a (ix2 (y 0) k) * b (ix2 (y 1) k)

/-- What one point adds to the accumulator: the product of its tiles of the first array for the first half of the
    columns, of its tiles of the second array for the second half. -/
def part (c : Dev nD) (t : Fin cfg0.N) (y : S1024x1024.Idx) : EReal :=
  if t.val % 4 ≤ 1 then tile (iblk m c 0 t) (iblk m c 1 t) y else tile (iblk m c 2 t) (iblk m c 1 t) y

/-- The accumulator after the first point of a run holds that point's product. -/
theorem acc_first (c : Dev nD) (t : Fin cfg0.N) (h : t.val % 4 = 0) (y) : (outsAt0 m c t.val t.isLt).2 y = 0 + part m c t y := by
  rw [outsAt0_A m c t h (by omega) (by omega) (by omega)]; frame_out
  rw [part, if_pos (by omega), tile]
  pointwise [k0_pay1, k0_pay2]

/-- The accumulator after each later point holds what it held before and that point's product. -/
theorem acc_next (c : Dev nD) (t : Fin cfg0.N) (h : ¬ t.val % 4 = 0) (y) : (outsAt0 m c t.val t.isLt).2 y
    = (outsAt0 m c (t.val - 1) (Nat.lt_of_le_of_lt (Nat.sub_le _ _) t.isLt)).2 y + part m c t y := by
  by_cases h1 : t.val % 4 ≤ 1
  · rw [outsAt0_B m c t h (by omega) (by omega) (by omega)]; frame_out
    rw [part, if_pos (by omega), tile]
    pointwise [k0_pay2]
    rw [read_unread_whole]
  · rw [part, if_neg (by omega), tile]
    by_cases h2 : t.val % 4 = 3
    · rw [outsAt0_D m c t h (by omega) (by omega) (by omega)]; frame_out
      pointwise [k0_pay3]
      rw [read_unread_whole]
    · rw [outsAt0_C m c t h (by omega) (by omega) (by omega)]; frame_out
      pointwise [k0_pay3]
      rw [read_unread_whole]

/-- What the last point of a run stores is the accumulator. -/
theorem out_last (c : Dev nD) (t : Fin cfg0.N) (h : t.val % 4 = 3) (y) : (outsAt0 m c t.val t.isLt).1 y
    = (outsAt0 m c t.val t.isLt).2 y := by
  rw [outsAt0_D m c t (by omega) (by omega) (by omega) (by omega)]; frame_out
  pointwise [k0_pay4, k0_pay3]

open Cert.DhRefIdeal.Read in
/-- The plain lines' product at each index: the sum over the columns of both arrays side by side. -/
theorem plain (x0 : FVec Ideal S4096x5632 .bf16) (x1 : FVec Ideal S2048x11264 .bf16) (x2 : FVec Ideal S4096x5632 .bf16)
    (i : S4096x2048.Idx) : val_main_v6 (F := Ideal) x0 x1 x2 i
      = ∑ k : Fin 11264, val_main_v1 (F := Ideal) x0 x2 (ix2 (i 0) k) * x1 (ix2 (i 1) k) := by
  pointwise [val_main_v6, val_main_v5, val_main_v2, val_main_v3]

/-- At the last point of a run the accumulator holds the sum of the run's products. -/
theorem acc_last (c : Dev nD) (t : Fin cfg0.N) (h : t.val % 4 = 3) (y : S1024x1024.Idx) : (outsAt0 m c t.val t.isLt).2 y
    = ∑ s : Fin 4, part m c ⟨4 * (t.val / 4) + s.val, Pipeline.run_point_lt_of_flush t h s⟩ y := by
  rw [Pipeline.eq_sum_fin_of_reset_step_apply_of_flush (M := EReal) (ι := S1024x1024.Idx) (fun n h => (outsAt0 m c n h).2) 4
    (fun _ => 0) (part m c) (acc_first m c) (acc_next m c) t h y, zero_add]

open Cert.DhRefIdeal.Read in
/-- One point's product is that of the tiles of the two arrays side by side. -/
theorem part_eq (c : Dev nD) (t : Fin cfg0.N) (y : S1024x1024.Idx) (i : S4096x2048.Idx) (s : Fin 4) (hs : t.val % 4 = s.val)
    (h0 : (i 0).val = t.val / 8 * 1024 + (y 0).val) (h1 : (i 1).val = t.val / 4 % 2 * 1024 + (y 1).val) :
    part m c t y = ∑ k : Fin 2816, val_main_v1 (F := Ideal) (m ((c : Thread nD τ).loc main_arg0)) (m ((c : Thread nD τ).loc main_arg2))
      (ix2 (i 0) ⟨s.val * 2816 + k.val, by omega⟩) * (m ((c : Thread nD τ).loc main_arg1)) (ix2 (i 1) ⟨s.val * 2816 + k.val, by omega⟩) := by
  rw [part]
  split
  · rw [tile]
    refine Finset.sum_congr rfl fun k _ => ?_
    pointwise [val_main_v1]
    rw [dif_pos (by omega)]
    blk_point [iblk, V, idx t]
  · rw [tile]
    refine Finset.sum_congr rfl fun k _ => ?_
    pointwise [val_main_v1]
    rw [dif_neg (by omega)]
    blk_point [iblk, V, idx t]

open Cert.DhRefIdeal.Read in
/-- The kernel's result array is the plain lines' array. -/
theorem final (c : Dev nD) : (dats m 0 c).arrAt 3 (cfgs 0).N = val_main_v6 (F := Ideal) (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  have hl : t.val % 4 = 3 := (flush0_3 t).mp hf
  have e0 : ((((cfg0.win 3).blk t).view.emb y) 0).val = t.val / 8 * 1024 + (y 0).val := by blk_simp [idx t]
  have e1 : ((((cfg0.win 3).blk t).view.emb y) 1).val = t.val / 4 % 2 * 1024 + (y 1).val := by blk_simp [idx t]
  rw [after0_3, out_last m c t hl, acc_last m c t hl, plain]
  refine @Eq.trans EReal _ _ _ (Finset.sum_congr rfl fun s _ => ?_) (Fin.sum_univ_tiles 4 2816 rfl fun k : Fin 11264 =>
    val_main_v1 (F := Ideal) (m ((c : Thread nD τ).loc main_arg0)) (m ((c : Thread nD τ).loc main_arg2))
      (ix2 ((((cfg0.win 3).blk t).view.emb y) 0) k) * (m ((c : Thread nD τ).loc main_arg1)) (ix2 ((((cfg0.win 3).blk t).view.emb y) 1) k)).symm
  refine part_eq m c _ y _ s ?_ ?_ ?_
  · show (4 * (t.val / 4) + s.val) % 4 = s.val
    omega
  · rw [e0]
    show _ = (4 * (t.val / 4) + s.val) / 8 * 1024 + _
    omega
  · rw [e1]
    show _ = (4 * (t.val / 4) + s.val) / 4 % 2 * 1024 + _
    omega

/-- The call and the plain lines end with equal results from equal arguments. -/
theorem equal : Cert.algebraic_DhIdeal_DhRefIdeal := by
  pair_intro
  · run_from Cert.DhIdeal.Gen.run_main m g
  · run_from Cert.DhRefIdeal.Value.run m' g'
    rw [(hagree c).2.2]
    exact (final m c).symm

end Cert.DhProof
end
-- ==== Proof.Dhin.lean ====
module

public import proofs.«01_k».proof.Defs
public import proofs.«01_k».proof.Proof.Gen.DhinIdeal.Frame
public import proofs.«01_k».proof.Proof.Gen.DhinRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DhinProof

open Cert.DhinIdeal Cert.DhinIdeal.Gen

variable (m : (ℓ : Loc nD τ sig) → Buf (Elt Ideal) ℓ)

/-- Where each window's block stands at each grid point, decided over all of them. -/
theorem idx : ∀ t : Fin cfg0.N, win0_0.index t = ![t.val / 12, min (t.val % 6) 2] ∧ win0_1.index t = ![t.val / 6 % 2, t.val % 6]
    ∧ win0_2.index t = ![t.val / 12, t.val % 6 - 3] ∧ win0_3.index t = ![t.val / 12, t.val / 6 % 2] :=
  (by decide +kernel : ∀ t : Fin grid0.N, _)

/-- One point's product of two tiles. -/
def tile (a b : FVec Ideal S1024x2048 .bf16) (y : S1024x1024.Idx) : EReal :=
  ∑ k : Fin 2048, a (ix2 (y 0) k) * b (ix2 (y 1) k)

/-- What one point adds to the accumulator: the product of its tiles of the first array for the first half of the
    columns, of its tiles of the second array for the second half. -/
def part (c : Dev nD) (t : Fin cfg0.N) (y : S1024x1024.Idx) : EReal :=
  if t.val % 6 ≤ 2 then tile (iblk m c 0 t) (iblk m c 1 t) y else tile (iblk m c 2 t) (iblk m c 1 t) y

/-- The accumulator after the first point of a run holds that point's product. -/
theorem acc_first (c : Dev nD) (t : Fin cfg0.N) (h : t.val % 6 = 0) (y) : (outsAt0 m c t.val t.isLt).2 y = 0 + part m c t y := by
  rw [outsAt0_A m c t h (by omega) (by omega) (by omega)]; frame_out
  rw [part, if_pos (by omega), tile]
  pointwise [k0_pay1, k0_pay2]

/-- The accumulator after each later point holds what it held before and that point's product. -/
theorem acc_next (c : Dev nD) (t : Fin cfg0.N) (h : ¬ t.val % 6 = 0) (y) : (outsAt0 m c t.val t.isLt).2 y
    = (outsAt0 m c (t.val - 1) (Nat.lt_of_le_of_lt (Nat.sub_le _ _) t.isLt)).2 y + part m c t y := by
  by_cases h1 : t.val % 6 ≤ 2
  · rw [outsAt0_B m c t h (by omega) (by omega) (by omega)]; frame_out
    rw [part, if_pos (by omega), tile]
    pointwise [k0_pay2]
    rw [read_unread_whole]
  · rw [part, if_neg (by omega), tile]
    by_cases h2 : t.val % 6 = 5
    · rw [outsAt0_D m c t h (by omega) (by omega) (by omega)]; frame_out
      pointwise [k0_pay3]
      rw [read_unread_whole]
    · rw [outsAt0_C m c t h (by omega) (by omega) (by omega)]; frame_out
      pointwise [k0_pay3]
      rw [read_unread_whole]

/-- What the last point of a run stores is the accumulator. -/
theorem out_last (c : Dev nD) (t : Fin cfg0.N) (h : t.val % 6 = 5) (y) : (outsAt0 m c t.val t.isLt).1 y
    = (outsAt0 m c t.val t.isLt).2 y := by
  rw [outsAt0_D m c t (by omega) (by omega) (by omega) (by omega)]; frame_out
  pointwise [k0_pay4, k0_pay3]

open Cert.DhinRefIdeal.Read in
/-- The plain lines' product at each index: the sum over the columns of both arrays side by side. -/
theorem plain (x0 : FVec Ideal S4096x6144 .bf16) (x1 : FVec Ideal S2048x12288 .bf16) (x2 : FVec Ideal S4096x6144 .bf16)
    (i : S4096x2048.Idx) : val_main_v6 (F := Ideal) x0 x1 x2 i
      = ∑ k : Fin 12288, val_main_v1 (F := Ideal) x0 x2 (ix2 (i 0) k) * x1 (ix2 (i 1) k) := by
  pointwise [val_main_v6, val_main_v5, val_main_v2, val_main_v3]

/-- At the last point of a run the accumulator holds the sum of the run's products. -/
theorem acc_last (c : Dev nD) (t : Fin cfg0.N) (h : t.val % 6 = 5) (y : S1024x1024.Idx) : (outsAt0 m c t.val t.isLt).2 y
    = ∑ s : Fin 6, part m c ⟨6 * (t.val / 6) + s.val, Pipeline.run_point_lt_of_flush t h s⟩ y := by
  rw [Pipeline.eq_sum_fin_of_reset_step_apply_of_flush (M := EReal) (ι := S1024x1024.Idx) (fun n h => (outsAt0 m c n h).2) 6
    (fun _ => 0) (part m c) (acc_first m c) (acc_next m c) t h y, zero_add]

open Cert.DhinRefIdeal.Read in
/-- One point's product is that of the tiles of the two arrays side by side. -/
theorem part_eq (c : Dev nD) (t : Fin cfg0.N) (y : S1024x1024.Idx) (i : S4096x2048.Idx) (s : Fin 6) (hs : t.val % 6 = s.val)
    (h0 : (i 0).val = t.val / 12 * 1024 + (y 0).val) (h1 : (i 1).val = t.val / 6 % 2 * 1024 + (y 1).val) :
    part m c t y = ∑ k : Fin 2048, val_main_v1 (F := Ideal) (m ((c : Thread nD τ).loc main_arg0)) (m ((c : Thread nD τ).loc main_arg2))
      (ix2 (i 0) ⟨s.val * 2048 + k.val, by omega⟩) * (m ((c : Thread nD τ).loc main_arg1)) (ix2 (i 1) ⟨s.val * 2048 + k.val, by omega⟩) := by
  rw [part]
  split
  · rw [tile]
    refine Finset.sum_congr rfl fun k _ => ?_
    pointwise [val_main_v1]
    rw [dif_pos (by omega)]
    blk_point [iblk, V, idx t]
  · rw [tile]
    refine Finset.sum_congr rfl fun k _ => ?_
    pointwise [val_main_v1]
    rw [dif_neg (by omega)]
    blk_point [iblk, V, idx t]

open Cert.DhinRefIdeal.Read in
/-- The kernel's result array is the plain lines' array. -/
theorem final (c : Dev nD) : (dats m 0 c).arrAt 3 (cfgs 0).N = val_main_v6 (F := Ideal) (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  have hl : t.val % 6 = 5 := (flush0_3 t).mp hf
  have e0 : ((((cfg0.win 3).blk t).view.emb y) 0).val = t.val / 12 * 1024 + (y 0).val := by blk_simp [idx t]
  have e1 : ((((cfg0.win 3).blk t).view.emb y) 1).val = t.val / 6 % 2 * 1024 + (y 1).val := by blk_simp [idx t]
  rw [after0_3, out_last m c t hl, acc_last m c t hl, plain]
  refine @Eq.trans EReal _ _ _ (Finset.sum_congr rfl fun s _ => ?_) (Fin.sum_univ_tiles 6 2048 rfl fun k : Fin 12288 =>
    val_main_v1 (F := Ideal) (m ((c : Thread nD τ).loc main_arg0)) (m ((c : Thread nD τ).loc main_arg2))
      (ix2 ((((cfg0.win 3).blk t).view.emb y) 0) k) * (m ((c : Thread nD τ).loc main_arg1)) (ix2 ((((cfg0.win 3).blk t).view.emb y) 1) k)).symm
  refine part_eq m c _ y _ s ?_ ?_ ?_
  · show (6 * (t.val / 6) + s.val) % 6 = s.val
    omega
  · rw [e0]
    show _ = (6 * (t.val / 6) + s.val) / 12 * 1024 + _
    omega
  · rw [e1]
    show _ = (6 * (t.val / 6) + s.val) / 6 % 2 * 1024 + _
    omega

/-- The call and the plain lines end with equal results from equal arguments. -/
theorem equal : Cert.algebraic_DhinIdeal_DhinRefIdeal := by
  pair_intro
  · run_from Cert.DhinIdeal.Gen.run_main m g
  · run_from Cert.DhinRefIdeal.Value.run m' g'
    rw [(hagree c).2.2]
    exact (final m c).symm

end Cert.DhinProof
end
-- ==== Proof.Dhina.lean ====
module

public import proofs.«01_k».proof.Defs
public import proofs.«01_k».proof.Proof.Gen.DhinaIdeal.Frame
public import proofs.«01_k».proof.Proof.Gen.DhinaRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DhinaProof

open Cert.DhinaIdeal Cert.DhinaIdeal.Gen

variable (m : (ℓ : Loc nD τ sig) → Buf (Elt Ideal) ℓ)

/-- Where each window's block stands at each grid point, decided over all of them. -/
theorem idx : ∀ t : Fin cfg0.N, win0_0.index t = ![t.val / 6, t.val % 3] ∧ win0_1.index t = ![t.val / 3 % 2, t.val % 3]
    ∧ win0_2.index t = ![t.val / 6, t.val / 3 % 2] :=
  (by decide +kernel : ∀ t : Fin grid0.N, _)

/-- What one point adds to the accumulator: its product of two tiles. -/
def part (c : Dev nD) (t : Fin cfg0.N) (y : S1024x1024.Idx) : EReal :=
  ∑ k : Fin 2048, (show FVec Ideal S1024x2048 .bf16 from iblk m c 0 t) (ix2 (y 0) k)
    * (show FVec Ideal S1024x2048 .bf16 from iblk m c 1 t) (ix2 (y 1) k)

/-- The accumulator after the first point of a run holds that point's product. -/
theorem acc_first (c : Dev nD) (t : Fin cfg0.N) (h : t.val % 3 = 0) (y) : (outsAt0 m c t.val t.isLt).2 y = 0 + part m c t y := by
  rw [outsAt0_A m c t h (by omega)]; frame_out
  rw [part]
  pointwise [k0_pay1, k0_pay2]

/-- The accumulator after each later point holds what it held before and that point's product. -/
theorem acc_next (c : Dev nD) (t : Fin cfg0.N) (h : ¬ t.val % 3 = 0) (y) : (outsAt0 m c t.val t.isLt).2 y
    = (outsAt0 m c (t.val - 1) (Nat.lt_of_le_of_lt (Nat.sub_le _ _) t.isLt)).2 y + part m c t y := by
  rw [part]
  by_cases h1 : t.val % 3 = 2
  · rw [outsAt0_C m c t h h1]; frame_out
    pointwise [k0_pay2]
    rw [read_unread_whole]
  · rw [outsAt0_B m c t h h1]; frame_out
    pointwise [k0_pay2]
    rw [read_unread_whole]

/-- What the last point of a run stores is the accumulator. -/
theorem out_last (c : Dev nD) (t : Fin cfg0.N) (h : t.val % 3 = 2) (y) : (outsAt0 m c t.val t.isLt).1 y
    = (outsAt0 m c t.val t.isLt).2 y := by
  rw [outsAt0_C m c t (by omega) (by omega)]; frame_out

/-- At the last point of a run the accumulator holds the sum of the run's products. -/
theorem acc_last (c : Dev nD) (t : Fin cfg0.N) (h : t.val % 3 = 2) (y : S1024x1024.Idx) : (outsAt0 m c t.val t.isLt).2 y
    = ∑ s : Fin 3, part m c ⟨3 * (t.val / 3) + s.val, Pipeline.run_point_lt_of_flush t h s⟩ y := by
  rw [Pipeline.eq_sum_fin_of_reset_step_apply_of_flush (M := EReal) (ι := S1024x1024.Idx) (fun n h => (outsAt0 m c n h).2) 3
    (fun _ => 0) (part m c) (acc_first m c) (acc_next m c) t h y, zero_add]

open Cert.DhinaRefIdeal.Read in
/-- The plain lines' array at each index: the sum over the columns. -/
theorem plain (x0 : FVec Ideal S4096x6144 .bf16) (x1 : FVec Ideal S2048x12288 .bf16)
    (i : S4096x2048.Idx) : val_main_v5 (F := Ideal) x0 x1 i
      = ∑ k : Fin 6144, x0 (ix2 (i 0) k) * x1 (ix2 (i 1) ⟨k.val, by omega⟩) := by
  pointwise [val_main_v5, val_main_v4, val_main_v2, val_main_v1]

/-- One point's product is that of the tiles of the two arrays. -/
theorem part_eq (c : Dev nD) (t : Fin cfg0.N) (y : S1024x1024.Idx) (i : S4096x2048.Idx) (s : Fin 3) (hs : t.val % 3 = s.val)
    (h0 : (i 0).val = t.val / 6 * 1024 + (y 0).val) (h1 : (i 1).val = t.val / 3 % 2 * 1024 + (y 1).val) :
    part m c t y = ∑ k : Fin 2048, (show FVec Ideal S4096x6144 .bf16 from m ((c : Thread nD τ).loc main_arg0)) (ix2 (i 0) ⟨s.val * 2048 + k.val, by omega⟩)
      * (show FVec Ideal S2048x12288 .bf16 from m ((c : Thread nD τ).loc main_arg1)) (ix2 (i 1) ⟨s.val * 2048 + k.val, by omega⟩) := by
  rw [part]
  refine Finset.sum_congr rfl fun k _ => ?_
  blk_point [iblk, V, idx t]

open Cert.DhinaRefIdeal.Read in
/-- The kernel's result array is the plain lines' array. -/
theorem final (c : Dev nD) : (dats m 0 c).arrAt 2 (cfgs 0).N = val_main_v5 (F := Ideal) (m ((c : Thread nD τ).loc main_arg0))
    (m ((c : Thread nD τ).loc main_arg1)) := by
  refine (dats m 0 c).arrAt_eq_of_covers 2 _ (by decide +kernel) fun t hf y => ?_
  blk_simp
  have hl : t.val % 3 = 2 := (flush0_2 t).mp hf
  have e0 : ((((cfg0.win 2).blk t).view.emb y) 0).val = t.val / 6 * 1024 + (y 0).val := by blk_simp [idx t]
  have e1 : ((((cfg0.win 2).blk t).view.emb y) 1).val = t.val / 3 % 2 * 1024 + (y 1).val := by blk_simp [idx t]
  rw [after0_2, out_last m c t hl, acc_last m c t hl, plain]
  refine @Eq.trans EReal _ _ _ (Finset.sum_congr rfl fun s _ => ?_) (Fin.sum_univ_tiles 3 2048 rfl fun k : Fin 6144 =>
    (show FVec Ideal S4096x6144 .bf16 from m ((c : Thread nD τ).loc main_arg0)) (ix2 ((((cfg0.win 2).blk t).view.emb y) 0) k)
      * (show FVec Ideal S2048x12288 .bf16 from m ((c : Thread nD τ).loc main_arg1)) (ix2 ((((cfg0.win 2).blk t).view.emb y) 1) ⟨k.val, by omega⟩)).symm
  refine part_eq m c _ y _ s ?_ ?_ ?_
  · show (3 * (t.val / 3) + s.val) % 3 = s.val
    omega
  · rw [e0]
    show _ = (3 * (t.val / 3) + s.val) / 6 * 1024 + _
    omega
  · rw [e1]
    show _ = (3 * (t.val / 3) + s.val) / 3 % 2 * 1024 + _
    omega

/-- The call and the plain lines end with equal results from equal arguments. -/
theorem equal : Cert.algebraic_DhinaIdeal_DhinaRefIdeal := by
  pair_intro
  · run_from Cert.DhinaIdeal.Gen.run_main m g
  · run_from Cert.DhinaRefIdeal.Value.run m' g'
    exact (final m c).symm

end Cert.DhinaProof

end
-- ==== Proof.Dhinb.lean ====
module

public import proofs.«01_k».proof.Defs
public import proofs.«01_k».proof.Proof.Gen.DhinbIdeal.Frame
public import proofs.«01_k».proof.Proof.Gen.DhinbRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DhinbProof

open Cert.DhinbIdeal Cert.DhinbIdeal.Gen

variable (m : (ℓ : Loc nD τ sig) → Buf (Elt Ideal) ℓ)

/-- Where each window's block stands at each grid point, decided over all of them. -/
theorem idx : ∀ t : Fin cfg0.N, win0_0.index t = ![t.val / 6, t.val % 3] ∧ win0_1.index t = ![t.val / 3 % 2, 3 + t.val % 3]
    ∧ win0_2.index t = ![t.val / 6, t.val / 3 % 2] ∧ win0_3.index t = ![t.val / 6, t.val / 3 % 2] :=
  (by decide +kernel : ∀ t : Fin grid0.N, _)

/-- What one point adds to the accumulator: its product of two tiles. -/
def part (c : Dev nD) (t : Fin cfg0.N) (y : S1024x1024.Idx) : EReal :=
  ∑ k : Fin 2048, (show FVec Ideal S1024x2048 .bf16 from iblk m c 0 t) (ix2 (y 0) k)
    * (show FVec Ideal S1024x2048 .bf16 from iblk m c 1 t) (ix2 (y 1) k)

/-- The accumulator after the first point of a run holds that point's product. -/
theorem acc_first (c : Dev nD) (t : Fin cfg0.N) (h : t.val % 3 = 0) (y) : (outsAt0 m c t.val t.isLt).2 y = 0 + part m c t y := by
  rw [outsAt0_A m c t h (by omega)]; frame_out
  rw [part]
  pointwise [k0_pay1, k0_pay2]

/-- The accumulator after each later point holds what it held before and that point's product. -/
theorem acc_next (c : Dev nD) (t : Fin cfg0.N) (h : ¬ t.val % 3 = 0) (y) : (outsAt0 m c t.val t.isLt).2 y
    = (outsAt0 m c (t.val - 1) (Nat.lt_of_le_of_lt (Nat.sub_le _ _) t.isLt)).2 y + part m c t y := by
  rw [part]
  by_cases h1 : t.val % 3 = 2
  · rw [outsAt0_C m c t h h1]; frame_out
    pointwise [k0_pay2]
    rw [read_unread_whole]
  · rw [outsAt0_B m c t h h1]; frame_out
    pointwise [k0_pay2]
    rw [read_unread_whole]

/-- What the last point of a run stores is the accumulator, added to its block of the third array. -/
theorem out_last (c : Dev nD) (t : Fin cfg0.N) (h : t.val % 3 = 2) (y) : (outsAt0 m c t.val t.isLt).1 y
    = (show FVec Ideal S1024x1024 .f32 from iblk m c 2 t) y + (outsAt0 m c t.val t.isLt).2 y := by
  rw [outsAt0_C m c t (by omega) (by omega)]; frame_out
  pointwise [k0_pay3, k0_pay2]
  exact add_comm _ _

/-- At the last point of a run the accumulator holds the sum of the run's products. -/
theorem acc_last (c : Dev nD) (t : Fin cfg0.N) (h : t.val % 3 = 2) (y : S1024x1024.Idx) : (outsAt0 m c t.val t.isLt).2 y
    = ∑ s : Fin 3, part m c ⟨3 * (t.val / 3) + s.val, Pipeline.run_point_lt_of_flush t h s⟩ y := by
  rw [Pipeline.eq_sum_fin_of_reset_step_apply_of_flush (M := EReal) (ι := S1024x1024.Idx) (fun n h => (outsAt0 m c n h).2) 3
    (fun _ => 0) (part m c) (acc_first m c) (acc_next m c) t h y, zero_add]

open Cert.DhinbRefIdeal.Read in
/-- The plain lines' array at each index: the sum over the columns, added to the third array. -/
theorem plain (x0 : FVec Ideal S4096x6144 .bf16) (x1 : FVec Ideal S2048x12288 .bf16) (x2 : FVec Ideal S4096x2048 .f32)
    (i : S4096x2048.Idx) : val_main_v7 (F := Ideal) x0 x1 x2 i
      = x2 i + ∑ k : Fin 6144, x0 (ix2 (i 0) k) * x1 (ix2 (i 1) ⟨6144 + k.val, by omega⟩) := by
  pointwise [val_main_v7, val_main_v6, val_main_v5, val_main_v4, val_main_v2, val_main_v1]

/-- One point's product is that of the tiles of the two arrays. -/
theorem part_eq (c : Dev nD) (t : Fin cfg0.N) (y : S1024x1024.Idx) (i : S4096x2048.Idx) (s : Fin 3) (hs : t.val % 3 = s.val)
    (h0 : (i 0).val = t.val / 6 * 1024 + (y 0).val) (h1 : (i 1).val = t.val / 3 % 2 * 1024 + (y 1).val) :
    part m c t y = ∑ k : Fin 2048, (show FVec Ideal S4096x6144 .bf16 from m ((c : Thread nD τ).loc main_arg0)) (ix2 (i 0) ⟨s.val * 2048 + k.val, by omega⟩)
      * (show FVec Ideal S2048x12288 .bf16 from m ((c : Thread nD τ).loc main_arg1)) (ix2 (i 1) ⟨6144 + (s.val * 2048 + k.val), by omega⟩) := by
  rw [part]
  refine Finset.sum_congr rfl fun k _ => ?_
  blk_point [iblk, V, idx t]

open Cert.DhinbRefIdeal.Read in
/-- The kernel's result array is the plain lines' array. -/
theorem final (c : Dev nD) : (dats m 0 c).arrAt 3 (cfgs 0).N = val_main_v7 (F := Ideal) (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  have hl : t.val % 3 = 2 := (flush0_3 t).mp hf
  have e0 : ((((cfg0.win 3).blk t).view.emb y) 0).val = t.val / 6 * 1024 + (y 0).val := by blk_simp [idx t]
  have e1 : ((((cfg0.win 3).blk t).view.emb y) 1).val = t.val / 3 % 2 * 1024 + (y 1).val := by blk_simp [idx t]
  rw [after0_3, out_last m c t hl, acc_last m c t hl, plain]
  refine congrArg₂ (fun a b : EReal => a + b) ?_ ?_
  · blk_point [iblk, V, idx t]
  refine @Eq.trans EReal _ _ _ (Finset.sum_congr rfl fun s _ => ?_) (Fin.sum_univ_tiles 3 2048 rfl fun k : Fin 6144 =>
    (show FVec Ideal S4096x6144 .bf16 from m ((c : Thread nD τ).loc main_arg0)) (ix2 ((((cfg0.win 3).blk t).view.emb y) 0) k)
      * (show FVec Ideal S2048x12288 .bf16 from m ((c : Thread nD τ).loc main_arg1)) (ix2 ((((cfg0.win 3).blk t).view.emb y) 1) ⟨6144 + k.val, by omega⟩)).symm
  refine part_eq m c _ y _ s ?_ ?_ ?_
  · show (3 * (t.val / 3) + s.val) % 3 = s.val
    omega
  · rw [e0]
    show _ = (3 * (t.val / 3) + s.val) / 6 * 1024 + _
    omega
  · rw [e1]
    show _ = (3 * (t.val / 3) + s.val) / 3 % 2 * 1024 + _
    omega

/-- The call and the plain lines end with equal results from equal arguments. -/
theorem equal : Cert.algebraic_DhinbIdeal_DhinbRefIdeal := by
  pair_intro
  · run_from Cert.DhinbIdeal.Gen.run_main m g
  · run_from Cert.DhinbRefIdeal.Value.run m' g'
    exact (final m c).symm

end Cert.DhinbProof

end
-- ==== Proof.Norm.lean ====
/-
  The gradient of a root-mean-square norm at one entry of a row, over the extended reals: as the kernel arranges it and
  as the derivative of the norm gives it.
-/
module

public import Idealize.ShloMosaic.PureOps.Ideal
public import Idealize.ShloMosaic.Lib.Pointwise

@[expose] public section

noncomputable section

namespace Cert.Norm

open Idealize.ShloMosaic

/-- A square is not negative. -/
theorem sq_nonneg (x : EReal) : 0 ≤ x * x := by
  rcases le_total 0 x with h | h
  · exact EReal.mul_nonneg h h
  · have := EReal.mul_nonneg (EReal.neg_nonneg.mpr h) (EReal.neg_nonneg.mpr h)
    rwa [neg_mul_neg] at this

/-- A nonnegative real factor goes through a sum. -/
theorem sum_mul_real {n : ℕ} (f : Fin n → EReal) (s : ℝ) (hs : 0 ≤ s) : ∑ k, f k * (s : EReal) = (∑ k, f k) * (s : EReal) := by
  induction n with
  | zero => simp
  | succ n ih =>
    rw [Fin.sum_univ_succ, Fin.sum_univ_succ, ih,
      EReal.right_distrib_of_nonneg_of_ne_top (by exact_mod_cast hs) (EReal.coe_ne_top s)]

/-- Twice a real multiple, in two terms. -/
theorem two_terms (a : EReal) (c : ℝ) : a * (c : EReal) + a * (c : EReal) = a * ((2 * c : ℝ) : EReal) := by
  rcases lt_trichotomy c 0 with h | h | h
  · induction a with
    | bot => rw [EReal.bot_mul_coe_of_neg h, EReal.bot_mul_coe_of_neg (by linarith)]; rfl
    | top => rw [EReal.top_mul_coe_of_neg h, EReal.top_mul_coe_of_neg (by linarith)]; rfl
    | coe r => norm_cast; ring
  · subst h; simp
  · induction a with
    | bot => rw [EReal.bot_mul_coe_of_pos h, EReal.bot_mul_coe_of_pos (by linarith)]; rfl
    | top => rw [EReal.top_mul_coe_of_pos h, EReal.top_mul_coe_of_pos (by linarith)]; rfl
    | coe r => norm_cast; ring

/-- The gradient of a norm's row at one entry: with `s` the reciprocal root of the mean square `q`, the kernel's
    `s (d − x s (Σ d x s) / N)` is the derivative's `d s + x w + w x`, where `w = (Σ x d) (−½ (s / q)) / N`. -/
theorem row {n : ℕ} (x d : Fin n → EReal) (q : EReal) (hq : 0 < q) (N : ℝ) (hN : 0 < N) (j : Fin n) :
    Ideal.rsqrt q * (d j - x j * Ideal.rsqrt q * Ideal.div (∑ k, d k * (x k * Ideal.rsqrt q)) (N : EReal))
      = d j * Ideal.rsqrt q
        + x j * Ideal.div ((∑ k, x k * d k) * (((-(1 / 2) : ℝ) : EReal) * Ideal.div (Ideal.rsqrt q) q)) (N : EReal)
        + Ideal.div ((∑ k, x k * d k) * (((-(1 / 2) : ℝ) : EReal) * Ideal.div (Ideal.rsqrt q) q)) (N : EReal) * x j := by
  induction q with
  | bot => simp at hq
  | top => simp [Ideal.div, hN.ne']
  | coe r =>
    have hr : 0 < r := by exact_mod_cast hq
    have hs : Ideal.rsqrt (r : EReal) = (((Real.sqrt r)⁻¹ : ℝ) : EReal) := by
      rw [Ideal.rsqrt_coe, if_neg (not_lt.mpr hr.le), if_neg hr.ne']
    have hss : (Real.sqrt r)⁻¹ * (Real.sqrt r)⁻¹ = 1 / r := by
      rw [← mul_inv, Real.mul_self_sqrt hr.le, one_div]
    have hp : 0 ≤ (Real.sqrt r)⁻¹ := inv_nonneg.mpr (Real.sqrt_nonneg r)
    rw [hs]
    generalize (Real.sqrt r)⁻¹ = s at hss hp
    rw [Ideal.div_coe hr.ne', Ideal.div_coe hN.ne', Ideal.div_coe hN.ne']
    have e : ∑ k, d k * (x k * (s : EReal)) = (∑ k, x k * d k) * (s : EReal) := by
      rw [← sum_mul_real _ s hp]
      exact Finset.sum_congr rfl fun k _ => by rw [← mul_assoc, mul_comm (d k)]
    rw [e]
    generalize ∑ k, x k * d k = T
    have h1 : x j * (s : EReal) * (T * (s : EReal) * ((1 / N : ℝ) : EReal)) = x j * T * ((s * s * (1 / N) : ℝ) : EReal) := by
      push_cast
      ac_rfl
    have h2 : T * (((-(1 / 2) : ℝ) : EReal) * ((s : EReal) * ((1 / r : ℝ) : EReal))) * ((1 / N : ℝ) : EReal)
        = T * ((-(1 / 2) * (s * (1 / r)) * (1 / N) : ℝ) : EReal) := by
      push_cast
      ac_rfl
    rw [h1, h2, mul_comm _ (x j), ← mul_assoc, add_assoc, two_terms, sub_eq_add_neg,
      EReal.left_distrib_of_nonneg_of_ne_top (by exact_mod_cast hp) (EReal.coe_ne_top s), mul_comm (s : EReal) (d j),
      ← mul_neg, ← EReal.coe_neg, mul_left_comm, ← EReal.coe_mul]
    congr 3
    rw [← hss]
    ring

/-- The word of the row's length. -/
theorem len_val : Ideal.ofBits .f32 1157627904#32 = ((2048 : ℝ) : EReal) := by
  simp [Ideal.ofBits, Ideal.ieee, -EReal.coe_mul]
  norm_num

/-- The word of minus one half. -/
theorem neg_half_val : Ideal.ofBits .f32 3204448256#32 = ((-(1 / 2) : ℝ) : EReal) := by
  simp [Ideal.ofBits, Ideal.ieee, -EReal.coe_mul]
  norm_num

/-- The word of the norm's small constant is positive. -/
theorem eps_pos : 0 < Ideal.ofBits .f32 897988541#32 := by
  simp [Ideal.ofBits, Ideal.ieee, -EReal.coe_mul]

/-- The mean square of a row and the small constant. -/
def meanSq {n : ℕ} (x : Fin n → EReal) : EReal :=
  Ideal.div (∑ k, x k * x k) (Ideal.ofBits .f32 1157627904#32) + Ideal.ofBits .f32 897988541#32

/-- It is positive, whatever the row. -/
theorem meanSq_pos {n : ℕ} (x : Fin n → EReal) : 0 < meanSq x := by
  unfold meanSq
  refine lt_of_lt_of_le eps_pos (le_add_of_nonneg_left ?_)
  rw [len_val, Ideal.div_coe (by norm_num)]
  exact EReal.mul_nonneg (Finset.sum_nonneg fun k _ => sq_nonneg (x k)) (by norm_cast; norm_num)

end Cert.Norm

end
-- ==== Proof.Rms.lean ====
module

public import proofs.«01_k».proof.Defs
public import proofs.«01_k».proof.Proof.Gen.RmsIdeal.Frame
public import proofs.«01_k».proof.Proof.Gen.RmsRefIdeal.Read
public import proofs.«01_k».proof.Proof.Norm
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RmsProof

open Cert.RmsIdeal Cert.RmsIdeal.Gen

open Cert.Norm (meanSq meanSq_pos len_val neg_half_val)

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] :=
  (by decide +kernel : ∀ t : Fin grid0.N, _)

/-- One block's gradient at each entry, as the kernel computes it from the block's rows. -/
theorem block (v0 : FVec Ideal S512x2048 .f32) (v11 : FVec Ideal S512x2048 .bf16) (v13 : FVec Ideal S1x2048 .f32)
    (v16 : FVec Ideal S512x2048 .f32) (r : Fin 512) (j : Fin 2048) : k0_pay5 (F := Ideal) v0 v11 v13 v16 (ix2 r j)
      = v16 (ix2 r j) + Ideal.rsqrt (meanSq fun k => v0 (ix2 r k)) * (v11 (ix2 r j) * v13 (ix2 (0 : Fin 1) j)
          - v0 (ix2 r j) * Ideal.rsqrt (meanSq fun k => v0 (ix2 r k)) * Ideal.div (∑ k : Fin 2048, v11 (ix2 r k) * v13 (ix2 (0 : Fin 1) k)
              * (v0 (ix2 r k) * Ideal.rsqrt (meanSq fun k => v0 (ix2 r k)))) ((2048 : ℝ) : EReal)) := by
  pointwise [k0_pay5, k0_pay4, k0_pay3, k0_pay2]
  rw [← len_val]
  rfl

open Cert.RmsRefIdeal.Read in
/-- The plain lines' gradient at each entry. -/
theorem plain (x0 : FVec Ideal S4096x2048 .bf16) (x1 : FVec Ideal S4096x2048 .f32) (x2 : FVec Ideal S1x2048 .f32)
    (x3 : FVec Ideal S4096x2048 .f32) (r : Fin 4096) (j : Fin 2048) : val_main_v38 (F := Ideal) x0 x1 x2 x3 (ix2 r j)
      = x3 (ix2 r j) + Ideal.rsqrt (meanSq fun k => x1 (ix2 r k)) * (x0 (ix2 r j) * x2 (ix2 (0 : Fin 1) j)
          - x1 (ix2 r j) * Ideal.rsqrt (meanSq fun k => x1 (ix2 r k)) * Ideal.div (∑ k : Fin 2048, x0 (ix2 r k) * x2 (ix2 (0 : Fin 1) k)
              * (x1 (ix2 r k) * Ideal.rsqrt (meanSq fun k => x1 (ix2 r k)))) ((2048 : ℝ) : EReal)) := by
  rw [Cert.Norm.row (fun k => x1 (ix2 r k)) (fun k => x0 (ix2 r k) * x2 (ix2 (0 : Fin 1) k)) _ (meanSq_pos _) 2048 (by norm_num) j,
    ← len_val, ← neg_half_val]
  pointwise [val_main_v38, val_main_v37, val_main_v36, val_main_v35, val_main_v34, val_main_v33, val_main_v32, val_main_v31, val_main_v30, val_main_v29, val_main_v28, val_main_v27, val_main_v26, val_main_v25, val_main_v24, val_main_v22, val_main_v21, val_main_v17, val_main_v15, val_main_v14, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7]
  simp only [Finset.univ_unique, Finset.sum_singleton]
  rfl

/-- One block's part of the gradient of the gain: the sum over the block's rows. -/
theorem blockGain (v0 : FVec Ideal S512x2048 .f32) (v11 : FVec Ideal S512x2048 .bf16) (y : S1x2048.Idx) :
    k0_pay7 (F := Ideal) v0 v11 y
      = ∑ r : Fin 512, v0 (ix2 r (y 1)) * Ideal.rsqrt (meanSq fun k => v0 (ix2 r k)) * v11 (ix2 r (y 1)) := by
  pointwise [k0_pay7, k0_pay4, k0_pay3, k0_pay2]
  exact Finset.sum_congr rfl fun r _ => mul_comm _ _

open Cert.RmsRefIdeal.Read in
/-- The plain lines' gradient of the gain: the sum over all rows. -/
theorem plainGain (x0 : FVec Ideal S4096x2048 .bf16) (x1 : FVec Ideal S4096x2048 .f32) (y : S1x2048.Idx) :
    val_main_v40 (F := Ideal) x0 x1 y
      = ∑ r : Fin 4096, x1 (ix2 r (y 1)) * Ideal.rsqrt (meanSq fun k => x1 (ix2 r k)) * x0 (ix2 r (y 1)) := by
  pointwise [val_main_v40, val_main_v23, val_main_v20, val_main_v19, val_main_v18, val_main_v17, val_main_v13, val_main_v12, val_main_v8, val_main_v7, val_main_v6, val_main_v5, val_main_v4, val_main_v3, val_main_v2, val_main_v1, val_main_cst, val_main_cst_0, val_main_cst_1, val_main_cst_3, val_main_cst_4]
  simp only [Finset.univ_unique, Finset.sum_singleton]
  rfl

/-- What each point stores in the first result's block. -/
theorem out4 (c : Dev nD) (t : Fin cfg0.N) : (outsAt0 m c t.val t.isLt).1
    = k0_pay5 (iblk m c 1 t) (iblk m c 0 t) (iblk m c 2 t) (iblk m c 3 t) := by
  have ht : t.val < 8 := lt_of_lt_of_eq t.isLt N_0
  by_cases h : t.val % 8 = 0
  · rw [outsAt0_A m c t h (by omega)]; frame_out
  · rw [outsAt0_B m c t h (by omega)]; frame_out

/-- What each point stores in the second result's block: the same block. -/
theorem out5 (c : Dev nD) (t : Fin cfg0.N) (y) : (outsAt0 m c t.val t.isLt).2.1 y
    = k0_pay5 (iblk m c 1 t) (iblk m c 0 t) (iblk m c 2 t) (iblk m c 3 t) y := by
  have ht : t.val < 8 := lt_of_lt_of_eq t.isLt N_0
  by_cases h : t.val % 8 = 0
  · rw [outsAt0_A m c t h (by omega)]; frame_out
    pointwise [k0_pay6]
  · rw [outsAt0_B m c t h (by omega)]; frame_out
    pointwise [k0_pay6]

/-- The block of the point `t` holds the array's rows from `512 t` on. -/
theorem in0 (c : Dev nD) (t : Fin cfg0.N) (ht : t.val < 8) (r : Fin 512) (k : Fin 2048) :
    iblk m c 0 t (ix2 r k) = m ((c : Thread nD τ).loc main_arg0) (ix2 (⟨t.val * 512 + r.val, by omega⟩ : Fin 4096) k) := by
  blk_point [iblk, V, idx t]

@[inherit_doc in0]
theorem in1 (c : Dev nD) (t : Fin cfg0.N) (ht : t.val < 8) (r : Fin 512) (k : Fin 2048) :
    iblk m c 1 t (ix2 r k) = m ((c : Thread nD τ).loc main_arg1) (ix2 (⟨t.val * 512 + r.val, by omega⟩ : Fin 4096) k) := by
  blk_point [iblk, V, idx t]

@[inherit_doc in0]
theorem in3 (c : Dev nD) (t : Fin cfg0.N) (ht : t.val < 8) (r : Fin 512) (k : Fin 2048) :
    iblk m c 3 t (ix2 r k) = m ((c : Thread nD τ).loc main_arg3) (ix2 (⟨t.val * 512 + r.val, by omega⟩ : Fin 4096) k) := by
  blk_point [iblk, V, idx t]

/-- The gain's block is the gain. -/
theorem in2 (c : Dev nD) (t : Fin cfg0.N) (r : Fin 1) (k : Fin 2048) :
    iblk m c 2 t (ix2 r k) = m ((c : Thread nD τ).loc main_arg2) (ix2 r k) := by
  blk_point [iblk, V, idx t]

open Cert.RmsRefIdeal.Read in
/-- One block of the gradient is that block of the plain lines' gradient. -/
theorem block_eq (c : Dev nD) (t : Fin cfg0.N) (ht : t.val < 8) (r : Fin 512) (j : Fin 2048) :
    k0_pay5 (F := Ideal) (iblk m c 1 t) (iblk m c 0 t) (iblk m c 2 t) (iblk m c 3 t) (ix2 r j)
      = val_main_v38 (F := Ideal) (m ((c : Thread nD τ).loc main_arg0)) (m ((c : Thread nD τ).loc main_arg1))
          (m ((c : Thread nD τ).loc main_arg2)) (m ((c : Thread nD τ).loc main_arg3)) (ix2 (⟨t.val * 512 + r.val, by omega⟩ : Fin 4096) j) := by
  refine (block _ _ _ _ r j).trans (Eq.trans ?_ (plain _ _ _ _ _ j).symm)
  simp only [in0 m c t ht, in1 m c t ht, in2 m c t, in3 m c t ht]

open Cert.RmsRefIdeal.Read in
/-- The gradient of the norm's argument, with the residual's added: the kernel's array is the plain lines'. -/
theorem final4 (c : Dev nD) : (dats m 0 c).arrAt 4 (cfgs 0).N = val_main_v38 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  have ht : t.val < 8 := lt_of_lt_of_eq t.isLt N_0
  have hy : (y 0).val < 512 := (y 0).isLt
  have e : ((cfg0.win 4).blk t).view.emb y = ix2 (⟨t.val * 512 + (y 0).val, by omega⟩ : Fin 4096) (⟨(y 1).val, (y 1).isLt⟩ : Fin 2048) := by
    blk_ext [idx t]
  rw [e, after0_4, out4 m c t]
  exact Eq.trans (congrArg _ (ix2_eta (n0 := 512) (n1 := 2048) y).symm) (block_eq m c t ht ⟨(y 0).val, hy⟩ ⟨(y 1).val, (y 1).isLt⟩)

open Cert.RmsRefIdeal.Read in
/-- The same in the narrower type. -/
theorem final5 (c : Dev nD) : (dats m 0 c).arrAt 5 (cfgs 0).N = val_main_v39 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  have ht : t.val < 8 := lt_of_lt_of_eq t.isLt N_0
  have hy : (y 0).val < 512 := (y 0).isLt
  have e : ((cfg0.win 5).blk t).view.emb y = ix2 (⟨t.val * 512 + (y 0).val, by omega⟩ : Fin 4096) (⟨(y 1).val, (y 1).isLt⟩ : Fin 2048) := by
    blk_ext [idx t]
  rw [e, after0_5, out5 m c t]
  exact Eq.trans (congrArg _ (ix2_eta (n0 := 512) (n1 := 2048) y).symm) (block_eq m c t ht ⟨(y 0).val, hy⟩ ⟨(y 1).val, (y 1).isLt⟩)

/-- A block's row is a row of the array. -/
theorem row_lt (t : Fin cfg0.N) (r : Fin 512) : t.val * 512 + r.val < 4096 := by
  have ht : t.val < 8 := lt_of_lt_of_eq t.isLt N_0
  omega

/-- One point's part of the gradient of the gain. -/
def part (c : Dev nD) (t : Fin cfg0.N) (y : S1x2048.Idx) : EReal := k0_pay7 (F := Ideal) (iblk m c 1 t) (iblk m c 0 t) y

/-- It is the sum over the point's rows of the arrays. -/
theorem part_eq (c : Dev nD) (t : Fin cfg0.N) (y : S1x2048.Idx) : part m c t y
    = ∑ r : Fin 512, (show FVec Ideal S4096x2048 .f32 from m ((c : Thread nD τ).loc main_arg1)) (ix2 (⟨t.val * 512 + r.val, row_lt t r⟩ : Fin 4096) (y 1))
      * Ideal.rsqrt (meanSq fun k => m ((c : Thread nD τ).loc main_arg1) (ix2 (⟨t.val * 512 + r.val, row_lt t r⟩ : Fin 4096) k))
      * (show FVec Ideal S4096x2048 .bf16 from m ((c : Thread nD τ).loc main_arg0)) (ix2 (⟨t.val * 512 + r.val, row_lt t r⟩ : Fin 4096) (y 1)) := by
  have ht : t.val < 8 := lt_of_lt_of_eq t.isLt N_0
  refine (blockGain _ _ y).trans (Finset.sum_congr rfl fun r _ => ?_)
  simp only [in1 m c t ht]
  exact congrArg₂ (fun p q : EReal => p * Ideal.rsqrt _ * q) (in1 m c t ht r (y 1)) (in0 m c t ht r (y 1))

/-- The gain's gradient after the first point is that point's part. -/
theorem acc_first (c : Dev nD) (t : Fin cfg0.N) (h : t.val % 8 = 0) (y) : (outsAt0 m c t.val t.isLt).2.2 y = 0 + part m c t y := by
  have ht : t.val < 8 := lt_of_lt_of_eq t.isLt N_0
  rw [outsAt0_A m c t h (by omega)]; frame_out
  rw [part, zero_add]

/-- After each later point it is what it was and that point's part. -/
theorem acc_next (c : Dev nD) (t : Fin cfg0.N) (h : ¬ t.val % 8 = 0) (y) : (outsAt0 m c t.val t.isLt).2.2 y
    = (outsAt0 m c (t.val - 1) (Nat.lt_of_le_of_lt (Nat.sub_le _ _) t.isLt)).2.2 y + part m c t y := by
  rw [outsAt0_B m c t h (by omega)]; frame_out
  pointwise [k0_pay1]
  rw [part]

open Cert.RmsRefIdeal.Read in
/-- The gradient of the gain: the kernel's sum of its blocks' parts is the plain lines' sum over all rows. -/
theorem final6 (c : Dev nD) : (dats m 0 c).arrAt 6 (cfgs 0).N = val_main_v40 (F := Ideal) (m ((c : Thread nD τ).loc main_arg0))
    (m ((c : Thread nD τ).loc main_arg1)) := by
  refine (dats m 0 c).arrAt_eq_of_covers 6 _ (by decide +kernel) fun t hf y => ?_
  blk_simp
  have ht : t.val < 8 := lt_of_lt_of_eq t.isLt N_0
  have hl : t.val % 8 = 7 := (flush0_6 t).mp hf
  have e1 : (((cfg0.win 6).blk t).view.emb y) 1 = y 1 := Fin.ext (by blk_simp [idx t])
  rw [after0_6, plainGain, e1, Pipeline.eq_sum_fin_of_reset_step_apply_of_flush (M := EReal) (ι := S1x2048.Idx) (fun n h => (outsAt0 m c n h).2.2) 8
    (fun _ => 0) (part m c) (acc_first m c) (acc_next m c) t hl y, zero_add]
  refine @Eq.trans EReal _ _ _ (Finset.sum_congr rfl fun s _ => ?_) (Fin.sum_univ_tiles 8 512 rfl fun r : Fin 4096 =>
    (show FVec Ideal S4096x2048 .f32 from m ((c : Thread nD τ).loc main_arg1)) (ix2 r (y 1))
      * Ideal.rsqrt (meanSq fun k => m ((c : Thread nD τ).loc main_arg1) (ix2 r k))
      * (show FVec Ideal S4096x2048 .bf16 from m ((c : Thread nD τ).loc main_arg0)) (ix2 r (y 1))).symm
  have hs : 8 * (t.val / 8) + s.val = s.val := by omega
  refine (part_eq m c _ y).trans (Finset.sum_congr rfl fun r _ => ?_)
  simp only [hs]

/-- The call and the plain lines end with equal results from equal arguments. -/
theorem equal : Cert.algebraic_RmsIdeal_RmsRefIdeal := by
  pair_intro
  · run_from Cert.RmsIdeal.Gen.run_main m g
  · run_from Cert.RmsRefIdeal.Value.run m' g'
    · rw [Cert.RmsRefIdeal.Read.val_main_v38_eq]
      rw [(hagree c).1, (hagree c).2.1, (hagree c).2.2.1, (hagree c).2.2.2]
      exact (final4 m c).symm
    · rw [Cert.RmsRefIdeal.Read.val_main_v39_eq]
      rw [(hagree c).1, (hagree c).2.1, (hagree c).2.2.1, (hagree c).2.2.2]
      exact (final5 m c).symm
    · exact (final6 m c).symm

end Cert.RmsProof
end
-- ==== Proof.AdamsPack.lean ====
module

public import proofs.«01_k».proof.Proof.Gen.AdamsIdeal
public import Idealize.ShloMosaic.Lib.Pointwise

@[expose] public section

set_option maxRecDepth 16384

noncomputable section

open Idealize.ShloMosaic

namespace Cert.AdamsPack

open Cert.AdamsIdeal Cert.AdamsIdeal.Gen

/-- The rows of the packed array that hold the weight `0`. -/
def rows0 (w : FVec Ideal S2x2048 .f32) : FVec Ideal S32x128 .f32 :=
  shapeCast S32x128 (shapeCast S4096 w shapeCasts_S2x2048_S4096) shapeCasts_S4096_S32x128

/-- The rows of the packed array that hold the weight `1`. -/
def rows1 (w : FVec Ideal S2x1024 .f32) : FVec Ideal S16x128 .f32 :=
  shapeCast S16x128 (shapeCast S2048 w shapeCasts_S2x1024_S2048) shapeCasts_S2048_S16x128

/-- The rows of the packed array that hold the weight `2`. -/
def rows2 (w : FVec Ideal S2x1024 .f32) : FVec Ideal S16x128 .f32 :=
  shapeCast S16x128 (shapeCast S2048 w shapeCasts_S2x1024_S2048) shapeCasts_S2048_S16x128

/-- The rows of the packed array that hold the weight `3`. -/
def rows3 (w : FVec Ideal S2x8x128x128 .f32) : FVec Ideal S2048x128 .f32 :=
  shapeCast S2048x128 (shapeCast S262144 w shapeCasts_S2x8x128x128_S262144) shapeCasts_S262144_S2048x128

/-- The rows of the packed array that hold the weight `4`. -/
def rows4 (w : FVec Ideal S2x128x8 .f32) : FVec Ideal S16x128 .f32 :=
  shapeCast S16x128 (shapeCast S2048 w shapeCasts_S2x128x8_S2048) shapeCasts_S2048_S16x128

/-- The rows of the packed array that hold the weight `5`. -/
def rows5 (w : FVec Ideal S2x3x128 .f32) (z : FVec Ideal S_ .f32) : FVec Ideal S8x128 .f32 :=
  shapeCast S8x128 (pad S1024 ![0] ![256] ![0] (shapeCast S768 w shapeCasts_S2x3x128_S768) z pads_S768_S1024_02560 h_S_) shapeCasts_S1024_S8x128

/-- The rows of the packed array that hold the weight `6`. -/
def rows6 (w : FVec Ideal S2x2048 .f32) : FVec Ideal S32x128 .f32 :=
  shapeCast S32x128 (shapeCast S4096 w shapeCasts_S2x2048_S4096) shapeCasts_S4096_S32x128

/-- The rows of the packed array that hold the weight `7`. -/
def rows7 (w : FVec Ideal S2x3x1408 .f32) (z : FVec Ideal S_ .f32) : FVec Ideal S72x128 .f32 :=
  shapeCast S72x128 (pad S9216 ![0] ![768] ![0] (shapeCast S8448 w shapeCasts_S2x3x1408_S8448) z pads_S8448_S9216_07680 h_S_) shapeCasts_S9216_S72x128

/-- The rows of the packed array that hold the weight `8`. -/
def rows8 (w : FVec Ideal S2048 .f32) : FVec Ideal S16x128 .f32 :=
  shapeCast S16x128 (w) shapeCasts_S2048_S16x128

/-- The nine weights packed one after another. -/
def pack (w0 : FVec Ideal S2x2048 .f32) (w1 : FVec Ideal S2x1024 .f32) (w2 : FVec Ideal S2x1024 .f32) (w3 : FVec Ideal S2x8x128x128 .f32) (w4 : FVec Ideal S2x128x8 .f32) (w5 : FVec Ideal S2x3x128 .f32) (w6 : FVec Ideal S2x2048 .f32) (w7 : FVec Ideal S2x3x1408 .f32) (w8 : FVec Ideal S2048 .f32) (z : FVec Ideal S_ .f32) : FVec Ideal S2256x128 .f32 :=
  concatenate S2256x128 0 [⟨S32x128, rows0 w0⟩, ⟨S16x128, rows1 w1⟩, ⟨S16x128, rows2 w2⟩, ⟨S2048x128, rows3 w3⟩, ⟨S16x128, rows4 w4⟩, ⟨S8x128, rows5 w5 z⟩, ⟨S32x128, rows6 w6⟩, ⟨S72x128, rows7 w7 z⟩, ⟨S16x128, rows8 w8⟩]
    concatenates_S32x128_S16x128_S16x128_S2048x128_S16x128_S8x128_S32x128_S72x128_S16x128_S2256x128_d0

/-- The weight `0` of a packed array. -/
def unpack0 (X : FVec Ideal S2256x128 .f32) : FVec Ideal S2x2048 .f32 :=
  shapeCast S2x2048 (shapeCast S4096 (extractStridedSlice S32x128 ![0, 0] X slices_S2256x128_S32x128_0_0) shapeCasts_S32x128_S4096) shapeCasts_S4096_S2x2048

/-- Where the packed array holds each entry of the weight `0`. -/
def pos0 (i : S2x2048.Idx) : S2256x128.Idx :=
  have h0 : (i 0).val < 2 := (i 0).isLt
  have h1 : (i 1).val < 2048 := (i 1).isLt
  ix2 (⟨0 + ((i 0).val * 2048 + (i 1).val) / 128, by omega⟩ : Fin 2256) (⟨((i 0).val * 2048 + (i 1).val) % 128, by omega⟩ : Fin 128)

/-- Unpacking reads the packed array there. -/
theorem unpack0_apply (X : FVec Ideal S2256x128 .f32) (i : S2x2048.Idx) : unpack0 X i = X (pos0 i) := by
  have h0 : (i 0).val < 2 := (i 0).isLt
  have h1 : (i 1).val < 2048 := (i 1).isLt
  rw [unpack0, pos0]
  pointwise []
  exact congrArg X (congrArg₂ ix2 (Fin.ext (by dsimp only; omega)) (Fin.ext (by dsimp only; omega)))

/-- Packing puts each entry there. -/
theorem pack0 (w0 : FVec Ideal S2x2048 .f32) (w1 : FVec Ideal S2x1024 .f32) (w2 : FVec Ideal S2x1024 .f32) (w3 : FVec Ideal S2x8x128x128 .f32) (w4 : FVec Ideal S2x128x8 .f32) (w5 : FVec Ideal S2x3x128 .f32) (w6 : FVec Ideal S2x2048 .f32) (w7 : FVec Ideal S2x3x1408 .f32) (w8 : FVec Ideal S2048 .f32) (z : FVec Ideal S_ .f32) (i : S2x2048.Idx) : pack w0 w1 w2 w3 w4 w5 w6 w7 w8 z (pos0 i) = w0 i := by
  have h0 : (i 0).val < 2 := (i 0).isLt
  have h1 : (i 1).val < 2048 := (i 1).isLt
  rw [pack, pos0]
  pointwise [rows0]
  rw [dif_pos (by omega)]

/-- The weight `1` of a packed array. -/
def unpack1 (X : FVec Ideal S2256x128 .f32) : FVec Ideal S2x1024 .f32 :=
  shapeCast S2x1024 (shapeCast S2048 (extractStridedSlice S16x128 ![32, 0] X slices_S2256x128_S16x128_32_0) shapeCasts_S16x128_S2048) shapeCasts_S2048_S2x1024

/-- Where the packed array holds each entry of the weight `1`. -/
def pos1 (i : S2x1024.Idx) : S2256x128.Idx :=
  have h0 : (i 0).val < 2 := (i 0).isLt
  have h1 : (i 1).val < 1024 := (i 1).isLt
  ix2 (⟨32 + ((i 0).val * 1024 + (i 1).val) / 128, by omega⟩ : Fin 2256) (⟨((i 0).val * 1024 + (i 1).val) % 128, by omega⟩ : Fin 128)

/-- Unpacking reads the packed array there. -/
theorem unpack1_apply (X : FVec Ideal S2256x128 .f32) (i : S2x1024.Idx) : unpack1 X i = X (pos1 i) := by
  have h0 : (i 0).val < 2 := (i 0).isLt
  have h1 : (i 1).val < 1024 := (i 1).isLt
  rw [unpack1, pos1]
  pointwise []
  exact congrArg X (congrArg₂ ix2 (Fin.ext (by dsimp only; omega)) (Fin.ext (by dsimp only; omega)))

/-- Packing puts each entry there. -/
theorem pack1 (w0 : FVec Ideal S2x2048 .f32) (w1 : FVec Ideal S2x1024 .f32) (w2 : FVec Ideal S2x1024 .f32) (w3 : FVec Ideal S2x8x128x128 .f32) (w4 : FVec Ideal S2x128x8 .f32) (w5 : FVec Ideal S2x3x128 .f32) (w6 : FVec Ideal S2x2048 .f32) (w7 : FVec Ideal S2x3x1408 .f32) (w8 : FVec Ideal S2048 .f32) (z : FVec Ideal S_ .f32) (i : S2x1024.Idx) : pack w0 w1 w2 w3 w4 w5 w6 w7 w8 z (pos1 i) = w1 i := by
  have h0 : (i 0).val < 2 := (i 0).isLt
  have h1 : (i 1).val < 1024 := (i 1).isLt
  rw [pack, pos1]
  pointwise [rows1]
  rw [dif_pos (by omega)]

/-- The weight `2` of a packed array. -/
def unpack2 (X : FVec Ideal S2256x128 .f32) : FVec Ideal S2x1024 .f32 :=
  shapeCast S2x1024 (shapeCast S2048 (extractStridedSlice S16x128 ![48, 0] X slices_S2256x128_S16x128_48_0) shapeCasts_S16x128_S2048) shapeCasts_S2048_S2x1024

/-- Where the packed array holds each entry of the weight `2`. -/
def pos2 (i : S2x1024.Idx) : S2256x128.Idx :=
  have h0 : (i 0).val < 2 := (i 0).isLt
  have h1 : (i 1).val < 1024 := (i 1).isLt
  ix2 (⟨48 + ((i 0).val * 1024 + (i 1).val) / 128, by omega⟩ : Fin 2256) (⟨((i 0).val * 1024 + (i 1).val) % 128, by omega⟩ : Fin 128)

/-- Unpacking reads the packed array there. -/
theorem unpack2_apply (X : FVec Ideal S2256x128 .f32) (i : S2x1024.Idx) : unpack2 X i = X (pos2 i) := by
  have h0 : (i 0).val < 2 := (i 0).isLt
  have h1 : (i 1).val < 1024 := (i 1).isLt
  rw [unpack2, pos2]
  pointwise []
  exact congrArg X (congrArg₂ ix2 (Fin.ext (by dsimp only; omega)) (Fin.ext (by dsimp only; omega)))

/-- Packing puts each entry there. -/
theorem pack2 (w0 : FVec Ideal S2x2048 .f32) (w1 : FVec Ideal S2x1024 .f32) (w2 : FVec Ideal S2x1024 .f32) (w3 : FVec Ideal S2x8x128x128 .f32) (w4 : FVec Ideal S2x128x8 .f32) (w5 : FVec Ideal S2x3x128 .f32) (w6 : FVec Ideal S2x2048 .f32) (w7 : FVec Ideal S2x3x1408 .f32) (w8 : FVec Ideal S2048 .f32) (z : FVec Ideal S_ .f32) (i : S2x1024.Idx) : pack w0 w1 w2 w3 w4 w5 w6 w7 w8 z (pos2 i) = w2 i := by
  have h0 : (i 0).val < 2 := (i 0).isLt
  have h1 : (i 1).val < 1024 := (i 1).isLt
  rw [pack, pos2]
  pointwise [rows2]
  rw [dif_neg (by omega), dif_neg (by omega), dif_pos (by omega)]

/-- The weight `3` of a packed array. -/
def unpack3 (X : FVec Ideal S2256x128 .f32) : FVec Ideal S2x8x128x128 .f32 :=
  shapeCast S2x8x128x128 (shapeCast S262144 (extractStridedSlice S2048x128 ![64, 0] X slices_S2256x128_S2048x128_64_0) shapeCasts_S2048x128_S262144) shapeCasts_S262144_S2x8x128x128

/-- Where the packed array holds each entry of the weight `3`. -/
def pos3 (i : S2x8x128x128.Idx) : S2256x128.Idx :=
  have h0 : (i 0).val < 2 := (i 0).isLt
  have h1 : (i 1).val < 8 := (i 1).isLt
  have h2 : (i 2).val < 128 := (i 2).isLt
  have h3 : (i 3).val < 128 := (i 3).isLt
  ix2 (⟨64 + ((((i 0).val * 8 + (i 1).val) * 128 + (i 2).val) * 128 + (i 3).val) / 128, by omega⟩ : Fin 2256) (⟨((((i 0).val * 8 + (i 1).val) * 128 + (i 2).val) * 128 + (i 3).val) % 128, by omega⟩ : Fin 128)

/-- Unpacking reads the packed array there. -/
theorem unpack3_apply (X : FVec Ideal S2256x128 .f32) (i : S2x8x128x128.Idx) : unpack3 X i = X (pos3 i) := by
  have h0 : (i 0).val < 2 := (i 0).isLt
  have h1 : (i 1).val < 8 := (i 1).isLt
  have h2 : (i 2).val < 128 := (i 2).isLt
  have h3 : (i 3).val < 128 := (i 3).isLt
  rw [unpack3, pos3]
  pointwise []
  exact congrArg X (congrArg₂ ix2 (Fin.ext (by dsimp only; omega)) (Fin.ext (by dsimp only; omega)))

/-- Packing puts each entry there. -/
theorem pack3 (w0 : FVec Ideal S2x2048 .f32) (w1 : FVec Ideal S2x1024 .f32) (w2 : FVec Ideal S2x1024 .f32) (w3 : FVec Ideal S2x8x128x128 .f32) (w4 : FVec Ideal S2x128x8 .f32) (w5 : FVec Ideal S2x3x128 .f32) (w6 : FVec Ideal S2x2048 .f32) (w7 : FVec Ideal S2x3x1408 .f32) (w8 : FVec Ideal S2048 .f32) (z : FVec Ideal S_ .f32) (i : S2x8x128x128.Idx) : pack w0 w1 w2 w3 w4 w5 w6 w7 w8 z (pos3 i) = w3 i := by
  have h0 : (i 0).val < 2 := (i 0).isLt
  have h1 : (i 1).val < 8 := (i 1).isLt
  have h2 : (i 2).val < 128 := (i 2).isLt
  have h3 : (i 3).val < 128 := (i 3).isLt
  rw [pack, pos3]
  pointwise [rows3]
  rw [dif_neg (by omega), dif_neg (by omega), dif_neg (by omega), dif_pos (by omega)]
  exact congrArg w3 ((congrArg (ix4 (i 0) (i 1) (i 2)) (show _ = i 3 from Fin.ext (by dsimp only; omega))).trans (ix4_eta i))

/-- The weight `4` of a packed array. -/
def unpack4 (X : FVec Ideal S2256x128 .f32) : FVec Ideal S2x128x8 .f32 :=
  shapeCast S2x128x8 (shapeCast S2048 (extractStridedSlice S16x128 ![2112, 0] X slices_S2256x128_S16x128_2112_0) shapeCasts_S16x128_S2048) shapeCasts_S2048_S2x128x8

/-- Where the packed array holds each entry of the weight `4`. -/
def pos4 (i : S2x128x8.Idx) : S2256x128.Idx :=
  have h0 : (i 0).val < 2 := (i 0).isLt
  have h1 : (i 1).val < 128 := (i 1).isLt
  have h2 : (i 2).val < 8 := (i 2).isLt
  ix2 (⟨2112 + (((i 0).val * 128 + (i 1).val) * 8 + (i 2).val) / 128, by omega⟩ : Fin 2256) (⟨(((i 0).val * 128 + (i 1).val) * 8 + (i 2).val) % 128, by omega⟩ : Fin 128)

/-- Unpacking reads the packed array there. -/
theorem unpack4_apply (X : FVec Ideal S2256x128 .f32) (i : S2x128x8.Idx) : unpack4 X i = X (pos4 i) := by
  have h0 : (i 0).val < 2 := (i 0).isLt
  have h1 : (i 1).val < 128 := (i 1).isLt
  have h2 : (i 2).val < 8 := (i 2).isLt
  rw [unpack4, pos4]
  pointwise []
  exact congrArg X (congrArg₂ ix2 (Fin.ext (by dsimp only; omega)) (Fin.ext (by dsimp only; omega)))

/-- Packing puts each entry there. -/
theorem pack4 (w0 : FVec Ideal S2x2048 .f32) (w1 : FVec Ideal S2x1024 .f32) (w2 : FVec Ideal S2x1024 .f32) (w3 : FVec Ideal S2x8x128x128 .f32) (w4 : FVec Ideal S2x128x8 .f32) (w5 : FVec Ideal S2x3x128 .f32) (w6 : FVec Ideal S2x2048 .f32) (w7 : FVec Ideal S2x3x1408 .f32) (w8 : FVec Ideal S2048 .f32) (z : FVec Ideal S_ .f32) (i : S2x128x8.Idx) : pack w0 w1 w2 w3 w4 w5 w6 w7 w8 z (pos4 i) = w4 i := by
  have h0 : (i 0).val < 2 := (i 0).isLt
  have h1 : (i 1).val < 128 := (i 1).isLt
  have h2 : (i 2).val < 8 := (i 2).isLt
  rw [pack, pos4]
  pointwise [rows4]
  rw [dif_neg (by omega), dif_neg (by omega), dif_neg (by omega), dif_neg (by omega), dif_pos (by omega)]

/-- The weight `5` of a packed array. -/
def unpack5 (X : FVec Ideal S2256x128 .f32) : FVec Ideal S2x3x128 .f32 :=
  shapeCast S2x3x128 (extractStridedSlice S768 ![0] (shapeCast S1024 (extractStridedSlice S8x128 ![2128, 0] X slices_S2256x128_S8x128_2128_0) shapeCasts_S8x128_S1024) slices_S1024_S768_0) shapeCasts_S768_S2x3x128

/-- Where the packed array holds each entry of the weight `5`. -/
def pos5 (i : S2x3x128.Idx) : S2256x128.Idx :=
  have h0 : (i 0).val < 2 := (i 0).isLt
  have h1 : (i 1).val < 3 := (i 1).isLt
  have h2 : (i 2).val < 128 := (i 2).isLt
  ix2 (⟨2128 + (((i 0).val * 3 + (i 1).val) * 128 + (i 2).val) / 128, by omega⟩ : Fin 2256) (⟨(((i 0).val * 3 + (i 1).val) * 128 + (i 2).val) % 128, by omega⟩ : Fin 128)

/-- Unpacking reads the packed array there. -/
theorem unpack5_apply (X : FVec Ideal S2256x128 .f32) (i : S2x3x128.Idx) : unpack5 X i = X (pos5 i) := by
  have h0 : (i 0).val < 2 := (i 0).isLt
  have h1 : (i 1).val < 3 := (i 1).isLt
  have h2 : (i 2).val < 128 := (i 2).isLt
  rw [unpack5, pos5]
  pointwise []
  exact congrArg X (congrArg₂ ix2 (Fin.ext (by dsimp only; omega)) (Fin.ext (by dsimp only; omega)))

/-- Packing puts each entry there. -/
theorem pack5 (w0 : FVec Ideal S2x2048 .f32) (w1 : FVec Ideal S2x1024 .f32) (w2 : FVec Ideal S2x1024 .f32) (w3 : FVec Ideal S2x8x128x128 .f32) (w4 : FVec Ideal S2x128x8 .f32) (w5 : FVec Ideal S2x3x128 .f32) (w6 : FVec Ideal S2x2048 .f32) (w7 : FVec Ideal S2x3x1408 .f32) (w8 : FVec Ideal S2048 .f32) (z : FVec Ideal S_ .f32) (i : S2x3x128.Idx) : pack w0 w1 w2 w3 w4 w5 w6 w7 w8 z (pos5 i) = w5 i := by
  have h0 : (i 0).val < 2 := (i 0).isLt
  have h1 : (i 1).val < 3 := (i 1).isLt
  have h2 : (i 2).val < 128 := (i 2).isLt
  rw [pack, pos5]
  pointwise [rows5]
  rw [dif_neg (by omega), dif_neg (by omega), dif_neg (by omega), dif_neg (by omega), dif_neg (by omega), dif_pos (by omega), dif_pos (by omega)]

/-- The weight `6` of a packed array. -/
def unpack6 (X : FVec Ideal S2256x128 .f32) : FVec Ideal S2x2048 .f32 :=
  shapeCast S2x2048 (shapeCast S4096 (extractStridedSlice S32x128 ![2136, 0] X slices_S2256x128_S32x128_2136_0) shapeCasts_S32x128_S4096) shapeCasts_S4096_S2x2048

/-- Where the packed array holds each entry of the weight `6`. -/
def pos6 (i : S2x2048.Idx) : S2256x128.Idx :=
  have h0 : (i 0).val < 2 := (i 0).isLt
  have h1 : (i 1).val < 2048 := (i 1).isLt
  ix2 (⟨2136 + ((i 0).val * 2048 + (i 1).val) / 128, by omega⟩ : Fin 2256) (⟨((i 0).val * 2048 + (i 1).val) % 128, by omega⟩ : Fin 128)

/-- Unpacking reads the packed array there. -/
theorem unpack6_apply (X : FVec Ideal S2256x128 .f32) (i : S2x2048.Idx) : unpack6 X i = X (pos6 i) := by
  have h0 : (i 0).val < 2 := (i 0).isLt
  have h1 : (i 1).val < 2048 := (i 1).isLt
  rw [unpack6, pos6]
  pointwise []
  exact congrArg X (congrArg₂ ix2 (Fin.ext (by dsimp only; omega)) (Fin.ext (by dsimp only; omega)))

/-- Packing puts each entry there. -/
theorem pack6 (w0 : FVec Ideal S2x2048 .f32) (w1 : FVec Ideal S2x1024 .f32) (w2 : FVec Ideal S2x1024 .f32) (w3 : FVec Ideal S2x8x128x128 .f32) (w4 : FVec Ideal S2x128x8 .f32) (w5 : FVec Ideal S2x3x128 .f32) (w6 : FVec Ideal S2x2048 .f32) (w7 : FVec Ideal S2x3x1408 .f32) (w8 : FVec Ideal S2048 .f32) (z : FVec Ideal S_ .f32) (i : S2x2048.Idx) : pack w0 w1 w2 w3 w4 w5 w6 w7 w8 z (pos6 i) = w6 i := by
  have h0 : (i 0).val < 2 := (i 0).isLt
  have h1 : (i 1).val < 2048 := (i 1).isLt
  rw [pack, pos6]
  pointwise [rows6]
  rw [dif_neg (by omega), dif_neg (by omega), dif_neg (by omega), dif_neg (by omega), dif_neg (by omega), dif_neg (by omega), dif_pos (by omega)]

/-- The weight `7` of a packed array. -/
def unpack7 (X : FVec Ideal S2256x128 .f32) : FVec Ideal S2x3x1408 .f32 :=
  shapeCast S2x3x1408 (extractStridedSlice S8448 ![0] (shapeCast S9216 (extractStridedSlice S72x128 ![2168, 0] X slices_S2256x128_S72x128_2168_0) shapeCasts_S72x128_S9216) slices_S9216_S8448_0) shapeCasts_S8448_S2x3x1408

/-- Where the packed array holds each entry of the weight `7`. -/
def pos7 (i : S2x3x1408.Idx) : S2256x128.Idx :=
  have h0 : (i 0).val < 2 := (i 0).isLt
  have h1 : (i 1).val < 3 := (i 1).isLt
  have h2 : (i 2).val < 1408 := (i 2).isLt
  ix2 (⟨2168 + (((i 0).val * 3 + (i 1).val) * 1408 + (i 2).val) / 128, by omega⟩ : Fin 2256) (⟨(((i 0).val * 3 + (i 1).val) * 1408 + (i 2).val) % 128, by omega⟩ : Fin 128)

/-- Unpacking reads the packed array there. -/
theorem unpack7_apply (X : FVec Ideal S2256x128 .f32) (i : S2x3x1408.Idx) : unpack7 X i = X (pos7 i) := by
  have h0 : (i 0).val < 2 := (i 0).isLt
  have h1 : (i 1).val < 3 := (i 1).isLt
  have h2 : (i 2).val < 1408 := (i 2).isLt
  rw [unpack7, pos7]
  pointwise []
  exact congrArg X (congrArg₂ ix2 (Fin.ext (by dsimp only; omega)) (Fin.ext (by dsimp only; omega)))

/-- Packing puts each entry there. -/
theorem pack7 (w0 : FVec Ideal S2x2048 .f32) (w1 : FVec Ideal S2x1024 .f32) (w2 : FVec Ideal S2x1024 .f32) (w3 : FVec Ideal S2x8x128x128 .f32) (w4 : FVec Ideal S2x128x8 .f32) (w5 : FVec Ideal S2x3x128 .f32) (w6 : FVec Ideal S2x2048 .f32) (w7 : FVec Ideal S2x3x1408 .f32) (w8 : FVec Ideal S2048 .f32) (z : FVec Ideal S_ .f32) (i : S2x3x1408.Idx) : pack w0 w1 w2 w3 w4 w5 w6 w7 w8 z (pos7 i) = w7 i := by
  have h0 : (i 0).val < 2 := (i 0).isLt
  have h1 : (i 1).val < 3 := (i 1).isLt
  have h2 : (i 2).val < 1408 := (i 2).isLt
  rw [pack, pos7]
  pointwise [rows7]
  rw [dif_neg (by omega), dif_neg (by omega), dif_neg (by omega), dif_neg (by omega), dif_neg (by omega), dif_neg (by omega), dif_neg (by omega), dif_pos (by omega), dif_pos (by omega)]

/-- The weight `8` of a packed array. -/
def unpack8 (X : FVec Ideal S2256x128 .f32) : FVec Ideal S2048 .f32 :=
  shapeCast S2048 (extractStridedSlice S16x128 ![2240, 0] X slices_S2256x128_S16x128_2240_0) shapeCasts_S16x128_S2048

/-- Where the packed array holds each entry of the weight `8`. -/
def pos8 (i : S2048.Idx) : S2256x128.Idx :=
  have h0 : (i 0).val < 2048 := (i 0).isLt
  ix2 (⟨2240 + (i 0).val / 128, by omega⟩ : Fin 2256) (⟨(i 0).val % 128, by omega⟩ : Fin 128)

/-- Unpacking reads the packed array there. -/
theorem unpack8_apply (X : FVec Ideal S2256x128 .f32) (i : S2048.Idx) : unpack8 X i = X (pos8 i) := by
  have h0 : (i 0).val < 2048 := (i 0).isLt
  rw [unpack8, pos8]
  pointwise []

/-- Packing puts each entry there. -/
theorem pack8 (w0 : FVec Ideal S2x2048 .f32) (w1 : FVec Ideal S2x1024 .f32) (w2 : FVec Ideal S2x1024 .f32) (w3 : FVec Ideal S2x8x128x128 .f32) (w4 : FVec Ideal S2x128x8 .f32) (w5 : FVec Ideal S2x3x128 .f32) (w6 : FVec Ideal S2x2048 .f32) (w7 : FVec Ideal S2x3x1408 .f32) (w8 : FVec Ideal S2048 .f32) (z : FVec Ideal S_ .f32) (i : S2048.Idx) : pack w0 w1 w2 w3 w4 w5 w6 w7 w8 z (pos8 i) = w8 i := by
  have h0 : (i 0).val < 2048 := (i 0).isLt
  rw [pack, pos8]
  pointwise [rows8]
  rw [dif_neg (by omega), dif_neg (by omega), dif_neg (by omega), dif_neg (by omega), dif_neg (by omega), dif_neg (by omega), dif_neg (by omega), dif_neg (by omega)]

end Cert.AdamsPack
end
-- ==== Proof.AdamsVals.lean ====
module

public import proofs.«01_k».proof.Defs
public import proofs.«01_k».proof.Proof.Gen.AdamsIdeal.Frame
public import proofs.«01_k».proof.Proof.AdamsPack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamsProof

open Cert.AdamsIdeal Cert.AdamsIdeal.Gen Cert.AdamsPack

variable (m : (ℓ : Loc nD τ sig) → Buf (Elt Ideal) ℓ)

/-- The new first moment, from the gradient and the moment. -/
def m1 (g m : EReal) : EReal := Ideal.ofBits .f32 1063675494#32 * m + Ideal.ofBits .f32 1036831949#32 * g

/-- The new second moment, from the gradient and the moment. -/
def v1 (g v : EReal) : EReal := Ideal.ofBits .f32 1065336439#32 * v + Ideal.ofBits .f32 981668463#32 * (g * g)

/-- The weight's change, from the weight, the gradient and both moments. -/
def dl (w g m v : EReal) : EReal :=
  Ideal.ofBits .f32 3129152111#32 * (Ideal.div (Ideal.div (m1 g m) (Ideal.ofBits .f32 1059503362#32))
    (Ideal.sqrt (Ideal.div (v1 g v) (Ideal.ofBits .f32 1008933580#32)) + Ideal.ofBits .f32 841731191#32)
      + Ideal.ofBits .f32 1008981770#32 * w)

/-- The kernel's change at each entry. -/
theorem pay4 (W G M V : FVec Ideal S2256x128 .f32) (p : S2256x128.Idx) :
    k0_pay4 (F := Ideal) W G M V p = dl (W p) (G p) (M p) (V p) := by
  pointwise [k0_pay4, k0_pay3, k0_pay2, k0_pay1]
  rfl

/-- The kernel's first moment at each entry. -/
theorem pay2 (G M : FVec Ideal S2256x128 .f32) (p : S2256x128.Idx) : k0_pay2 (F := Ideal) G M p = m1 (G p) (M p) := by
  pointwise [k0_pay2, k0_pay1]
  rfl

/-- The kernel's second moment at each entry. -/
theorem pay3 (G V : FVec Ideal S2256x128 .f32) (p : S2256x128.Idx) : k0_pay3 (F := Ideal) G V p = v1 (G p) (V p) := by
  pointwise [k0_pay3, k0_pay1]
  rfl

/-- The one grid point's blocks are the whole packed arrays. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The packed new second moments: the kernel's array is its expression of the packed arrays. -/
theorem final6 (c : Dev nD) : (dats m 0 c).arrAt 6 (cfgs 0).N
    = k0_pay3 (F := Ideal) (V m c main_v39) (V m c main_v79) := by
  refine (dats m 0 c).arrAt_eq_of_after_last 6 t0_0 (by decide +kernel) _ fun j => ?_
  blk_simp
  rw [after0_6]
  frame_out
  blk_point [iblk, idx t0_0]

/-- The packed new first moments: the kernel's array is its expression of the packed arrays. -/
theorem final5 (c : Dev nD) : (dats m 0 c).arrAt 5 (cfgs 0).N
    = k0_pay2 (F := Ideal) (V m c main_v39) (V m c main_v59) := by
  refine (dats m 0 c).arrAt_eq_of_after_last 5 t0_0 (by decide +kernel) _ fun j => ?_
  blk_simp
  rw [after0_5]
  frame_out
  blk_point [iblk, idx t0_0]

/-- The packed weights' changes: the kernel's array is its expression of the packed arrays. -/
theorem final4 (c : Dev nD) : (dats m 0 c).arrAt 4 (cfgs 0).N
    = k0_pay4 (F := Ideal) (V m c main_v19) (V m c main_v39) (V m c main_v59) (V m c main_v79) := by
  refine (dats m 0 c).arrAt_eq_of_after_last 4 t0_0 (by decide +kernel) _ fun j => ?_
  blk_simp
  rw [after0_4]
  frame_out
  blk_point [iblk, idx t0_0]

set_option maxHeartbeats 1000000 in
/-- The packed weights, when the kernel starts. -/
theorem entry19 (c : Dev nD) : ∃ z, V m c main_v19 = pack (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) z := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results
  exact ⟨_, rfl⟩

set_option maxHeartbeats 1000000 in
/-- The packed gradients, when the kernel starts. -/
theorem entry39 (c : Dev nD) : ∃ z, V m c main_v39 = pack (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) z := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results
  exact ⟨_, rfl⟩

set_option maxHeartbeats 1000000 in
/-- The packed first moments, when the kernel starts. -/
theorem entry59 (c : Dev nD) : ∃ z, V m c main_v59 = pack (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) z := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results
  exact ⟨_, rfl⟩

set_option maxHeartbeats 1000000 in
/-- The packed second moments, when the kernel starts. -/
theorem entry79 (c : Dev nD) : ∃ z, V m c main_v79 = pack (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) z := by
  unfold V V0
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results
  exact ⟨_, rfl⟩

set_option maxHeartbeats 1000000 in
/-- The change of the weight `0` is read from the packed array. -/
theorem out83 (c : Dev nD) : Pipeline.afterTail₀ cfgs (dats m) 0 (V0 m) [hostOps1] c main_v83
    = unpack0 ((dats m 0 c).arrAt 4 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v80_0)
    = (dats m 0 c).arrAt 4 (cfgs 0).N from Pipeline.withArrays_arr (cfgs 0).spec winFacts0.arr_inj c _ _ 4]
  rfl

/-- The change of the weight `0` at each entry. -/
theorem d0_apply (c : Dev nD) (i : S2x2048.Idx) : (Pipeline.afterTail₀ cfgs (dats m) 0 (V0 m) [hostOps1] c main_v83 : FVec Ideal S2x2048 .f32) i
    = dl (m ((c : Thread nD τ).loc main_arg0) i) (m ((c : Thread nD τ).loc main_arg9) i) (m ((c : Thread nD τ).loc main_arg18) i) (m ((c : Thread nD τ).loc main_arg27) i) := by
  obtain ⟨z0, h0⟩ := entry19 m c
  obtain ⟨z1, h1⟩ := entry39 m c
  obtain ⟨z2, h2⟩ := entry59 m c
  obtain ⟨z3, h3⟩ := entry79 m c
  rw [out83, final4, unpack0_apply, pay4, h0, h1, h2, h3, pack0, pack0, pack0, pack0]

set_option maxHeartbeats 1000000 in
/-- The change of the weight `1` is read from the packed array. -/
theorem out86 (c : Dev nD) : Pipeline.afterTail₀ cfgs (dats m) 0 (V0 m) [hostOps1] c main_v86
    = unpack1 ((dats m 0 c).arrAt 4 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v80_0)
    = (dats m 0 c).arrAt 4 (cfgs 0).N from Pipeline.withArrays_arr (cfgs 0).spec winFacts0.arr_inj c _ _ 4]
  rfl

/-- The change of the weight `1` at each entry. -/
theorem d1_apply (c : Dev nD) (i : S2x1024.Idx) : (Pipeline.afterTail₀ cfgs (dats m) 0 (V0 m) [hostOps1] c main_v86 : FVec Ideal S2x1024 .f32) i
    = dl (m ((c : Thread nD τ).loc main_arg1) i) (m ((c : Thread nD τ).loc main_arg10) i) (m ((c : Thread nD τ).loc main_arg19) i) (m ((c : Thread nD τ).loc main_arg28) i) := by
  obtain ⟨z0, h0⟩ := entry19 m c
  obtain ⟨z1, h1⟩ := entry39 m c
  obtain ⟨z2, h2⟩ := entry59 m c
  obtain ⟨z3, h3⟩ := entry79 m c
  rw [out86, final4, unpack1_apply, pay4, h0, h1, h2, h3, pack1, pack1, pack1, pack1]

set_option maxHeartbeats 1000000 in
/-- The change of the weight `2` is read from the packed array. -/
theorem out89 (c : Dev nD) : Pipeline.afterTail₀ cfgs (dats m) 0 (V0 m) [hostOps1] c main_v89
    = unpack2 ((dats m 0 c).arrAt 4 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v80_0)
    = (dats m 0 c).arrAt 4 (cfgs 0).N from Pipeline.withArrays_arr (cfgs 0).spec winFacts0.arr_inj c _ _ 4]
  rfl

/-- The change of the weight `2` at each entry. -/
theorem d2_apply (c : Dev nD) (i : S2x1024.Idx) : (Pipeline.afterTail₀ cfgs (dats m) 0 (V0 m) [hostOps1] c main_v89 : FVec Ideal S2x1024 .f32) i
    = dl (m ((c : Thread nD τ).loc main_arg2) i) (m ((c : Thread nD τ).loc main_arg11) i) (m ((c : Thread nD τ).loc main_arg20) i) (m ((c : Thread nD τ).loc main_arg29) i) := by
  obtain ⟨z0, h0⟩ := entry19 m c
  obtain ⟨z1, h1⟩ := entry39 m c
  obtain ⟨z2, h2⟩ := entry59 m c
  obtain ⟨z3, h3⟩ := entry79 m c
  rw [out89, final4, unpack2_apply, pay4, h0, h1, h2, h3, pack2, pack2, pack2, pack2]

set_option maxHeartbeats 1000000 in
/-- The change of the weight `3` is read from the packed array. -/
theorem out92 (c : Dev nD) : Pipeline.afterTail₀ cfgs (dats m) 0 (V0 m) [hostOps1] c main_v92
    = unpack3 ((dats m 0 c).arrAt 4 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v80_0)
    = (dats m 0 c).arrAt 4 (cfgs 0).N from Pipeline.withArrays_arr (cfgs 0).spec winFacts0.arr_inj c _ _ 4]
  rfl

/-- The change of the weight `3` at each entry. -/
theorem d3_apply (c : Dev nD) (i : S2x8x128x128.Idx) : (Pipeline.afterTail₀ cfgs (dats m) 0 (V0 m) [hostOps1] c main_v92 : FVec Ideal S2x8x128x128 .f32) i
    = dl (m ((c : Thread nD τ).loc main_arg3) i) (m ((c : Thread nD τ).loc main_arg12) i) (m ((c : Thread nD τ).loc main_arg21) i) (m ((c : Thread nD τ).loc main_arg30) i) := by
  obtain ⟨z0, h0⟩ := entry19 m c
  obtain ⟨z1, h1⟩ := entry39 m c
  obtain ⟨z2, h2⟩ := entry59 m c
  obtain ⟨z3, h3⟩ := entry79 m c
  rw [out92, final4, unpack3_apply, pay4, h0, h1, h2, h3, pack3, pack3, pack3, pack3]

set_option maxHeartbeats 1000000 in
/-- The change of the weight `4` is read from the packed array. -/
theorem out95 (c : Dev nD) : Pipeline.afterTail₀ cfgs (dats m) 0 (V0 m) [hostOps1] c main_v95
    = unpack4 ((dats m 0 c).arrAt 4 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v80_0)
    = (dats m 0 c).arrAt 4 (cfgs 0).N from Pipeline.withArrays_arr (cfgs 0).spec winFacts0.arr_inj c _ _ 4]
  rfl

/-- The change of the weight `4` at each entry. -/
theorem d4_apply (c : Dev nD) (i : S2x128x8.Idx) : (Pipeline.afterTail₀ cfgs (dats m) 0 (V0 m) [hostOps1] c main_v95 : FVec Ideal S2x128x8 .f32) i
    = dl (m ((c : Thread nD τ).loc main_arg4) i) (m ((c : Thread nD τ).loc main_arg13) i) (m ((c : Thread nD τ).loc main_arg22) i) (m ((c : Thread nD τ).loc main_arg31) i) := by
  obtain ⟨z0, h0⟩ := entry19 m c
  obtain ⟨z1, h1⟩ := entry39 m c
  obtain ⟨z2, h2⟩ := entry59 m c
  obtain ⟨z3, h3⟩ := entry79 m c
  rw [out95, final4, unpack4_apply, pay4, h0, h1, h2, h3, pack4, pack4, pack4, pack4]

set_option maxHeartbeats 1000000 in
/-- The change of the weight `5` is read from the packed array. -/
theorem out99 (c : Dev nD) : Pipeline.afterTail₀ cfgs (dats m) 0 (V0 m) [hostOps1] c main_v99
    = unpack5 ((dats m 0 c).arrAt 4 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v80_0)
    = (dats m 0 c).arrAt 4 (cfgs 0).N from Pipeline.withArrays_arr (cfgs 0).spec winFacts0.arr_inj c _ _ 4]
  rfl

/-- The change of the weight `5` at each entry. -/
theorem d5_apply (c : Dev nD) (i : S2x3x128.Idx) : (Pipeline.afterTail₀ cfgs (dats m) 0 (V0 m) [hostOps1] c main_v99 : FVec Ideal S2x3x128 .f32) i
    = dl (m ((c : Thread nD τ).loc main_arg5) i) (m ((c : Thread nD τ).loc main_arg14) i) (m ((c : Thread nD τ).loc main_arg23) i) (m ((c : Thread nD τ).loc main_arg32) i) := by
  obtain ⟨z0, h0⟩ := entry19 m c
  obtain ⟨z1, h1⟩ := entry39 m c
  obtain ⟨z2, h2⟩ := entry59 m c
  obtain ⟨z3, h3⟩ := entry79 m c
  rw [out99, final4, unpack5_apply, pay4, h0, h1, h2, h3, pack5, pack5, pack5, pack5]

set_option maxHeartbeats 1000000 in
/-- The change of the weight `6` is read from the packed array. -/
theorem out102 (c : Dev nD) : Pipeline.afterTail₀ cfgs (dats m) 0 (V0 m) [hostOps1] c main_v102
    = unpack6 ((dats m 0 c).arrAt 4 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v80_0)
    = (dats m 0 c).arrAt 4 (cfgs 0).N from Pipeline.withArrays_arr (cfgs 0).spec winFacts0.arr_inj c _ _ 4]
  rfl

/-- The change of the weight `6` at each entry. -/
theorem d6_apply (c : Dev nD) (i : S2x2048.Idx) : (Pipeline.afterTail₀ cfgs (dats m) 0 (V0 m) [hostOps1] c main_v102 : FVec Ideal S2x2048 .f32) i
    = dl (m ((c : Thread nD τ).loc main_arg6) i) (m ((c : Thread nD τ).loc main_arg15) i) (m ((c : Thread nD τ).loc main_arg24) i) (m ((c : Thread nD τ).loc main_arg33) i) := by
  obtain ⟨z0, h0⟩ := entry19 m c
  obtain ⟨z1, h1⟩ := entry39 m c
  obtain ⟨z2, h2⟩ := entry59 m c
  obtain ⟨z3, h3⟩ := entry79 m c
  rw [out102, final4, unpack6_apply, pay4, h0, h1, h2, h3, pack6, pack6, pack6, pack6]

set_option maxHeartbeats 1000000 in
/-- The change of the weight `7` is read from the packed array. -/
theorem out106 (c : Dev nD) : Pipeline.afterTail₀ cfgs (dats m) 0 (V0 m) [hostOps1] c main_v106
    = unpack7 ((dats m 0 c).arrAt 4 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v80_0)
    = (dats m 0 c).arrAt 4 (cfgs 0).N from Pipeline.withArrays_arr (cfgs 0).spec winFacts0.arr_inj c _ _ 4]
  rfl

/-- The change of the weight `7` at each entry. -/
theorem d7_apply (c : Dev nD) (i : S2x3x1408.Idx) : (Pipeline.afterTail₀ cfgs (dats m) 0 (V0 m) [hostOps1] c main_v106 : FVec Ideal S2x3x1408 .f32) i
    = dl (m ((c : Thread nD τ).loc main_arg7) i) (m ((c : Thread nD τ).loc main_arg16) i) (m ((c : Thread nD τ).loc main_arg25) i) (m ((c : Thread nD τ).loc main_arg34) i) := by
  obtain ⟨z0, h0⟩ := entry19 m c
  obtain ⟨z1, h1⟩ := entry39 m c
  obtain ⟨z2, h2⟩ := entry59 m c
  obtain ⟨z3, h3⟩ := entry79 m c
  rw [out106, final4, unpack7_apply, pay4, h0, h1, h2, h3, pack7, pack7, pack7, pack7]

set_option maxHeartbeats 1000000 in
/-- The change of the weight `8` is read from the packed array. -/
theorem out108 (c : Dev nD) : Pipeline.afterTail₀ cfgs (dats m) 0 (V0 m) [hostOps1] c main_v108
    = unpack8 ((dats m 0 c).arrAt 4 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v80_0)
    = (dats m 0 c).arrAt 4 (cfgs 0).N from Pipeline.withArrays_arr (cfgs 0).spec winFacts0.arr_inj c _ _ 4]
  rfl

/-- The change of the weight `8` at each entry. -/
theorem d8_apply (c : Dev nD) (i : S2048.Idx) : (Pipeline.afterTail₀ cfgs (dats m) 0 (V0 m) [hostOps1] c main_v108 : FVec Ideal S2048 .f32) i
    = dl (m ((c : Thread nD τ).loc main_arg8) i) (m ((c : Thread nD τ).loc main_arg17) i) (m ((c : Thread nD τ).loc main_arg26) i) (m ((c : Thread nD τ).loc main_arg35) i) := by
  obtain ⟨z0, h0⟩ := entry19 m c
  obtain ⟨z1, h1⟩ := entry39 m c
  obtain ⟨z2, h2⟩ := entry59 m c
  obtain ⟨z3, h3⟩ := entry79 m c
  rw [out108, final4, unpack8_apply, pay4, h0, h1, h2, h3, pack8, pack8, pack8, pack8]

set_option maxHeartbeats 1000000 in
/-- The new first moment of the weight `0` is read from the packed array. -/
theorem out111 (c : Dev nD) : Pipeline.afterTail₀ cfgs (dats m) 0 (V0 m) [hostOps1] c main_v111
    = unpack0 ((dats m 0 c).arrAt 5 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v80_1)
    = (dats m 0 c).arrAt 5 (cfgs 0).N from Pipeline.withArrays_arr (cfgs 0).spec winFacts0.arr_inj c _ _ 5]
  rfl

/-- The new first moment of the weight `0` at each entry. -/
theorem m0_apply (c : Dev nD) (i : S2x2048.Idx) : (Pipeline.afterTail₀ cfgs (dats m) 0 (V0 m) [hostOps1] c main_v111 : FVec Ideal S2x2048 .f32) i
    = m1 (m ((c : Thread nD τ).loc main_arg9) i) (m ((c : Thread nD τ).loc main_arg18) i) := by
  obtain ⟨z1, h1⟩ := entry39 m c
  obtain ⟨z2, h2⟩ := entry59 m c
  rw [out111, final5, unpack0_apply, pay2, h1, h2, pack0, pack0]

set_option maxHeartbeats 1000000 in
/-- The new first moment of the weight `1` is read from the packed array. -/
theorem out114 (c : Dev nD) : Pipeline.afterTail₀ cfgs (dats m) 0 (V0 m) [hostOps1] c main_v114
    = unpack1 ((dats m 0 c).arrAt 5 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v80_1)
    = (dats m 0 c).arrAt 5 (cfgs 0).N from Pipeline.withArrays_arr (cfgs 0).spec winFacts0.arr_inj c _ _ 5]
  rfl

/-- The new first moment of the weight `1` at each entry. -/
theorem m1_apply (c : Dev nD) (i : S2x1024.Idx) : (Pipeline.afterTail₀ cfgs (dats m) 0 (V0 m) [hostOps1] c main_v114 : FVec Ideal S2x1024 .f32) i
    = m1 (m ((c : Thread nD τ).loc main_arg10) i) (m ((c : Thread nD τ).loc main_arg19) i) := by
  obtain ⟨z1, h1⟩ := entry39 m c
  obtain ⟨z2, h2⟩ := entry59 m c
  rw [out114, final5, unpack1_apply, pay2, h1, h2, pack1, pack1]

set_option maxHeartbeats 1000000 in
/-- The new first moment of the weight `2` is read from the packed array. -/
theorem out117 (c : Dev nD) : Pipeline.afterTail₀ cfgs (dats m) 0 (V0 m) [hostOps1] c main_v117
    = unpack2 ((dats m 0 c).arrAt 5 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v80_1)
    = (dats m 0 c).arrAt 5 (cfgs 0).N from Pipeline.withArrays_arr (cfgs 0).spec winFacts0.arr_inj c _ _ 5]
  rfl

/-- The new first moment of the weight `2` at each entry. -/
theorem m2_apply (c : Dev nD) (i : S2x1024.Idx) : (Pipeline.afterTail₀ cfgs (dats m) 0 (V0 m) [hostOps1] c main_v117 : FVec Ideal S2x1024 .f32) i
    = m1 (m ((c : Thread nD τ).loc main_arg11) i) (m ((c : Thread nD τ).loc main_arg20) i) := by
  obtain ⟨z1, h1⟩ := entry39 m c
  obtain ⟨z2, h2⟩ := entry59 m c
  rw [out117, final5, unpack2_apply, pay2, h1, h2, pack2, pack2]

set_option maxHeartbeats 1000000 in
/-- The new first moment of the weight `3` is read from the packed array. -/
theorem out120 (c : Dev nD) : Pipeline.afterTail₀ cfgs (dats m) 0 (V0 m) [hostOps1] c main_v120
    = unpack3 ((dats m 0 c).arrAt 5 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v80_1)
    = (dats m 0 c).arrAt 5 (cfgs 0).N from Pipeline.withArrays_arr (cfgs 0).spec winFacts0.arr_inj c _ _ 5]
  rfl

/-- The new first moment of the weight `3` at each entry. -/
theorem m3_apply (c : Dev nD) (i : S2x8x128x128.Idx) : (Pipeline.afterTail₀ cfgs (dats m) 0 (V0 m) [hostOps1] c main_v120 : FVec Ideal S2x8x128x128 .f32) i
    = m1 (m ((c : Thread nD τ).loc main_arg12) i) (m ((c : Thread nD τ).loc main_arg21) i) := by
  obtain ⟨z1, h1⟩ := entry39 m c
  obtain ⟨z2, h2⟩ := entry59 m c
  rw [out120, final5, unpack3_apply, pay2, h1, h2, pack3, pack3]

set_option maxHeartbeats 1000000 in
/-- The new first moment of the weight `4` is read from the packed array. -/
theorem out123 (c : Dev nD) : Pipeline.afterTail₀ cfgs (dats m) 0 (V0 m) [hostOps1] c main_v123
    = unpack4 ((dats m 0 c).arrAt 5 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v80_1)
    = (dats m 0 c).arrAt 5 (cfgs 0).N from Pipeline.withArrays_arr (cfgs 0).spec winFacts0.arr_inj c _ _ 5]
  rfl

/-- The new first moment of the weight `4` at each entry. -/
theorem m4_apply (c : Dev nD) (i : S2x128x8.Idx) : (Pipeline.afterTail₀ cfgs (dats m) 0 (V0 m) [hostOps1] c main_v123 : FVec Ideal S2x128x8 .f32) i
    = m1 (m ((c : Thread nD τ).loc main_arg13) i) (m ((c : Thread nD τ).loc main_arg22) i) := by
  obtain ⟨z1, h1⟩ := entry39 m c
  obtain ⟨z2, h2⟩ := entry59 m c
  rw [out123, final5, unpack4_apply, pay2, h1, h2, pack4, pack4]

set_option maxHeartbeats 1000000 in
/-- The new first moment of the weight `5` is read from the packed array. -/
theorem out127 (c : Dev nD) : Pipeline.afterTail₀ cfgs (dats m) 0 (V0 m) [hostOps1] c main_v127
    = unpack5 ((dats m 0 c).arrAt 5 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v80_1)
    = (dats m 0 c).arrAt 5 (cfgs 0).N from Pipeline.withArrays_arr (cfgs 0).spec winFacts0.arr_inj c _ _ 5]
  rfl

/-- The new first moment of the weight `5` at each entry. -/
theorem m5_apply (c : Dev nD) (i : S2x3x128.Idx) : (Pipeline.afterTail₀ cfgs (dats m) 0 (V0 m) [hostOps1] c main_v127 : FVec Ideal S2x3x128 .f32) i
    = m1 (m ((c : Thread nD τ).loc main_arg14) i) (m ((c : Thread nD τ).loc main_arg23) i) := by
  obtain ⟨z1, h1⟩ := entry39 m c
  obtain ⟨z2, h2⟩ := entry59 m c
  rw [out127, final5, unpack5_apply, pay2, h1, h2, pack5, pack5]

set_option maxHeartbeats 1000000 in
/-- The new first moment of the weight `6` is read from the packed array. -/
theorem out130 (c : Dev nD) : Pipeline.afterTail₀ cfgs (dats m) 0 (V0 m) [hostOps1] c main_v130
    = unpack6 ((dats m 0 c).arrAt 5 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v80_1)
    = (dats m 0 c).arrAt 5 (cfgs 0).N from Pipeline.withArrays_arr (cfgs 0).spec winFacts0.arr_inj c _ _ 5]
  rfl

/-- The new first moment of the weight `6` at each entry. -/
theorem m6_apply (c : Dev nD) (i : S2x2048.Idx) : (Pipeline.afterTail₀ cfgs (dats m) 0 (V0 m) [hostOps1] c main_v130 : FVec Ideal S2x2048 .f32) i
    = m1 (m ((c : Thread nD τ).loc main_arg15) i) (m ((c : Thread nD τ).loc main_arg24) i) := by
  obtain ⟨z1, h1⟩ := entry39 m c
  obtain ⟨z2, h2⟩ := entry59 m c
  rw [out130, final5, unpack6_apply, pay2, h1, h2, pack6, pack6]

set_option maxHeartbeats 1000000 in
/-- The new first moment of the weight `7` is read from the packed array. -/
theorem out134 (c : Dev nD) : Pipeline.afterTail₀ cfgs (dats m) 0 (V0 m) [hostOps1] c main_v134
    = unpack7 ((dats m 0 c).arrAt 5 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v80_1)
    = (dats m 0 c).arrAt 5 (cfgs 0).N from Pipeline.withArrays_arr (cfgs 0).spec winFacts0.arr_inj c _ _ 5]
  rfl

/-- The new first moment of the weight `7` at each entry. -/
theorem m7_apply (c : Dev nD) (i : S2x3x1408.Idx) : (Pipeline.afterTail₀ cfgs (dats m) 0 (V0 m) [hostOps1] c main_v134 : FVec Ideal S2x3x1408 .f32) i
    = m1 (m ((c : Thread nD τ).loc main_arg16) i) (m ((c : Thread nD τ).loc main_arg25) i) := by
  obtain ⟨z1, h1⟩ := entry39 m c
  obtain ⟨z2, h2⟩ := entry59 m c
  rw [out134, final5, unpack7_apply, pay2, h1, h2, pack7, pack7]

set_option maxHeartbeats 1000000 in
/-- The new first moment of the weight `8` is read from the packed array. -/
theorem out136 (c : Dev nD) : Pipeline.afterTail₀ cfgs (dats m) 0 (V0 m) [hostOps1] c main_v136
    = unpack8 ((dats m 0 c).arrAt 5 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v80_1)
    = (dats m 0 c).arrAt 5 (cfgs 0).N from Pipeline.withArrays_arr (cfgs 0).spec winFacts0.arr_inj c _ _ 5]
  rfl

/-- The new first moment of the weight `8` at each entry. -/
theorem m8_apply (c : Dev nD) (i : S2048.Idx) : (Pipeline.afterTail₀ cfgs (dats m) 0 (V0 m) [hostOps1] c main_v136 : FVec Ideal S2048 .f32) i
    = m1 (m ((c : Thread nD τ).loc main_arg17) i) (m ((c : Thread nD τ).loc main_arg26) i) := by
  obtain ⟨z1, h1⟩ := entry39 m c
  obtain ⟨z2, h2⟩ := entry59 m c
  rw [out136, final5, unpack8_apply, pay2, h1, h2, pack8, pack8]

set_option maxHeartbeats 1000000 in
/-- The new second moment of the weight `0` is read from the packed array. -/
theorem out139 (c : Dev nD) : Pipeline.afterTail₀ cfgs (dats m) 0 (V0 m) [hostOps1] c main_v139
    = unpack0 ((dats m 0 c).arrAt 6 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v80_2)
    = (dats m 0 c).arrAt 6 (cfgs 0).N from Pipeline.withArrays_arr (cfgs 0).spec winFacts0.arr_inj c _ _ 6]
  rfl

/-- The new second moment of the weight `0` at each entry. -/
theorem v0_apply (c : Dev nD) (i : S2x2048.Idx) : (Pipeline.afterTail₀ cfgs (dats m) 0 (V0 m) [hostOps1] c main_v139 : FVec Ideal S2x2048 .f32) i
    = v1 (m ((c : Thread nD τ).loc main_arg9) i) (m ((c : Thread nD τ).loc main_arg27) i) := by
  obtain ⟨z1, h1⟩ := entry39 m c
  obtain ⟨z3, h3⟩ := entry79 m c
  rw [out139, final6, unpack0_apply, pay3, h1, h3, pack0, pack0]

set_option maxHeartbeats 1000000 in
/-- The new second moment of the weight `1` is read from the packed array. -/
theorem out142 (c : Dev nD) : Pipeline.afterTail₀ cfgs (dats m) 0 (V0 m) [hostOps1] c main_v142
    = unpack1 ((dats m 0 c).arrAt 6 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v80_2)
    = (dats m 0 c).arrAt 6 (cfgs 0).N from Pipeline.withArrays_arr (cfgs 0).spec winFacts0.arr_inj c _ _ 6]
  rfl

/-- The new second moment of the weight `1` at each entry. -/
theorem v1_apply (c : Dev nD) (i : S2x1024.Idx) : (Pipeline.afterTail₀ cfgs (dats m) 0 (V0 m) [hostOps1] c main_v142 : FVec Ideal S2x1024 .f32) i
    = v1 (m ((c : Thread nD τ).loc main_arg10) i) (m ((c : Thread nD τ).loc main_arg28) i) := by
  obtain ⟨z1, h1⟩ := entry39 m c
  obtain ⟨z3, h3⟩ := entry79 m c
  rw [out142, final6, unpack1_apply, pay3, h1, h3, pack1, pack1]

set_option maxHeartbeats 1000000 in
/-- The new second moment of the weight `2` is read from the packed array. -/
theorem out145 (c : Dev nD) : Pipeline.afterTail₀ cfgs (dats m) 0 (V0 m) [hostOps1] c main_v145
    = unpack2 ((dats m 0 c).arrAt 6 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v80_2)
    = (dats m 0 c).arrAt 6 (cfgs 0).N from Pipeline.withArrays_arr (cfgs 0).spec winFacts0.arr_inj c _ _ 6]
  rfl

/-- The new second moment of the weight `2` at each entry. -/
theorem v2_apply (c : Dev nD) (i : S2x1024.Idx) : (Pipeline.afterTail₀ cfgs (dats m) 0 (V0 m) [hostOps1] c main_v145 : FVec Ideal S2x1024 .f32) i
    = v1 (m ((c : Thread nD τ).loc main_arg11) i) (m ((c : Thread nD τ).loc main_arg29) i) := by
  obtain ⟨z1, h1⟩ := entry39 m c
  obtain ⟨z3, h3⟩ := entry79 m c
  rw [out145, final6, unpack2_apply, pay3, h1, h3, pack2, pack2]

set_option maxHeartbeats 1000000 in
/-- The new second moment of the weight `3` is read from the packed array. -/
theorem out148 (c : Dev nD) : Pipeline.afterTail₀ cfgs (dats m) 0 (V0 m) [hostOps1] c main_v148
    = unpack3 ((dats m 0 c).arrAt 6 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v80_2)
    = (dats m 0 c).arrAt 6 (cfgs 0).N from Pipeline.withArrays_arr (cfgs 0).spec winFacts0.arr_inj c _ _ 6]
  rfl

/-- The new second moment of the weight `3` at each entry. -/
theorem v3_apply (c : Dev nD) (i : S2x8x128x128.Idx) : (Pipeline.afterTail₀ cfgs (dats m) 0 (V0 m) [hostOps1] c main_v148 : FVec Ideal S2x8x128x128 .f32) i
    = v1 (m ((c : Thread nD τ).loc main_arg12) i) (m ((c : Thread nD τ).loc main_arg30) i) := by
  obtain ⟨z1, h1⟩ := entry39 m c
  obtain ⟨z3, h3⟩ := entry79 m c
  rw [out148, final6, unpack3_apply, pay3, h1, h3, pack3, pack3]

set_option maxHeartbeats 1000000 in
/-- The new second moment of the weight `4` is read from the packed array. -/
theorem out151 (c : Dev nD) : Pipeline.afterTail₀ cfgs (dats m) 0 (V0 m) [hostOps1] c main_v151
    = unpack4 ((dats m 0 c).arrAt 6 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v80_2)
    = (dats m 0 c).arrAt 6 (cfgs 0).N from Pipeline.withArrays_arr (cfgs 0).spec winFacts0.arr_inj c _ _ 6]
  rfl

/-- The new second moment of the weight `4` at each entry. -/
theorem v4_apply (c : Dev nD) (i : S2x128x8.Idx) : (Pipeline.afterTail₀ cfgs (dats m) 0 (V0 m) [hostOps1] c main_v151 : FVec Ideal S2x128x8 .f32) i
    = v1 (m ((c : Thread nD τ).loc main_arg13) i) (m ((c : Thread nD τ).loc main_arg31) i) := by
  obtain ⟨z1, h1⟩ := entry39 m c
  obtain ⟨z3, h3⟩ := entry79 m c
  rw [out151, final6, unpack4_apply, pay3, h1, h3, pack4, pack4]

set_option maxHeartbeats 1000000 in
/-- The new second moment of the weight `5` is read from the packed array. -/
theorem out155 (c : Dev nD) : Pipeline.afterTail₀ cfgs (dats m) 0 (V0 m) [hostOps1] c main_v155
    = unpack5 ((dats m 0 c).arrAt 6 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v80_2)
    = (dats m 0 c).arrAt 6 (cfgs 0).N from Pipeline.withArrays_arr (cfgs 0).spec winFacts0.arr_inj c _ _ 6]
  rfl

/-- The new second moment of the weight `5` at each entry. -/
theorem v5_apply (c : Dev nD) (i : S2x3x128.Idx) : (Pipeline.afterTail₀ cfgs (dats m) 0 (V0 m) [hostOps1] c main_v155 : FVec Ideal S2x3x128 .f32) i
    = v1 (m ((c : Thread nD τ).loc main_arg14) i) (m ((c : Thread nD τ).loc main_arg32) i) := by
  obtain ⟨z1, h1⟩ := entry39 m c
  obtain ⟨z3, h3⟩ := entry79 m c
  rw [out155, final6, unpack5_apply, pay3, h1, h3, pack5, pack5]

set_option maxHeartbeats 1000000 in
/-- The new second moment of the weight `6` is read from the packed array. -/
theorem out158 (c : Dev nD) : Pipeline.afterTail₀ cfgs (dats m) 0 (V0 m) [hostOps1] c main_v158
    = unpack6 ((dats m 0 c).arrAt 6 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v80_2)
    = (dats m 0 c).arrAt 6 (cfgs 0).N from Pipeline.withArrays_arr (cfgs 0).spec winFacts0.arr_inj c _ _ 6]
  rfl

/-- The new second moment of the weight `6` at each entry. -/
theorem v6_apply (c : Dev nD) (i : S2x2048.Idx) : (Pipeline.afterTail₀ cfgs (dats m) 0 (V0 m) [hostOps1] c main_v158 : FVec Ideal S2x2048 .f32) i
    = v1 (m ((c : Thread nD τ).loc main_arg15) i) (m ((c : Thread nD τ).loc main_arg33) i) := by
  obtain ⟨z1, h1⟩ := entry39 m c
  obtain ⟨z3, h3⟩ := entry79 m c
  rw [out158, final6, unpack6_apply, pay3, h1, h3, pack6, pack6]

set_option maxHeartbeats 1000000 in
/-- The new second moment of the weight `7` is read from the packed array. -/
theorem out162 (c : Dev nD) : Pipeline.afterTail₀ cfgs (dats m) 0 (V0 m) [hostOps1] c main_v162
    = unpack7 ((dats m 0 c).arrAt 6 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v80_2)
    = (dats m 0 c).arrAt 6 (cfgs 0).N from Pipeline.withArrays_arr (cfgs 0).spec winFacts0.arr_inj c _ _ 6]
  rfl

/-- The new second moment of the weight `7` at each entry. -/
theorem v7_apply (c : Dev nD) (i : S2x3x1408.Idx) : (Pipeline.afterTail₀ cfgs (dats m) 0 (V0 m) [hostOps1] c main_v162 : FVec Ideal S2x3x1408 .f32) i
    = v1 (m ((c : Thread nD τ).loc main_arg16) i) (m ((c : Thread nD τ).loc main_arg34) i) := by
  obtain ⟨z1, h1⟩ := entry39 m c
  obtain ⟨z3, h3⟩ := entry79 m c
  rw [out162, final6, unpack7_apply, pay3, h1, h3, pack7, pack7]

set_option maxHeartbeats 1000000 in
/-- The new second moment of the weight `8` is read from the packed array. -/
theorem out164 (c : Dev nD) : Pipeline.afterTail₀ cfgs (dats m) 0 (V0 m) [hostOps1] c main_v164
    = unpack8 ((dats m 0 c).arrAt 6 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v80_2)
    = (dats m 0 c).arrAt 6 (cfgs 0).N from Pipeline.withArrays_arr (cfgs 0).spec winFacts0.arr_inj c _ _ 6]
  rfl

/-- The new second moment of the weight `8` at each entry. -/
theorem v8_apply (c : Dev nD) (i : S2048.Idx) : (Pipeline.afterTail₀ cfgs (dats m) 0 (V0 m) [hostOps1] c main_v164 : FVec Ideal S2048 .f32) i
    = v1 (m ((c : Thread nD τ).loc main_arg17) i) (m ((c : Thread nD τ).loc main_arg35) i) := by
  obtain ⟨z1, h1⟩ := entry39 m c
  obtain ⟨z3, h3⟩ := entry79 m c
  rw [out164, final6, unpack8_apply, pay3, h1, h3, pack8, pack8]

end Cert.AdamsProof
end
-- ==== Proof.Adams.lean ====
module

public import proofs.«01_k».proof.Defs
public import proofs.«01_k».proof.Proof.Gen.AdamsIdeal.Frame
public import proofs.«01_k».proof.Proof.Gen.AdamsRefIdeal.Read
public import proofs.«01_k».proof.Proof.AdamsVals
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamsProof
open Cert.AdamsIdeal Cert.AdamsIdeal.Gen

set_option maxHeartbeats 1000000 in
/-- The call and the plain lines end with equal results from equal arguments. -/
theorem equal : Cert.algebraic_AdamsIdeal_AdamsRefIdeal := by
  pair_intro
  · run_from Cert.AdamsIdeal.Gen.run_main m g
    · exact W_main_arg0 m (dats m) c
    · exact W_main_arg1 m (dats m) c
    · exact W_main_arg2 m (dats m) c
    · exact W_main_arg3 m (dats m) c
    · exact W_main_arg4 m (dats m) c
    · exact W_main_arg5 m (dats m) c
    · exact W_main_arg6 m (dats m) c
    · exact W_main_arg7 m (dats m) c
    · exact W_main_arg8 m (dats m) c
    · exact W_main_arg9 m (dats m) c
    · exact W_main_arg10 m (dats m) c
    · exact W_main_arg11 m (dats m) c
    · exact W_main_arg12 m (dats m) c
    · exact W_main_arg13 m (dats m) c
    · exact W_main_arg14 m (dats m) c
    · exact W_main_arg15 m (dats m) c
    · exact W_main_arg16 m (dats m) c
    · exact W_main_arg17 m (dats m) c
    · exact W_main_arg18 m (dats m) c
    · exact W_main_arg19 m (dats m) c
    · exact W_main_arg20 m (dats m) c
    · exact W_main_arg21 m (dats m) c
    · exact W_main_arg22 m (dats m) c
    · exact W_main_arg23 m (dats m) c
    · exact W_main_arg24 m (dats m) c
    · exact W_main_arg25 m (dats m) c
    · exact W_main_arg26 m (dats m) c
    · exact W_main_arg27 m (dats m) c
    · exact W_main_arg28 m (dats m) c
    · exact W_main_arg29 m (dats m) c
    · exact W_main_arg30 m (dats m) c
    · exact W_main_arg31 m (dats m) c
    · exact W_main_arg32 m (dats m) c
    · exact W_main_arg33 m (dats m) c
    · exact W_main_arg34 m (dats m) c
    · exact W_main_arg35 m (dats m) c
  · run_from Cert.AdamsRefIdeal.Value.run m' g'
    · refine funext fun i => Eq.trans ?_ (d0_apply m c i).symm
      pointwise [dl, m1, v1]
    · refine funext fun i => Eq.trans ?_ (d1_apply m c i).symm
      pointwise [dl, m1, v1]
    · refine funext fun i => Eq.trans ?_ (d2_apply m c i).symm
      pointwise [dl, m1, v1]
    · refine funext fun i => Eq.trans ?_ (d3_apply m c i).symm
      pointwise [dl, m1, v1]
    · refine funext fun i => Eq.trans ?_ (d4_apply m c i).symm
      pointwise [dl, m1, v1]
    · refine funext fun i => Eq.trans ?_ (d5_apply m c i).symm
      pointwise [dl, m1, v1]
    · refine funext fun i => Eq.trans ?_ (d6_apply m c i).symm
      pointwise [dl, m1, v1]
    · refine funext fun i => Eq.trans ?_ (d7_apply m c i).symm
      pointwise [dl, m1, v1]
    · refine funext fun i => Eq.trans ?_ (d8_apply m c i).symm
      pointwise [dl, m1, v1]
    · refine funext fun i => Eq.trans ?_ (m0_apply m c i).symm
      pointwise [dl, m1, v1]
    · refine funext fun i => Eq.trans ?_ (m1_apply m c i).symm
      pointwise [dl, m1, v1]
    · refine funext fun i => Eq.trans ?_ (m2_apply m c i).symm
      pointwise [dl, m1, v1]
    · refine funext fun i => Eq.trans ?_ (m3_apply m c i).symm
      pointwise [dl, m1, v1]
    · refine funext fun i => Eq.trans ?_ (m4_apply m c i).symm
      pointwise [dl, m1, v1]
    · refine funext fun i => Eq.trans ?_ (m5_apply m c i).symm
      pointwise [dl, m1, v1]
    · refine funext fun i => Eq.trans ?_ (m6_apply m c i).symm
      pointwise [dl, m1, v1]
    · refine funext fun i => Eq.trans ?_ (m7_apply m c i).symm
      pointwise [dl, m1, v1]
    · refine funext fun i => Eq.trans ?_ (m8_apply m c i).symm
      pointwise [dl, m1, v1]
    · refine funext fun i => Eq.trans ?_ (v0_apply m c i).symm
      pointwise [dl, m1, v1]
    · refine funext fun i => Eq.trans ?_ (v1_apply m c i).symm
      pointwise [dl, m1, v1]
    · refine funext fun i => Eq.trans ?_ (v2_apply m c i).symm
      pointwise [dl, m1, v1]
    · refine funext fun i => Eq.trans ?_ (v3_apply m c i).symm
      pointwise [dl, m1, v1]
    · refine funext fun i => Eq.trans ?_ (v4_apply m c i).symm
      pointwise [dl, m1, v1]
    · refine funext fun i => Eq.trans ?_ (v5_apply m c i).symm
      pointwise [dl, m1, v1]
    · refine funext fun i => Eq.trans ?_ (v6_apply m c i).symm
      pointwise [dl, m1, v1]
    · refine funext fun i => Eq.trans ?_ (v7_apply m c i).symm
      pointwise [dl, m1, v1]
    · refine funext fun i => Eq.trans ?_ (v8_apply m c i).symm
      pointwise [dl, m1, v1]

end Cert.AdamsProof
end
-- ==== Proof.SumsPack.lean ====
module

public import proofs.«01_k».proof.Proof.Gen.SumsIdeal
public import Idealize.ShloMosaic.Lib.Pointwise

@[expose] public section

set_option maxRecDepth 16384

noncomputable section

open Idealize.ShloMosaic

namespace Cert.SumsPack

open Cert.SumsIdeal Cert.SumsIdeal.Gen

/-- The rows of the packed array that hold the gradient `0`, on each device. -/
def rows0 (w : FVec Ideal S8x2x2048 .f32) : FVec Ideal S8x32x128 .f32 :=
  shapeCast S8x32x128 (shapeCast S8x4096 w shapeCasts_S8x2x2048_S8x4096) shapeCasts_S8x4096_S8x32x128

/-- The rows of the packed array that hold the gradient `1`, on each device. -/
def rows1 (w : FVec Ideal S8x2x1024 .f32) : FVec Ideal S8x16x128 .f32 :=
  shapeCast S8x16x128 (shapeCast S8x2048 w shapeCasts_S8x2x1024_S8x2048) shapeCasts_S8x2048_S8x16x128

/-- The rows of the packed array that hold the gradient `2`, on each device. -/
def rows2 (w : FVec Ideal S8x2x1024 .f32) : FVec Ideal S8x16x128 .f32 :=
  shapeCast S8x16x128 (shapeCast S8x2048 w shapeCasts_S8x2x1024_S8x2048) shapeCasts_S8x2048_S8x16x128

/-- The rows of the packed array that hold the gradient `3`, on each device. -/
def rows3 (w : FVec Ideal S8x2x8x128x128 .f32) : FVec Ideal S8x2048x128 .f32 :=
  shapeCast S8x2048x128 (shapeCast S8x262144 w shapeCasts_S8x2x8x128x128_S8x262144) shapeCasts_S8x262144_S8x2048x128

/-- The rows of the packed array that hold the gradient `4`, on each device. -/
def rows4 (w : FVec Ideal S8x2x128x8 .f32) : FVec Ideal S8x16x128 .f32 :=
  shapeCast S8x16x128 (shapeCast S8x2048 w shapeCasts_S8x2x128x8_S8x2048) shapeCasts_S8x2048_S8x16x128

/-- The rows of the packed array that hold the gradient `5`, on each device. -/
def rows5 (w : FVec Ideal S8x2x3x1024 .f32) : FVec Ideal S8x48x128 .f32 :=
  shapeCast S8x48x128 (shapeCast S8x6144 w shapeCasts_S8x2x3x1024_S8x6144) shapeCasts_S8x6144_S8x48x128

/-- The rows of the packed array that hold the gradient `6`, on each device. -/
def rows6 (w : FVec Ideal S8x2x2048 .f32) : FVec Ideal S8x32x128 .f32 :=
  shapeCast S8x32x128 (shapeCast S8x4096 w shapeCasts_S8x2x2048_S8x4096) shapeCasts_S8x4096_S8x32x128

/-- The rows of the packed array that hold the gradient `7`, on each device. -/
def rows7 (w : FVec Ideal S8x2x3x11264 .f32) : FVec Ideal S8x528x128 .f32 :=
  shapeCast S8x528x128 (shapeCast S8x67584 w shapeCasts_S8x2x3x11264_S8x67584) shapeCasts_S8x67584_S8x528x128

/-- The rows of the packed array that hold the gradient `8`, on each device. -/
def rows8 (w : FVec Ideal S8x2048 .f32) : FVec Ideal S8x16x128 .f32 :=
  shapeCast S8x16x128 w shapeCasts_S8x2048_S8x16x128

/-- The nine gradients packed one after another, on each device. -/
def pack (w0 : FVec Ideal S8x2x2048 .f32) (w1 : FVec Ideal S8x2x1024 .f32) (w2 : FVec Ideal S8x2x1024 .f32) (w3 : FVec Ideal S8x2x8x128x128 .f32) (w4 : FVec Ideal S8x2x128x8 .f32) (w5 : FVec Ideal S8x2x3x1024 .f32) (w6 : FVec Ideal S8x2x2048 .f32) (w7 : FVec Ideal S8x2x3x11264 .f32) (w8 : FVec Ideal S8x2048 .f32) : FVec Ideal S8x2752x128 .f32 :=
  concatenate S8x2752x128 1 [⟨S8x32x128, rows0 w0⟩, ⟨S8x16x128, rows1 w1⟩, ⟨S8x16x128, rows2 w2⟩, ⟨S8x2048x128, rows3 w3⟩, ⟨S8x16x128, rows4 w4⟩, ⟨S8x48x128, rows5 w5⟩, ⟨S8x32x128, rows6 w6⟩, ⟨S8x528x128, rows7 w7⟩, ⟨S8x16x128, rows8 w8⟩]
    concatenates_S8x32x128_S8x16x128_S8x16x128_S8x2048x128_S8x16x128_S8x48x128_S8x32x128_S8x528x128_S8x16x128_S8x2752x128_d1

/-- The gradient `0` of a packed array. -/
def unpack0 (X : FVec Ideal S2752x128 .f32) : FVec Ideal S2x2048 .f32 :=
  shapeCast S2x2048 (shapeCast S4096 (extractStridedSlice S32x128 ![0, 0] X slices_S2752x128_S32x128_0_0) shapeCasts_S32x128_S4096) shapeCasts_S4096_S2x2048

/-- The row of the packed array that holds each entry of the gradient `0`. -/
def row0 (i : S2x2048.Idx) : Fin 2752 :=
  have h0 : (i 0).val < 2 := (i 0).isLt
  have h1 : (i 1).val < 2048 := (i 1).isLt
  ⟨0 + ((i 0).val * 2048 + (i 1).val) / 128, by omega⟩

/-- The column of the packed array that holds each entry of the gradient `0`. -/
def col0 (i : S2x2048.Idx) : Fin 128 := ⟨((i 0).val * 2048 + (i 1).val) % 128, Nat.mod_lt _ (by norm_num)⟩

/-- Unpacking reads the packed array there. -/
theorem unpack0_apply (X : FVec Ideal S2752x128 .f32) (i : S2x2048.Idx) : unpack0 X i = X (ix2 (row0 i) (col0 i)) := by
  have h0 : (i 0).val < 2 := (i 0).isLt
  have h1 : (i 1).val < 2048 := (i 1).isLt
  rw [unpack0, row0, col0]
  pointwise []
  exact congrArg X (congrArg₂ ix2 (Fin.ext (by dsimp only; omega)) (Fin.ext (by dsimp only; omega)))

/-- Packing puts each entry there. -/
theorem pack0 (w0 : FVec Ideal S8x2x2048 .f32) (w1 : FVec Ideal S8x2x1024 .f32) (w2 : FVec Ideal S8x2x1024 .f32) (w3 : FVec Ideal S8x2x8x128x128 .f32) (w4 : FVec Ideal S8x2x128x8 .f32) (w5 : FVec Ideal S8x2x3x1024 .f32) (w6 : FVec Ideal S8x2x2048 .f32) (w7 : FVec Ideal S8x2x3x11264 .f32) (w8 : FVec Ideal S8x2048 .f32) (d : Fin 8) (i : S2x2048.Idx) : pack w0 w1 w2 w3 w4 w5 w6 w7 w8 (ix3 d (row0 i) (col0 i)) = w0 (ix3 d (i 0) (i 1)) := by
  have h0 : (i 0).val < 2 := (i 0).isLt
  have h1 : (i 1).val < 2048 := (i 1).isLt
  rw [pack, row0, col0]
  pointwise [rows0]
  rw [dif_pos (by omega)]

/-- The gradient `1` of a packed array. -/
def unpack1 (X : FVec Ideal S2752x128 .f32) : FVec Ideal S2x1024 .f32 :=
  shapeCast S2x1024 (shapeCast S2048 (extractStridedSlice S16x128 ![32, 0] X slices_S2752x128_S16x128_32_0) shapeCasts_S16x128_S2048) shapeCasts_S2048_S2x1024

/-- The row of the packed array that holds each entry of the gradient `1`. -/
def row1 (i : S2x1024.Idx) : Fin 2752 :=
  have h0 : (i 0).val < 2 := (i 0).isLt
  have h1 : (i 1).val < 1024 := (i 1).isLt
  ⟨32 + ((i 0).val * 1024 + (i 1).val) / 128, by omega⟩

/-- The column of the packed array that holds each entry of the gradient `1`. -/
def col1 (i : S2x1024.Idx) : Fin 128 := ⟨((i 0).val * 1024 + (i 1).val) % 128, Nat.mod_lt _ (by norm_num)⟩

/-- Unpacking reads the packed array there. -/
theorem unpack1_apply (X : FVec Ideal S2752x128 .f32) (i : S2x1024.Idx) : unpack1 X i = X (ix2 (row1 i) (col1 i)) := by
  have h0 : (i 0).val < 2 := (i 0).isLt
  have h1 : (i 1).val < 1024 := (i 1).isLt
  rw [unpack1, row1, col1]
  pointwise []
  exact congrArg X (congrArg₂ ix2 (Fin.ext (by dsimp only; omega)) (Fin.ext (by dsimp only; omega)))

/-- Packing puts each entry there. -/
theorem pack1 (w0 : FVec Ideal S8x2x2048 .f32) (w1 : FVec Ideal S8x2x1024 .f32) (w2 : FVec Ideal S8x2x1024 .f32) (w3 : FVec Ideal S8x2x8x128x128 .f32) (w4 : FVec Ideal S8x2x128x8 .f32) (w5 : FVec Ideal S8x2x3x1024 .f32) (w6 : FVec Ideal S8x2x2048 .f32) (w7 : FVec Ideal S8x2x3x11264 .f32) (w8 : FVec Ideal S8x2048 .f32) (d : Fin 8) (i : S2x1024.Idx) : pack w0 w1 w2 w3 w4 w5 w6 w7 w8 (ix3 d (row1 i) (col1 i)) = w1 (ix3 d (i 0) (i 1)) := by
  have h0 : (i 0).val < 2 := (i 0).isLt
  have h1 : (i 1).val < 1024 := (i 1).isLt
  rw [pack, row1, col1]
  pointwise [rows1]
  rw [dif_pos (by omega)]

/-- The gradient `2` of a packed array. -/
def unpack2 (X : FVec Ideal S2752x128 .f32) : FVec Ideal S2x1024 .f32 :=
  shapeCast S2x1024 (shapeCast S2048 (extractStridedSlice S16x128 ![48, 0] X slices_S2752x128_S16x128_48_0) shapeCasts_S16x128_S2048) shapeCasts_S2048_S2x1024

/-- The row of the packed array that holds each entry of the gradient `2`. -/
def row2 (i : S2x1024.Idx) : Fin 2752 :=
  have h0 : (i 0).val < 2 := (i 0).isLt
  have h1 : (i 1).val < 1024 := (i 1).isLt
  ⟨48 + ((i 0).val * 1024 + (i 1).val) / 128, by omega⟩

/-- The column of the packed array that holds each entry of the gradient `2`. -/
def col2 (i : S2x1024.Idx) : Fin 128 := ⟨((i 0).val * 1024 + (i 1).val) % 128, Nat.mod_lt _ (by norm_num)⟩

/-- Unpacking reads the packed array there. -/
theorem unpack2_apply (X : FVec Ideal S2752x128 .f32) (i : S2x1024.Idx) : unpack2 X i = X (ix2 (row2 i) (col2 i)) := by
  have h0 : (i 0).val < 2 := (i 0).isLt
  have h1 : (i 1).val < 1024 := (i 1).isLt
  rw [unpack2, row2, col2]
  pointwise []
  exact congrArg X (congrArg₂ ix2 (Fin.ext (by dsimp only; omega)) (Fin.ext (by dsimp only; omega)))

/-- Packing puts each entry there. -/
theorem pack2 (w0 : FVec Ideal S8x2x2048 .f32) (w1 : FVec Ideal S8x2x1024 .f32) (w2 : FVec Ideal S8x2x1024 .f32) (w3 : FVec Ideal S8x2x8x128x128 .f32) (w4 : FVec Ideal S8x2x128x8 .f32) (w5 : FVec Ideal S8x2x3x1024 .f32) (w6 : FVec Ideal S8x2x2048 .f32) (w7 : FVec Ideal S8x2x3x11264 .f32) (w8 : FVec Ideal S8x2048 .f32) (d : Fin 8) (i : S2x1024.Idx) : pack w0 w1 w2 w3 w4 w5 w6 w7 w8 (ix3 d (row2 i) (col2 i)) = w2 (ix3 d (i 0) (i 1)) := by
  have h0 : (i 0).val < 2 := (i 0).isLt
  have h1 : (i 1).val < 1024 := (i 1).isLt
  rw [pack, row2, col2]
  pointwise [rows2]
  rw [dif_neg (by omega), dif_neg (by omega), dif_pos (by omega)]

/-- The gradient `3` of a packed array. -/
def unpack3 (X : FVec Ideal S2752x128 .f32) : FVec Ideal S2x8x128x128 .f32 :=
  shapeCast S2x8x128x128 (shapeCast S262144 (extractStridedSlice S2048x128 ![64, 0] X slices_S2752x128_S2048x128_64_0) shapeCasts_S2048x128_S262144) shapeCasts_S262144_S2x8x128x128

/-- The row of the packed array that holds each entry of the gradient `3`. -/
def row3 (i : S2x8x128x128.Idx) : Fin 2752 :=
  have h0 : (i 0).val < 2 := (i 0).isLt
  have h1 : (i 1).val < 8 := (i 1).isLt
  have h2 : (i 2).val < 128 := (i 2).isLt
  have h3 : (i 3).val < 128 := (i 3).isLt
  ⟨64 + ((((i 0).val * 8 + (i 1).val) * 128 + (i 2).val) * 128 + (i 3).val) / 128, by omega⟩

/-- The column of the packed array that holds each entry of the gradient `3`. -/
def col3 (i : S2x8x128x128.Idx) : Fin 128 := ⟨((((i 0).val * 8 + (i 1).val) * 128 + (i 2).val) * 128 + (i 3).val) % 128, Nat.mod_lt _ (by norm_num)⟩

/-- Unpacking reads the packed array there. -/
theorem unpack3_apply (X : FVec Ideal S2752x128 .f32) (i : S2x8x128x128.Idx) : unpack3 X i = X (ix2 (row3 i) (col3 i)) := by
  have h0 : (i 0).val < 2 := (i 0).isLt
  have h1 : (i 1).val < 8 := (i 1).isLt
  have h2 : (i 2).val < 128 := (i 2).isLt
  have h3 : (i 3).val < 128 := (i 3).isLt
  rw [unpack3, row3, col3]
  pointwise []
  exact congrArg X (congrArg₂ ix2 (Fin.ext (by dsimp only; omega)) (Fin.ext (by dsimp only; omega)))

/-- Packing puts each entry there. -/
theorem pack3 (w0 : FVec Ideal S8x2x2048 .f32) (w1 : FVec Ideal S8x2x1024 .f32) (w2 : FVec Ideal S8x2x1024 .f32) (w3 : FVec Ideal S8x2x8x128x128 .f32) (w4 : FVec Ideal S8x2x128x8 .f32) (w5 : FVec Ideal S8x2x3x1024 .f32) (w6 : FVec Ideal S8x2x2048 .f32) (w7 : FVec Ideal S8x2x3x11264 .f32) (w8 : FVec Ideal S8x2048 .f32) (d : Fin 8) (i : S2x8x128x128.Idx) : pack w0 w1 w2 w3 w4 w5 w6 w7 w8 (ix3 d (row3 i) (col3 i)) = w3 (ix5 d (i 0) (i 1) (i 2) (i 3)) := by
  have h0 : (i 0).val < 2 := (i 0).isLt
  have h1 : (i 1).val < 8 := (i 1).isLt
  have h2 : (i 2).val < 128 := (i 2).isLt
  have h3 : (i 3).val < 128 := (i 3).isLt
  rw [pack, row3, col3]
  pointwise [rows3]
  rw [dif_neg (by omega), dif_neg (by omega), dif_neg (by omega), dif_pos (by omega)]
  exact congrArg w3 (congrArg (ix5 d (i 0) (i 1) (i 2)) (Fin.ext (by dsimp only; omega)))

/-- The gradient `4` of a packed array. -/
def unpack4 (X : FVec Ideal S2752x128 .f32) : FVec Ideal S2x128x8 .f32 :=
  shapeCast S2x128x8 (shapeCast S2048 (extractStridedSlice S16x128 ![2112, 0] X slices_S2752x128_S16x128_2112_0) shapeCasts_S16x128_S2048) shapeCasts_S2048_S2x128x8

/-- The row of the packed array that holds each entry of the gradient `4`. -/
def row4 (i : S2x128x8.Idx) : Fin 2752 :=
  have h0 : (i 0).val < 2 := (i 0).isLt
  have h1 : (i 1).val < 128 := (i 1).isLt
  have h2 : (i 2).val < 8 := (i 2).isLt
  ⟨2112 + (((i 0).val * 128 + (i 1).val) * 8 + (i 2).val) / 128, by omega⟩

/-- The column of the packed array that holds each entry of the gradient `4`. -/
def col4 (i : S2x128x8.Idx) : Fin 128 := ⟨(((i 0).val * 128 + (i 1).val) * 8 + (i 2).val) % 128, Nat.mod_lt _ (by norm_num)⟩

/-- Unpacking reads the packed array there. -/
theorem unpack4_apply (X : FVec Ideal S2752x128 .f32) (i : S2x128x8.Idx) : unpack4 X i = X (ix2 (row4 i) (col4 i)) := by
  have h0 : (i 0).val < 2 := (i 0).isLt
  have h1 : (i 1).val < 128 := (i 1).isLt
  have h2 : (i 2).val < 8 := (i 2).isLt
  rw [unpack4, row4, col4]
  pointwise []
  exact congrArg X (congrArg₂ ix2 (Fin.ext (by dsimp only; omega)) (Fin.ext (by dsimp only; omega)))

/-- Packing puts each entry there. -/
theorem pack4 (w0 : FVec Ideal S8x2x2048 .f32) (w1 : FVec Ideal S8x2x1024 .f32) (w2 : FVec Ideal S8x2x1024 .f32) (w3 : FVec Ideal S8x2x8x128x128 .f32) (w4 : FVec Ideal S8x2x128x8 .f32) (w5 : FVec Ideal S8x2x3x1024 .f32) (w6 : FVec Ideal S8x2x2048 .f32) (w7 : FVec Ideal S8x2x3x11264 .f32) (w8 : FVec Ideal S8x2048 .f32) (d : Fin 8) (i : S2x128x8.Idx) : pack w0 w1 w2 w3 w4 w5 w6 w7 w8 (ix3 d (row4 i) (col4 i)) = w4 (ix4 d (i 0) (i 1) (i 2)) := by
  have h0 : (i 0).val < 2 := (i 0).isLt
  have h1 : (i 1).val < 128 := (i 1).isLt
  have h2 : (i 2).val < 8 := (i 2).isLt
  rw [pack, row4, col4]
  pointwise [rows4]
  rw [dif_neg (by omega), dif_neg (by omega), dif_neg (by omega), dif_neg (by omega), dif_pos (by omega)]

/-- The gradient `5` of a packed array. -/
def unpack5 (X : FVec Ideal S2752x128 .f32) : FVec Ideal S2x3x1024 .f32 :=
  shapeCast S2x3x1024 (shapeCast S6144 (extractStridedSlice S48x128 ![2128, 0] X slices_S2752x128_S48x128_2128_0) shapeCasts_S48x128_S6144) shapeCasts_S6144_S2x3x1024

/-- The row of the packed array that holds each entry of the gradient `5`. -/
def row5 (i : S2x3x1024.Idx) : Fin 2752 :=
  have h0 : (i 0).val < 2 := (i 0).isLt
  have h1 : (i 1).val < 3 := (i 1).isLt
  have h2 : (i 2).val < 1024 := (i 2).isLt
  ⟨2128 + (((i 0).val * 3 + (i 1).val) * 1024 + (i 2).val) / 128, by omega⟩

/-- The column of the packed array that holds each entry of the gradient `5`. -/
def col5 (i : S2x3x1024.Idx) : Fin 128 := ⟨(((i 0).val * 3 + (i 1).val) * 1024 + (i 2).val) % 128, Nat.mod_lt _ (by norm_num)⟩

/-- Unpacking reads the packed array there. -/
theorem unpack5_apply (X : FVec Ideal S2752x128 .f32) (i : S2x3x1024.Idx) : unpack5 X i = X (ix2 (row5 i) (col5 i)) := by
  have h0 : (i 0).val < 2 := (i 0).isLt
  have h1 : (i 1).val < 3 := (i 1).isLt
  have h2 : (i 2).val < 1024 := (i 2).isLt
  rw [unpack5, row5, col5]
  pointwise []
  exact congrArg X (congrArg₂ ix2 (Fin.ext (by dsimp only; omega)) (Fin.ext (by dsimp only; omega)))

/-- Packing puts each entry there. -/
theorem pack5 (w0 : FVec Ideal S8x2x2048 .f32) (w1 : FVec Ideal S8x2x1024 .f32) (w2 : FVec Ideal S8x2x1024 .f32) (w3 : FVec Ideal S8x2x8x128x128 .f32) (w4 : FVec Ideal S8x2x128x8 .f32) (w5 : FVec Ideal S8x2x3x1024 .f32) (w6 : FVec Ideal S8x2x2048 .f32) (w7 : FVec Ideal S8x2x3x11264 .f32) (w8 : FVec Ideal S8x2048 .f32) (d : Fin 8) (i : S2x3x1024.Idx) : pack w0 w1 w2 w3 w4 w5 w6 w7 w8 (ix3 d (row5 i) (col5 i)) = w5 (ix4 d (i 0) (i 1) (i 2)) := by
  have h0 : (i 0).val < 2 := (i 0).isLt
  have h1 : (i 1).val < 3 := (i 1).isLt
  have h2 : (i 2).val < 1024 := (i 2).isLt
  rw [pack, row5, col5]
  pointwise [rows5]
  rw [dif_neg (by omega), dif_neg (by omega), dif_neg (by omega), dif_neg (by omega), dif_neg (by omega), dif_pos (by omega)]

/-- The gradient `6` of a packed array. -/
def unpack6 (X : FVec Ideal S2752x128 .f32) : FVec Ideal S2x2048 .f32 :=
  shapeCast S2x2048 (shapeCast S4096 (extractStridedSlice S32x128 ![2176, 0] X slices_S2752x128_S32x128_2176_0) shapeCasts_S32x128_S4096) shapeCasts_S4096_S2x2048

/-- The row of the packed array that holds each entry of the gradient `6`. -/
def row6 (i : S2x2048.Idx) : Fin 2752 :=
  have h0 : (i 0).val < 2 := (i 0).isLt
  have h1 : (i 1).val < 2048 := (i 1).isLt
  ⟨2176 + ((i 0).val * 2048 + (i 1).val) / 128, by omega⟩

/-- The column of the packed array that holds each entry of the gradient `6`. -/
def col6 (i : S2x2048.Idx) : Fin 128 := ⟨((i 0).val * 2048 + (i 1).val) % 128, Nat.mod_lt _ (by norm_num)⟩

/-- Unpacking reads the packed array there. -/
theorem unpack6_apply (X : FVec Ideal S2752x128 .f32) (i : S2x2048.Idx) : unpack6 X i = X (ix2 (row6 i) (col6 i)) := by
  have h0 : (i 0).val < 2 := (i 0).isLt
  have h1 : (i 1).val < 2048 := (i 1).isLt
  rw [unpack6, row6, col6]
  pointwise []
  exact congrArg X (congrArg₂ ix2 (Fin.ext (by dsimp only; omega)) (Fin.ext (by dsimp only; omega)))

/-- Packing puts each entry there. -/
theorem pack6 (w0 : FVec Ideal S8x2x2048 .f32) (w1 : FVec Ideal S8x2x1024 .f32) (w2 : FVec Ideal S8x2x1024 .f32) (w3 : FVec Ideal S8x2x8x128x128 .f32) (w4 : FVec Ideal S8x2x128x8 .f32) (w5 : FVec Ideal S8x2x3x1024 .f32) (w6 : FVec Ideal S8x2x2048 .f32) (w7 : FVec Ideal S8x2x3x11264 .f32) (w8 : FVec Ideal S8x2048 .f32) (d : Fin 8) (i : S2x2048.Idx) : pack w0 w1 w2 w3 w4 w5 w6 w7 w8 (ix3 d (row6 i) (col6 i)) = w6 (ix3 d (i 0) (i 1)) := by
  have h0 : (i 0).val < 2 := (i 0).isLt
  have h1 : (i 1).val < 2048 := (i 1).isLt
  rw [pack, row6, col6]
  pointwise [rows6]
  rw [dif_neg (by omega), dif_neg (by omega), dif_neg (by omega), dif_neg (by omega), dif_neg (by omega), dif_neg (by omega), dif_pos (by omega)]

/-- The gradient `7` of a packed array. -/
def unpack7 (X : FVec Ideal S2752x128 .f32) : FVec Ideal S2x3x11264 .f32 :=
  shapeCast S2x3x11264 (shapeCast S67584 (extractStridedSlice S528x128 ![2208, 0] X slices_S2752x128_S528x128_2208_0) shapeCasts_S528x128_S67584) shapeCasts_S67584_S2x3x11264

/-- The row of the packed array that holds each entry of the gradient `7`. -/
def row7 (i : S2x3x11264.Idx) : Fin 2752 :=
  have h0 : (i 0).val < 2 := (i 0).isLt
  have h1 : (i 1).val < 3 := (i 1).isLt
  have h2 : (i 2).val < 11264 := (i 2).isLt
  ⟨2208 + (((i 0).val * 3 + (i 1).val) * 11264 + (i 2).val) / 128, by omega⟩

/-- The column of the packed array that holds each entry of the gradient `7`. -/
def col7 (i : S2x3x11264.Idx) : Fin 128 := ⟨(((i 0).val * 3 + (i 1).val) * 11264 + (i 2).val) % 128, Nat.mod_lt _ (by norm_num)⟩

/-- Unpacking reads the packed array there. -/
theorem unpack7_apply (X : FVec Ideal S2752x128 .f32) (i : S2x3x11264.Idx) : unpack7 X i = X (ix2 (row7 i) (col7 i)) := by
  have h0 : (i 0).val < 2 := (i 0).isLt
  have h1 : (i 1).val < 3 := (i 1).isLt
  have h2 : (i 2).val < 11264 := (i 2).isLt
  rw [unpack7, row7, col7]
  pointwise []
  exact congrArg X (congrArg₂ ix2 (Fin.ext (by dsimp only; omega)) (Fin.ext (by dsimp only; omega)))

/-- Packing puts each entry there. -/
theorem pack7 (w0 : FVec Ideal S8x2x2048 .f32) (w1 : FVec Ideal S8x2x1024 .f32) (w2 : FVec Ideal S8x2x1024 .f32) (w3 : FVec Ideal S8x2x8x128x128 .f32) (w4 : FVec Ideal S8x2x128x8 .f32) (w5 : FVec Ideal S8x2x3x1024 .f32) (w6 : FVec Ideal S8x2x2048 .f32) (w7 : FVec Ideal S8x2x3x11264 .f32) (w8 : FVec Ideal S8x2048 .f32) (d : Fin 8) (i : S2x3x11264.Idx) : pack w0 w1 w2 w3 w4 w5 w6 w7 w8 (ix3 d (row7 i) (col7 i)) = w7 (ix4 d (i 0) (i 1) (i 2)) := by
  have h0 : (i 0).val < 2 := (i 0).isLt
  have h1 : (i 1).val < 3 := (i 1).isLt
  have h2 : (i 2).val < 11264 := (i 2).isLt
  rw [pack, row7, col7]
  pointwise [rows7]
  rw [dif_neg (by omega), dif_neg (by omega), dif_neg (by omega), dif_neg (by omega), dif_neg (by omega), dif_neg (by omega), dif_neg (by omega), dif_pos (by omega)]

/-- The gradient `8` of a packed array. -/
def unpack8 (X : FVec Ideal S2752x128 .f32) : FVec Ideal S2048 .f32 :=
  shapeCast S2048 (extractStridedSlice S16x128 ![2736, 0] X slices_S2752x128_S16x128_2736_0) shapeCasts_S16x128_S2048

/-- The row of the packed array that holds each entry of the gradient `8`. -/
def row8 (i : S2048.Idx) : Fin 2752 :=
  have h0 : (i 0).val < 2048 := (i 0).isLt
  ⟨2736 + (i 0).val / 128, by omega⟩

/-- The column of the packed array that holds each entry of the gradient `8`. -/
def col8 (i : S2048.Idx) : Fin 128 := ⟨(i 0).val % 128, Nat.mod_lt _ (by norm_num)⟩

/-- Unpacking reads the packed array there. -/
theorem unpack8_apply (X : FVec Ideal S2752x128 .f32) (i : S2048.Idx) : unpack8 X i = X (ix2 (row8 i) (col8 i)) := by
  have h0 : (i 0).val < 2048 := (i 0).isLt
  rw [unpack8, row8, col8]
  pointwise []

/-- Packing puts each entry there. -/
theorem pack8 (w0 : FVec Ideal S8x2x2048 .f32) (w1 : FVec Ideal S8x2x1024 .f32) (w2 : FVec Ideal S8x2x1024 .f32) (w3 : FVec Ideal S8x2x8x128x128 .f32) (w4 : FVec Ideal S8x2x128x8 .f32) (w5 : FVec Ideal S8x2x3x1024 .f32) (w6 : FVec Ideal S8x2x2048 .f32) (w7 : FVec Ideal S8x2x3x11264 .f32) (w8 : FVec Ideal S8x2048 .f32) (d : Fin 8) (i : S2048.Idx) : pack w0 w1 w2 w3 w4 w5 w6 w7 w8 (ix3 d (row8 i) (col8 i)) = w8 (ix2 d (i 0)) := by
  have h0 : (i 0).val < 2048 := (i 0).isLt
  rw [pack, row8, col8]
  pointwise [rows8]
  rw [dif_neg (by omega), dif_neg (by omega), dif_neg (by omega), dif_neg (by omega), dif_neg (by omega), dif_neg (by omega), dif_neg (by omega), dif_neg (by omega)]

end Cert.SumsPack
end
-- ==== Proof.SumsVals.lean ====
module

public import proofs.«01_k».proof.Defs
public import proofs.«01_k».proof.Proof.Gen.SumsIdeal.Frame
public import proofs.«01_k».proof.Proof.SumsPack
public import proofs.«01_k».proof.Proof.Gen.SumsRefIdeal
public import Idealize.ShloMosaic.Lib.Pipeline.ValueKit
public import Idealize.ShloMosaic.Lib.Pointwise
public import Idealize.ShloMosaic.Lib.Claim
public import Idealize.ShloMosaic.Lib.StableHlo.RunClose

@[expose] public section

set_option maxRecDepth 16384

noncomputable section

open Idealize.ShloMosaic Idealize.ShloMosaic.TcCoe Idealize.SL.Sem
open Idealize.ShloMosaic.Pipeline (Dat)

namespace Cert.SumsProof

open Cert.SumsIdeal Cert.SumsIdeal.Gen Cert.SumsPack

variable (m : (ℓ : Loc nD τ sig) → Buf (Elt Ideal) ℓ)

/-- The one grid point's blocks are the whole packed arrays. -/
theorem idx : ∀ t : Fin cfg0.N, win0_0.index t = ![0, 0, 0] ∧ win0_1.index t = ![0, 0] :=
  (by decide +kernel : ∀ t : Fin grid0.N, _)

/-- The sum over the devices of a packed array. -/
def total (X : FVec Ideal S8x2752x128 .f32) : FVec Ideal S2752x128 .f32 := fun p => ∑ d : Fin 8, X (ix3 d (p 0) (p 1))

/-- The kernel's array: each entry is the sum over the devices. -/
theorem final1 (c : Dev nD) : (dats m 0 c).arrAt 1 (cfgs 0).N = total (V m c main_v17) := by
  refine (dats m 0 c).arrAt_eq_of_after_last 1 t0_0 (by decide +kernel) _ fun j => ?_
  blk_simp
  rw [after0_1]
  frame_out
  rw [total, Fin.sum_univ_eight]
  pointwise [k0_pay1]
  blk_point [iblk, idx t0_0]

/-- The packed parts, when the kernel starts. -/
theorem entry17 (c : Dev nD) : V m c main_v17 = pack (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold V V0
  simp only [hostOps0, List.flatten_cons, List.flatten_nil, List.append_nil, List.cons_append, List.nil_append]
  after_results
  rfl

/-- Where a device's columns of a gradient start: at its number times the width, read modulo the whole width. -/
def start (me : IVec S_ 32) (width whole : BitVec 32) : Fin 3 → Int := fun k =>
  ((![constantI S_ 32 0#32, constantI S_ 32 0#32, select (cmpi .slt (muli me (constantI S_ 32 width)) (constantI S_ 32 0#32))
    (addi (muli me (constantI S_ 32 width)) (constantI S_ 32 whole)) (muli me (constantI S_ 32 width))] : Fin 3 → IVec S_ 32) k
      (Shape.Idx.first h_S_)).toInt

/-- The gradient `0` is read from the packed array. -/
theorem out0 (c : Dev nD) : Pipeline.afterTail₀ cfgs (dats m) 0 (V0 m) [hostOps1] c main_v21
    = unpack0 ((dats m 0 c).arrAt 1 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v18)
    = (dats m 0 c).arrAt 1 (cfgs 0).N from Pipeline.withArrays_arr (cfgs 0).spec winFacts0.arr_inj c _ _ 1]
  rfl

/-- The gradient `1` is read from the packed array. -/
theorem out1 (c : Dev nD) : Pipeline.afterTail₀ cfgs (dats m) 0 (V0 m) [hostOps1] c main_v24
    = unpack1 ((dats m 0 c).arrAt 1 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v18)
    = (dats m 0 c).arrAt 1 (cfgs 0).N from Pipeline.withArrays_arr (cfgs 0).spec winFacts0.arr_inj c _ _ 1]
  rfl

/-- The gradient `2` is read from the packed array. -/
theorem out2 (c : Dev nD) : Pipeline.afterTail₀ cfgs (dats m) 0 (V0 m) [hostOps1] c main_v27
    = unpack2 ((dats m 0 c).arrAt 1 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v18)
    = (dats m 0 c).arrAt 1 (cfgs 0).N from Pipeline.withArrays_arr (cfgs 0).spec winFacts0.arr_inj c _ _ 1]
  rfl

/-- The gradient `3` is read from the packed array. -/
theorem out3 (c : Dev nD) : Pipeline.afterTail₀ cfgs (dats m) 0 (V0 m) [hostOps1] c main_v30
    = unpack3 ((dats m 0 c).arrAt 1 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v18)
    = (dats m 0 c).arrAt 1 (cfgs 0).N from Pipeline.withArrays_arr (cfgs 0).spec winFacts0.arr_inj c _ _ 1]
  rfl

/-- The gradient `4` is read from the packed array. -/
theorem out4 (c : Dev nD) : Pipeline.afterTail₀ cfgs (dats m) 0 (V0 m) [hostOps1] c main_v33
    = unpack4 ((dats m 0 c).arrAt 1 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v18)
    = (dats m 0 c).arrAt 1 (cfgs 0).N from Pipeline.withArrays_arr (cfgs 0).spec winFacts0.arr_inj c _ _ 1]
  rfl

/-- The gradient `5`: the device's columns are read from the packed array. -/
theorem out5 (c : Dev nD) : Pipeline.afterTail₀ cfgs (dats m) 0 (V0 m) [hostOps1] c main_v49
    = Host.dynamicSlice S2x3x128 (unpack5 ((dats m 0 c).arrAt 1 (cfgs 0).N)) (start (m ((c : Thread nD τ).loc main_arg9)) 128#32 1024#32) sliceFits_S2x3x1024_S2x3x128 := by
  have h9 : Pipeline.withArrays (cfgs 0).spec c (V0 m c) (fun w => (dats m 0 c).arrAt w (cfgs 0).N) (Proc.tc.devRef main_arg9)
      = m ((c : Thread nD τ).loc main_arg9) :=
    (Pipeline.withArrays_of_ne _ c (V0 m c) _ main_arg9 (by exact (by decide : ∀ w, Pipeline.arrRef spec0 w ≠ main_arg9))).trans
      (V_main_arg9 m c)
  unfold Pipeline.afterTail₀
  rw [List.flatten_cons, List.flatten_nil, List.append_nil]
  after_results_simp_entrywise
  rw [show Pipeline.withArrays (cfgs 0).spec c (V0 m c) (fun w => (dats m 0 c).arrAt w (cfgs 0).N) (Proc.tc.devRef main_v18)
    = (dats m 0 c).arrAt 1 (cfgs 0).N from Pipeline.withArrays_arr (cfgs 0).spec winFacts0.arr_inj c _ _ 1]
  rw [h9]
  rfl

/-- The gradient `6` is read from the packed array. -/
theorem out6 (c : Dev nD) : Pipeline.afterTail₀ cfgs (dats m) 0 (V0 m) [hostOps1] c main_v39
    = unpack6 ((dats m 0 c).arrAt 1 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v18)
    = (dats m 0 c).arrAt 1 (cfgs 0).N from Pipeline.withArrays_arr (cfgs 0).spec winFacts0.arr_inj c _ _ 1]
  rfl

/-- The gradient `7`: the device's columns are read from the packed array. -/
theorem out7 (c : Dev nD) : Pipeline.afterTail₀ cfgs (dats m) 0 (V0 m) [hostOps1] c main_v54
    = Host.dynamicSlice S2x3x1408 (unpack7 ((dats m 0 c).arrAt 1 (cfgs 0).N)) (start (m ((c : Thread nD τ).loc main_arg9)) 1408#32 11264#32) sliceFits_S2x3x11264_S2x3x1408 := by
  have h9 : Pipeline.withArrays (cfgs 0).spec c (V0 m c) (fun w => (dats m 0 c).arrAt w (cfgs 0).N) (Proc.tc.devRef main_arg9)
      = m ((c : Thread nD τ).loc main_arg9) :=
    (Pipeline.withArrays_of_ne _ c (V0 m c) _ main_arg9 (by exact (by decide : ∀ w, Pipeline.arrRef spec0 w ≠ main_arg9))).trans
      (V_main_arg9 m c)
  unfold Pipeline.afterTail₀
  rw [List.flatten_cons, List.flatten_nil, List.append_nil]
  after_results_simp_entrywise
  rw [show Pipeline.withArrays (cfgs 0).spec c (V0 m c) (fun w => (dats m 0 c).arrAt w (cfgs 0).N) (Proc.tc.devRef main_v18)
    = (dats m 0 c).arrAt 1 (cfgs 0).N from Pipeline.withArrays_arr (cfgs 0).spec winFacts0.arr_inj c _ _ 1]
  rw [h9]
  rfl

/-- The gradient `8` is read from the packed array. -/
theorem out8 (c : Dev nD) : Pipeline.afterTail₀ cfgs (dats m) 0 (V0 m) [hostOps1] c main_v44
    = unpack8 ((dats m 0 c).arrAt 1 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v18)
    = (dats m 0 c).arrAt 1 (cfgs 0).N from Pipeline.withArrays_arr (cfgs 0).spec winFacts0.arr_inj c _ _ 1]
  rfl

/-- The gradient `0` in the packed sums is the sum of the devices' parts. -/
theorem sum0 (c : Dev nD) : unpack0 ((dats m 0 c).arrAt 1 (cfgs 0).N)
    = Host.reduceAdd (F := Ideal) (m ((c : Thread nD τ).loc main_arg0)) (constant S_ .f32 0x00000000#32) (Cert.SumsRefIdeal.Gen.facts.reducesTo_S8x2x2048_S2x2048_d0) h_S_ := by
  funext i
  rw [final1, entry17, unpack0_apply, total]
  refine (Finset.sum_congr rfl fun d _ => pack0 _ _ _ _ _ _ _ _ _ d i).trans ?_
  pointwise []

/-- The gradient `1` in the packed sums is the sum of the devices' parts. -/
theorem sum1 (c : Dev nD) : unpack1 ((dats m 0 c).arrAt 1 (cfgs 0).N)
    = Host.reduceAdd (F := Ideal) (m ((c : Thread nD τ).loc main_arg1)) (constant S_ .f32 0x00000000#32) (Cert.SumsRefIdeal.Gen.facts.reducesTo_S8x2x1024_S2x1024_d0) h_S_ := by
  funext i
  rw [final1, entry17, unpack1_apply, total]
  refine (Finset.sum_congr rfl fun d _ => pack1 _ _ _ _ _ _ _ _ _ d i).trans ?_
  pointwise []

/-- The gradient `2` in the packed sums is the sum of the devices' parts. -/
theorem sum2 (c : Dev nD) : unpack2 ((dats m 0 c).arrAt 1 (cfgs 0).N)
    = Host.reduceAdd (F := Ideal) (m ((c : Thread nD τ).loc main_arg2)) (constant S_ .f32 0x00000000#32) (Cert.SumsRefIdeal.Gen.facts.reducesTo_S8x2x1024_S2x1024_d0) h_S_ := by
  funext i
  rw [final1, entry17, unpack2_apply, total]
  refine (Finset.sum_congr rfl fun d _ => pack2 _ _ _ _ _ _ _ _ _ d i).trans ?_
  pointwise []

/-- The gradient `3` in the packed sums is the sum of the devices' parts. -/
theorem sum3 (c : Dev nD) : unpack3 ((dats m 0 c).arrAt 1 (cfgs 0).N)
    = Host.reduceAdd (F := Ideal) (m ((c : Thread nD τ).loc main_arg3)) (constant S_ .f32 0x00000000#32) (Cert.SumsRefIdeal.Gen.facts.reducesTo_S8x2x8x128x128_S2x8x128x128_d0) h_S_ := by
  funext i
  rw [final1, entry17, unpack3_apply, total]
  refine (Finset.sum_congr rfl fun d _ => pack3 _ _ _ _ _ _ _ _ _ d i).trans ?_
  pointwise []

/-- The gradient `4` in the packed sums is the sum of the devices' parts. -/
theorem sum4 (c : Dev nD) : unpack4 ((dats m 0 c).arrAt 1 (cfgs 0).N)
    = Host.reduceAdd (F := Ideal) (m ((c : Thread nD τ).loc main_arg4)) (constant S_ .f32 0x00000000#32) (Cert.SumsRefIdeal.Gen.facts.reducesTo_S8x2x128x8_S2x128x8_d0) h_S_ := by
  funext i
  rw [final1, entry17, unpack4_apply, total]
  refine (Finset.sum_congr rfl fun d _ => pack4 _ _ _ _ _ _ _ _ _ d i).trans ?_
  pointwise []

/-- The gradient `5` in the packed sums is the sum of the devices' parts. -/
theorem sum5 (c : Dev nD) : unpack5 ((dats m 0 c).arrAt 1 (cfgs 0).N)
    = Host.reduceAdd (F := Ideal) (m ((c : Thread nD τ).loc main_arg5)) (constant S_ .f32 0x00000000#32) (Cert.SumsRefIdeal.Gen.facts.reducesTo_S8x2x3x1024_S2x3x1024_d0) h_S_ := by
  funext i
  rw [final1, entry17, unpack5_apply, total]
  refine (Finset.sum_congr rfl fun d _ => pack5 _ _ _ _ _ _ _ _ _ d i).trans ?_
  pointwise []

/-- The gradient `6` in the packed sums is the sum of the devices' parts. -/
theorem sum6 (c : Dev nD) : unpack6 ((dats m 0 c).arrAt 1 (cfgs 0).N)
    = Host.reduceAdd (F := Ideal) (m ((c : Thread nD τ).loc main_arg6)) (constant S_ .f32 0x00000000#32) (Cert.SumsRefIdeal.Gen.facts.reducesTo_S8x2x2048_S2x2048_d0) h_S_ := by
  funext i
  rw [final1, entry17, unpack6_apply, total]
  refine (Finset.sum_congr rfl fun d _ => pack6 _ _ _ _ _ _ _ _ _ d i).trans ?_
  pointwise []

/-- The gradient `7` in the packed sums is the sum of the devices' parts. -/
theorem sum7 (c : Dev nD) : unpack7 ((dats m 0 c).arrAt 1 (cfgs 0).N)
    = Host.reduceAdd (F := Ideal) (m ((c : Thread nD τ).loc main_arg7)) (constant S_ .f32 0x00000000#32) (Cert.SumsRefIdeal.Gen.facts.reducesTo_S8x2x3x11264_S2x3x11264_d0) h_S_ := by
  funext i
  rw [final1, entry17, unpack7_apply, total]
  refine (Finset.sum_congr rfl fun d _ => pack7 _ _ _ _ _ _ _ _ _ d i).trans ?_
  pointwise []

/-- The gradient `8` in the packed sums is the sum of the devices' parts. -/
theorem sum8 (c : Dev nD) : unpack8 ((dats m 0 c).arrAt 1 (cfgs 0).N)
    = Host.reduceAdd (F := Ideal) (m ((c : Thread nD τ).loc main_arg8)) (constant S_ .f32 0x00000000#32) (Cert.SumsRefIdeal.Gen.facts.reducesTo_S8x2048_S2048_d0) h_S_ := by
  funext i
  rw [final1, entry17, unpack8_apply, total]
  refine (Finset.sum_congr rfl fun d _ => pack8 _ _ _ _ _ _ _ _ _ d i).trans ?_
  pointwise []

end Cert.SumsProof
end
-- ==== Proof.Sums.lean ====
module

public import proofs.«01_k».proof.Defs
public import proofs.«01_k».proof.Proof.Gen.SumsIdeal.Frame
public import proofs.«01_k».proof.Proof.Gen.SumsRefIdeal.Read
public import proofs.«01_k».proof.Proof.SumsVals
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SumsProof
open Cert.SumsIdeal Cert.SumsIdeal.Gen

set_option maxHeartbeats 1000000 in
/-- The call and the plain lines end with equal results from equal arguments. -/
theorem equal : Cert.algebraic_SumsIdeal_SumsRefIdeal := by
  pair_intro
  · run_from Cert.SumsIdeal.Gen.run_main m g
    · exact W_main_arg0 m (dats m) c
    · exact W_main_arg1 m (dats m) c
    · exact W_main_arg2 m (dats m) c
    · exact W_main_arg3 m (dats m) c
    · exact W_main_arg4 m (dats m) c
    · exact W_main_arg5 m (dats m) c
    · exact W_main_arg6 m (dats m) c
    · exact W_main_arg7 m (dats m) c
    · exact W_main_arg8 m (dats m) c
    · exact W_main_arg9 m (dats m) c
  · refine (θ_run _ _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_,
      (h c).2.2.2.2.2.2.2.2.2⟩) (Cert.SumsRefIdeal.Value.run m' g')
    · rw [(hagree c).1]
      exact ((out0 m c).trans ((sum0 m c))).symm
    · rw [(hagree c).2.1]
      exact ((out1 m c).trans ((sum1 m c))).symm
    · rw [(hagree c).2.2.1]
      exact ((out2 m c).trans ((sum2 m c))).symm
    · rw [(hagree c).2.2.2.1]
      exact ((out3 m c).trans ((sum3 m c))).symm
    · rw [(hagree c).2.2.2.2.1]
      exact ((out4 m c).trans ((sum4 m c))).symm
    · rw [(hagree c).2.2.2.2.2.1, (hagree c).2.2.2.2.2.2.2.2.2]
      exact ((out5 m c).trans (congrArg (fun x => Host.dynamicSlice _ x _ _) (sum5 m c))).symm
    · rw [(hagree c).2.2.2.2.2.2.1]
      exact ((out6 m c).trans ((sum6 m c))).symm
    · rw [(hagree c).2.2.2.2.2.2.2.1, (hagree c).2.2.2.2.2.2.2.2.2]
      exact ((out7 m c).trans (congrArg (fun x => Host.dynamicSlice _ x _ _) (sum7 m c))).symm
    · rw [(hagree c).2.2.2.2.2.2.2.2.1]
      exact ((out8 m c).trans ((sum8 m c))).symm

end Cert.SumsProof
end
-- ==== Proof.BigoutTab.lean ====
module

public import proofs.«01_k».proof.Defs
public import proofs.«01_k».proof.Proof.Gen.Bigout.Frame
public import proofs.«01_k».proof.Proof.Gen.Pre_on_mesh_w_proj_out
public import Idealize.ShloMosaic.Lib.StableHlo.Predicate
public import Idealize.ShloMosaic.Lib.Pointwise

/-! The table of the device's place on the mesh: the precondition makes each of its three words 0 or 1, and then every
    block the call's index maps name lies inside its array. -/

@[expose] public section

set_option maxRecDepth 16384

noncomputable section

open Idealize.ShloMosaic Idealize.ShloMosaic.TcCoe

namespace Cert.BigoutTab
open Cert.Bigout Cert.Bigout.Gen

/-- A coordinate on an axis of two devices, as a word. -/
def wd (a : Bool) : BitVec 32 := if a then 1#32 else 0#32

/-- The place `(a, b, d)` as the table's three words. -/
def tri (a b d : Bool) : S3.Idx → BitVec 32 := fun x => wd (match x 0 with | ⟨0, _⟩ => a | ⟨1, _⟩ => b | ⟨_ + 2, _⟩ => d)

set_option backward.proofsInPublic true in
/-- Those words as the call's one table. -/
def pfT (a b d : Bool) : pre0.Contents (Elt Bits) := fun | ⟨0, _⟩ => tri a b d | ⟨_ + 1, h⟩ => absurd h (by simp)

/-- A word that is at least 0 and at most 1, read signed, is one of the two. -/
theorem word_of_bounds (x : BitVec 32) (h : IntOp.andi (IntOp.cmpi .sge x 0#32) (IntOp.cmpi .sle x 1#32) = 1#1) :
    ∃ a : Bool, x = wd a := by
  have key : x = 0#32 ∨ x = 1#32 := by
    have e : (0#32 : BitVec 32).sle x = true ∧ x.sle 1#32 = true := by
      unfold IntOp.andi IntOp.cmpi at h
      revert h
      dsimp only
      cases (0#32 : BitVec 32).sle x <;> cases x.sle 1#32 <;> decide
    have h0 : 0 ≤ x.toInt := by simpa [BitVec.sle] using e.1
    have h1 : x.toInt ≤ 1 := by simpa [BitVec.sle] using e.2
    rcases (by omega : x.toInt = 0 ∨ x.toInt = 1) with h | h
    · exact .inl (BitVec.eq_of_toInt_eq (h.trans (by decide)))
    · exact .inr (BitVec.eq_of_toInt_eq (h.trans (by decide)))
  rcases key with h | h
  · exact ⟨false, h⟩
  · exact ⟨true, h⟩

/-- Under the precondition the third-last argument holds the words of some place on the mesh. -/
theorem arg_of_pre (m : (ℓ : Loc nD τ sig) → Buf (Elt Bits) ℓ) (h : Cert.Pre_Bigout m) :
    ∃ a b d : Bool, m (((0 : Dev nD).tc : Thread nD τ).loc main_arg6) = tri a b d := by
  have e : ∀ x : S3.Idx, ∃ a : Bool, m (((0 : Dev nD).tc : Thread nD τ).loc main_arg6) x = wd a := fun x =>
    word_of_bounds _ (congrFun (h 0) x)
  obtain ⟨a, ha⟩ := e (ix1 0)
  obtain ⟨b, hb⟩ := e (ix1 1)
  obtain ⟨d, hd⟩ := e (ix1 2)
  refine ⟨a, b, d, funext fun x => ?_⟩
  obtain ⟨p, rfl⟩ : ∃ p : Fin 3, x = ix1 p := ⟨x 0, (ix1_eta x).symm⟩
  match p with
  | ⟨0, _⟩ => exact ha
  | ⟨1, _⟩ => exact hb
  | ⟨2, _⟩ => exact hd

/-- Every place on the mesh names blocks inside the arrays. -/
theorem ok_pf : ∀ a b d : Bool, ok0 (F := Bits) (pfT a b d) := by decide +kernel

/-- The call reads the table as it was given. -/
theorem tbl_eq (m : (ℓ : Loc nD τ sig) → Buf (Elt Bits) ℓ) (a b d : Bool)
    (h : m (((0 : Dev nD).tc : Thread nD τ).loc main_arg6) = tri a b d) : tbl m = pfT a b d := by
  funext j
  match j with
  | ⟨0, _⟩ => exact (V_main_arg6 m 0).trans h

/-- Under the precondition the blocks lie inside the arrays. -/
theorem ok_of_pre (m : (ℓ : Loc nD τ sig) → Buf (Elt Bits) ℓ) (h : Cert.Pre_Bigout m) : Ok m := by
  obtain ⟨a, b, d, e⟩ := arg_of_pre m h
  unfold Ok
  rw [tbl_eq m a b d e]
  exact ok_pf a b d

end Cert.BigoutTab
end
-- ==== Proof.BigoutIdealTab.lean ====
module

public import proofs.«01_k».proof.Defs
public import proofs.«01_k».proof.Proof.Gen.BigoutIdeal.Frame
public import proofs.«01_k».proof.Proof.Gen.Pre_on_mesh_w_proj_out
public import Idealize.ShloMosaic.Lib.StableHlo.Predicate
public import Idealize.ShloMosaic.Lib.Pointwise

/-! The table of the device's place on the mesh: the precondition makes each of its three words 0 or 1, and then every
    block the call's index maps name lies inside its array. -/

@[expose] public section

set_option maxRecDepth 16384

noncomputable section

open Idealize.ShloMosaic Idealize.ShloMosaic.TcCoe

namespace Cert.BigoutIdealTab
open Cert.BigoutIdeal Cert.BigoutIdeal.Gen

/-- A coordinate on an axis of two devices, as a word. -/
def wd (a : Bool) : BitVec 32 := if a then 1#32 else 0#32

/-- The place `(a, b, d)` as the table's three words. -/
def tri (a b d : Bool) : S3.Idx → BitVec 32 := fun x => wd (match x 0 with | ⟨0, _⟩ => a | ⟨1, _⟩ => b | ⟨_ + 2, _⟩ => d)

set_option backward.proofsInPublic true in
/-- Those words as the call's one table. -/
def pfT (a b d : Bool) : pre0.Contents (Elt Ideal) := fun | ⟨0, _⟩ => tri a b d | ⟨_ + 1, h⟩ => absurd h (by simp)

/-- A word that is at least 0 and at most 1, read signed, is one of the two. -/
theorem word_of_bounds (x : BitVec 32) (h : IntOp.andi (IntOp.cmpi .sge x 0#32) (IntOp.cmpi .sle x 1#32) = 1#1) :
    ∃ a : Bool, x = wd a := by
  have key : x = 0#32 ∨ x = 1#32 := by
    have e : (0#32 : BitVec 32).sle x = true ∧ x.sle 1#32 = true := by
      unfold IntOp.andi IntOp.cmpi at h
      revert h
      dsimp only
      cases (0#32 : BitVec 32).sle x <;> cases x.sle 1#32 <;> decide
    have h0 : 0 ≤ x.toInt := by simpa [BitVec.sle] using e.1
    have h1 : x.toInt ≤ 1 := by simpa [BitVec.sle] using e.2
    rcases (by omega : x.toInt = 0 ∨ x.toInt = 1) with h | h
    · exact .inl (BitVec.eq_of_toInt_eq (h.trans (by decide)))
    · exact .inr (BitVec.eq_of_toInt_eq (h.trans (by decide)))
  rcases key with h | h
  · exact ⟨false, h⟩
  · exact ⟨true, h⟩

/-- Under the precondition the third-last argument holds the words of some place on the mesh. -/
theorem arg_of_pre (m : (ℓ : Loc nD τ sig) → Buf (Elt Ideal) ℓ) (h : Cert.Pre_BigoutIdeal m) :
    ∃ a b d : Bool, m (((0 : Dev nD).tc : Thread nD τ).loc main_arg6) = tri a b d := by
  have e : ∀ x : S3.Idx, ∃ a : Bool, m (((0 : Dev nD).tc : Thread nD τ).loc main_arg6) x = wd a := fun x =>
    word_of_bounds _ (congrFun (h 0) x)
  obtain ⟨a, ha⟩ := e (ix1 0)
  obtain ⟨b, hb⟩ := e (ix1 1)
  obtain ⟨d, hd⟩ := e (ix1 2)
  refine ⟨a, b, d, funext fun x => ?_⟩
  obtain ⟨p, rfl⟩ : ∃ p : Fin 3, x = ix1 p := ⟨x 0, (ix1_eta x).symm⟩
  match p with
  | ⟨0, _⟩ => exact ha
  | ⟨1, _⟩ => exact hb
  | ⟨2, _⟩ => exact hd

/-- Every place on the mesh names blocks inside the arrays. -/
theorem ok_pf : ∀ a b d : Bool, ok0 (F := Ideal) (pfT a b d) := by decide +kernel

/-- The call reads the table as it was given. -/
theorem tbl_eq (m : (ℓ : Loc nD τ sig) → Buf (Elt Ideal) ℓ) (a b d : Bool)
    (h : m (((0 : Dev nD).tc : Thread nD τ).loc main_arg6) = tri a b d) : tbl m = pfT a b d := by
  funext j
  match j with
  | ⟨0, _⟩ => exact (V_main_arg6 m 0).trans h

/-- Under the precondition the blocks lie inside the arrays. -/
theorem ok_of_pre (m : (ℓ : Loc nD τ sig) → Buf (Elt Ideal) ℓ) (h : Cert.Pre_BigoutIdeal m) : Ok m := by
  obtain ⟨a, b, d, e⟩ := arg_of_pre m h
  unfold Ok
  rw [tbl_eq m a b d e]
  exact ok_pf a b d

end Cert.BigoutIdealTab
end
-- ==== Proof.BigoutRead.lean ====
module

public import proofs.«01_k».proof.Proof.BigoutIdealTab
public import proofs.«01_k».proof.Proof.Gen.BigoutRefIdeal.Read
public import Idealize.ShloMosaic.Lib.Pipeline.ValueKit

/-! The plain lines, entry by entry, at a place on the mesh. -/

@[expose] public section

set_option maxRecDepth 16384

noncomputable section

open Idealize.ShloMosaic Idealize.ShloMosaic.TcCoe Idealize.SL.Sem

namespace Cert.BigoutRead
open Cert.BigoutRefIdeal Cert.BigoutRefIdeal.Gen Cert.BigoutRefIdeal.Read Cert.BigoutIdealTab

/-- A device's number, from its place. -/
def num (a b d : Bool) : Nat := 4 * a.toNat + 2 * b.toNat + d.toNat
/-- A chip's number, from its place. -/
def chip (a b : Bool) : Nat := 2 * a.toNat + b.toNat
theorem num_lt (a b d : Bool) : num a b d < 8 := by cases a <;> cases b <;> cases d <;> decide
theorem chip_lt (a b : Bool) : chip a b < 4 := by cases a <;> cases b <;> decide

/-- Of the terms chosen by their number, the sum is the one chosen. -/
theorem sum_own {N : Nat} (hN : N ≤ 8) (n : Fin N) (f : Fin N → Ideal .f32) :
    ∑ k : Fin N, Scalar.select (IntOp.cmpi .eq (BitVec.ofNat 32 k.val) (BitVec.ofNat 32 n.val)) (f k) 0 = f n := by
  rw [Finset.sum_eq_single n]
  · exact Scalar.select_of_eq_one (by simp [IntOp.cmpi]) _ _
  · intro k _ hk
    refine Scalar.select_of_eq_zero ?_ _ _
    have hne : BitVec.ofNat 32 k.val ≠ BitVec.ofNat 32 n.val := fun e => hk (Fin.ext (by
      have := congrArg BitVec.toNat e
      simp only [BitVec.toNat_ofNat] at this
      omega))
    rw [show IntOp.cmpi .eq (BitVec.ofNat 32 k.val) (BitVec.ofNat 32 n.val) = BitVec.ofBool (BitVec.ofNat 32 k.val == BitVec.ofNat 32 n.val) from rfl, beq_eq_false_iff_ne.2 hne]
    rfl
  · intro h; exact absurd (Finset.mem_univ _) h

theorem word0 (a b d : Bool) (i : S_.Idx) : val_main_v12 (F := Ideal) (tri a b d) i = BitVec.ofNat 32 (num a b d) := by
  obtain rfl : i = fun a => a.elim0 := funext fun a => a.elim0
  revert a b d
  decide +kernel

theorem word1 (a b d : Bool) (i : S_.Idx) : val_main_v25 (F := Ideal) (tri a b d) i = BitVec.ofNat 32 (chip a b) := by
  obtain rfl : i = fun a => a.elim0 := funext fun a => a.elim0
  revert a b d
  decide +kernel

/-- The device's own part of its gradient. -/
theorem own0 (x0 : (⟨S1024x2048, .bf16⟩ : BufTy).Contents (Elt Ideal)) (a b d : Bool) (p : Fin 1024) (q : Fin 256) :
    val_main_v18 (F := Ideal) x0 (tri a b d) (ix2 p q) = x0 (ix2 p ⟨num a b d * 256 + q.val, by have := num_lt a b d; have := q.isLt; omega⟩) := by
  rw [val_main_v18_apply]
  have e : ∀ k : Fin 8, val_main_v17 (F := Ideal) x0 (tri a b d) (idx_main_v18 (ix2 p q) k)
      = Scalar.select (IntOp.cmpi .eq (BitVec.ofNat 32 k.val) (BitVec.ofNat 32 (num a b d)))
          (x0 (ix2 p ⟨k.val * 256 + q.val, by have := k.isLt; have := q.isLt; omega⟩)) 0 := by
    intro k
    rw [val_main_v17_apply, val_main_call0_v1_apply, val_main_v16_apply, val_main_v15_apply, val_main_v13_apply, val_main_v14_apply,
      word0, val_main_v2_apply, val_main_v1_apply, val_main_v0_apply, val_main_call0_v2_apply, val_main_call0_v0_apply, val_main_cst_apply]
    pointwise
    blk_point
  simp only [e]
  rw [sum_own (by decide) ⟨num a b d, num_lt a b d⟩ (fun k => x0 (ix2 p ⟨k.val * 256 + q.val, by have := k.isLt; have := q.isLt; omega⟩)), val_main_cst_1_apply]
  pointwise

/-- The chip's part of its sibling's gradient. -/
theorem own1 (x1 : (⟨S4x1024x256, .bf16⟩ : BufTy).Contents (Elt Ideal)) (a b d : Bool) (p : Fin 1024) (q : Fin 256) :
    val_main_v31 (F := Ideal) x1 (tri a b d) (ix2 p q) = x1 (ix3 ⟨chip a b, chip_lt a b⟩ p q) := by
  rw [val_main_v31_apply]
  have e : ∀ k : Fin 4, val_main_v30 (F := Ideal) x1 (tri a b d) (idx_main_v31 (ix2 p q) k)
      = Scalar.select (IntOp.cmpi .eq (BitVec.ofNat 32 k.val) (BitVec.ofNat 32 (chip a b))) (x1 (ix3 k p q)) 0 := by
    intro k
    rw [val_main_v30_apply, val_main_call1_v1_apply, val_main_v29_apply, val_main_v28_apply, val_main_v26_apply, val_main_v27_apply,
      word1, val_main_v19_apply, val_main_call1_v2_apply, val_main_call1_v0_apply, val_main_cst_3_apply]
    pointwise
    blk_point
  simp only [e]
  rw [sum_own (by decide) ⟨chip a b, chip_lt a b⟩ (fun k => x1 (ix3 k p q)), val_main_cst_4_apply]
  pointwise

/-- The summed gradient. -/
def grad (x0 : (⟨S1024x2048, .bf16⟩ : BufTy).Contents (Elt Ideal)) (x1 : (⟨S4x1024x256, .bf16⟩ : BufTy).Contents (Elt Ideal))
    (x2 : (⟨S3x1024x256, .bf16⟩ : BufTy).Contents (Elt Ideal)) (a b d : Bool) (p : Fin 1024) (q : Fin 256) : Ideal .f32 :=
  x0 (ix2 p ⟨num a b d * 256 + q.val, by have := num_lt a b d; have := q.isLt; omega⟩) + x1 (ix3 ⟨chip a b, chip_lt a b⟩ p q)
    + x2 (ix3 0 p q) + x2 (ix3 1 p q) + x2 (ix3 2 p q)

theorem grad_eq (x0 : (⟨S1024x2048, .bf16⟩ : BufTy).Contents (Elt Ideal)) (x1 : (⟨S4x1024x256, .bf16⟩ : BufTy).Contents (Elt Ideal))
    (x2 : (⟨S3x1024x256, .bf16⟩ : BufTy).Contents (Elt Ideal)) (a b d : Bool) (p : Fin 1024) (q : Fin 256) :
    val_main_v35 (F := Ideal) x0 x1 x2 (tri a b d) (ix2 p q) = grad x0 x1 x2 a b d p q := by
  rw [val_main_v35_apply, val_main_v32_apply, own0, own1, val_main_v34_apply, val_main_cst_5_apply, Fin.sum_univ_three,
    val_main_v33_apply, val_main_v33_apply, val_main_v33_apply]
  unfold grad
  pointwise
  simp only [zero_add, add_assoc]
  blk_point

/-- The new first moment, from the gradient and the moment. -/
def m1 (g m : EReal) : EReal := Ideal.ofBits .f32 1063675494#32 * m + Ideal.ofBits .f32 1036831949#32 * g

/-- The new second moment, from the gradient and the moment. -/
def v1 (g v : EReal) : EReal := Ideal.ofBits .f32 1065336439#32 * v + Ideal.ofBits .f32 981668463#32 * (g * g)

/-- The weight's change, from the weight, the gradient and both moments. -/
def dl (w g m v : EReal) : EReal :=
  Ideal.ofBits .f32 3129152111#32 * (Ideal.div (Ideal.div (m1 g m) (Ideal.ofBits .f32 1059503362#32))
    (Ideal.sqrt (Ideal.div (v1 g v) (Ideal.ofBits .f32 1008933580#32)) + Ideal.ofBits .f32 841731191#32)
      + Ideal.ofBits .f32 1008981770#32 * w)

variable (x0 : (⟨S1024x2048, .bf16⟩ : BufTy).Contents (Elt Ideal)) (x1 : (⟨S4x1024x256, .bf16⟩ : BufTy).Contents (Elt Ideal))
  (x2 : (⟨S3x1024x256, .bf16⟩ : BufTy).Contents (Elt Ideal)) (x3 x4 x5 : (⟨S2x1024x256, .f32⟩ : BufTy).Contents (Elt Ideal))
  (prev : (⟨S2x1024x256, .f32⟩ : BufTy).Contents (Elt Ideal)) (a b d : Bool) (p : Fin 1024) (q : Fin 256)

theorem w_eq : val_main_v37 (F := Ideal) x3 (ix2 p q) = x3 (ix3 0 p q) := by
  rw [val_main_v37_apply, val_main_v36_apply]
  blk_point

theorem m_eq : val_main_v39 (F := Ideal) x4 (ix2 p q) = x4 (ix3 0 p q) := by
  rw [val_main_v39_apply, val_main_v38_apply]
  blk_point

theorem v_eq : val_main_v41 (F := Ideal) x5 (ix2 p q) = x5 (ix3 0 p q) := by
  rw [val_main_v41_apply, val_main_v40_apply]
  blk_point

/-- The plain first moment. -/
theorem first_eq : val_main_v46 (F := Ideal) x0 x1 x2 x4 (tri a b d) (ix2 p q) = m1 (grad x0 x1 x2 a b d p q) (x4 (ix3 0 p q)) := by
  rw [val_main_v46_apply, val_main_v43_apply, val_main_v45_apply, grad_eq, m_eq, val_main_v42_apply, val_main_v44_apply,
    val_main_cst_6_apply, val_main_cst_7_apply]
  rfl

/-- The plain second moment. -/
theorem second_eq : val_main_v52 (F := Ideal) x0 x1 x2 x5 (tri a b d) (ix2 p q) = v1 (grad x0 x1 x2 a b d p q) (x5 (ix3 0 p q)) := by
  rw [val_main_v52_apply, val_main_v48_apply, val_main_v51_apply, val_main_v49_apply, grad_eq, v_eq, val_main_v47_apply, val_main_v50_apply,
    val_main_cst_8_apply, val_main_cst_9_apply]
  rfl

/-- The plain change of the weight. -/
theorem change_eq : val_main_v65 (F := Ideal) x0 x1 x2 x3 x4 x5 (tri a b d) (ix2 p q)
    = dl (x3 (ix3 0 p q)) (grad x0 x1 x2 a b d p q) (x4 (ix3 0 p q)) (x5 (ix3 0 p q)) := by
  rw [val_main_v65_apply, val_main_v63_apply, val_main_v60_apply, val_main_v54_apply, val_main_v59_apply, val_main_v57_apply,
    val_main_v56_apply, val_main_v62_apply, first_eq, second_eq, w_eq, val_main_v64_apply, val_main_v61_apply, val_main_v58_apply,
    val_main_v55_apply, val_main_v53_apply, val_main_cst_10_apply, val_main_cst_11_apply, val_main_cst_12_apply,
    val_main_cst_13_apply, val_main_cst_14_apply]
  rfl

/-- Two layers: the first newly made, the second kept. -/
def layers (f : Fin 1024 → Fin 256 → Ideal .f32) : S2x1024x256.Idx → Ideal .f32 :=
  fun i => if (i 0).val < 1 then f (i 1) (i 2) else prev i

theorem layers_of (A B : S1x1024x256.Idx → Ideal .f32) (f : Fin 1024 → Fin 256 → Ideal .f32) (hA : ∀ p q, A (ix3 0 p q) = f p q)
    (hB : ∀ p q, B (ix3 0 p q) = prev (ix3 1 p q)) :
    concatenate S2x1024x256 0 [⟨S1x1024x256, A⟩, ⟨S1x1024x256, B⟩] concatenates_S1x1024x256_S1x1024x256_S2x1024x256_d0 = layers prev f := by
  funext i
  obtain ⟨l, p, q, rfl⟩ : ∃ l p q, i = ix3 l p q := ⟨i 0, i 1, i 2, (ix3_eta i).symm⟩
  unfold layers
  pointwise
  match l with
  | ⟨0, _⟩ =>
    refine (dif_pos (show (0 : Nat) < 1 by decide)).trans ?_
    refine Eq.trans ?_ (if_pos (show (0 : Nat) < 1 by decide)).symm
    exact hA p q
  | ⟨1, _⟩ =>
    refine (dif_neg (show ¬(1 : Nat) < 1 by decide)).trans ?_
    refine Eq.trans ?_ (if_neg (show ¬(1 : Nat) < 1 by decide)).symm
    exact hB p q

/-- The plain lines' gradient, both layers. -/
theorem res68 : val_main_v68 (F := Ideal) x0 x1 x2 (tri a b d) prev = layers prev fun p q => grad x0 x1 x2 a b d p q := by
  unfold val_main_v68
  refine layers_of prev _ _ _ (fun p q => ?_) fun p q => ?_
  · rw [val_main_v66_apply, show idx_main_v66 (ix3 0 p q) = ix2 p q from funext fun a => match a with | ⟨0, _⟩ => rfl | ⟨1, _⟩ => rfl,
      grad_eq]
  · rw [val_main_v67_apply, show idx_main_v67 (ix3 0 p q) = ix3 1 p q from
      funext fun a => match a with | ⟨0, _⟩ => rfl | ⟨1, _⟩ => rfl | ⟨2, _⟩ => rfl]

/-- The plain lines' change, both layers. -/
theorem res71 : val_main_v71 (F := Ideal) x0 x1 x2 x3 x4 x5 (tri a b d) prev = layers prev fun p q => dl (x3 (ix3 0 p q)) (grad x0 x1 x2 a b d p q) (x4 (ix3 0 p q)) (x5 (ix3 0 p q)) := by
  unfold val_main_v71
  refine layers_of prev _ _ _ (fun p q => ?_) fun p q => ?_
  · rw [val_main_v69_apply, show idx_main_v69 (ix3 0 p q) = ix2 p q from funext fun a => match a with | ⟨0, _⟩ => rfl | ⟨1, _⟩ => rfl,
      change_eq]
  · rw [val_main_v70_apply, show idx_main_v70 (ix3 0 p q) = ix3 1 p q from
      funext fun a => match a with | ⟨0, _⟩ => rfl | ⟨1, _⟩ => rfl | ⟨2, _⟩ => rfl]

/-- The plain lines' first moment, both layers. -/
theorem res74 : val_main_v74 (F := Ideal) x0 x1 x2 x4 (tri a b d) prev = layers prev fun p q => m1 (grad x0 x1 x2 a b d p q) (x4 (ix3 0 p q)) := by
  unfold val_main_v74
  refine layers_of prev _ _ _ (fun p q => ?_) fun p q => ?_
  · rw [val_main_v72_apply, show idx_main_v72 (ix3 0 p q) = ix2 p q from funext fun a => match a with | ⟨0, _⟩ => rfl | ⟨1, _⟩ => rfl,
      first_eq]
  · rw [val_main_v73_apply, show idx_main_v73 (ix3 0 p q) = ix3 1 p q from
      funext fun a => match a with | ⟨0, _⟩ => rfl | ⟨1, _⟩ => rfl | ⟨2, _⟩ => rfl]

/-- The plain lines' second moment, both layers. -/
theorem res77 : val_main_v77 (F := Ideal) x0 x1 x2 x5 (tri a b d) prev = layers prev fun p q => v1 (grad x0 x1 x2 a b d p q) (x5 (ix3 0 p q)) := by
  unfold val_main_v77
  refine layers_of prev _ _ _ (fun p q => ?_) fun p q => ?_
  · rw [val_main_v75_apply, show idx_main_v75 (ix3 0 p q) = ix2 p q from funext fun a => match a with | ⟨0, _⟩ => rfl | ⟨1, _⟩ => rfl,
      second_eq]
  · rw [val_main_v76_apply, show idx_main_v76 (ix3 0 p q) = ix3 1 p q from
      funext fun a => match a with | ⟨0, _⟩ => rfl | ⟨1, _⟩ => rfl | ⟨2, _⟩ => rfl]

end Cert.BigoutRead
end
-- ==== Proof.BigoutVals.lean ====
module

public import proofs.«01_k».proof.Proof.BigoutRead
public import Idealize.ShloMosaic.Lib.Pointwise

/-! The call's four outputs, entry by entry, at a place on the mesh: the first layer newly made, the second as it was given. -/

@[expose] public section

set_option maxRecDepth 16384

noncomputable section

open Idealize.ShloMosaic Idealize.ShloMosaic.TcCoe Idealize.SL.Sem
open Idealize.ShloMosaic.Pipeline (Dat)

namespace Cert.BigoutVals
open Cert.BigoutIdeal Cert.BigoutIdeal.Gen Cert.BigoutIdealTab Cert.BigoutRead

theorem map0 : ∀ a b d : Bool, ∀ t : Fin grid0.N,
    cc0_transform_0 (F := Ideal) inb_S3_S1_0 numel1_S1 inb_S3_S1_1 inb_S3_S1_2 (pfT a b d) (grid0.coords t) = ![0, num a b d] := by
  decide +kernel

theorem map1 : ∀ a b d : Bool, ∀ t : Fin grid0.N,
    cc0_transform_1 (F := Ideal) inb_S3_S1_0 numel1_S1 inb_S3_S1_1 (pfT a b d) (grid0.coords t) = ![chip a b, 0, 0] := by
  decide +kernel

theorem maps : ∀ t : Fin grid0.N, cc0_transform_2 (grid0.coords t) = ![0, 0, 0] ∧ cc0_transform_3 (grid0.coords t) = ![1, 0, 0]
    ∧ cc0_transform_4 (grid0.coords t) = ![2, 0, 0] ∧ cc0_transform_5 (grid0.coords t) = ![0, 0, 0]
    ∧ cc0_transform_6 (grid0.coords t) = ![0, 0, 0] ∧ cc0_transform_7 (grid0.coords t) = ![0, 0, 0]
    ∧ cc0_transform_12 (grid0.coords t) = ![0, 0, 0] ∧ cc0_transform_13 (grid0.coords t) = ![0, 0, 0]
    ∧ cc0_transform_14 (grid0.coords t) = ![0, 0, 0] ∧ cc0_transform_15 (grid0.coords t) = ![0, 0, 0] := by
  decide +kernel

variable (m : (ℓ : Loc nD τ sig) → Buf (Elt Ideal) ℓ) (hO : Ok m)

theorem idx (t : Fin (cfgM m hO).N) : ((cfgM m hO).win 2).index t = ![0, 0, 0] ∧ ((cfgM m hO).win 3).index t = ![1, 0, 0]
    ∧ ((cfgM m hO).win 4).index t = ![2, 0, 0] ∧ ((cfgM m hO).win 5).index t = ![0, 0, 0]
    ∧ ((cfgM m hO).win 6).index t = ![0, 0, 0] ∧ ((cfgM m hO).win 7).index t = ![0, 0, 0]
    ∧ ((cfgM m hO).win 8).index t = ![0, 0, 0] ∧ ((cfgM m hO).win 9).index t = ![0, 0, 0]
    ∧ ((cfgM m hO).win 10).index t = ![0, 0, 0] ∧ ((cfgM m hO).win 11).index t = ![0, 0, 0] := maps t

variable {a b d : Bool} (e : m (((0 : Dev nD).tc : Thread nD τ).loc main_arg6) = tri a b d)

include e in
theorem idx0 (t : Fin (cfgM m hO).N) : ((cfgM m hO).win 0).index t = ![0, num a b d] :=
  (congrArg (fun p => cc0_transform_0 (F := Ideal) inb_S3_S1_0 numel1_S1 inb_S3_S1_1 inb_S3_S1_2 p (grid0.coords t)) (tbl_eq m a b d e)).trans (map0 a b d t)

include e in
theorem idx1 (t : Fin (cfgM m hO).N) : ((cfgM m hO).win 1).index t = ![chip a b, 0, 0] :=
  (congrArg (fun p => cc0_transform_1 (F := Ideal) inb_S3_S1_0 numel1_S1 inb_S3_S1_1 p (grid0.coords t)) (tbl_eq m a b d e)).trans (map1 a b d t)

/-- A table every entry of which is in range. -/
abbrev a0 : (pcfg0 (F := Ideal)).Adm := ⟨pfT false false false, ok_pf false false false⟩

theorem covers : ((win0 a0) 8).CoversWhere (fun β => β (0 : Fin 3) < 1) ∧ ((win0 a0) 9).CoversWhere (fun β => β (0 : Fin 3) < 1)
    ∧ ((win0 a0) 10).CoversWhere (fun β => β (0 : Fin 3) < 1) ∧ ((win0 a0) 11).CoversWhere (fun β => β (0 : Fin 3) < 1) := by
  decide +kernel

/-- The call's arguments on the one device. -/
abbrev arg (m : (ℓ : Loc nD τ sig) → Buf (Elt Ideal) ℓ) (c : Dev nD) (r : Ref sig .tc) : Buf (Elt Ideal) ((c.tc : Thread nD τ).loc r) := m ((c.tc : Thread nD τ).loc r)

/-- The summed gradient of the arguments. -/
abbrev G (m : (ℓ : Loc nD τ sig) → Buf (Elt Ideal) ℓ) (c : Dev nD) (a b d : Bool) (p : Fin 1024) (q : Fin 256) : Ideal .f32 :=
  grad (arg m c main_arg0) (arg m c main_arg1) (arg m c main_arg2) a b d p q

theorem pay2 (X : FVec Ideal S1024x256 .f32) (l : Fin 1) (p : Fin 1024) (q : Fin 256) : k0_pay2 (F := Ideal) X (ix3 l p q) = X (ix2 p q) := by
  pointwise [k0_pay2]

include e in
/-- The kernel's gradient at each entry of its block. -/
theorem block6 (c : Dev nD) (t : Fin (cfgM m hO).N) (p : Fin 1024) (q : Fin 256) :
    k0_pay6 (F := Ideal) (iblk m hO c 0 t) (iblk m hO c 1 t) (iblk m hO c 2 t) (iblk m hO c 3 t) (iblk m hO c 4 t) (ix2 p q)
      = G m c a b d p q := by
  have h0 := idx0 m hO e t
  have h1 := idx1 m hO e t
  have h2 := idx m hO t
  pointwise [k0_pay6]
  unfold G grad
  blk_point [iblk, h0, h1, h2]

theorem pay8 (x0 : FVec Ideal S1024x256 .bf16) (x1 x2 x3 x4 : FVec Ideal S1x1024x256 .bf16) (x6 : FVec Ideal S1x1024x256 .f32)
    (p : Fin 1024) (q : Fin 256) : k0_pay8 (F := Ideal) x0 x1 x2 x3 x4 x6 (ix2 p q)
      = m1 (k0_pay6 (F := Ideal) x0 x1 x2 x3 x4 (ix2 p q)) (x6 (ix3 0 p q)) := by
  pointwise [k0_pay8]
  rfl

theorem pay1 (x0 : FVec Ideal S1024x256 .bf16) (x1 x2 x3 x4 : FVec Ideal S1x1024x256 .bf16) (x7 : FVec Ideal S1x1024x256 .f32)
    (p : Fin 1024) (q : Fin 256) : k0_pay1 (F := Ideal) (k0_pay9 x7) (k0_pay10 x0 x1 x2 x3 x4) (Scalar.ofBits .f32 981668463#32) (ix2 p q)
      = v1 (k0_pay6 (F := Ideal) x0 x1 x2 x3 x4 (ix2 p q)) (x7 (ix3 0 p q)) := by
  pointwise [k0_pay1, k0_pay9, k0_pay10]
  rfl

theorem pay5 (x0 : FVec Ideal S1024x256 .bf16) (x1 x2 x3 x4 : FVec Ideal S1x1024x256 .bf16) (x7 : FVec Ideal S1x1024x256 .f32)
    (l : Fin 1) (p : Fin 1024) (q : Fin 256) : k0_pay5 (F := Ideal) (k0_pay9 x7) (k0_pay10 x0 x1 x2 x3 x4) (Scalar.ofBits .f32 981668463#32) (ix3 l p q)
      = v1 (k0_pay6 (F := Ideal) x0 x1 x2 x3 x4 (ix2 p q)) (x7 (ix3 0 p q)) := by
  refine Eq.trans ?_ (pay1 x0 x1 x2 x3 x4 x7 p q)
  pointwise [k0_pay5]

theorem pay4 (x0 : FVec Ideal S1024x256 .bf16) (x1 x2 x3 x4 : FVec Ideal S1x1024x256 .bf16) (x6 : FVec Ideal S1x1024x256 .f32)
    (l : Fin 1) (p : Fin 1024) (q : Fin 256) : k0_pay4 (F := Ideal) (k0_pay8 x0 x1 x2 x3 x4 x6) (ix3 l p q)
      = m1 (k0_pay6 (F := Ideal) x0 x1 x2 x3 x4 (ix2 p q)) (x6 (ix3 0 p q)) := by
  refine Eq.trans ?_ (pay8 x0 x1 x2 x3 x4 x6 p q)
  pointwise [k0_pay4]

theorem pay3_at (W M A B : FVec Ideal S1024x256 .f32) (l : Fin 1) (p : Fin 1024) (q : Fin 256) :
    k0_pay3 (F := Ideal) W M A B (Scalar.ofBits .f32 981668463#32) (ix3 l p q)
      = Ideal.ofBits .f32 3129152111#32 * (Ideal.div (Ideal.div (M (ix2 p q)) (Ideal.ofBits .f32 1059503362#32))
        (Ideal.sqrt (Ideal.div (k0_pay1 (F := Ideal) A B (Scalar.ofBits .f32 981668463#32) (ix2 p q)) (Ideal.ofBits .f32 1008933580#32))
          + Ideal.ofBits .f32 841731191#32) + Ideal.ofBits .f32 1008981770#32 * W (ix2 p q)) := by
  pointwise [k0_pay3]

theorem pay3 (x0 : FVec Ideal S1024x256 .bf16) (x1 x2 x3 x4 : FVec Ideal S1x1024x256 .bf16) (x5 x6 x7 : FVec Ideal S1x1024x256 .f32)
    (l : Fin 1) (p : Fin 1024) (q : Fin 256) : k0_pay3 (F := Ideal) (k0_pay7 x5) (k0_pay8 x0 x1 x2 x3 x4 x6) (k0_pay9 x7)
        (k0_pay10 x0 x1 x2 x3 x4) (Scalar.ofBits .f32 981668463#32) (ix3 l p q)
      = dl (x5 (ix3 0 p q)) (k0_pay6 (F := Ideal) x0 x1 x2 x3 x4 (ix2 p q)) (x6 (ix3 0 p q)) (x7 (ix3 0 p q)) := by
  rw [pay3_at, pay8, pay1]
  have h : k0_pay7 (F := Ideal) x5 (ix2 p q) = x5 (ix3 0 p q) := by
    pointwise [k0_pay7]
  rw [h]
  rfl

/-- The weight's block. -/
theorem block_3 (c : Dev nD) (t : Fin (cfgM m hO).N) (p : Fin 1024) (q : Fin 256) :
    (iblk m hO c 5 t : S1x1024x256.Idx → Ideal .f32) (ix3 0 p q) = arg m c main_arg3 (ix3 0 p q) := by
  have h2 := idx m hO t
  blk_point [iblk, h2]

/-- The first moment's block. -/
theorem block_4 (c : Dev nD) (t : Fin (cfgM m hO).N) (p : Fin 1024) (q : Fin 256) :
    (iblk m hO c 6 t : S1x1024x256.Idx → Ideal .f32) (ix3 0 p q) = arg m c main_arg4 (ix3 0 p q) := by
  have h2 := idx m hO t
  blk_point [iblk, h2]

/-- The second moment's block. -/
theorem block_5 (c : Dev nD) (t : Fin (cfgM m hO).N) (p : Fin 1024) (q : Fin 256) :
    (iblk m hO c 7 t : S1x1024x256.Idx → Ideal .f32) (ix3 0 p q) = arg m c main_arg5 (ix3 0 p q) := by
  have h2 := idx m hO t
  blk_point [iblk, h2]

theorem dl_congr {w w' g g' m m' v v' : EReal} (h0 : w = w') (h1 : g = g') (h2 : m = m') (h3 : v = v') :
    dl w g m v = dl w' g' m' v' := by
  rw [h0, h1, h2, h3]

theorem same {A B C D E P Q S R : Type} (f : A → B → C → D → E → P → Q → S → R) {a a' : A} {b b' : B} {c c' : C} {d d' : D} {e e' : E}
    {p p' : P} {q q' : Q} {s s' : S} (h0 : a = a') (h1 : b = b') (h2 : c = c') (h3 : d = d') (h4 : e = e') (h5 : p = p') (h6 : q = q')
    (h7 : s = s') : f a b c d e p q s = f a' b' c' d' e' p' q' s' := by
  rw [h0, h1, h2, h3, h4, h5, h6, h7]

/-- The gradient's block after the body. -/
theorem outs8 (c : Dev nD) (t : Fin (cfgM m hO).N) : (outsAt0 m hO c t).1
    = k0_pay2 (F := Ideal) (k0_pay6 (F := Ideal) (iblk m hO c 0 t) (iblk m hO c 1 t) (iblk m hO c 2 t) (iblk m hO c 3 t) (iblk m hO c 4 t)) := by
  unfold outsAt0
  frame_out
  exact same (fun x0 x1 x2 x3 x4 x5 x6 x7 => k0_pay2 (F := Ideal) (k0_pay6 (F := Ideal) x0 x1 x2 x3 x4))
    ((hs0_0 m hO t).read_unread (iblk m hO c 0 t)) ((hs0_1 m hO t).read_unread (iblk m hO c 1 t))
    ((hs0_2 m hO t).read_unread (iblk m hO c 2 t)) ((hs0_3 m hO t).read_unread (iblk m hO c 3 t))
    ((hs0_4 m hO t).read_unread (iblk m hO c 4 t)) ((hs0_5 m hO t).read_unread (iblk m hO c 5 t))
    ((hs0_6 m hO t).read_unread (iblk m hO c 6 t)) ((hs0_7 m hO t).read_unread (iblk m hO c 7 t))

include e in
/-- The gradient's block at each entry. -/
theorem point8 (c : Dev nD) (t : Fin (cfgM m hO).N) (l : Fin 1) (p : Fin 1024) (q : Fin 256) :
    (k0_pay2 (F := Ideal) (k0_pay6 (F := Ideal) (iblk m hO c 0 t) (iblk m hO c 1 t) (iblk m hO c 2 t) (iblk m hO c 3 t) (iblk m hO c 4 t)) : S1x1024x256.Idx → Ideal .f32) (ix3 l p q) = G m c a b d p q :=
  (pay2 _ l p q).trans (block6 m hO e c t p q)

include e in
/-- The gradient's array after the run. -/
theorem final8 (c : Dev nD) : (dats m hO 0 c).arrAt 8 (cfgM m hO).N = layers (arg m c main_arg7) fun p q => G m c a b d p q := by
  refine ((dats m hO 0 c).arrAt_eq_of_coversWhere 8 (fun i : S2x1024x256.Idx => (fun p q => G m c a b d p q) (i 1) (i 2))
    (P := fun i : S2x1024x256.Idx => (i 0).val < 1) (fun β => β (0 : Fin 3) < 1) covers.1 (fun t hf y => ?_) (fun j => ?_)).trans ?_
  · blk_simp
    rw [after0_8, outs8]
    obtain ⟨l, p, q, rfl⟩ : ∃ (l : Fin 1) (p : Fin 1024) (q : Fin 256), y = ix3 l p q := ⟨_, _, _, (ix3_eta (n0 := 1) (n1 := 1024) (n2 := 256) y).symm⟩
    refine (point8 m hO e c t l p q).trans ?_
    refine congrArg₂ (fun p q => G m c a b d p q) (Fin.ext ?_) (Fin.ext ?_)
    · blk_simp
      have h2 : ((cfgM m hO).win 8).index t (1 : Fin 3) = 0 := congrFun (idx m hO t).2.2.2.2.2.2.1 (1 : Fin 3)
      refine Eq.trans ?_ (congrArg (fun z => z * 1024 + p.val) h2).symm
      show p.val = 0 * 1024 + p.val
      omega
    · blk_simp
      have h2 : ((cfgM m hO).win 8).index t (2 : Fin 3) = 0 := congrFun (idx m hO t).2.2.2.2.2.2.1 (2 : Fin 3)
      refine Eq.trans ?_ (congrArg (fun z => z * 256 + q.val) h2).symm
      show q.val = 0 * 256 + q.val
      omega
  · show (j (0 : Fin 3)).val < 1 ↔ (j (0 : Fin 3)).val / 1 < 1
    rw [Nat.div_one]
  · rw [A_eq]
    funext i
    unfold layers
    congr 1

/-- The change's block after the body. -/
theorem outs9 (c : Dev nD) (t : Fin (cfgM m hO).N) : (outsAt0 m hO c t).2.1
    = k0_pay3 (F := Ideal) (k0_pay7 (F := Ideal) (iblk m hO c 5 t)) (k0_pay8 (F := Ideal) (iblk m hO c 0 t) (iblk m hO c 1 t) (iblk m hO c 2 t) (iblk m hO c 3 t) (iblk m hO c 4 t) (iblk m hO c 6 t)) (k0_pay9 (F := Ideal) (iblk m hO c 7 t))
      (k0_pay10 (F := Ideal) (iblk m hO c 0 t) (iblk m hO c 1 t) (iblk m hO c 2 t) (iblk m hO c 3 t) (iblk m hO c 4 t)) (Scalar.ofBits .f32 981668463#32) := by
  unfold outsAt0
  frame_out
  exact same (fun x0 x1 x2 x3 x4 x5 x6 x7 => k0_pay3 (F := Ideal) (k0_pay7 (F := Ideal) x5) (k0_pay8 (F := Ideal) x0 x1 x2 x3 x4 x6) (k0_pay9 (F := Ideal) x7)
      (k0_pay10 (F := Ideal) x0 x1 x2 x3 x4) (Scalar.ofBits .f32 981668463#32))
    ((hs0_0 m hO t).read_unread (iblk m hO c 0 t)) ((hs0_1 m hO t).read_unread (iblk m hO c 1 t))
    ((hs0_2 m hO t).read_unread (iblk m hO c 2 t)) ((hs0_3 m hO t).read_unread (iblk m hO c 3 t))
    ((hs0_4 m hO t).read_unread (iblk m hO c 4 t)) ((hs0_5 m hO t).read_unread (iblk m hO c 5 t))
    ((hs0_6 m hO t).read_unread (iblk m hO c 6 t)) ((hs0_7 m hO t).read_unread (iblk m hO c 7 t))

include e in
/-- The change's block at each entry. -/
theorem point9 (c : Dev nD) (t : Fin (cfgM m hO).N) (l : Fin 1) (p : Fin 1024) (q : Fin 256) :
    (k0_pay3 (F := Ideal) (k0_pay7 (F := Ideal) (iblk m hO c 5 t)) (k0_pay8 (F := Ideal) (iblk m hO c 0 t) (iblk m hO c 1 t) (iblk m hO c 2 t) (iblk m hO c 3 t) (iblk m hO c 4 t) (iblk m hO c 6 t)) (k0_pay9 (F := Ideal) (iblk m hO c 7 t))
      (k0_pay10 (F := Ideal) (iblk m hO c 0 t) (iblk m hO c 1 t) (iblk m hO c 2 t) (iblk m hO c 3 t) (iblk m hO c 4 t)) (Scalar.ofBits .f32 981668463#32) : S1x1024x256.Idx → Ideal .f32) (ix3 l p q) = dl (arg m c main_arg3 (ix3 0 p q)) (G m c a b d p q) (arg m c main_arg4 (ix3 0 p q)) (arg m c main_arg5 (ix3 0 p q)) :=
  (pay3 (iblk m hO c 0 t) (iblk m hO c 1 t) (iblk m hO c 2 t) (iblk m hO c 3 t) (iblk m hO c 4 t) (iblk m hO c 5 t) (iblk m hO c 6 t) (iblk m hO c 7 t) l p q).trans
    (dl_congr (block_3 m hO c t p q) (block6 m hO e c t p q) (block_4 m hO c t p q) (block_5 m hO c t p q))

include e in
/-- The change's array after the run. -/
theorem final9 (c : Dev nD) : (dats m hO 0 c).arrAt 9 (cfgM m hO).N = layers (arg m c main_arg8) fun p q => dl (arg m c main_arg3 (ix3 0 p q)) (G m c a b d p q) (arg m c main_arg4 (ix3 0 p q)) (arg m c main_arg5 (ix3 0 p q)) := by
  refine ((dats m hO 0 c).arrAt_eq_of_coversWhere 9 (fun i : S2x1024x256.Idx => (fun p q => dl (arg m c main_arg3 (ix3 0 p q)) (G m c a b d p q) (arg m c main_arg4 (ix3 0 p q)) (arg m c main_arg5 (ix3 0 p q))) (i 1) (i 2))
    (P := fun i : S2x1024x256.Idx => (i 0).val < 1) (fun β => β (0 : Fin 3) < 1) covers.2.1 (fun t hf y => ?_) (fun j => ?_)).trans ?_
  · blk_simp
    rw [after0_9, outs9]
    obtain ⟨l, p, q, rfl⟩ : ∃ (l : Fin 1) (p : Fin 1024) (q : Fin 256), y = ix3 l p q := ⟨_, _, _, (ix3_eta (n0 := 1) (n1 := 1024) (n2 := 256) y).symm⟩
    refine (point9 m hO e c t l p q).trans ?_
    refine congrArg₂ (fun p q => dl (arg m c main_arg3 (ix3 0 p q)) (G m c a b d p q) (arg m c main_arg4 (ix3 0 p q)) (arg m c main_arg5 (ix3 0 p q))) (Fin.ext ?_) (Fin.ext ?_)
    · blk_simp
      have h2 : ((cfgM m hO).win 9).index t (1 : Fin 3) = 0 := congrFun (idx m hO t).2.2.2.2.2.2.2.1 (1 : Fin 3)
      refine Eq.trans ?_ (congrArg (fun z => z * 1024 + p.val) h2).symm
      show p.val = 0 * 1024 + p.val
      omega
    · blk_simp
      have h2 : ((cfgM m hO).win 9).index t (2 : Fin 3) = 0 := congrFun (idx m hO t).2.2.2.2.2.2.2.1 (2 : Fin 3)
      refine Eq.trans ?_ (congrArg (fun z => z * 256 + q.val) h2).symm
      show q.val = 0 * 256 + q.val
      omega
  · show (j (0 : Fin 3)).val < 1 ↔ (j (0 : Fin 3)).val / 1 < 1
    rw [Nat.div_one]
  · rw [A_eq]
    funext i
    unfold layers
    congr 1

/-- The first moment's block after the body. -/
theorem outs10 (c : Dev nD) (t : Fin (cfgM m hO).N) : (outsAt0 m hO c t).2.2.1
    = k0_pay4 (F := Ideal) (k0_pay8 (F := Ideal) (iblk m hO c 0 t) (iblk m hO c 1 t) (iblk m hO c 2 t) (iblk m hO c 3 t) (iblk m hO c 4 t) (iblk m hO c 6 t)) := by
  unfold outsAt0
  frame_out
  exact same (fun x0 x1 x2 x3 x4 x5 x6 x7 => k0_pay4 (F := Ideal) (k0_pay8 (F := Ideal) x0 x1 x2 x3 x4 x6))
    ((hs0_0 m hO t).read_unread (iblk m hO c 0 t)) ((hs0_1 m hO t).read_unread (iblk m hO c 1 t))
    ((hs0_2 m hO t).read_unread (iblk m hO c 2 t)) ((hs0_3 m hO t).read_unread (iblk m hO c 3 t))
    ((hs0_4 m hO t).read_unread (iblk m hO c 4 t)) ((hs0_5 m hO t).read_unread (iblk m hO c 5 t))
    ((hs0_6 m hO t).read_unread (iblk m hO c 6 t)) ((hs0_7 m hO t).read_unread (iblk m hO c 7 t))

include e in
/-- The first moment's block at each entry. -/
theorem point10 (c : Dev nD) (t : Fin (cfgM m hO).N) (l : Fin 1) (p : Fin 1024) (q : Fin 256) :
    (k0_pay4 (F := Ideal) (k0_pay8 (F := Ideal) (iblk m hO c 0 t) (iblk m hO c 1 t) (iblk m hO c 2 t) (iblk m hO c 3 t) (iblk m hO c 4 t) (iblk m hO c 6 t)) : S1x1024x256.Idx → Ideal .f32) (ix3 l p q) = m1 (G m c a b d p q) (arg m c main_arg4 (ix3 0 p q)) :=
  (pay4 (iblk m hO c 0 t) (iblk m hO c 1 t) (iblk m hO c 2 t) (iblk m hO c 3 t) (iblk m hO c 4 t) (iblk m hO c 6 t) l p q).trans (congrArg₂ m1 (block6 m hO e c t p q) (block_4 m hO c t p q))

include e in
/-- The first moment's array after the run. -/
theorem final10 (c : Dev nD) : (dats m hO 0 c).arrAt 10 (cfgM m hO).N = layers (arg m c main_arg9) fun p q => m1 (G m c a b d p q) (arg m c main_arg4 (ix3 0 p q)) := by
  refine ((dats m hO 0 c).arrAt_eq_of_coversWhere 10 (fun i : S2x1024x256.Idx => (fun p q => m1 (G m c a b d p q) (arg m c main_arg4 (ix3 0 p q))) (i 1) (i 2))
    (P := fun i : S2x1024x256.Idx => (i 0).val < 1) (fun β => β (0 : Fin 3) < 1) covers.2.2.1 (fun t hf y => ?_) (fun j => ?_)).trans ?_
  · blk_simp
    rw [after0_10, outs10]
    obtain ⟨l, p, q, rfl⟩ : ∃ (l : Fin 1) (p : Fin 1024) (q : Fin 256), y = ix3 l p q := ⟨_, _, _, (ix3_eta (n0 := 1) (n1 := 1024) (n2 := 256) y).symm⟩
    refine (point10 m hO e c t l p q).trans ?_
    refine congrArg₂ (fun p q => m1 (G m c a b d p q) (arg m c main_arg4 (ix3 0 p q))) (Fin.ext ?_) (Fin.ext ?_)
    · blk_simp
      have h2 : ((cfgM m hO).win 10).index t (1 : Fin 3) = 0 := congrFun (idx m hO t).2.2.2.2.2.2.2.2.1 (1 : Fin 3)
      refine Eq.trans ?_ (congrArg (fun z => z * 1024 + p.val) h2).symm
      show p.val = 0 * 1024 + p.val
      omega
    · blk_simp
      have h2 : ((cfgM m hO).win 10).index t (2 : Fin 3) = 0 := congrFun (idx m hO t).2.2.2.2.2.2.2.2.1 (2 : Fin 3)
      refine Eq.trans ?_ (congrArg (fun z => z * 256 + q.val) h2).symm
      show q.val = 0 * 256 + q.val
      omega
  · show (j (0 : Fin 3)).val < 1 ↔ (j (0 : Fin 3)).val / 1 < 1
    rw [Nat.div_one]
  · rw [A_eq]
    funext i
    unfold layers
    congr 1

/-- The second moment's block after the body. -/
theorem outs11 (c : Dev nD) (t : Fin (cfgM m hO).N) : (outsAt0 m hO c t).2.2.2
    = k0_pay5 (F := Ideal) (k0_pay9 (F := Ideal) (iblk m hO c 7 t)) (k0_pay10 (F := Ideal) (iblk m hO c 0 t) (iblk m hO c 1 t) (iblk m hO c 2 t) (iblk m hO c 3 t) (iblk m hO c 4 t)) (Scalar.ofBits .f32 981668463#32) := by
  unfold outsAt0
  frame_out
  exact same (fun x0 x1 x2 x3 x4 x5 x6 x7 => k0_pay5 (F := Ideal) (k0_pay9 (F := Ideal) x7) (k0_pay10 (F := Ideal) x0 x1 x2 x3 x4) (Scalar.ofBits .f32 981668463#32))
    ((hs0_0 m hO t).read_unread (iblk m hO c 0 t)) ((hs0_1 m hO t).read_unread (iblk m hO c 1 t))
    ((hs0_2 m hO t).read_unread (iblk m hO c 2 t)) ((hs0_3 m hO t).read_unread (iblk m hO c 3 t))
    ((hs0_4 m hO t).read_unread (iblk m hO c 4 t)) ((hs0_5 m hO t).read_unread (iblk m hO c 5 t))
    ((hs0_6 m hO t).read_unread (iblk m hO c 6 t)) ((hs0_7 m hO t).read_unread (iblk m hO c 7 t))

include e in
/-- The second moment's block at each entry. -/
theorem point11 (c : Dev nD) (t : Fin (cfgM m hO).N) (l : Fin 1) (p : Fin 1024) (q : Fin 256) :
    (k0_pay5 (F := Ideal) (k0_pay9 (F := Ideal) (iblk m hO c 7 t)) (k0_pay10 (F := Ideal) (iblk m hO c 0 t) (iblk m hO c 1 t) (iblk m hO c 2 t) (iblk m hO c 3 t) (iblk m hO c 4 t)) (Scalar.ofBits .f32 981668463#32) : S1x1024x256.Idx → Ideal .f32) (ix3 l p q) = v1 (G m c a b d p q) (arg m c main_arg5 (ix3 0 p q)) :=
  (pay5 (iblk m hO c 0 t) (iblk m hO c 1 t) (iblk m hO c 2 t) (iblk m hO c 3 t) (iblk m hO c 4 t) (iblk m hO c 7 t) l p q).trans (congrArg₂ v1 (block6 m hO e c t p q) (block_5 m hO c t p q))

include e in
/-- The second moment's array after the run. -/
theorem final11 (c : Dev nD) : (dats m hO 0 c).arrAt 11 (cfgM m hO).N = layers (arg m c main_arg10) fun p q => v1 (G m c a b d p q) (arg m c main_arg5 (ix3 0 p q)) := by
  refine ((dats m hO 0 c).arrAt_eq_of_coversWhere 11 (fun i : S2x1024x256.Idx => (fun p q => v1 (G m c a b d p q) (arg m c main_arg5 (ix3 0 p q))) (i 1) (i 2))
    (P := fun i : S2x1024x256.Idx => (i 0).val < 1) (fun β => β (0 : Fin 3) < 1) covers.2.2.2 (fun t hf y => ?_) (fun j => ?_)).trans ?_
  · blk_simp
    rw [after0_11, outs11]
    obtain ⟨l, p, q, rfl⟩ : ∃ (l : Fin 1) (p : Fin 1024) (q : Fin 256), y = ix3 l p q := ⟨_, _, _, (ix3_eta (n0 := 1) (n1 := 1024) (n2 := 256) y).symm⟩
    refine (point11 m hO e c t l p q).trans ?_
    refine congrArg₂ (fun p q => v1 (G m c a b d p q) (arg m c main_arg5 (ix3 0 p q))) (Fin.ext ?_) (Fin.ext ?_)
    · blk_simp
      have h2 : ((cfgM m hO).win 11).index t (1 : Fin 3) = 0 := congrFun (idx m hO t).2.2.2.2.2.2.2.2.2 (1 : Fin 3)
      refine Eq.trans ?_ (congrArg (fun z => z * 1024 + p.val) h2).symm
      show p.val = 0 * 1024 + p.val
      omega
    · blk_simp
      have h2 : ((cfgM m hO).win 11).index t (2 : Fin 3) = 0 := congrFun (idx m hO t).2.2.2.2.2.2.2.2.2 (2 : Fin 3)
      refine Eq.trans ?_ (congrArg (fun z => z * 256 + q.val) h2).symm
      show q.val = 0 * 256 + q.val
      omega
  · show (j (0 : Fin 3)).val < 1 ↔ (j (0 : Fin 3)).val / 1 < 1
    rw [Nat.div_one]
  · rw [A_eq]
    funext i
    unfold layers
    congr 1

end Cert.BigoutVals
end
-- ==== Proof.Bigout.lean ====
module

public import proofs.«01_k».proof.Defs
public import proofs.«01_k».proof.Proof.BigoutTab
public import proofs.«01_k».proof.Proof.BigoutIdealTab
public import proofs.«01_k».proof.Proof.BigoutVals
public import proofs.«01_k».proof.Proof.Gen.BigoutRefIdeal.Read
public import Idealize.ShloMosaic.Lib.Claim

/-! The optimiser step of a branch's output projection and its plain lines. -/

@[expose] public section

set_option maxRecDepth 16384

noncomputable section

open Idealize.ShloMosaic Idealize.ShloMosaic.TcCoe Idealize.SL.Sem
open Idealize.ShloMosaic.Pipeline (Dat)

namespace Cert.BigoutProof
open Cert.BigoutIdeal Cert.BigoutIdeal.Gen Cert.BigoutIdealTab Cert.BigoutRead Cert.BigoutVals

/-- The call and the plain lines end with equal results from equal arguments, on a device whose place is on the mesh. -/
theorem equal : Cert.algebraic_BigoutIdeal_BigoutRefIdeal := by
  intro m g m' g' hpre hagree
  obtain ⟨a, b, d, e⟩ := arg_of_pre m hpre
  have hO : Ok m := ok_of_pre m hpre
  refine ⟨fun c => (dats m hO 0 c).arrAt 8 (cfgM m hO).N, fun c => (dats m hO 0 c).arrAt 9 (cfgM m hO).N,
    fun c => (dats m hO 0 c).arrAt 10 (cfgM m hO).N, fun c => (dats m hO 0 c).arrAt 11 (cfgM m hO).N, ?_, ?_⟩
  · refine (θ_run _ _ _).mono (fun _ h c => ⟨(h c).1 8, (h c).1 9, (h c).1 10, (h c).1 11,
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 4).trans (((dats m hO 0 c).arrAt_in 4 rfl _).trans ((A_eq m hO c 4).trans (V_main_arg2 m c))),
      ((h c).1 5).trans (((dats m hO 0 c).arrAt_in 5 rfl _).trans ((A_eq m hO c 5).trans (V_main_arg3 m c))),
      ((h c).1 6).trans (((dats m hO 0 c).arrAt_in 6 rfl _).trans ((A_eq m hO c 6).trans (V_main_arg4 m c))),
      ((h c).1 7).trans (((dats m hO 0 c).arrAt_in 7 rfl _).trans ((A_eq m hO c 7).trans (V_main_arg5 m c))),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).2 main_arg10 (by decide : main_arg10 ∈ Pipeline.restRefs sig spec0)).trans (V_main_arg10 m c)⟩) (run_main m g hO)
  · refine (θ_run _ _ _).mono (fun _ h c => ⟨(h c).1.trans ?_, (h c).2.1.trans ?_, (h c).2.2.1.trans ?_, (h c).2.2.2.1.trans ?_,
      (h c).2.2.2.2⟩) (Cert.BigoutRefIdeal.Value.run m' g')
    · refine (Cert.BigoutRefIdeal.Read.val_main_v68_eq _ _ _ _ _).trans ?_
      rw [(hagree c).1, (hagree c).2.1, (hagree c).2.2.1, (hagree c).2.2.2.2.2.2.1, (hagree c).2.2.2.2.2.2.2.1]
      obtain rfl : c = 0 := Subsingleton.elim _ _
      rw [e]
      exact (res68 ..).trans (final8 m hO e 0).symm
    · refine (Cert.BigoutRefIdeal.Read.val_main_v71_eq m' c).trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2.2.1]
      obtain rfl : c = 0 := Subsingleton.elim _ _
      rw [e]
      exact (res71 ..).trans (final9 m hO e 0).symm
    · refine (Cert.BigoutRefIdeal.Read.val_main_v74_eq _ _ _ _ _ _).trans ?_
      rw [(hagree c).1, (hagree c).2.1, (hagree c).2.2.1, (hagree c).2.2.2.2.1, (hagree c).2.2.2.2.2.2.1, (hagree c).2.2.2.2.2.2.2.2.2.1]
      obtain rfl : c = 0 := Subsingleton.elim _ _
      rw [e]
      exact (res74 ..).trans (final10 m hO e 0).symm
    · refine (Cert.BigoutRefIdeal.Read.val_main_v77_eq m' c).trans ?_
      rw [(hagree c).1, (hagree c).2.1, (hagree c).2.2.1, (hagree c).2.2.2.2.2.1, (hagree c).2.2.2.2.2.2.1, (hagree c).2.2.2.2.2.2.2.2.2.2]
      obtain rfl : c = 0 := Subsingleton.elim _ _
      rw [e]
      exact (res77 ..).trans (final11 m hO e 0).symm

end Cert.BigoutProof
end
-- ==== Proof.lean ====
/-
  The proof of `Cert.Claim`: for every call its own frame, the frame of its idealization, the frame of the plain lines'
  idealization, that the idealization is the call's own text, and that both idealizations end with equal results.
-/
module

public import proofs.«01_k».proof.Defs
public import proofs.«01_k».proof.Proof.Gen.Merge.Frame
public import proofs.«01_k».proof.Proof.Merge
public import proofs.«01_k».proof.Proof.Gen.Dact.Frame
public import proofs.«01_k».proof.Proof.Dact
public import proofs.«01_k».proof.Proof.Gen.Dm.Frame
public import proofs.«01_k».proof.Proof.Dm
public import proofs.«01_k».proof.Proof.Gen.Dy.Frame
public import proofs.«01_k».proof.Proof.Dy
public import proofs.«01_k».proof.Proof.Gen.Gdown.Frame
public import proofs.«01_k».proof.Proof.Gdown
public import proofs.«01_k».proof.Proof.Gen.Go.Frame
public import proofs.«01_k».proof.Proof.Go
public import proofs.«01_k».proof.Proof.Gen.Gy.Frame
public import proofs.«01_k».proof.Proof.Gy
public import proofs.«01_k».proof.Proof.Gen.Up.Frame
public import proofs.«01_k».proof.Proof.Up
public import proofs.«01_k».proof.Proof.Gen.In.Frame
public import proofs.«01_k».proof.Proof.In
public import proofs.«01_k».proof.Proof.Gen.Down.Frame
public import proofs.«01_k».proof.Proof.Down
public import proofs.«01_k».proof.Proof.Gen.Gup.Frame
public import proofs.«01_k».proof.Proof.Gup
public import proofs.«01_k».proof.Proof.Gen.Gin.Frame
public import proofs.«01_k».proof.Proof.Gin
public import proofs.«01_k».proof.Proof.Gen.Gupa.Frame
public import proofs.«01_k».proof.Proof.Gupa
public import proofs.«01_k».proof.Proof.Gen.Gina.Frame
public import proofs.«01_k».proof.Proof.Gina
public import proofs.«01_k».proof.Proof.Gen.Dh.Frame
public import proofs.«01_k».proof.Proof.Dh
public import proofs.«01_k».proof.Proof.Gen.Dhin.Frame
public import proofs.«01_k».proof.Proof.Dhin
public import proofs.«01_k».proof.Proof.Gen.Dhina.Frame
public import proofs.«01_k».proof.Proof.Dhina
public import proofs.«01_k».proof.Proof.Gen.Dhinb.Frame
public import proofs.«01_k».proof.Proof.Dhinb
public import proofs.«01_k».proof.Proof.Gen.Rms.Frame
public import proofs.«01_k».proof.Proof.Rms
public import proofs.«01_k».proof.Proof.Gen.Adams.Frame
public import proofs.«01_k».proof.Proof.Adams
public import proofs.«01_k».proof.Proof.Gen.Sums.Frame
public import proofs.«01_k».proof.Proof.Sums
public import proofs.«01_k».proof.Proof.Gen.Bigout.Frame
public import proofs.«01_k».proof.Proof.Bigout
public import proofs.«01_k».proof.Proof.Gen.Pre_on_mesh_w_proj_out
public import proofs.«01_k».proof.Proof.Gen.On_g_upa_written
public import proofs.«01_k».proof.Proof.Gen.On_g_ina_written
public import Idealize.ShloMosaic.Lib.Claim

@[expose] public section

noncomputable section

namespace Cert.Proof

open Idealize.ShloMosaic Idealize.SL.Sem

/-- The plain lines of `Merge` run to the end, keep their arguments and leave nothing pending. -/
theorem frame_MergeRefIdeal : Cert.quiescent_MergeRefIdeal := by
  intro m g _
  exact (θ_run Cert.MergeRefIdeal.defs _ _).mono
    (fun r h => ⟨fun c => (h c).2.2.2.2, sem_eq_zero_of_no_sems (by decide) r.2⟩) (Cert.MergeRefIdeal.Value.run m g)

/-- The plain lines of `Dact` run to the end, keep their arguments and leave nothing pending. -/
theorem frame_DactRefIdeal : Cert.quiescent_DactRefIdeal := by
  intro m g _
  exact (θ_run Cert.DactRefIdeal.defs _ _).mono
    (fun r h => ⟨fun c => (h c).2, sem_eq_zero_of_no_sems (by decide) r.2⟩) (Cert.DactRefIdeal.Value.run m g)

/-- The plain lines of `Dm` run to the end, keep their arguments and leave nothing pending. -/
theorem frame_DmRefIdeal : Cert.quiescent_DmRefIdeal := by
  intro m g _
  exact (θ_run Cert.DmRefIdeal.defs _ _).mono
    (fun r h => ⟨fun c => (h c).2, sem_eq_zero_of_no_sems (by decide) r.2⟩) (Cert.DmRefIdeal.Value.run m g)

/-- The plain lines of `Dy` run to the end, keep their arguments and leave nothing pending. -/
theorem frame_DyRefIdeal : Cert.quiescent_DyRefIdeal := by
  intro m g _
  exact (θ_run Cert.DyRefIdeal.defs _ _).mono
    (fun r h => ⟨fun c => (h c).2, sem_eq_zero_of_no_sems (by decide) r.2⟩) (Cert.DyRefIdeal.Value.run m g)

/-- The plain lines of `Gdown` run to the end, keep their arguments and leave nothing pending. -/
theorem frame_GdownRefIdeal : Cert.quiescent_GdownRefIdeal := by
  intro m g _
  exact (θ_run Cert.GdownRefIdeal.defs _ _).mono
    (fun r h => ⟨fun c => (h c).2, sem_eq_zero_of_no_sems (by decide) r.2⟩) (Cert.GdownRefIdeal.Value.run m g)

/-- The plain lines of `Go` run to the end, keep their arguments and leave nothing pending. -/
theorem frame_GoRefIdeal : Cert.quiescent_GoRefIdeal := by
  intro m g _
  exact (θ_run Cert.GoRefIdeal.defs _ _).mono
    (fun r h => ⟨fun c => (h c).2, sem_eq_zero_of_no_sems (by decide) r.2⟩) (Cert.GoRefIdeal.Value.run m g)

/-- The plain lines of `Gy` run to the end, keep their arguments and leave nothing pending. -/
theorem frame_GyRefIdeal : Cert.quiescent_GyRefIdeal := by
  intro m g _
  exact (θ_run Cert.GyRefIdeal.defs _ _).mono
    (fun r h => ⟨fun c => (h c).2, sem_eq_zero_of_no_sems (by decide) r.2⟩) (Cert.GyRefIdeal.Value.run m g)

/-- The plain lines of `Up` run to the end, keep their arguments and leave nothing pending. -/
theorem frame_UpRefIdeal : Cert.quiescent_UpRefIdeal := by
  intro m g _
  exact (θ_run Cert.UpRefIdeal.defs _ _).mono
    (fun r h => ⟨fun c => (h c).2, sem_eq_zero_of_no_sems (by decide) r.2⟩) (Cert.UpRefIdeal.Value.run m g)

/-- The plain lines of `In` run to the end, keep their arguments and leave nothing pending. -/
theorem frame_InRefIdeal : Cert.quiescent_InRefIdeal := by
  intro m g _
  exact (θ_run Cert.InRefIdeal.defs _ _).mono
    (fun r h => ⟨fun c => (h c).2, sem_eq_zero_of_no_sems (by decide) r.2⟩) (Cert.InRefIdeal.Value.run m g)

/-- The plain lines of `Down` run to the end, keep their arguments and leave nothing pending. -/
theorem frame_DownRefIdeal : Cert.quiescent_DownRefIdeal := by
  intro m g _
  exact (θ_run Cert.DownRefIdeal.defs _ _).mono
    (fun r h => ⟨fun c => (h c).2, sem_eq_zero_of_no_sems (by decide) r.2⟩) (Cert.DownRefIdeal.Value.run m g)

/-- The plain lines of `Gup` run to the end, keep their arguments and leave nothing pending. -/
theorem frame_GupRefIdeal : Cert.quiescent_GupRefIdeal := by
  intro m g _
  exact (θ_run Cert.GupRefIdeal.defs _ _).mono
    (fun r h => ⟨fun c => (h c).2, sem_eq_zero_of_no_sems (by decide) r.2⟩) (Cert.GupRefIdeal.Value.run m g)

/-- The plain lines of `Gin` run to the end, keep their arguments and leave nothing pending. -/
theorem frame_GinRefIdeal : Cert.quiescent_GinRefIdeal := by
  intro m g _
  exact (θ_run Cert.GinRefIdeal.defs _ _).mono
    (fun r h => ⟨fun c => (h c).2, sem_eq_zero_of_no_sems (by decide) r.2⟩) (Cert.GinRefIdeal.Value.run m g)

/-- The plain lines of `Gupa` run to the end, keep their arguments and leave nothing pending. -/
theorem frame_GupaRefIdeal : Cert.quiescent_GupaRefIdeal := by
  intro m g _
  exact (θ_run Cert.GupaRefIdeal.defs _ _).mono
    (fun r h => ⟨fun c => (h c).2, sem_eq_zero_of_no_sems (by decide) r.2⟩) (Cert.GupaRefIdeal.Value.run m g)

/-- The plain lines of `Gina` run to the end, keep their arguments and leave nothing pending. -/
theorem frame_GinaRefIdeal : Cert.quiescent_GinaRefIdeal := by
  intro m g _
  exact (θ_run Cert.GinaRefIdeal.defs _ _).mono
    (fun r h => ⟨fun c => (h c).2, sem_eq_zero_of_no_sems (by decide) r.2⟩) (Cert.GinaRefIdeal.Value.run m g)

/-- The plain lines of `Dh` run to the end, keep their arguments and leave nothing pending. -/
theorem frame_DhRefIdeal : Cert.quiescent_DhRefIdeal := by
  intro m g _
  exact (θ_run Cert.DhRefIdeal.defs _ _).mono
    (fun r h => ⟨fun c => (h c).2, sem_eq_zero_of_no_sems (by decide) r.2⟩) (Cert.DhRefIdeal.Value.run m g)

/-- The plain lines of `Dhin` run to the end, keep their arguments and leave nothing pending. -/
theorem frame_DhinRefIdeal : Cert.quiescent_DhinRefIdeal := by
  intro m g _
  exact (θ_run Cert.DhinRefIdeal.defs _ _).mono
    (fun r h => ⟨fun c => (h c).2, sem_eq_zero_of_no_sems (by decide) r.2⟩) (Cert.DhinRefIdeal.Value.run m g)

/-- The plain lines of `Dhina` run to the end, keep their arguments and leave nothing pending. -/
theorem frame_DhinaRefIdeal : Cert.quiescent_DhinaRefIdeal := by
  intro m g _
  exact (θ_run Cert.DhinaRefIdeal.defs _ _).mono
    (fun r h => ⟨fun c => (h c).2, sem_eq_zero_of_no_sems (by decide) r.2⟩) (Cert.DhinaRefIdeal.Value.run m g)

/-- The plain lines of `Dhinb` run to the end, keep their arguments and leave nothing pending. -/
theorem frame_DhinbRefIdeal : Cert.quiescent_DhinbRefIdeal := by
  intro m g _
  exact (θ_run Cert.DhinbRefIdeal.defs _ _).mono
    (fun r h => ⟨fun c => (h c).2, sem_eq_zero_of_no_sems (by decide) r.2⟩) (Cert.DhinbRefIdeal.Value.run m g)

/-- The plain lines of `Rms` run to the end, keep their arguments and leave nothing pending. -/
theorem frame_RmsRefIdeal : Cert.quiescent_RmsRefIdeal := by
  intro m g _
  exact (θ_run Cert.RmsRefIdeal.defs _ _).mono
    (fun r h => ⟨fun c => (h c).2.2.2, sem_eq_zero_of_no_sems (by decide) r.2⟩) (Cert.RmsRefIdeal.Value.run m g)

/-- The plain lines of `Adams` run to the end, keep their arguments and leave nothing pending. -/
theorem frame_AdamsRefIdeal : Cert.quiescent_AdamsRefIdeal := by
  intro m g _
  exact (θ_run Cert.AdamsRefIdeal.defs _ _).mono
    (fun r h => ⟨fun c => (h c).2.2.2.2.2.2.2.2.2.2.2.2.2.2.2.2.2.2.2.2.2.2.2.2.2.2.2, sem_eq_zero_of_no_sems (by decide) r.2⟩) (Cert.AdamsRefIdeal.Value.run m g)

/-- The plain lines of `Sums` run to the end, keep their arguments and leave nothing pending. -/
theorem frame_SumsRefIdeal : Cert.quiescent_SumsRefIdeal := by
  intro m g _
  exact (θ_run Cert.SumsRefIdeal.defs _ _).mono
    (fun r h => ⟨fun c => (h c).2.2.2.2.2.2.2.2.2, sem_eq_zero_of_no_sems (by decide) r.2⟩) (Cert.SumsRefIdeal.Value.run m g)

/-- The plain lines of `Bigout` run to the end, keep their arguments and leave nothing pending. -/
theorem frame_BigoutRefIdeal : Cert.quiescent_BigoutRefIdeal := by
  intro m g _
  exact (θ_run Cert.BigoutRefIdeal.defs _ _).mono
    (fun r h => ⟨fun c => (h c).2.2.2.2, sem_eq_zero_of_no_sems (by decide) r.2⟩) (Cert.BigoutRefIdeal.Value.run m g)

/-- Everything claimed, from the calls' modules. -/
theorem claim : Cert.Claim :=
  ⟨Cert.Merge.Gen.facts, Cert.MergeIdeal.Gen.facts, Cert.MergeRefIdeal.Gen.facts, Cert.Dact.Gen.facts,
    Cert.DactIdeal.Gen.facts, Cert.DactRefIdeal.Gen.facts, Cert.Dm.Gen.facts, Cert.DmIdeal.Gen.facts,
    Cert.DmRefIdeal.Gen.facts, Cert.Dy.Gen.facts, Cert.DyIdeal.Gen.facts, Cert.DyRefIdeal.Gen.facts,
    Cert.Gdown.Gen.facts, Cert.GdownIdeal.Gen.facts, Cert.GdownRefIdeal.Gen.facts, Cert.Go.Gen.facts,
    Cert.GoIdeal.Gen.facts, Cert.GoRefIdeal.Gen.facts, Cert.Gy.Gen.facts, Cert.GyIdeal.Gen.facts,
    Cert.GyRefIdeal.Gen.facts, Cert.Up.Gen.facts, Cert.UpIdeal.Gen.facts, Cert.UpRefIdeal.Gen.facts,
    Cert.In.Gen.facts, Cert.InIdeal.Gen.facts, Cert.InRefIdeal.Gen.facts, Cert.Down.Gen.facts,
    Cert.DownIdeal.Gen.facts, Cert.DownRefIdeal.Gen.facts, Cert.Gup.Gen.facts, Cert.GupIdeal.Gen.facts,
    Cert.GupRefIdeal.Gen.facts, Cert.Gin.Gen.facts, Cert.GinIdeal.Gen.facts, Cert.GinRefIdeal.Gen.facts,
    Cert.Gupa.Gen.facts, Cert.GupaIdeal.Gen.facts, Cert.GupaRefIdeal.Gen.facts, Cert.Gina.Gen.facts,
    Cert.GinaIdeal.Gen.facts, Cert.GinaRefIdeal.Gen.facts, Cert.Dh.Gen.facts, Cert.DhIdeal.Gen.facts,
    Cert.DhRefIdeal.Gen.facts, Cert.Dhin.Gen.facts, Cert.DhinIdeal.Gen.facts, Cert.DhinRefIdeal.Gen.facts,
    Cert.Dhina.Gen.facts, Cert.DhinaIdeal.Gen.facts, Cert.DhinaRefIdeal.Gen.facts, Cert.Dhinb.Gen.facts,
    Cert.DhinbIdeal.Gen.facts, Cert.DhinbRefIdeal.Gen.facts, Cert.Rms.Gen.facts, Cert.RmsIdeal.Gen.facts,
    Cert.RmsRefIdeal.Gen.facts, Cert.Adams.Gen.facts, Cert.AdamsIdeal.Gen.facts, Cert.AdamsRefIdeal.Gen.facts,
    Cert.Sums.Gen.facts, Cert.SumsIdeal.Gen.facts, Cert.SumsRefIdeal.Gen.facts, Cert.Bigout.Gen.facts,
    Cert.BigoutIdeal.Gen.facts, Cert.BigoutRefIdeal.Gen.facts, Cert.Pre_on_mesh_w_proj_out.Gen.facts,
    Cert.On_g_upa_written.Gen.facts, Cert.On_g_ina_written.Gen.facts, fun m ρ _ => Cert.Merge.Gen.frame m ρ,
    fun m ρ _ => Cert.MergeIdeal.Gen.frame m ρ, frame_MergeRefIdeal, fun m ρ _ => Cert.Dact.Gen.frame m ρ,
    fun m ρ _ => Cert.DactIdeal.Gen.frame m ρ, frame_DactRefIdeal, fun m ρ _ => Cert.Dm.Gen.frame m ρ,
    fun m ρ _ => Cert.DmIdeal.Gen.frame m ρ, frame_DmRefIdeal, fun m ρ _ => Cert.Dy.Gen.frame m ρ,
    fun m ρ _ => Cert.DyIdeal.Gen.frame m ρ, frame_DyRefIdeal, fun m ρ _ => Cert.Gdown.Gen.frame m ρ,
    fun m ρ _ => Cert.GdownIdeal.Gen.frame m ρ, frame_GdownRefIdeal, fun m ρ _ => Cert.Go.Gen.frame m ρ,
    fun m ρ _ => Cert.GoIdeal.Gen.frame m ρ, frame_GoRefIdeal, fun m ρ _ => Cert.Gy.Gen.frame m ρ,
    fun m ρ _ => Cert.GyIdeal.Gen.frame m ρ, frame_GyRefIdeal, fun m ρ _ => Cert.Up.Gen.frame m ρ,
    fun m ρ _ => Cert.UpIdeal.Gen.frame m ρ, frame_UpRefIdeal, fun m ρ _ => Cert.In.Gen.frame m ρ,
    fun m ρ _ => Cert.InIdeal.Gen.frame m ρ, frame_InRefIdeal, fun m ρ _ => Cert.Down.Gen.frame m ρ,
    fun m ρ _ => Cert.DownIdeal.Gen.frame m ρ, frame_DownRefIdeal, fun m ρ _ => Cert.Gup.Gen.frame m ρ,
    fun m ρ _ => Cert.GupIdeal.Gen.frame m ρ, frame_GupRefIdeal, fun m ρ _ => Cert.Gin.Gen.frame m ρ,
    fun m ρ _ => Cert.GinIdeal.Gen.frame m ρ, frame_GinRefIdeal, fun m ρ _ => Cert.Gupa.Gen.frame m ρ,
    fun m ρ _ => Cert.GupaIdeal.Gen.frame m ρ, frame_GupaRefIdeal, fun m ρ _ => Cert.Gina.Gen.frame m ρ,
    fun m ρ _ => Cert.GinaIdeal.Gen.frame m ρ, frame_GinaRefIdeal, fun m ρ _ => Cert.Dh.Gen.frame m ρ,
    fun m ρ _ => Cert.DhIdeal.Gen.frame m ρ, frame_DhRefIdeal, fun m ρ _ => Cert.Dhin.Gen.frame m ρ,
    fun m ρ _ => Cert.DhinIdeal.Gen.frame m ρ, frame_DhinRefIdeal, fun m ρ _ => Cert.Dhina.Gen.frame m ρ,
    fun m ρ _ => Cert.DhinaIdeal.Gen.frame m ρ, frame_DhinaRefIdeal, fun m ρ _ => Cert.Dhinb.Gen.frame m ρ,
    fun m ρ _ => Cert.DhinbIdeal.Gen.frame m ρ, frame_DhinbRefIdeal, fun m ρ _ => Cert.Rms.Gen.frame m ρ,
    fun m ρ _ => Cert.RmsIdeal.Gen.frame m ρ, frame_RmsRefIdeal, fun m ρ _ => Cert.Adams.Gen.frame m ρ,
    fun m ρ _ => Cert.AdamsIdeal.Gen.frame m ρ, frame_AdamsRefIdeal, fun m ρ _ => Cert.Sums.Gen.frame m ρ,
    fun m ρ _ => Cert.SumsIdeal.Gen.frame m ρ, frame_SumsRefIdeal,
    fun m ρ h => Cert.Bigout.Gen.frame m ρ (Cert.BigoutTab.ok_of_pre m h),
    fun m ρ h => Cert.BigoutIdeal.Gen.frame m ρ (Cert.BigoutIdealTab.ok_of_pre m h), frame_BigoutRefIdeal,
    fun m ρ _ => frame_BigoutRefIdeal m ρ trivial, trivial, Cert.MergeProof.equal, trivial, Cert.DactProof.equal,
    trivial, Cert.DmProof.equal, trivial, Cert.DyProof.equal, trivial, Cert.GdownProof.equal, trivial,
    Cert.GoProof.equal, trivial, Cert.GyProof.equal, trivial, Cert.UpProof.equal, trivial, Cert.InProof.equal,
    trivial, Cert.DownProof.equal, trivial, Cert.GupProof.equal, trivial, Cert.GinProof.equal, trivial,
    Cert.GupaProof.equal, trivial, Cert.GinaProof.equal, trivial, Cert.DhProof.equal, trivial,
    Cert.DhinProof.equal, trivial, Cert.DhinaProof.equal, trivial, Cert.DhinbProof.equal, trivial,
    Cert.RmsProof.equal, trivial, Cert.AdamsProof.equal, trivial, Cert.SumsProof.equal, trivial,
    Cert.BigoutProof.equal⟩

end Cert.Proof

end
